-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_norms_positive [hPre_norms_positive : Cert.Pre_norms_positive.Facts] (m : (ℓ : Loc Cert.DactIdeal.nD Cert.DactIdeal.τ Cert.DactIdeal.sig) → Buf (Elt Ideal) ℓ) : Prop :=
  ∀ c : Dev Cert.DactIdeal.nD,
    (Cert.Pre_norms_positive.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3)) (m ((c.tc : Thread Cert.DactIdeal.nD Cert.DactIdeal.τ).loc Cert.DactIdeal.main_arg4)) (m ((c.tc : Thread Cert.DactIdeal.nD Cert.DactIdeal.τ).loc Cert.DactIdeal.main_arg5)) (m ((c.tc : Thread Cert.DactIdeal.nD Cert.DactIdeal.τ).loc Cert.DactIdeal.main_arg6)) (m ((c.tc : Thread Cert.DactIdeal.nD Cert.DactIdeal.τ).loc Cert.DactIdeal.main_arg7)) (m ((c.tc : Thread Cert.DactIdeal.nD Cert.DactIdeal.τ).loc Cert.DactIdeal.main_arg8)) (m ((c.tc : Thread Cert.DactIdeal.nD Cert.DactIdeal.τ).loc Cert.DactIdeal.main_arg9)) (m ((c.tc : Thread Cert.DactIdeal.nD Cert.DactIdeal.τ).loc Cert.DactIdeal.main_arg10)) (m ((c.tc : Thread Cert.DactIdeal.nD Cert.DactIdeal.τ).loc Cert.DactIdeal.main_arg11)) (m ((c.tc : Thread Cert.DactIdeal.nD Cert.DactIdeal.τ).loc Cert.DactIdeal.main_arg12)) (m ((c.tc : Thread Cert.DactIdeal.nD Cert.DactIdeal.τ).loc Cert.DactIdeal.main_arg13)) (m ((c.tc : Thread Cert.DactIdeal.nD Cert.DactIdeal.τ).loc Cert.DactIdeal.main_arg14))) = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_norms_positive [hPre_norms_positive : Cert.Pre_norms_positive.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_norms_positive.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3)) (m ((c.tc : Thread Cert.DactRefIdeal.nD Cert.DactRefIdeal.τ).loc Cert.DactRefIdeal.main_arg4)) (m ((c.tc : Thread Cert.DactRefIdeal.nD Cert.DactRefIdeal.τ).loc Cert.DactRefIdeal.main_arg5)) (m ((c.tc : Thread Cert.DactRefIdeal.nD Cert.DactRefIdeal.τ).loc Cert.DactRefIdeal.main_arg6)) (m ((c.tc : Thread Cert.DactRefIdeal.nD Cert.DactRefIdeal.τ).loc Cert.DactRefIdeal.main_arg7)) (m ((c.tc : Thread Cert.DactRefIdeal.nD Cert.DactRefIdeal.τ).loc Cert.DactRefIdeal.main_arg8)) (m ((c.tc : Thread Cert.DactRefIdeal.nD Cert.DactRefIdeal.τ).loc Cert.DactRefIdeal.main_arg9)) (m ((c.tc : Thread Cert.DactRefIdeal.nD Cert.DactRefIdeal.τ).loc Cert.DactRefIdeal.main_arg10)) (m ((c.tc : Thread Cert.DactRefIdeal.nD Cert.DactRefIdeal.τ).loc Cert.DactRefIdeal.main_arg11)) (m ((c.tc : Thread Cert.DactRefIdeal.nD Cert.DactRefIdeal.τ).loc Cert.DactRefIdeal.main_arg12)) (m ((c.tc : Thread Cert.DactRefIdeal.nD Cert.DactRefIdeal.τ).loc Cert.DactRefIdeal.main_arg13)) (m ((c.tc : Thread Cert.DactRefIdeal.nD Cert.DactRefIdeal.τ).loc Cert.DactRefIdeal.main_arg14))) = (fun _ => 1#1)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7)
      ∧ r.2.mem ((c.tc : Thread Cert.GateUp.nD Cert.GateUp.τ).loc Cert.GateUp.main_arg8) = m ((c.tc : Thread Cert.GateUp.nD Cert.GateUp.τ).loc Cert.GateUp.main_arg8))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
      ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6)
      ∧ r.2.mem ((c.tc : Thread Cert.GateUpRefIdeal.nD Cert.GateUpRefIdeal.τ).loc Cert.GateUpRefIdeal.main_arg7) = m ((c.tc : Thread Cert.GateUpRefIdeal.nD Cert.GateUpRefIdeal.τ).loc Cert.GateUpRefIdeal.main_arg7)
      ∧ r.2.mem ((c.tc : Thread Cert.GateUpRefIdeal.nD Cert.GateUpRefIdeal.τ).loc Cert.GateUpRefIdeal.main_arg8) = m ((c.tc : Thread Cert.GateUpRefIdeal.nD Cert.GateUpRefIdeal.τ).loc Cert.GateUpRefIdeal.main_arg8))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9)
      ∧ r.2.mem ((c.tc : Thread Cert.Dx.nD Cert.Dx.τ).loc Cert.Dx.main_arg10) = m ((c.tc : Thread Cert.Dx.nD Cert.Dx.τ).loc Cert.Dx.main_arg10)
      ∧ r.2.mem ((c.tc : Thread Cert.Dx.nD Cert.Dx.τ).loc Cert.Dx.main_arg11) = m ((c.tc : Thread Cert.Dx.nD Cert.Dx.τ).loc Cert.Dx.main_arg11))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
      ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
      ∧ r.2.mem ((c.tc : Thread Cert.DxIdeal.nD Cert.DxIdeal.τ).loc Cert.DxIdeal.main_arg11) = m ((c.tc : Thread Cert.DxIdeal.nD Cert.DxIdeal.τ).loc Cert.DxIdeal.main_arg11))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9)
      ∧ r.2.mem ((c.tc : Thread Cert.DxRefIdeal.nD Cert.DxRefIdeal.τ).loc Cert.DxRefIdeal.main_arg10) = m ((c.tc : Thread Cert.DxRefIdeal.nD Cert.DxRefIdeal.τ).loc Cert.DxRefIdeal.main_arg10)
      ∧ r.2.mem ((c.tc : Thread Cert.DxRefIdeal.nD Cert.DxRefIdeal.τ).loc Cert.DxRefIdeal.main_arg11) = m ((c.tc : Thread Cert.DxRefIdeal.nD Cert.DxRefIdeal.τ).loc Cert.DxRefIdeal.main_arg11))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3)
      ∧ r.2.mem ((c.tc : Thread Cert.Dact.nD Cert.Dact.τ).loc Cert.Dact.main_arg4) = m ((c.tc : Thread Cert.Dact.nD Cert.Dact.τ).loc Cert.Dact.main_arg4)
      ∧ r.2.mem ((c.tc : Thread Cert.Dact.nD Cert.Dact.τ).loc Cert.Dact.main_arg5) = m ((c.tc : Thread Cert.Dact.nD Cert.Dact.τ).loc Cert.Dact.main_arg5)
      ∧ r.2.mem ((c.tc : Thread Cert.Dact.nD Cert.Dact.τ).loc Cert.Dact.main_arg6) = m ((c.tc : Thread Cert.Dact.nD Cert.Dact.τ).loc Cert.Dact.main_arg6)
      ∧ r.2.mem ((c.tc : Thread Cert.Dact.nD Cert.Dact.τ).loc Cert.Dact.main_arg7) = m ((c.tc : Thread Cert.Dact.nD Cert.Dact.τ).loc Cert.Dact.main_arg7)
      ∧ r.2.mem ((c.tc : Thread Cert.Dact.nD Cert.Dact.τ).loc Cert.Dact.main_arg8) = m ((c.tc : Thread Cert.Dact.nD Cert.Dact.τ).loc Cert.Dact.main_arg8)
      ∧ r.2.mem ((c.tc : Thread Cert.Dact.nD Cert.Dact.τ).loc Cert.Dact.main_arg9) = m ((c.tc : Thread Cert.Dact.nD Cert.Dact.τ).loc Cert.Dact.main_arg9)
      ∧ r.2.mem ((c.tc : Thread Cert.Dact.nD Cert.Dact.τ).loc Cert.Dact.main_arg10) = m ((c.tc : Thread Cert.Dact.nD Cert.Dact.τ).loc Cert.Dact.main_arg10)
      ∧ r.2.mem ((c.tc : Thread Cert.Dact.nD Cert.Dact.τ).loc Cert.Dact.main_arg11) = m ((c.tc : Thread Cert.Dact.nD Cert.Dact.τ).loc Cert.Dact.main_arg11)
      ∧ r.2.mem ((c.tc : Thread Cert.Dact.nD Cert.Dact.τ).loc Cert.Dact.main_arg12) = m ((c.tc : Thread Cert.Dact.nD Cert.Dact.τ).loc Cert.Dact.main_arg12)
      ∧ r.2.mem ((c.tc : Thread Cert.Dact.nD Cert.Dact.τ).loc Cert.Dact.main_arg13) = m ((c.tc : Thread Cert.Dact.nD Cert.Dact.τ).loc Cert.Dact.main_arg13)
      ∧ r.2.mem ((c.tc : Thread Cert.Dact.nD Cert.Dact.τ).loc Cert.Dact.main_arg14) = m ((c.tc : Thread Cert.Dact.nD Cert.Dact.τ).loc Cert.Dact.main_arg14))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3)
      ∧ r.2.mem ((c.tc : Thread Cert.DactIdeal.nD Cert.DactIdeal.τ).loc Cert.DactIdeal.main_arg4) = m ((c.tc : Thread Cert.DactIdeal.nD Cert.DactIdeal.τ).loc Cert.DactIdeal.main_arg4)
      ∧ r.2.mem ((c.tc : Thread Cert.DactIdeal.nD Cert.DactIdeal.τ).loc Cert.DactIdeal.main_arg5) = m ((c.tc : Thread Cert.DactIdeal.nD Cert.DactIdeal.τ).loc Cert.DactIdeal.main_arg5)
      ∧ r.2.mem ((c.tc : Thread Cert.DactIdeal.nD Cert.DactIdeal.τ).loc Cert.DactIdeal.main_arg6) = m ((c.tc : Thread Cert.DactIdeal.nD Cert.DactIdeal.τ).loc Cert.DactIdeal.main_arg6)
      ∧ r.2.mem ((c.tc : Thread Cert.DactIdeal.nD Cert.DactIdeal.τ).loc Cert.DactIdeal.main_arg7) = m ((c.tc : Thread Cert.DactIdeal.nD Cert.DactIdeal.τ).loc Cert.DactIdeal.main_arg7)
      ∧ r.2.mem ((c.tc : Thread Cert.DactIdeal.nD Cert.DactIdeal.τ).loc Cert.DactIdeal.main_arg8) = m ((c.tc : Thread Cert.DactIdeal.nD Cert.DactIdeal.τ).loc Cert.DactIdeal.main_arg8)
      ∧ r.2.mem ((c.tc : Thread Cert.DactIdeal.nD Cert.DactIdeal.τ).loc Cert.DactIdeal.main_arg9) = m ((c.tc : Thread Cert.DactIdeal.nD Cert.DactIdeal.τ).loc Cert.DactIdeal.main_arg9)
      ∧ r.2.mem ((c.tc : Thread Cert.DactIdeal.nD Cert.DactIdeal.τ).loc Cert.DactIdeal.main_arg10) = m ((c.tc : Thread Cert.DactIdeal.nD Cert.DactIdeal.τ).loc Cert.DactIdeal.main_arg10)
      ∧ r.2.mem ((c.tc : Thread Cert.DactIdeal.nD Cert.DactIdeal.τ).loc Cert.DactIdeal.main_arg11) = m ((c.tc : Thread Cert.DactIdeal.nD Cert.DactIdeal.τ).loc Cert.DactIdeal.main_arg11)
      ∧ r.2.mem ((c.tc : Thread Cert.DactIdeal.nD Cert.DactIdeal.τ).loc Cert.DactIdeal.main_arg12) = m ((c.tc : Thread Cert.DactIdeal.nD Cert.DactIdeal.τ).loc Cert.DactIdeal.main_arg12)
      ∧ r.2.mem ((c.tc : Thread Cert.DactIdeal.nD Cert.DactIdeal.τ).loc Cert.DactIdeal.main_arg13) = m ((c.tc : Thread Cert.DactIdeal.nD Cert.DactIdeal.τ).loc Cert.DactIdeal.main_arg13)
      ∧ r.2.mem ((c.tc : Thread Cert.DactIdeal.nD Cert.DactIdeal.τ).loc Cert.DactIdeal.main_arg14) = m ((c.tc : Thread Cert.DactIdeal.nD Cert.DactIdeal.τ).loc Cert.DactIdeal.main_arg14))
      ∧ r.2.sem = fun _ => 0)

def quiescent_DactIdeal_pre_norms_positive [hDactIdeal : Cert.DactIdeal.Facts] [hPre_norms_positive : Cert.Pre_norms_positive.Facts] : Prop :=
  ∀ (m : (ℓ : Loc Cert.DactIdeal.nD Cert.DactIdeal.τ Cert.DactIdeal.sig) → Buf (Elt Ideal) ℓ) (g : Dev Cert.DactIdeal.nD → PrngReg), Pre_DactIdeal_norms_positive m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3)
      ∧ r.2.mem ((c.tc : Thread Cert.DactIdeal.nD Cert.DactIdeal.τ).loc Cert.DactIdeal.main_arg4) = m ((c.tc : Thread Cert.DactIdeal.nD Cert.DactIdeal.τ).loc Cert.DactIdeal.main_arg4)
      ∧ r.2.mem ((c.tc : Thread Cert.DactIdeal.nD Cert.DactIdeal.τ).loc Cert.DactIdeal.main_arg5) = m ((c.tc : Thread Cert.DactIdeal.nD Cert.DactIdeal.τ).loc Cert.DactIdeal.main_arg5)
      ∧ r.2.mem ((c.tc : Thread Cert.DactIdeal.nD Cert.DactIdeal.τ).loc Cert.DactIdeal.main_arg6) = m ((c.tc : Thread Cert.DactIdeal.nD Cert.DactIdeal.τ).loc Cert.DactIdeal.main_arg6)
      ∧ r.2.mem ((c.tc : Thread Cert.DactIdeal.nD Cert.DactIdeal.τ).loc Cert.DactIdeal.main_arg7) = m ((c.tc : Thread Cert.DactIdeal.nD Cert.DactIdeal.τ).loc Cert.DactIdeal.main_arg7)
      ∧ r.2.mem ((c.tc : Thread Cert.DactIdeal.nD Cert.DactIdeal.τ).loc Cert.DactIdeal.main_arg8) = m ((c.tc : Thread Cert.DactIdeal.nD Cert.DactIdeal.τ).loc Cert.DactIdeal.main_arg8)
      ∧ r.2.mem ((c.tc : Thread Cert.DactIdeal.nD Cert.DactIdeal.τ).loc Cert.DactIdeal.main_arg9) = m ((c.tc : Thread Cert.DactIdeal.nD Cert.DactIdeal.τ).loc Cert.DactIdeal.main_arg9)
      ∧ r.2.mem ((c.tc : Thread Cert.DactIdeal.nD Cert.DactIdeal.τ).loc Cert.DactIdeal.main_arg10) = m ((c.tc : Thread Cert.DactIdeal.nD Cert.DactIdeal.τ).loc Cert.DactIdeal.main_arg10)
      ∧ r.2.mem ((c.tc : Thread Cert.DactIdeal.nD Cert.DactIdeal.τ).loc Cert.DactIdeal.main_arg11) = m ((c.tc : Thread Cert.DactIdeal.nD Cert.DactIdeal.τ).loc Cert.DactIdeal.main_arg11)
      ∧ r.2.mem ((c.tc : Thread Cert.DactIdeal.nD Cert.DactIdeal.τ).loc Cert.DactIdeal.main_arg12) = m ((c.tc : Thread Cert.DactIdeal.nD Cert.DactIdeal.τ).loc Cert.DactIdeal.main_arg12)
      ∧ r.2.mem ((c.tc : Thread Cert.DactIdeal.nD Cert.DactIdeal.τ).loc Cert.DactIdeal.main_arg13) = m ((c.tc : Thread Cert.DactIdeal.nD Cert.DactIdeal.τ).loc Cert.DactIdeal.main_arg13)
      ∧ r.2.mem ((c.tc : Thread Cert.DactIdeal.nD Cert.DactIdeal.τ).loc Cert.DactIdeal.main_arg14) = m ((c.tc : Thread Cert.DactIdeal.nD Cert.DactIdeal.τ).loc Cert.DactIdeal.main_arg14))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3)
      ∧ r.2.mem ((c.tc : Thread Cert.DactRefIdeal.nD Cert.DactRefIdeal.τ).loc Cert.DactRefIdeal.main_arg4) = m ((c.tc : Thread Cert.DactRefIdeal.nD Cert.DactRefIdeal.τ).loc Cert.DactRefIdeal.main_arg4)
      ∧ r.2.mem ((c.tc : Thread Cert.DactRefIdeal.nD Cert.DactRefIdeal.τ).loc Cert.DactRefIdeal.main_arg5) = m ((c.tc : Thread Cert.DactRefIdeal.nD Cert.DactRefIdeal.τ).loc Cert.DactRefIdeal.main_arg5)
      ∧ r.2.mem ((c.tc : Thread Cert.DactRefIdeal.nD Cert.DactRefIdeal.τ).loc Cert.DactRefIdeal.main_arg6) = m ((c.tc : Thread Cert.DactRefIdeal.nD Cert.DactRefIdeal.τ).loc Cert.DactRefIdeal.main_arg6)
      ∧ r.2.mem ((c.tc : Thread Cert.DactRefIdeal.nD Cert.DactRefIdeal.τ).loc Cert.DactRefIdeal.main_arg7) = m ((c.tc : Thread Cert.DactRefIdeal.nD Cert.DactRefIdeal.τ).loc Cert.DactRefIdeal.main_arg7)
      ∧ r.2.mem ((c.tc : Thread Cert.DactRefIdeal.nD Cert.DactRefIdeal.τ).loc Cert.DactRefIdeal.main_arg8) = m ((c.tc : Thread Cert.DactRefIdeal.nD Cert.DactRefIdeal.τ).loc Cert.DactRefIdeal.main_arg8)
      ∧ r.2.mem ((c.tc : Thread Cert.DactRefIdeal.nD Cert.DactRefIdeal.τ).loc Cert.DactRefIdeal.main_arg9) = m ((c.tc : Thread Cert.DactRefIdeal.nD Cert.DactRefIdeal.τ).loc Cert.DactRefIdeal.main_arg9)
      ∧ r.2.mem ((c.tc : Thread Cert.DactRefIdeal.nD Cert.DactRefIdeal.τ).loc Cert.DactRefIdeal.main_arg10) = m ((c.tc : Thread Cert.DactRefIdeal.nD Cert.DactRefIdeal.τ).loc Cert.DactRefIdeal.main_arg10)
      ∧ r.2.mem ((c.tc : Thread Cert.DactRefIdeal.nD Cert.DactRefIdeal.τ).loc Cert.DactRefIdeal.main_arg11) = m ((c.tc : Thread Cert.DactRefIdeal.nD Cert.DactRefIdeal.τ).loc Cert.DactRefIdeal.main_arg11)
      ∧ r.2.mem ((c.tc : Thread Cert.DactRefIdeal.nD Cert.DactRefIdeal.τ).loc Cert.DactRefIdeal.main_arg12) = m ((c.tc : Thread Cert.DactRefIdeal.nD Cert.DactRefIdeal.τ).loc Cert.DactRefIdeal.main_arg12)
      ∧ r.2.mem ((c.tc : Thread Cert.DactRefIdeal.nD Cert.DactRefIdeal.τ).loc Cert.DactRefIdeal.main_arg13) = m ((c.tc : Thread Cert.DactRefIdeal.nD Cert.DactRefIdeal.τ).loc Cert.DactRefIdeal.main_arg13)
      ∧ r.2.mem ((c.tc : Thread Cert.DactRefIdeal.nD Cert.DactRefIdeal.τ).loc Cert.DactRefIdeal.main_arg14) = m ((c.tc : Thread Cert.DactRefIdeal.nD Cert.DactRefIdeal.τ).loc Cert.DactRefIdeal.main_arg14))
      ∧ r.2.sem = fun _ => 0)

def quiescent_DactRefIdeal_pre_norms_positive [hDactRefIdeal : Cert.DactRefIdeal.Facts] [hPre_norms_positive : Cert.Pre_norms_positive.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_norms_positive m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3)
      ∧ r.2.mem ((c.tc : Thread Cert.DactRefIdeal.nD Cert.DactRefIdeal.τ).loc Cert.DactRefIdeal.main_arg4) = m ((c.tc : Thread Cert.DactRefIdeal.nD Cert.DactRefIdeal.τ).loc Cert.DactRefIdeal.main_arg4)
      ∧ r.2.mem ((c.tc : Thread Cert.DactRefIdeal.nD Cert.DactRefIdeal.τ).loc Cert.DactRefIdeal.main_arg5) = m ((c.tc : Thread Cert.DactRefIdeal.nD Cert.DactRefIdeal.τ).loc Cert.DactRefIdeal.main_arg5)
      ∧ r.2.mem ((c.tc : Thread Cert.DactRefIdeal.nD Cert.DactRefIdeal.τ).loc Cert.DactRefIdeal.main_arg6) = m ((c.tc : Thread Cert.DactRefIdeal.nD Cert.DactRefIdeal.τ).loc Cert.DactRefIdeal.main_arg6)
      ∧ r.2.mem ((c.tc : Thread Cert.DactRefIdeal.nD Cert.DactRefIdeal.τ).loc Cert.DactRefIdeal.main_arg7) = m ((c.tc : Thread Cert.DactRefIdeal.nD Cert.DactRefIdeal.τ).loc Cert.DactRefIdeal.main_arg7)
      ∧ r.2.mem ((c.tc : Thread Cert.DactRefIdeal.nD Cert.DactRefIdeal.τ).loc Cert.DactRefIdeal.main_arg8) = m ((c.tc : Thread Cert.DactRefIdeal.nD Cert.DactRefIdeal.τ).loc Cert.DactRefIdeal.main_arg8)
      ∧ r.2.mem ((c.tc : Thread Cert.DactRefIdeal.nD Cert.DactRefIdeal.τ).loc Cert.DactRefIdeal.main_arg9) = m ((c.tc : Thread Cert.DactRefIdeal.nD Cert.DactRefIdeal.τ).loc Cert.DactRefIdeal.main_arg9)
      ∧ r.2.mem ((c.tc : Thread Cert.DactRefIdeal.nD Cert.DactRefIdeal.τ).loc Cert.DactRefIdeal.main_arg10) = m ((c.tc : Thread Cert.DactRefIdeal.nD Cert.DactRefIdeal.τ).loc Cert.DactRefIdeal.main_arg10)
      ∧ r.2.mem ((c.tc : Thread Cert.DactRefIdeal.nD Cert.DactRefIdeal.τ).loc Cert.DactRefIdeal.main_arg11) = m ((c.tc : Thread Cert.DactRefIdeal.nD Cert.DactRefIdeal.τ).loc Cert.DactRefIdeal.main_arg11)
      ∧ r.2.mem ((c.tc : Thread Cert.DactRefIdeal.nD Cert.DactRefIdeal.τ).loc Cert.DactRefIdeal.main_arg12) = m ((c.tc : Thread Cert.DactRefIdeal.nD Cert.DactRefIdeal.τ).loc Cert.DactRefIdeal.main_arg12)
      ∧ r.2.mem ((c.tc : Thread Cert.DactRefIdeal.nD Cert.DactRefIdeal.τ).loc Cert.DactRefIdeal.main_arg13) = m ((c.tc : Thread Cert.DactRefIdeal.nD Cert.DactRefIdeal.τ).loc Cert.DactRefIdeal.main_arg13)
      ∧ r.2.mem ((c.tc : Thread Cert.DactRefIdeal.nD Cert.DactRefIdeal.τ).loc Cert.DactRefIdeal.main_arg14) = m ((c.tc : Thread Cert.DactRefIdeal.nD Cert.DactRefIdeal.τ).loc Cert.DactRefIdeal.main_arg14))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)
      ∧ m' ((c.tc : Thread Cert.GateUpRefIdeal.nD Cert.GateUpRefIdeal.τ).loc Cert.GateUpRefIdeal.main_arg7) = m ((c.tc : Thread Cert.GateUpIdeal.nD Cert.GateUpIdeal.τ).loc Cert.GateUpIdeal.main_arg7)
      ∧ m' ((c.tc : Thread Cert.GateUpRefIdeal.nD Cert.GateUpRefIdeal.τ).loc Cert.GateUpRefIdeal.main_arg8) = m ((c.tc : Thread Cert.GateUpIdeal.nD Cert.GateUpIdeal.τ).loc Cert.GateUpIdeal.main_arg8)) →
    ∃ (v0 : (c : Dev Cert.GateUpIdeal.nD) → Buf (Elt Ideal) ((c.tc : Thread Cert.GateUpIdeal.nD Cert.GateUpIdeal.τ).loc Cert.GateUpIdeal.main_v14_0)) (v1 : (c : Dev Cert.GateUpIdeal.nD) → Buf (Elt Ideal) ((c.tc : Thread Cert.GateUpIdeal.nD Cert.GateUpIdeal.τ).loc Cert.GateUpIdeal.main_v14_1)) (v2 : (c : Dev Cert.GateUpIdeal.nD) → Buf (Elt Ideal) ((c.tc : Thread Cert.GateUpIdeal.nD Cert.GateUpIdeal.τ).loc Cert.GateUpIdeal.main_v14_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v14_0) = v0 c
          ∧ r.2.mem ((c.tc : Thread Cert.GateUpIdeal.nD Cert.GateUpIdeal.τ).loc Cert.GateUpIdeal.main_v14_1) = v1 c
          ∧ r.2.mem ((c.tc : Thread Cert.GateUpIdeal.nD Cert.GateUpIdeal.τ).loc Cert.GateUpIdeal.main_v14_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
          ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v10) = v0 c
          ∧ r.2.mem ((c.tc : Thread Cert.GateUpRefIdeal.nD Cert.GateUpRefIdeal.τ).loc Cert.GateUpRefIdeal.main_v24) = v1 c
          ∧ r.2.mem ((c.tc : Thread Cert.GateUpRefIdeal.nD Cert.GateUpRefIdeal.τ).loc Cert.GateUpRefIdeal.main_v36) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6)
          ∧ r.2.mem ((c.tc : Thread Cert.GateUpRefIdeal.nD Cert.GateUpRefIdeal.τ).loc Cert.GateUpRefIdeal.main_arg7) = m' ((c.tc : Thread Cert.GateUpRefIdeal.nD Cert.GateUpRefIdeal.τ).loc Cert.GateUpRefIdeal.main_arg7)
          ∧ r.2.mem ((c.tc : Thread Cert.GateUpRefIdeal.nD Cert.GateUpRefIdeal.τ).loc Cert.GateUpRefIdeal.main_arg8) = m' ((c.tc : Thread Cert.GateUpRefIdeal.nD Cert.GateUpRefIdeal.τ).loc Cert.GateUpRefIdeal.main_arg8))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)) (v2 : (c : Dev Cert.DownIdeal.nD) → Buf (Elt Ideal) ((c.tc : Thread Cert.DownIdeal.nD Cert.DownIdeal.τ).loc Cert.DownIdeal.main_v2_2)) (v3 : (c : Dev Cert.DownIdeal.nD) → Buf (Elt Ideal) ((c.tc : Thread Cert.DownIdeal.nD Cert.DownIdeal.τ).loc Cert.DownIdeal.main_v2_3)) (v4 : (c : Dev Cert.DownIdeal.nD) → Buf (Elt Ideal) ((c.tc : Thread Cert.DownIdeal.nD Cert.DownIdeal.τ).loc Cert.DownIdeal.main_v2_4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_v2_2) = v2 c
          ∧ r.2.mem ((c.tc : Thread Cert.DownIdeal.nD Cert.DownIdeal.τ).loc Cert.DownIdeal.main_v2_3) = v3 c
          ∧ r.2.mem ((c.tc : Thread Cert.DownIdeal.nD Cert.DownIdeal.τ).loc Cert.DownIdeal.main_v2_4) = v4 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v16) = v0 c
          ∧ r.2.mem ((c.tc : Thread Cert.DownRefIdeal.nD Cert.DownRefIdeal.τ).loc Cert.DownRefIdeal.main_v24) = v1 c
          ∧ r.2.mem ((c.tc : Thread Cert.DownRefIdeal.nD Cert.DownRefIdeal.τ).loc Cert.DownRefIdeal.main_v32) = v2 c
          ∧ r.2.mem ((c.tc : Thread Cert.DownRefIdeal.nD Cert.DownRefIdeal.τ).loc Cert.DownRefIdeal.main_v27) = v3 c
          ∧ r.2.mem ((c.tc : Thread Cert.DownRefIdeal.nD Cert.DownRefIdeal.τ).loc Cert.DownRefIdeal.main_v31) = v4 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)
      ∧ m' ((c.tc : Thread Cert.DxRefIdeal.nD Cert.DxRefIdeal.τ).loc Cert.DxRefIdeal.main_arg8) = m ((c.tc : Thread Cert.DxIdeal.nD Cert.DxIdeal.τ).loc Cert.DxIdeal.main_arg8)
      ∧ m' ((c.tc : Thread Cert.DxRefIdeal.nD Cert.DxRefIdeal.τ).loc Cert.DxRefIdeal.main_arg9) = m ((c.tc : Thread Cert.DxIdeal.nD Cert.DxIdeal.τ).loc Cert.DxIdeal.main_arg9)
      ∧ m' ((c.tc : Thread Cert.DxRefIdeal.nD Cert.DxRefIdeal.τ).loc Cert.DxRefIdeal.main_arg10) = m ((c.tc : Thread Cert.DxIdeal.nD Cert.DxIdeal.τ).loc Cert.DxIdeal.main_arg10)
      ∧ m' ((c.tc : Thread Cert.DxRefIdeal.nD Cert.DxRefIdeal.τ).loc Cert.DxRefIdeal.main_arg11) = m ((c.tc : Thread Cert.DxIdeal.nD Cert.DxIdeal.τ).loc Cert.DxIdeal.main_arg11)) →
    ∃ (v0 : (c : Dev Cert.DxIdeal.nD) → Buf (Elt Ideal) ((c.tc : Thread Cert.DxIdeal.nD Cert.DxIdeal.τ).loc Cert.DxIdeal.main_v4_0)) (v1 : (c : Dev Cert.DxIdeal.nD) → Buf (Elt Ideal) ((c.tc : Thread Cert.DxIdeal.nD Cert.DxIdeal.τ).loc Cert.DxIdeal.main_v4_1)) (v2 : (c : Dev Cert.DxIdeal.nD) → Buf (Elt Ideal) ((c.tc : Thread Cert.DxIdeal.nD Cert.DxIdeal.τ).loc Cert.DxIdeal.main_v4_2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v4_0) = v0 c
          ∧ r.2.mem ((c.tc : Thread Cert.DxIdeal.nD Cert.DxIdeal.τ).loc Cert.DxIdeal.main_v4_1) = v1 c
          ∧ r.2.mem ((c.tc : Thread Cert.DxIdeal.nD Cert.DxIdeal.τ).loc Cert.DxIdeal.main_v4_2) = v2 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
          ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
          ∧ r.2.mem ((c.tc : Thread Cert.DxIdeal.nD Cert.DxIdeal.τ).loc Cert.DxIdeal.main_arg11) = m ((c.tc : Thread Cert.DxIdeal.nD Cert.DxIdeal.τ).loc Cert.DxIdeal.main_arg11))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v41) = v0 c
          ∧ r.2.mem ((c.tc : Thread Cert.DxRefIdeal.nD Cert.DxRefIdeal.τ).loc Cert.DxRefIdeal.main_v42) = v1 c
          ∧ r.2.mem ((c.tc : Thread Cert.DxRefIdeal.nD Cert.DxRefIdeal.τ).loc Cert.DxRefIdeal.main_v43) = v2 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8)
          ∧ r.2.mem ((c.tc : Thread Cert.DxRefIdeal.nD Cert.DxRefIdeal.τ).loc Cert.DxRefIdeal.main_arg9) = m' ((c.tc : Thread Cert.DxRefIdeal.nD Cert.DxRefIdeal.τ).loc Cert.DxRefIdeal.main_arg9)
          ∧ r.2.mem ((c.tc : Thread Cert.DxRefIdeal.nD Cert.DxRefIdeal.τ).loc Cert.DxRefIdeal.main_arg10) = m' ((c.tc : Thread Cert.DxRefIdeal.nD Cert.DxRefIdeal.τ).loc Cert.DxRefIdeal.main_arg10)
          ∧ r.2.mem ((c.tc : Thread Cert.DxRefIdeal.nD Cert.DxRefIdeal.τ).loc Cert.DxRefIdeal.main_arg11) = m' ((c.tc : Thread Cert.DxRefIdeal.nD Cert.DxRefIdeal.τ).loc Cert.DxRefIdeal.main_arg11))

def preserves_Dact_DactIdeal : Prop :=
  True

def algebraic_DactIdeal_DactRefIdeal_pre_norms_positive [hDactIdeal : Cert.DactIdeal.Facts] [hDactRefIdeal : Cert.DactRefIdeal.Facts] [hPre_norms_positive : Cert.Pre_norms_positive.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_norms_positive m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)
      ∧ m' ((c.tc : Thread Cert.DactRefIdeal.nD Cert.DactRefIdeal.τ).loc Cert.DactRefIdeal.main_arg4) = m ((c.tc : Thread Cert.DactIdeal.nD Cert.DactIdeal.τ).loc Cert.DactIdeal.main_arg4)
      ∧ m' ((c.tc : Thread Cert.DactRefIdeal.nD Cert.DactRefIdeal.τ).loc Cert.DactRefIdeal.main_arg5) = m ((c.tc : Thread Cert.DactIdeal.nD Cert.DactIdeal.τ).loc Cert.DactIdeal.main_arg5)
      ∧ m' ((c.tc : Thread Cert.DactRefIdeal.nD Cert.DactRefIdeal.τ).loc Cert.DactRefIdeal.main_arg6) = m ((c.tc : Thread Cert.DactIdeal.nD Cert.DactIdeal.τ).loc Cert.DactIdeal.main_arg6)
      ∧ m' ((c.tc : Thread Cert.DactRefIdeal.nD Cert.DactRefIdeal.τ).loc Cert.DactRefIdeal.main_arg7) = m ((c.tc : Thread Cert.DactIdeal.nD Cert.DactIdeal.τ).loc Cert.DactIdeal.main_arg7)
      ∧ m' ((c.tc : Thread Cert.DactRefIdeal.nD Cert.DactRefIdeal.τ).loc Cert.DactRefIdeal.main_arg8) = m ((c.tc : Thread Cert.DactIdeal.nD Cert.DactIdeal.τ).loc Cert.DactIdeal.main_arg8)
      ∧ m' ((c.tc : Thread Cert.DactRefIdeal.nD Cert.DactRefIdeal.τ).loc Cert.DactRefIdeal.main_arg9) = m ((c.tc : Thread Cert.DactIdeal.nD Cert.DactIdeal.τ).loc Cert.DactIdeal.main_arg9)
      ∧ m' ((c.tc : Thread Cert.DactRefIdeal.nD Cert.DactRefIdeal.τ).loc Cert.DactRefIdeal.main_arg10) = m ((c.tc : Thread Cert.DactIdeal.nD Cert.DactIdeal.τ).loc Cert.DactIdeal.main_arg10)
      ∧ m' ((c.tc : Thread Cert.DactRefIdeal.nD Cert.DactRefIdeal.τ).loc Cert.DactRefIdeal.main_arg11) = m ((c.tc : Thread Cert.DactIdeal.nD Cert.DactIdeal.τ).loc Cert.DactIdeal.main_arg11)
      ∧ m' ((c.tc : Thread Cert.DactRefIdeal.nD Cert.DactRefIdeal.τ).loc Cert.DactRefIdeal.main_arg12) = m ((c.tc : Thread Cert.DactIdeal.nD Cert.DactIdeal.τ).loc Cert.DactIdeal.main_arg12)
      ∧ m' ((c.tc : Thread Cert.DactRefIdeal.nD Cert.DactRefIdeal.τ).loc Cert.DactRefIdeal.main_arg13) = m ((c.tc : Thread Cert.DactIdeal.nD Cert.DactIdeal.τ).loc Cert.DactIdeal.main_arg13)
      ∧ m' ((c.tc : Thread Cert.DactRefIdeal.nD Cert.DactRefIdeal.τ).loc Cert.DactRefIdeal.main_arg14) = m ((c.tc : Thread Cert.DactIdeal.nD Cert.DactIdeal.τ).loc Cert.DactIdeal.main_arg14)) →
    ∃ (v0 : (c : Dev Cert.DactIdeal.nD) → Buf (Elt Ideal) ((c.tc : Thread Cert.DactIdeal.nD Cert.DactIdeal.τ).loc Cert.DactIdeal.main_v4_0)) (v1 : (c : Dev Cert.DactIdeal.nD) → Buf (Elt Ideal) ((c.tc : Thread Cert.DactIdeal.nD Cert.DactIdeal.τ).loc Cert.DactIdeal.main_v4_1)) (v2 : (c : Dev Cert.DactIdeal.nD) → Buf (Elt Ideal) ((c.tc : Thread Cert.DactIdeal.nD Cert.DactIdeal.τ).loc Cert.DactIdeal.main_v4_2)) (v3 : (c : Dev Cert.DactIdeal.nD) → Buf (Elt Ideal) ((c.tc : Thread Cert.DactIdeal.nD Cert.DactIdeal.τ).loc Cert.DactIdeal.main_v4_3)) (v4 : (c : Dev Cert.DactIdeal.nD) → Buf (Elt Ideal) ((c.tc : Thread Cert.DactIdeal.nD Cert.DactIdeal.τ).loc Cert.DactIdeal.main_v4_4)) (v5 : (c : Dev Cert.DactIdeal.nD) → Buf (Elt Ideal) ((c.tc : Thread Cert.DactIdeal.nD Cert.DactIdeal.τ).loc Cert.DactIdeal.main_v4_5)) (v6 : (c : Dev Cert.DactIdeal.nD) → Buf (Elt Ideal) ((c.tc : Thread Cert.DactIdeal.nD Cert.DactIdeal.τ).loc Cert.DactIdeal.main_v4_6)) (v7 : (c : Dev Cert.DactIdeal.nD) → Buf (Elt Ideal) ((c.tc : Thread Cert.DactIdeal.nD Cert.DactIdeal.τ).loc Cert.DactIdeal.main_v4_7)) (v8 : (c : Dev Cert.DactIdeal.nD) → Buf (Elt Ideal) ((c.tc : Thread Cert.DactIdeal.nD Cert.DactIdeal.τ).loc Cert.DactIdeal.main_v4_8)) (v9 : (c : Dev Cert.DactIdeal.nD) → Buf (Elt Ideal) ((c.tc : Thread Cert.DactIdeal.nD Cert.DactIdeal.τ).loc Cert.DactIdeal.main_v4_9)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v4_0) = v0 c
          ∧ r.2.mem ((c.tc : Thread Cert.DactIdeal.nD Cert.DactIdeal.τ).loc Cert.DactIdeal.main_v4_1) = v1 c
          ∧ r.2.mem ((c.tc : Thread Cert.DactIdeal.nD Cert.DactIdeal.τ).loc Cert.DactIdeal.main_v4_2) = v2 c
          ∧ r.2.mem ((c.tc : Thread Cert.DactIdeal.nD Cert.DactIdeal.τ).loc Cert.DactIdeal.main_v4_3) = v3 c
          ∧ r.2.mem ((c.tc : Thread Cert.DactIdeal.nD Cert.DactIdeal.τ).loc Cert.DactIdeal.main_v4_4) = v4 c
          ∧ r.2.mem ((c.tc : Thread Cert.DactIdeal.nD Cert.DactIdeal.τ).loc Cert.DactIdeal.main_v4_5) = v5 c
          ∧ r.2.mem ((c.tc : Thread Cert.DactIdeal.nD Cert.DactIdeal.τ).loc Cert.DactIdeal.main_v4_6) = v6 c
          ∧ r.2.mem ((c.tc : Thread Cert.DactIdeal.nD Cert.DactIdeal.τ).loc Cert.DactIdeal.main_v4_7) = v7 c
          ∧ r.2.mem ((c.tc : Thread Cert.DactIdeal.nD Cert.DactIdeal.τ).loc Cert.DactIdeal.main_v4_8) = v8 c
          ∧ r.2.mem ((c.tc : Thread Cert.DactIdeal.nD Cert.DactIdeal.τ).loc Cert.DactIdeal.main_v4_9) = v9 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3)
          ∧ r.2.mem ((c.tc : Thread Cert.DactIdeal.nD Cert.DactIdeal.τ).loc Cert.DactIdeal.main_arg4) = m ((c.tc : Thread Cert.DactIdeal.nD Cert.DactIdeal.τ).loc Cert.DactIdeal.main_arg4)
          ∧ r.2.mem ((c.tc : Thread Cert.DactIdeal.nD Cert.DactIdeal.τ).loc Cert.DactIdeal.main_arg5) = m ((c.tc : Thread Cert.DactIdeal.nD Cert.DactIdeal.τ).loc Cert.DactIdeal.main_arg5)
          ∧ r.2.mem ((c.tc : Thread Cert.DactIdeal.nD Cert.DactIdeal.τ).loc Cert.DactIdeal.main_arg6) = m ((c.tc : Thread Cert.DactIdeal.nD Cert.DactIdeal.τ).loc Cert.DactIdeal.main_arg6)
          ∧ r.2.mem ((c.tc : Thread Cert.DactIdeal.nD Cert.DactIdeal.τ).loc Cert.DactIdeal.main_arg7) = m ((c.tc : Thread Cert.DactIdeal.nD Cert.DactIdeal.τ).loc Cert.DactIdeal.main_arg7)
          ∧ r.2.mem ((c.tc : Thread Cert.DactIdeal.nD Cert.DactIdeal.τ).loc Cert.DactIdeal.main_arg8) = m ((c.tc : Thread Cert.DactIdeal.nD Cert.DactIdeal.τ).loc Cert.DactIdeal.main_arg8)
          ∧ r.2.mem ((c.tc : Thread Cert.DactIdeal.nD Cert.DactIdeal.τ).loc Cert.DactIdeal.main_arg9) = m ((c.tc : Thread Cert.DactIdeal.nD Cert.DactIdeal.τ).loc Cert.DactIdeal.main_arg9)
          ∧ r.2.mem ((c.tc : Thread Cert.DactIdeal.nD Cert.DactIdeal.τ).loc Cert.DactIdeal.main_arg10) = m ((c.tc : Thread Cert.DactIdeal.nD Cert.DactIdeal.τ).loc Cert.DactIdeal.main_arg10)
          ∧ r.2.mem ((c.tc : Thread Cert.DactIdeal.nD Cert.DactIdeal.τ).loc Cert.DactIdeal.main_arg11) = m ((c.tc : Thread Cert.DactIdeal.nD Cert.DactIdeal.τ).loc Cert.DactIdeal.main_arg11)
          ∧ r.2.mem ((c.tc : Thread Cert.DactIdeal.nD Cert.DactIdeal.τ).loc Cert.DactIdeal.main_arg12) = m ((c.tc : Thread Cert.DactIdeal.nD Cert.DactIdeal.τ).loc Cert.DactIdeal.main_arg12)
          ∧ r.2.mem ((c.tc : Thread Cert.DactIdeal.nD Cert.DactIdeal.τ).loc Cert.DactIdeal.main_arg13) = m ((c.tc : Thread Cert.DactIdeal.nD Cert.DactIdeal.τ).loc Cert.DactIdeal.main_arg13)
          ∧ r.2.mem ((c.tc : Thread Cert.DactIdeal.nD Cert.DactIdeal.τ).loc Cert.DactIdeal.main_arg14) = m ((c.tc : Thread Cert.DactIdeal.nD Cert.DactIdeal.τ).loc Cert.DactIdeal.main_arg14))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v36) = v0 c
          ∧ r.2.mem ((c.tc : Thread Cert.DactRefIdeal.nD Cert.DactRefIdeal.τ).loc Cert.DactRefIdeal.main_v50) = v1 c
          ∧ r.2.mem ((c.tc : Thread Cert.DactRefIdeal.nD Cert.DactRefIdeal.τ).loc Cert.DactRefIdeal.main_v63) = v2 c
          ∧ r.2.mem ((c.tc : Thread Cert.DactRefIdeal.nD Cert.DactRefIdeal.τ).loc Cert.DactRefIdeal.main_v64) = v3 c
          ∧ r.2.mem ((c.tc : Thread Cert.DactRefIdeal.nD Cert.DactRefIdeal.τ).loc Cert.DactRefIdeal.main_v39) = v4 c
          ∧ r.2.mem ((c.tc : Thread Cert.DactRefIdeal.nD Cert.DactRefIdeal.τ).loc Cert.DactRefIdeal.main_v53) = v5 c
          ∧ r.2.mem ((c.tc : Thread Cert.DactRefIdeal.nD Cert.DactRefIdeal.τ).loc Cert.DactRefIdeal.main_v2) = v6 c
          ∧ r.2.mem ((c.tc : Thread Cert.DactRefIdeal.nD Cert.DactRefIdeal.τ).loc Cert.DactRefIdeal.main_v43) = v7 c
          ∧ r.2.mem ((c.tc : Thread Cert.DactRefIdeal.nD Cert.DactRefIdeal.τ).loc Cert.DactRefIdeal.main_v57) = v8 c
          ∧ r.2.mem ((c.tc : Thread Cert.DactRefIdeal.nD Cert.DactRefIdeal.τ).loc Cert.DactRefIdeal.main_v62) = v9 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3)
          ∧ r.2.mem ((c.tc : Thread Cert.DactRefIdeal.nD Cert.DactRefIdeal.τ).loc Cert.DactRefIdeal.main_arg4) = m' ((c.tc : Thread Cert.DactRefIdeal.nD Cert.DactRefIdeal.τ).loc Cert.DactRefIdeal.main_arg4)
          ∧ r.2.mem ((c.tc : Thread Cert.DactRefIdeal.nD Cert.DactRefIdeal.τ).loc Cert.DactRefIdeal.main_arg5) = m' ((c.tc : Thread Cert.DactRefIdeal.nD Cert.DactRefIdeal.τ).loc Cert.DactRefIdeal.main_arg5)
          ∧ r.2.mem ((c.tc : Thread Cert.DactRefIdeal.nD Cert.DactRefIdeal.τ).loc Cert.DactRefIdeal.main_arg6) = m' ((c.tc : Thread Cert.DactRefIdeal.nD Cert.DactRefIdeal.τ).loc Cert.DactRefIdeal.main_arg6)
          ∧ r.2.mem ((c.tc : Thread Cert.DactRefIdeal.nD Cert.DactRefIdeal.τ).loc Cert.DactRefIdeal.main_arg7) = m' ((c.tc : Thread Cert.DactRefIdeal.nD Cert.DactRefIdeal.τ).loc Cert.DactRefIdeal.main_arg7)
          ∧ r.2.mem ((c.tc : Thread Cert.DactRefIdeal.nD Cert.DactRefIdeal.τ).loc Cert.DactRefIdeal.main_arg8) = m' ((c.tc : Thread Cert.DactRefIdeal.nD Cert.DactRefIdeal.τ).loc Cert.DactRefIdeal.main_arg8)
          ∧ r.2.mem ((c.tc : Thread Cert.DactRefIdeal.nD Cert.DactRefIdeal.τ).loc Cert.DactRefIdeal.main_arg9) = m' ((c.tc : Thread Cert.DactRefIdeal.nD Cert.DactRefIdeal.τ).loc Cert.DactRefIdeal.main_arg9)
          ∧ r.2.mem ((c.tc : Thread Cert.DactRefIdeal.nD Cert.DactRefIdeal.τ).loc Cert.DactRefIdeal.main_arg10) = m' ((c.tc : Thread Cert.DactRefIdeal.nD Cert.DactRefIdeal.τ).loc Cert.DactRefIdeal.main_arg10)
          ∧ r.2.mem ((c.tc : Thread Cert.DactRefIdeal.nD Cert.DactRefIdeal.τ).loc Cert.DactRefIdeal.main_arg11) = m' ((c.tc : Thread Cert.DactRefIdeal.nD Cert.DactRefIdeal.τ).loc Cert.DactRefIdeal.main_arg11)
          ∧ r.2.mem ((c.tc : Thread Cert.DactRefIdeal.nD Cert.DactRefIdeal.τ).loc Cert.DactRefIdeal.main_arg12) = m' ((c.tc : Thread Cert.DactRefIdeal.nD Cert.DactRefIdeal.τ).loc Cert.DactRefIdeal.main_arg12)
          ∧ r.2.mem ((c.tc : Thread Cert.DactRefIdeal.nD Cert.DactRefIdeal.τ).loc Cert.DactRefIdeal.main_arg13) = m' ((c.tc : Thread Cert.DactRefIdeal.nD Cert.DactRefIdeal.τ).loc Cert.DactRefIdeal.main_arg13)
          ∧ r.2.mem ((c.tc : Thread Cert.DactRefIdeal.nD Cert.DactRefIdeal.τ).loc Cert.DactRefIdeal.main_arg14) = m' ((c.tc : Thread Cert.DactRefIdeal.nD Cert.DactRefIdeal.τ).loc Cert.DactRefIdeal.main_arg14))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hDx : Cert.Dx.Facts) (hDxIdeal : Cert.DxIdeal.Facts) (hDxRefIdeal : Cert.DxRefIdeal.Facts) (hDact : Cert.Dact.Facts) (hDactIdeal : Cert.DactIdeal.Facts) (hDactRefIdeal : Cert.DactRefIdeal.Facts) (hPre_norms_positive : Cert.Pre_norms_positive.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Dx (hDx := hDx)
    ∧ quiescent_DxIdeal (hDxIdeal := hDxIdeal)
    ∧ quiescent_DxRefIdeal (hDxRefIdeal := hDxRefIdeal)
    ∧ quiescent_Dact (hDact := hDact)
    ∧ quiescent_DactIdeal (hDactIdeal := hDactIdeal)
    ∧ quiescent_DactIdeal_pre_norms_positive (hDactIdeal := hDactIdeal) (hPre_norms_positive := hPre_norms_positive)
    ∧ quiescent_DactRefIdeal (hDactRefIdeal := hDactRefIdeal)
    ∧ quiescent_DactRefIdeal_pre_norms_positive (hDactRefIdeal := hDactRefIdeal) (hPre_norms_positive := hPre_norms_positive)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Dx_DxIdeal
    ∧ algebraic_DxIdeal_DxRefIdeal (hDxIdeal := hDxIdeal) (hDxRefIdeal := hDxRefIdeal)
    ∧ preserves_Dact_DactIdeal
    ∧ algebraic_DactIdeal_DactRefIdeal_pre_norms_positive (hDactIdeal := hDactIdeal) (hDactRefIdeal := hDactRefIdeal) (hPre_norms_positive := hPre_norms_positive)
-- ==== Pre_norms_positive.lean ====
abbrev S2048x8192 : Shape := ⟨2, ![2048, 8192]⟩
abbrev S8192x3584 : Shape := ⟨2, ![8192, 3584]⟩
abbrev S2048x64 : Shape := ⟨2, ![2048, 64]⟩
abbrev S64x3584 : Shape := ⟨2, ![64, 3584]⟩
abbrev S2048x3584 : Shape := ⟨2, ![2048, 3584]⟩
abbrev S3584x64 : Shape := ⟨2, ![3584, 64]⟩
abbrev S3584 : Shape := ⟨1, ![3584]⟩
abbrev S_ : Shape := ⟨0, ![]⟩

class Facts : Prop where
  bcast_S_S3584 : S_.BroadcastsInDim S3584 (![] : Fin 0 → Fin S3584.rank)

variable [Facts]

def fn {F : FTy → Type} [FloatOps F] (main_arg0 : FVec F S2048x8192 .bf16) (main_arg1 : FVec F S8192x3584 .bf16) (main_arg2 : FVec F S2048x64 .bf16) (main_arg3 : FVec F S64x3584 .bf16) (main_arg4 : FVec F S2048x3584 .bf16) (main_arg5 : FVec F S2048x3584 .f32) (main_arg6 : FVec F S2048x3584 .f32) (main_arg7 : FVec F S2048x64 .bf16) (main_arg8 : FVec F S2048x64 .bf16) (main_arg9 : FVec F S3584x64 .bf16) (main_arg10 : FVec F S3584x64 .bf16) (main_arg11 : FVec F S3584 .f32) (main_arg12 : FVec F S3584 .f32) (main_arg13 : FVec F S3584 .f32) (main_arg14 : FVec F S3584 .f32) : IVec S3584 1 :=
  let main_cst : FVec F S_ .f32 := constant S_ .f32 0x00000000#32
  let main_v0 : FVec F S3584 .f32 := broadcastInDim S3584 ![] bcast_S_S3584 main_cst
  let main_v1 : IVec S3584 1 := cmpf .ogt main_arg13 main_v0
  let main_cst_0 : FVec F S_ .f32 := constant S_ .f32 0x00000000#32
  let main_v2 : FVec F S3584 .f32 := broadcastInDim S3584 ![] bcast_S_S3584 main_cst_0
  let main_v3 : IVec S3584 1 := cmpf .ogt main_arg14 main_v2
  let main_v4 : IVec S3584 1 := andi main_v1 main_v3
  main_v4
-- ==== GateUp.lean ====
abbrev S2048x8192 : Shape := ⟨2, ![2048, 8192]⟩
abbrev S3584x8192 : Shape := ⟨2, ![3584, 8192]⟩
abbrev S2048x64 : Shape := ⟨2, ![2048, 64]⟩
abbrev S3584x64 : Shape := ⟨2, ![3584, 64]⟩
abbrev S3584 : Shape := ⟨1, ![3584]⟩
abbrev S_ : Shape := ⟨0, ![]⟩
abbrev S2048x128 : Shape := ⟨2, ![2048, 128]⟩
abbrev S64x3584 : Shape := ⟨2, ![64, 3584]⟩
abbrev S1x3584 : Shape := ⟨2, ![1, 3584]⟩
abbrev S2048x3584 : Shape := ⟨2, ![2048, 3584]⟩
abbrev S1024x8192 : Shape := ⟨2, ![1024, 8192]⟩
abbrev S256x8192 : Shape := ⟨2, ![256, 8192]⟩
abbrev S1024x128 : Shape := ⟨2, ![1024, 128]⟩
abbrev S64x256 : Shape := ⟨2, ![64, 256]⟩
abbrev S1x256 : Shape := ⟨2, ![1, 256]⟩
abbrev S1024x256 : Shape := ⟨2, ![1024, 256]⟩
abbrev S128x256 : Shape := ⟨2, ![128, 256]⟩

abbrev nBuf : Space → Nat
  | .hbm => 30
  | .vmem => 24
  | .smem => 0
  | _ => 0

abbrev bufTy : (tb : Table) → Fin (tcTables nBuf tb) → BufTy
  | .hbm, ⟨0, _⟩ => ⟨S2048x8192, .bf16⟩
  | .hbm, ⟨1, _⟩ => ⟨S3584x8192, .bf16⟩
  | .hbm, ⟨2, _⟩ => ⟨S3584x8192, .bf16⟩
  | .hbm, ⟨3, _⟩ => ⟨S2048x64, .bf16⟩
  | .hbm, ⟨4, _⟩ => ⟨S2048x64, .bf16⟩
  | .hbm, ⟨5, _⟩ => ⟨S3584x64, .bf16⟩
  | .hbm, ⟨6, _⟩ => ⟨S3584x64, .bf16⟩
  | .hbm, ⟨7, _⟩ => ⟨S3584, .f32⟩
  | .hbm, ⟨8, _⟩ => ⟨S3584, .f32⟩
  | .hbm, ⟨9, _⟩ => ⟨S_, .bf16⟩
  | .hbm, ⟨10, _⟩ => ⟨S2048x64, .bf16⟩
  | .hbm, ⟨11, _⟩ => ⟨S2048x64, .bf16⟩
  | .hbm, ⟨12, _⟩ => ⟨S_, .bf16⟩
  | .hbm, ⟨13, _⟩ => ⟨S2048x64, .bf16⟩
  | .hbm, ⟨14, _⟩ => ⟨S2048x64, .bf16⟩
  | .hbm, ⟨15, _⟩ => ⟨S2048x128, .bf16⟩
  | .hbm, ⟨16, _⟩ => ⟨S_, .bf16⟩
  | .hbm, ⟨17, _⟩ => ⟨S2048x64, .bf16⟩
  | .hbm, ⟨18, _⟩ => ⟨S2048x64, .bf16⟩
  | .hbm, ⟨19, _⟩ => ⟨S_, .bf16⟩
  | .hbm, ⟨20, _⟩ => ⟨S2048x64, .bf16⟩
  | .hbm, ⟨21, _⟩ => ⟨S2048x64, .bf16⟩
  | .hbm, ⟨22, _⟩ => ⟨S2048x128, .bf16⟩
  | .hbm, ⟨23, _⟩ => ⟨S64x3584, .bf16⟩
  | .hbm, ⟨24, _⟩ => ⟨S64x3584, .bf16⟩
  | .hbm, ⟨25, _⟩ => ⟨S1x3584, .f32⟩
  | .hbm, ⟨26, _⟩ => ⟨S1x3584, .f32⟩
  | .hbm, ⟨27, _⟩ => ⟨S2048x3584, .f32⟩
  | .hbm, ⟨28, _⟩ => ⟨S2048x3584, .f32⟩
  | .hbm, ⟨29, _⟩ => ⟨S2048x3584, .bf16⟩
  | .local _ .vmem, ⟨0, _⟩ => ⟨S1024x8192, .bf16⟩
  | .local _ .vmem, ⟨1, _⟩ => ⟨S1024x8192, .bf16⟩
  | .local _ .vmem, ⟨2, _⟩ => ⟨S256x8192, .bf16⟩
  | .local _ .vmem, ⟨3, _⟩ => ⟨S256x8192, .bf16⟩
  | .local _ .vmem, ⟨4, _⟩ => ⟨S256x8192, .bf16⟩
  | .local _ .vmem, ⟨5, _⟩ => ⟨S256x8192, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S64x256, .bf16⟩
  | .local _ .vmem, ⟨11, _⟩ => ⟨S64x256, .bf16⟩
  | .local _ .vmem, ⟨12, _⟩ => ⟨S64x256, .bf16⟩
  | .local _ .vmem, ⟨13, _⟩ => ⟨S64x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .bf16⟩
  | .local _ .vmem, ⟨23, _⟩ => ⟨S1024x256, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![14, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== GateUpRefIdeal.lean ====
abbrev S2048x8192 : Shape := ⟨2, ![2048, 8192]⟩
abbrev S3584x8192 : Shape := ⟨2, ![3584, 8192]⟩
abbrev S2048x64 : Shape := ⟨2, ![2048, 64]⟩
abbrev S3584x64 : Shape := ⟨2, ![3584, 64]⟩
abbrev S3584 : Shape := ⟨1, ![3584]⟩
abbrev S3584x4096 : Shape := ⟨2, ![3584, 4096]⟩
abbrev S2048x4096 : Shape := ⟨2, ![2048, 4096]⟩
abbrev S2048x3584 : Shape := ⟨2, ![2048, 3584]⟩
abbrev S_ : Shape := ⟨0, ![]⟩
abbrev S1x3584 : Shape := ⟨2, ![1, 3584]⟩

abbrev nBuf : Space → Nat
  | .hbm => 50
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S3584x8192, .bf16⟩
  | .hbm, ⟨2, _⟩ => ⟨S3584x8192, .bf16⟩
  | .hbm, ⟨3, _⟩ => ⟨S2048x64, .bf16⟩
  | .hbm, ⟨4, _⟩ => ⟨S2048x64, .bf16⟩
  | .hbm, ⟨5, _⟩ => ⟨S3584x64, .bf16⟩
  | .hbm, ⟨6, _⟩ => ⟨S3584x64, .bf16⟩
  | .hbm, ⟨7, _⟩ => ⟨S3584, .f32⟩
  | .hbm, ⟨8, _⟩ => ⟨S3584, .f32⟩
  | .hbm, ⟨9, _⟩ => ⟨S3584x4096, .bf16⟩
  | .hbm, ⟨10, _⟩ => ⟨S3584x4096, .bf16⟩
  | .hbm, ⟨11, _⟩ => ⟨S2048x4096, .bf16⟩
  | .hbm, ⟨12, _⟩ => ⟨S2048x3584, .f32⟩
  | .hbm, ⟨13, _⟩ => ⟨S2048x4096, .bf16⟩
  | .hbm, ⟨14, _⟩ => ⟨S2048x3584, .f32⟩
  | .hbm, ⟨15, _⟩ => ⟨S2048x3584, .f32⟩
  | .hbm, ⟨16, _⟩ => ⟨S2048x3584, .f32⟩
  | .hbm, ⟨17, _⟩ => ⟨S_, .f32⟩
  | .hbm, ⟨18, _⟩ => ⟨S2048x3584, .f32⟩
  | .hbm, ⟨19, _⟩ => ⟨S2048x3584, .f32⟩
  | .hbm, ⟨20, _⟩ => ⟨S2048x3584, .f32⟩
  | .hbm, ⟨21, _⟩ => ⟨S1x3584, .f32⟩
  | .hbm, ⟨22, _⟩ => ⟨S2048x3584, .f32⟩
  | .hbm, ⟨23, _⟩ => ⟨S2048x3584, .f32⟩
  | .hbm, ⟨24, _⟩ => ⟨S3584x4096, .bf16⟩
  | .hbm, ⟨25, _⟩ => ⟨S3584x4096, .bf16⟩
  | .hbm, ⟨26, _⟩ => ⟨S2048x4096, .bf16⟩
  | .hbm, ⟨27, _⟩ => ⟨S2048x3584, .f32⟩
  | .hbm, ⟨28, _⟩ => ⟨S2048x4096, .bf16⟩
  | .hbm, ⟨29, _⟩ => ⟨S2048x3584, .f32⟩
  | .hbm, ⟨30, _⟩ => ⟨S2048x3584, .f32⟩
  | .hbm, ⟨31, _⟩ => ⟨S2048x3584, .f32⟩
  | .hbm, ⟨32, _⟩ => ⟨S_, .f32⟩
  | .hbm, ⟨33, _⟩ => ⟨S2048x3584, .f32⟩
  | .hbm, ⟨34, _⟩ => ⟨S2048x3584, .f32⟩
  | .hbm, ⟨35, _⟩ => ⟨S2048x3584, .f32⟩
  | .hbm, ⟨36, _⟩ => ⟨S1x3584, .f32⟩
  | .hbm, ⟨37, _⟩ => ⟨S2048x3584, .f32⟩
  | .hbm, ⟨38, _⟩ => ⟨S2048x3584, .f32⟩
  | .hbm, ⟨39, _⟩ => ⟨S2048x3584, .f32⟩
  | .hbm, ⟨40, _⟩ => ⟨S2048x3584, .f32⟩
  | .hbm, ⟨41, _⟩ => ⟨S_, .f32⟩
  | .hbm, ⟨42, _⟩ => ⟨S2048x3584, .f32⟩
  | .hbm, ⟨43, _⟩ => ⟨S2048x3584, .f32⟩
  | .hbm, ⟨44, _⟩ => ⟨S_, .f32⟩
  | .hbm, ⟨45, _⟩ => ⟨S2048x3584, .f32⟩
  | .hbm, ⟨46, _⟩ => ⟨S2048x3584, .f32⟩
  | .hbm, ⟨47, _⟩ => ⟨S2048x3584, .f32⟩
  | .hbm, ⟨48, _⟩ => ⟨S2048x3584, .f32⟩
  | .hbm, ⟨49, _⟩ => ⟨S2048x3584, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Down.lean ====
abbrev S2048x3584 : Shape := ⟨2, ![2048, 3584]⟩
abbrev S8192x3584 : Shape := ⟨2, ![8192, 3584]⟩
abbrev S64x3584 : Shape := ⟨2, ![64, 3584]⟩
abbrev S8192x64 : Shape := ⟨2, ![8192, 64]⟩
abbrev S2048x8192 : Shape := ⟨2, ![2048, 8192]⟩
abbrev S8192 : Shape := ⟨1, ![8192]⟩
abbrev S1x8192 : Shape := ⟨2, ![1, 8192]⟩
abbrev S2048x64 : Shape := ⟨2, ![2048, 64]⟩
abbrev S256x3584 : Shape := ⟨2, ![256, 3584]⟩
abbrev S256x64 : Shape := ⟨2, ![256, 64]⟩
abbrev S2048x256 : Shape := ⟨2, ![2048, 256]⟩
abbrev S1x256 : Shape := ⟨2, ![1, 256]⟩
abbrev S2048x128 : Shape := ⟨2, ![2048, 128]⟩
abbrev S256x128 : Shape := ⟨2, ![256, 128]⟩
abbrev S256 : Shape := ⟨1, ![256]⟩
abbrev S64x256 : Shape := ⟨2, ![64, 256]⟩

abbrev nBuf : Space → Nat
  | .hbm => 14
  | .vmem => 24
  | .smem => 0
  | _ => 0

abbrev bufTy : (tb : Table) → Fin (tcTables nBuf tb) → BufTy
  | .hbm, ⟨0, _⟩ => ⟨S2048x3584, .bf16⟩
  | .hbm, ⟨1, _⟩ => ⟨S8192x3584, .bf16⟩
  | .hbm, ⟨2, _⟩ => ⟨S64x3584, .bf16⟩
  | .hbm, ⟨3, _⟩ => ⟨S8192x64, .bf16⟩
  | .hbm, ⟨4, _⟩ => ⟨S2048x8192, .bf16⟩
  | .hbm, ⟨5, _⟩ => ⟨S8192, .f32⟩
  | .hbm, ⟨6, _⟩ => ⟨S8192, .f32⟩
  | .hbm, ⟨7, _⟩ => ⟨S1x8192, .f32⟩
  | .hbm, ⟨8, _⟩ => ⟨S1x8192, .f32⟩
  | .hbm, ⟨9, _⟩ => ⟨S2048x8192, .bf16⟩
  | .hbm, ⟨10, _⟩ => ⟨S2048x8192, .bf16⟩
  | .hbm, ⟨11, _⟩ => ⟨S1x8192, .f32⟩
  | .hbm, ⟨12, _⟩ => ⟨S8192x64, .f32⟩
  | .hbm, ⟨13, _⟩ => ⟨S2048x64, .bf16⟩
  | .local _ .vmem, ⟨0, _⟩ => ⟨S2048x3584, .bf16⟩
  | .local _ .vmem, ⟨1, _⟩ => ⟨S256x3584, .bf16⟩
  | .local _ .vmem, ⟨2, _⟩ => ⟨S256x3584, .bf16⟩
  | .local _ .vmem, ⟨3, _⟩ => ⟨S64x3584, .bf16⟩
  | .local _ .vmem, ⟨4, _⟩ => ⟨S256x64, .bf16⟩
  | .local _ .vmem, ⟨5, _⟩ => ⟨S256x64, .bf16⟩
  | .local _ .vmem, ⟨6, _⟩ => ⟨S2048x256, .bf16⟩
  | .local _ .vmem, ⟨7, _⟩ => ⟨S2048x256, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S1x256, .f32⟩
  | .local _ .vmem, ⟨17, _⟩ => ⟨S1x256, .f32⟩
  | .local _ .vmem, ⟨18, _⟩ => ⟨S256x64, .f32⟩
  | .local _ .vmem, ⟨19, _⟩ => ⟨S256x64, .f32⟩
  | .local _ .vmem, ⟨20, _⟩ => ⟨S2048x64, .bf16⟩
  | .local _ .vmem, ⟨21, _⟩ => ⟨S2048x64, .bf16⟩
  | .local _ .vmem, ⟨22, _⟩ => ⟨S2048x128, .bf16⟩
  | .local _ .vmem, ⟨23, _⟩ => ⟨S2048x64, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v44 : BitVec 1 := Scalar.cmpi .eq arg0 c31_i32
  let v45 : BitVec 32 := Scalar.extui v44
  let c0_i32_35 : BitVec 32 := 0#32
  let v46 : BitVec 1 := Scalar.cmpi .ne v45 c0_i32_35
  v46

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== DownRefIdeal.lean ====
abbrev S2048x3584 : Shape := ⟨2, ![2048, 3584]⟩
abbrev S8192x3584 : Shape := ⟨2, ![8192, 3584]⟩
abbrev S64x3584 : Shape := ⟨2, ![64, 3584]⟩
abbrev S8192x64 : Shape := ⟨2, ![8192, 64]⟩
abbrev S2048x8192 : Shape := ⟨2, ![2048, 8192]⟩
abbrev S8192 : Shape := ⟨1, ![8192]⟩
abbrev S2048x64 : Shape := ⟨2, ![2048, 64]⟩
abbrev S8192x1792 : Shape := ⟨2, ![8192, 1792]⟩
abbrev S2048x1792 : Shape := ⟨2, ![2048, 1792]⟩
abbrev S_ : Shape := ⟨0, ![]⟩
abbrev S1x8192 : Shape := ⟨2, ![1, 8192]⟩

abbrev nBuf : Space → Nat
  | .hbm => 44
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S8192x3584, .bf16⟩
  | .hbm, ⟨2, _⟩ => ⟨S64x3584, .bf16⟩
  | .hbm, ⟨3, _⟩ => ⟨S8192x64, .bf16⟩
  | .hbm, ⟨4, _⟩ => ⟨S2048x8192, .bf16⟩
  | .hbm, ⟨5, _⟩ => ⟨S8192, .f32⟩
  | .hbm, ⟨6, _⟩ => ⟨S8192, .f32⟩
  | .hbm, ⟨7, _⟩ => ⟨S2048x64, .f32⟩
  | .hbm, ⟨8, _⟩ => ⟨S2048x64, .bf16⟩
  | .hbm, ⟨9, _⟩ => ⟨S8192x1792, .bf16⟩
  | .hbm, ⟨10, _⟩ => ⟨S8192x1792, .bf16⟩
  | .hbm, ⟨11, _⟩ => ⟨S2048x1792, .bf16⟩
  | .hbm, ⟨12, _⟩ => ⟨S2048x8192, .f32⟩
  | .hbm, ⟨13, _⟩ => ⟨S2048x1792, .bf16⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S2048x8192, .f32⟩
  | .hbm, ⟨21, _⟩ => ⟨S1x8192, .f32⟩
  | .hbm, ⟨22, _⟩ => ⟨S2048x8192, .f32⟩
  | .hbm, ⟨23, _⟩ => ⟨S2048x8192, .f32⟩
  | .hbm, ⟨24, _⟩ => ⟨S2048x8192, .bf16⟩
  | .hbm, ⟨25, _⟩ => ⟨S2048x8192, .f32⟩
  | .hbm, ⟨26, _⟩ => ⟨S2048x8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S1x8192, .f32⟩
  | .hbm, ⟨31, _⟩ => ⟨S2048x8192, .f32⟩
  | .hbm, ⟨32, _⟩ => ⟨S2048x8192, .f32⟩
  | .hbm, ⟨33, _⟩ => ⟨S2048x8192, .bf16⟩
  | .hbm, ⟨34, _⟩ => ⟨S8192x64, .f32⟩
  | .hbm, ⟨35, _⟩ => ⟨S_, .f32⟩
  | .hbm, ⟨36, _⟩ => ⟨S8192x64, .f32⟩
  | .hbm, ⟨37, _⟩ => ⟨S8192x64, .f32⟩
  | .hbm, ⟨38, _⟩ => ⟨S2048x64, .f32⟩
  | .hbm, ⟨39, _⟩ => ⟨S_, .f32⟩
  | .hbm, ⟨40, _⟩ => ⟨S2048x64, .f32⟩
  | .hbm, ⟨41, _⟩ => ⟨S2048x64, .f32⟩
  | .hbm, ⟨42, _⟩ => ⟨S2048x64, .bf16⟩
  | .hbm, ⟨43, _⟩ => ⟨S1x8192, .f32⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Dx.lean ====
abbrev S2048x3584 : Shape := ⟨2, ![2048, 3584]⟩
abbrev S3584x8192 : Shape := ⟨2, ![3584, 8192]⟩
abbrev S2048x64 : Shape := ⟨2, ![2048, 64]⟩
abbrev S64x8192 : Shape := ⟨2, ![64, 8192]⟩
abbrev S2048x8192 : Shape := ⟨2, ![2048, 8192]⟩
abbrev S8192 : Shape := ⟨1, ![8192]⟩
abbrev S2048x1 : Shape := ⟨2, ![2048, 1]⟩
abbrev S2048x128 : Shape := ⟨2, ![2048, 128]⟩
abbrev S128x8192 : Shape := ⟨2, ![128, 8192]⟩
abbrev S1x8192 : Shape := ⟨2, ![1, 8192]⟩
abbrev S1024x3584 : Shape := ⟨2, ![1024, 3584]⟩
abbrev S3584x256 : Shape := ⟨2, ![3584, 256]⟩
abbrev S128x256 : Shape := ⟨2, ![128, 256]⟩
abbrev S1024x256 : Shape := ⟨2, ![1024, 256]⟩
abbrev S1x256 : Shape := ⟨2, ![1, 256]⟩
abbrev S1024x128 : Shape := ⟨2, ![1024, 128]⟩
abbrev S1024 : Shape := ⟨1, ![1024]⟩
abbrev S1024x1 : Shape := ⟨2, ![1024, 1]⟩

abbrev nBuf : Space → Nat
  | .hbm => 19
  | .vmem => 23
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .bf16⟩
  | .hbm, ⟨2, _⟩ => ⟨S3584x8192, .bf16⟩
  | .hbm, ⟨3, _⟩ => ⟨S3584x8192, .bf16⟩
  | .hbm, ⟨4, _⟩ => ⟨S2048x64, .bf16⟩
  | .hbm, ⟨5, _⟩ => ⟨S2048x64, .bf16⟩
  | .hbm, ⟨6, _⟩ => ⟨S64x8192, .bf16⟩
  | .hbm, ⟨7, _⟩ => ⟨S64x8192, .bf16⟩
  | .hbm, ⟨8, _⟩ => ⟨S2048x8192, .bf16⟩
  | .hbm, ⟨9, _⟩ => ⟨S8192, .f32⟩
  | .hbm, ⟨10, _⟩ => ⟨S2048x1, .f32⟩
  | .hbm, ⟨11, _⟩ => ⟨S2048x128, .f32⟩
  | .hbm, ⟨12, _⟩ => ⟨S128x8192, .bf16⟩
  | .hbm, ⟨13, _⟩ => ⟨S2048x128, .f32⟩
  | .hbm, ⟨14, _⟩ => ⟨S2048x128, .bf16⟩
  | .hbm, ⟨15, _⟩ => ⟨S1x8192, .f32⟩
  | .hbm, ⟨16, _⟩ => ⟨S2048x8192, .bf16⟩
  | .hbm, ⟨17, _⟩ => ⟨S128x8192, .f32⟩
  | .hbm, ⟨18, _⟩ => ⟨S2048x128, .f32⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S3584x256, .bf16⟩
  | .local _ .vmem, ⟨5, _⟩ => ⟨S3584x256, .bf16⟩
  | .local _ .vmem, ⟨6, _⟩ => ⟨S3584x256, .bf16⟩
  | .local _ .vmem, ⟨7, _⟩ => ⟨S3584x256, .bf16⟩
  | .local _ .vmem, ⟨8, _⟩ => ⟨S2048x128, .bf16⟩
  | .local _ .vmem, ⟨9, _⟩ => ⟨S128x256, .bf16⟩
  | .local _ .vmem, ⟨10, _⟩ => ⟨S128x256, .bf16⟩
  | .local _ .vmem, ⟨11, _⟩ => ⟨S1024x256, .bf16⟩
  | .local _ .vmem, ⟨12, _⟩ => ⟨S1024x256, .bf16⟩
  | .local _ .vmem, ⟨13, _⟩ => ⟨S1x256, .f32⟩
  | .local _ .vmem, ⟨14, _⟩ => ⟨S1x256, .f32⟩
  | .local _ .vmem, ⟨15, _⟩ => ⟨S2048x128, .f32⟩
  | .local _ .vmem, ⟨16, _⟩ => ⟨S2048x128, .f32⟩
  | .local _ .vmem, ⟨17, _⟩ => ⟨S1024x256, .bf16⟩
  | .local _ .vmem, ⟨18, _⟩ => ⟨S1024x256, .bf16⟩
  | .local _ .vmem, ⟨19, _⟩ => ⟨S128x256, .f32⟩
  | .local _ .vmem, ⟨20, _⟩ => ⟨S128x256, .f32⟩
  | .local _ .vmem, ⟨21, _⟩ => ⟨S2048x128, .f32⟩
  | .local _ .vmem, ⟨22, _⟩ => ⟨S2048x128, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v70 : Index := Scalar.indexCast v1
  let c0_34 : Index := 0#32
  ![v70.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v15 : Index := Scalar.indexCast v1
  let c0_11 : Index := 0#32
  ![v15.toNat, 0]
def k0_cond3 (i : grid0.Coords) : BitVec 1 :=
  let arg0 : BitVec 32 := BitVec.ofNat 32 (i 0).val
  let c31_i32 : BitVec 32 := 31#32
  let v67 : BitVec 1 := Scalar.cmpi .eq arg0 c31_i32
  let v68 : BitVec 32 := Scalar.extui v67
  let c0_i32_33 : BitVec 32 := 0#32
  let v69 : BitVec 1 := Scalar.cmpi .ne v68 c0_i32_33
  v69

def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v70 : Index := Scalar.indexCast v1
  let c0_34 : Index := 0#32
  ![v70.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3584x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3584x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== DxRefIdeal.lean ====
abbrev S2048x3584 : Shape := ⟨2, ![2048, 3584]⟩
abbrev S3584x8192 : Shape := ⟨2, ![3584, 8192]⟩
abbrev S2048x64 : Shape := ⟨2, ![2048, 64]⟩
abbrev S64x8192 : Shape := ⟨2, ![64, 8192]⟩
abbrev S2048x8192 : Shape := ⟨2, ![2048, 8192]⟩
abbrev S8192 : Shape := ⟨1, ![8192]⟩
abbrev S2048x1 : Shape := ⟨2, ![2048, 1]⟩
abbrev S2048x128 : Shape := ⟨2, ![2048, 128]⟩
abbrev S1x8192 : Shape := ⟨2, ![1, 8192]⟩
abbrev S3584x4096 : Shape := ⟨2, ![3584, 4096]⟩
abbrev S2048x4096 : Shape := ⟨2, ![2048, 4096]⟩
abbrev S_ : Shape := ⟨0, ![]⟩
abbrev S2048 : Shape := ⟨1, ![2048]⟩
abbrev S128x8192 : Shape := ⟨2, ![128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .bf16⟩
  | .hbm, ⟨2, _⟩ => ⟨S3584x8192, .bf16⟩
  | .hbm, ⟨3, _⟩ => ⟨S3584x8192, .bf16⟩
  | .hbm, ⟨4, _⟩ => ⟨S2048x64, .bf16⟩
  | .hbm, ⟨5, _⟩ => ⟨S2048x64, .bf16⟩
  | .hbm, ⟨6, _⟩ => ⟨S64x8192, .bf16⟩
  | .hbm, ⟨7, _⟩ => ⟨S64x8192, .bf16⟩
  | .hbm, ⟨8, _⟩ => ⟨S2048x8192, .bf16⟩
  | .hbm, ⟨9, _⟩ => ⟨S8192, .f32⟩
  | .hbm, ⟨10, _⟩ => ⟨S2048x1, .f32⟩
  | .hbm, ⟨11, _⟩ => ⟨S2048x128, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S1x8192, .f32⟩
  | .hbm, ⟨16, _⟩ => ⟨S2048x8192, .f32⟩
  | .hbm, ⟨17, _⟩ => ⟨S2048x8192, .f32⟩
  | .hbm, ⟨18, _⟩ => ⟨S2048x8192, .bf16⟩
  | .hbm, ⟨19, _⟩ => ⟨S3584x4096, .bf16⟩
  | .hbm, ⟨20, _⟩ => ⟨S3584x4096, .bf16⟩
  | .hbm, ⟨21, _⟩ => ⟨S64x8192, .f32⟩
  | .hbm, ⟨22, _⟩ => ⟨S2048x4096, .f32⟩
  | .hbm, ⟨23, _⟩ => ⟨S2048x4096, .f32⟩
  | .hbm, ⟨24, _⟩ => ⟨S2048x8192, .f32⟩
  | .hbm, ⟨25, _⟩ => ⟨S2048x8192, .f32⟩
  | .hbm, ⟨26, _⟩ => ⟨S2048x8192, .f32⟩
  | .hbm, ⟨27, _⟩ => ⟨S3584x4096, .bf16⟩
  | .hbm, ⟨28, _⟩ => ⟨S3584x4096, .bf16⟩
  | .hbm, ⟨29, _⟩ => ⟨S64x8192, .f32⟩
  | .hbm, ⟨30, _⟩ => ⟨S2048x4096, .f32⟩
  | .hbm, ⟨31, _⟩ => ⟨S2048x4096, .f32⟩
  | .hbm, ⟨32, _⟩ => ⟨S2048x8192, .f32⟩
  | .hbm, ⟨33, _⟩ => ⟨S2048x8192, .f32⟩
  | .hbm, ⟨34, _⟩ => ⟨S2048x8192, .f32⟩
  | .hbm, ⟨35, _⟩ => ⟨S2048x8192, .f32⟩
  | .hbm, ⟨36, _⟩ => ⟨S1x8192, .f32⟩
  | .hbm, ⟨37, _⟩ => ⟨S2048x8192, .f32⟩
  | .hbm, ⟨38, _⟩ => ⟨S2048x8192, .f32⟩
  | .hbm, ⟨39, _⟩ => ⟨S2048x8192, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S2048x8192, .f32⟩
  | .hbm, ⟨53, _⟩ => ⟨S2048x8192, .f32⟩
  | .hbm, ⟨54, _⟩ => ⟨S2048x8192, .f32⟩
  | .hbm, ⟨55, _⟩ => ⟨S2048x8192, .f32⟩
  | .hbm, ⟨56, _⟩ => ⟨S2048x8192, .f32⟩
  | .hbm, ⟨57, _⟩ => ⟨S2048x8192, .bf16⟩
  | .hbm, ⟨58, _⟩ => ⟨S128x8192, .f32⟩
  | .hbm, ⟨59, _⟩ => ⟨S2048x128, .f32⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Dact.lean ====
abbrev S2048x8192 : Shape := ⟨2, ![2048, 8192]⟩
abbrev S8192x3584 : Shape := ⟨2, ![8192, 3584]⟩
abbrev S2048x64 : Shape := ⟨2, ![2048, 64]⟩
abbrev S64x3584 : Shape := ⟨2, ![64, 3584]⟩
abbrev S2048x3584 : Shape := ⟨2, ![2048, 3584]⟩
abbrev S3584x64 : Shape := ⟨2, ![3584, 64]⟩
abbrev S3584 : Shape := ⟨1, ![3584]⟩
abbrev S1x3584 : Shape := ⟨2, ![1, 3584]⟩
abbrev S2048x128 : Shape := ⟨2, ![2048, 128]⟩
abbrev S1024x8192 : Shape := ⟨2, ![1024, 8192]⟩
abbrev S8192x256 : Shape := ⟨2, ![8192, 256]⟩
abbrev S64x256 : Shape := ⟨2, ![64, 256]⟩
abbrev S1024x256 : Shape := ⟨2, ![1024, 256]⟩
abbrev S256x64 : Shape := ⟨2, ![256, 64]⟩
abbrev S1x256 : Shape := ⟨2, ![1, 256]⟩
abbrev S1024x64 : Shape := ⟨2, ![1024, 64]⟩
abbrev S1024x128 : Shape := ⟨2, ![1024, 128]⟩
abbrev S256 : Shape := ⟨1, ![256]⟩

abbrev nBuf : Space → Nat
  | .hbm => 29
  | .vmem => 47
  | .smem => 0
  | _ => 0

abbrev bufTy : (tb : Table) → Fin (tcTables nBuf tb) → BufTy
  | .hbm, ⟨0, _⟩ => ⟨S2048x8192, .bf16⟩
  | .hbm, ⟨1, _⟩ => ⟨S8192x3584, .bf16⟩
  | .hbm, ⟨2, _⟩ => ⟨S2048x64, .bf16⟩
  | .hbm, ⟨3, _⟩ => ⟨S64x3584, .bf16⟩
  | .hbm, ⟨4, _⟩ => ⟨S2048x3584, .bf16⟩
  | .hbm, ⟨5, _⟩ => ⟨S2048x3584, .f32⟩
  | .hbm, ⟨6, _⟩ => ⟨S2048x3584, .f32⟩
  | .hbm, ⟨7, _⟩ => ⟨S2048x64, .bf16⟩
  | .hbm, ⟨8, _⟩ => ⟨S2048x64, .bf16⟩
  | .hbm, ⟨9, _⟩ => ⟨S3584x64, .bf16⟩
  | .hbm, ⟨10, _⟩ => ⟨S3584x64, .bf16⟩
  | .hbm, ⟨11, _⟩ => ⟨S3584, .f32⟩
  | .hbm, ⟨12, _⟩ => ⟨S3584, .f32⟩
  | .hbm, ⟨13, _⟩ => ⟨S3584, .f32⟩
  | .hbm, ⟨14, _⟩ => ⟨S3584, .f32⟩
  | .hbm, ⟨15, _⟩ => ⟨S1x3584, .f32⟩
  | .hbm, ⟨16, _⟩ => ⟨S1x3584, .f32⟩
  | .hbm, ⟨17, _⟩ => ⟨S1x3584, .f32⟩
  | .hbm, ⟨18, _⟩ => ⟨S1x3584, .f32⟩
  | .hbm, ⟨19, _⟩ => ⟨S2048x3584, .bf16⟩
  | .hbm, ⟨20, _⟩ => ⟨S2048x3584, .bf16⟩
  | .hbm, ⟨21, _⟩ => ⟨S1x3584, .f32⟩
  | .hbm, ⟨22, _⟩ => ⟨S1x3584, .f32⟩
  | .hbm, ⟨23, _⟩ => ⟨S3584x64, .f32⟩
  | .hbm, ⟨24, _⟩ => ⟨S3584x64, .f32⟩
  | .hbm, ⟨25, _⟩ => ⟨S64x3584, .f32⟩
  | .hbm, ⟨26, _⟩ => ⟨S2048x64, .bf16⟩
  | .hbm, ⟨27, _⟩ => ⟨S2048x64, .bf16⟩
  | .hbm, ⟨28, _⟩ => ⟨S2048x128, .f32⟩
  | .local _ .vmem, ⟨0, _⟩ => ⟨S1024x8192, .bf16⟩
  | .local _ .vmem, ⟨1, _⟩ => ⟨S1024x8192, .bf16⟩
  | .local _ .vmem, ⟨2, _⟩ => ⟨S8192x256, .bf16⟩
  | .local _ .vmem, ⟨3, _⟩ => ⟨S8192x256, .bf16⟩
  | .local _ .vmem, ⟨4, _⟩ => ⟨S2048x64, .bf16⟩
  | .local _ .vmem, ⟨5, _⟩ => ⟨S64x256, .bf16⟩
  | .local _ .vmem, ⟨6, _⟩ => ⟨S64x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S2048x64, .bf16⟩
  | .local _ .vmem, ⟨14, _⟩ => ⟨S2048x64, .bf16⟩
  | .local _ .vmem, ⟨15, _⟩ => ⟨S256x64, .bf16⟩
  | .local _ .vmem, ⟨16, _⟩ => ⟨S256x64, .bf16⟩
  | .local _ .vmem, ⟨17, _⟩ => ⟨S256x64, .bf16⟩
  | .local _ .vmem, ⟨18, _⟩ => ⟨S256x64, .bf16⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S256x64, .f32⟩
  | .local _ .vmem, ⟨36, _⟩ => ⟨S256x64, .f32⟩
  | .local _ .vmem, ⟨37, _⟩ => ⟨S256x64, .f32⟩
  | .local _ .vmem, ⟨38, _⟩ => ⟨S256x64, .f32⟩
  | .local _ .vmem, ⟨39, _⟩ => ⟨S64x256, .f32⟩
  | .local _ .vmem, ⟨40, _⟩ => ⟨S64x256, .f32⟩
  | .local _ .vmem, ⟨41, _⟩ => ⟨S2048x64, .bf16⟩
  | .local _ .vmem, ⟨42, _⟩ => ⟨S2048x64, .bf16⟩
  | .local _ .vmem, ⟨43, _⟩ => ⟨S2048x128, .f32⟩
  | .local _ .vmem, ⟨44, _⟩ => ⟨S2048x64, .f32⟩
  | .local _ .vmem, ⟨45, _⟩ => ⟨S2048x64, .f32⟩
  | .local _ .vmem, ⟨46, _⟩ => ⟨S1024x256, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v4_3 : Ref sig .tc := ⟨.hbm, 22, rfl⟩
abbrev main_v4_4 : Ref sig .tc := ⟨.hbm, 23, rfl⟩
abbrev main_v4_5 : Ref sig .tc := ⟨.hbm, 24, rfl⟩
abbrev main_v4_6 : Ref sig .tc := ⟨.hbm, 25, rfl⟩
abbrev main_v4_7 : Ref sig .tc := ⟨.hbm, 26, rfl⟩
abbrev main_v4_8 : Ref sig .tc := ⟨.hbm, 27, rfl⟩
abbrev main_v4_9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg23_0 : Ref sig .tc := ⟨.vmem, 42, rfl⟩
abbrev cc0_stg24_0 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem23_0 : DmaSem sig := 42
abbrev cc0_sem24_0 : DmaSem sig := 43

abbrev nD : Nat := 1
abbrev τ : Topo := Topo.v7x

variable {F : FTy → Type} [FloatOps F]

abbrev grid0 : Pipeline.Grid := ⟨2, ![14, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v135 : Index := Scalar.indexCast v1
  let c0_82 : Index := 0#32
  ![v135.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v145 : Index := Scalar.indexCast v1
  let c0_86 : Index := 0#32
  ![v145.toNat, 0]
def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v11 : Index := Scalar.indexCast v1
  let c0_6 : Index := 0#32
  ![v11.toNat, 0]
def k0_off4 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v64 : Index := Scalar.indexCast v1
  let c0_38 : Index := 0#32
  ![v64.toNat, 0]
def k0_cond3 (i : grid0.Coords) : BitVec 1 :=
  let arg0 : BitVec 32 := BitVec.ofNat 32 (i 0).val
  let c13_i32 : BitVec 32 := 13#32
  let v131 : BitVec 1 := Scalar.cmpi .eq arg0 c13_i32
  let v132 : BitVec 32 := Scalar.extui v131
  let c0_i32_80 : BitVec 32 := 0#32
  let v133 : BitVec 1 := Scalar.cmpi .ne v132 c0_i32_80
  v133

def k0_off5 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v134 : Index := Scalar.indexCast v1
  let c0_81 : Index := 0#32
  ![v134.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S256x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S256x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S64x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 1 → Memref sig .tc .vmem S2048x64 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S2048x64 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S2048x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]
-- ==== DactRefIdeal.lean ====
abbrev S2048x8192 : Shape := ⟨2, ![2048, 8192]⟩
abbrev S8192x3584 : Shape := ⟨2, ![8192, 3584]⟩
abbrev S2048x64 : Shape := ⟨2, ![2048, 64]⟩
abbrev S64x3584 : Shape := ⟨2, ![64, 3584]⟩
abbrev S2048x3584 : Shape := ⟨2, ![2048, 3584]⟩
abbrev S3584x64 : Shape := ⟨2, ![3584, 64]⟩
abbrev S3584 : Shape := ⟨1, ![3584]⟩
abbrev S8192x1792 : Shape := ⟨2, ![8192, 1792]⟩
abbrev S2048x1792 : Shape := ⟨2, ![2048, 1792]⟩
abbrev S1x3584 : Shape := ⟨2, ![1, 3584]⟩
abbrev S_ : Shape := ⟨0, ![]⟩
abbrev S2048x28x128 : Shape := ⟨3, ![2048, 28, 128]⟩
abbrev S2048x128 : Shape := ⟨2, ![2048, 128]⟩

abbrev nBuf : Space → Nat
  | .hbm => 91
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x3584, .bf16⟩
  | .hbm, ⟨2, _⟩ => ⟨S2048x64, .bf16⟩
  | .hbm, ⟨3, _⟩ => ⟨S64x3584, .bf16⟩
  | .hbm, ⟨4, _⟩ => ⟨S2048x3584, .bf16⟩
  | .hbm, ⟨5, _⟩ => ⟨S2048x3584, .f32⟩
  | .hbm, ⟨6, _⟩ => ⟨S2048x3584, .f32⟩
  | .hbm, ⟨7, _⟩ => ⟨S2048x64, .bf16⟩
  | .hbm, ⟨8, _⟩ => ⟨S2048x64, .bf16⟩
  | .hbm, ⟨9, _⟩ => ⟨S3584x64, .bf16⟩
  | .hbm, ⟨10, _⟩ => ⟨S3584x64, .bf16⟩
  | .hbm, ⟨11, _⟩ => ⟨S3584, .f32⟩
  | .hbm, ⟨12, _⟩ => ⟨S3584, .f32⟩
  | .hbm, ⟨13, _⟩ => ⟨S3584, .f32⟩
  | .hbm, ⟨14, _⟩ => ⟨S3584, .f32⟩
  | .hbm, ⟨15, _⟩ => ⟨S8192x1792, .bf16⟩
  | .hbm, ⟨16, _⟩ => ⟨S8192x1792, .bf16⟩
  | .hbm, ⟨17, _⟩ => ⟨S64x3584, .f32⟩
  | .hbm, ⟨18, _⟩ => ⟨S2048x1792, .f32⟩
  | .hbm, ⟨19, _⟩ => ⟨S2048x1792, .f32⟩
  | .hbm, ⟨20, _⟩ => ⟨S2048x3584, .f32⟩
  | .hbm, ⟨21, _⟩ => ⟨S2048x3584, .f32⟩
  | .hbm, ⟨22, _⟩ => ⟨S2048x3584, .f32⟩
  | .hbm, ⟨23, _⟩ => ⟨S1x3584, .f32⟩
  | .hbm, ⟨24, _⟩ => ⟨S2048x3584, .f32⟩
  | .hbm, ⟨25, _⟩ => ⟨S2048x3584, .f32⟩
  | .hbm, ⟨26, _⟩ => ⟨S1x3584, .f32⟩
  | .hbm, ⟨27, _⟩ => ⟨S2048x3584, .f32⟩
  | .hbm, ⟨28, _⟩ => ⟨S2048x3584, .f32⟩
  | .hbm, ⟨29, _⟩ => ⟨S2048x3584, .f32⟩
  | .hbm, ⟨30, _⟩ => ⟨S2048x3584, .f32⟩
  | .hbm, ⟨31, _⟩ => ⟨S_, .f32⟩
  | .hbm, ⟨32, _⟩ => ⟨S2048x3584, .f32⟩
  | .hbm, ⟨33, _⟩ => ⟨S2048x3584, .f32⟩
  | .hbm, ⟨34, _⟩ => ⟨S_, .f32⟩
  | .hbm, ⟨35, _⟩ => ⟨S2048x3584, .f32⟩
  | .hbm, ⟨36, _⟩ => ⟨S2048x3584, .f32⟩
  | .hbm, ⟨37, _⟩ => ⟨S2048x3584, .f32⟩
  | .hbm, ⟨38, _⟩ => ⟨S2048x3584, .f32⟩
  | .hbm, ⟨39, _⟩ => ⟨S2048x3584, .f32⟩
  | .hbm, ⟨40, _⟩ => ⟨S2048x3584, .f32⟩
  | .hbm, ⟨41, _⟩ => ⟨S_, .f32⟩
  | .hbm, ⟨42, _⟩ => ⟨S2048x3584, .f32⟩
  | .hbm, ⟨43, _⟩ => ⟨S2048x3584, .f32⟩
  | .hbm, ⟨44, _⟩ => ⟨S2048x3584, .f32⟩
  | .hbm, ⟨45, _⟩ => ⟨S_, .f32⟩
  | .hbm, ⟨46, _⟩ => ⟨S2048x3584, .f32⟩
  | .hbm, ⟨47, _⟩ => ⟨S2048x3584, .f32⟩
  | .hbm, ⟨48, _⟩ => ⟨S2048x3584, .f32⟩
  | .hbm, ⟨49, _⟩ => ⟨S2048x3584, .f32⟩
  | .hbm, ⟨50, _⟩ => ⟨S_, .f32⟩
  | .hbm, ⟨51, _⟩ => ⟨S3584, .f32⟩
  | .hbm, ⟨52, _⟩ => ⟨S3584, .f32⟩
  | .hbm, ⟨53, _⟩ => ⟨S1x3584, .f32⟩
  | .hbm, ⟨54, _⟩ => ⟨S2048x3584, .f32⟩
  | .hbm, ⟨55, _⟩ => ⟨S2048x3584, .f32⟩
  | .hbm, ⟨56, _⟩ => ⟨S2048x3584, .bf16⟩
  | .hbm, ⟨57, _⟩ => ⟨S3584x64, .f32⟩
  | .hbm, ⟨58, _⟩ => ⟨S_, .f32⟩
  | .hbm, ⟨59, _⟩ => ⟨S3584x64, .f32⟩
  | .hbm, ⟨60, _⟩ => ⟨S3584x64, .f32⟩
  | .hbm, ⟨61, _⟩ => ⟨S2048x64, .f32⟩
  | .hbm, ⟨62, _⟩ => ⟨S_, .f32⟩
  | .hbm, ⟨63, _⟩ => ⟨S2048x64, .f32⟩
  | .hbm, ⟨64, _⟩ => ⟨S2048x64, .f32⟩
  | .hbm, ⟨65, _⟩ => ⟨S2048x64, .bf16⟩
  | .hbm, ⟨66, _⟩ => ⟨S2048x3584, .f32⟩
  | .hbm, ⟨67, _⟩ => ⟨S_, .f32⟩
  | .hbm, ⟨68, _⟩ => ⟨S3584, .f32⟩
  | .hbm, ⟨69, _⟩ => ⟨S3584, .f32⟩
  | .hbm, ⟨70, _⟩ => ⟨S1x3584, .f32⟩
  | .hbm, ⟨71, _⟩ => ⟨S2048x3584, .f32⟩
  | .hbm, ⟨72, _⟩ => ⟨S2048x3584, .f32⟩
  | .hbm, ⟨73, _⟩ => ⟨S2048x3584, .bf16⟩
  | .hbm, ⟨74, _⟩ => ⟨S3584x64, .f32⟩
  | .hbm, ⟨75, _⟩ => ⟨S_, .f32⟩
  | .hbm, ⟨76, _⟩ => ⟨S3584x64, .f32⟩
  | .hbm, ⟨77, _⟩ => ⟨S3584x64, .f32⟩
  | .hbm, ⟨78, _⟩ => ⟨S2048x64, .f32⟩
  | .hbm, ⟨79, _⟩ => ⟨S_, .f32⟩
  | .hbm, ⟨80, _⟩ => ⟨S2048x64, .f32⟩
  | .hbm, ⟨81, _⟩ => ⟨S2048x64, .f32⟩
  | .hbm, ⟨82, _⟩ => ⟨S2048x64, .bf16⟩
  | .hbm, ⟨83, _⟩ => ⟨S2048x3584, .f32⟩
  | .hbm, ⟨84, _⟩ => ⟨S2048x3584, .f32⟩
  | .hbm, ⟨85, _⟩ => ⟨S2048x3584, .f32⟩
  | .hbm, ⟨86, _⟩ => ⟨S2048x28x128, .f32⟩
  | .hbm, ⟨87, _⟩ => ⟨S_, .f32⟩
  | .hbm, ⟨88, _⟩ => ⟨S2048x128, .f32⟩
  | .hbm, ⟨89, _⟩ => ⟨S1x3584, .f32⟩
  | .hbm, ⟨90, _⟩ => ⟨S1x3584, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Proof.Scalars.lean ====
module
public import Idealize.ShloMosaic.Lib.Pointwise

/-! Scalar facts shared by the value proofs: the constants the kernel and the reference use, read at the
    extended reals, and the laws by which the split low-rank factor becomes one scaled sum. -/

@[expose] public section

set_option maxRecDepth 16384

noncomputable section

open Idealize.ShloMosaic

namespace Cert.Scalars

/-- The bfloat16 pattern of one quarter. -/
theorem quarter : Ideal.ofBits .bf16 0x3E80#16 = ((1 / 4 : ℝ) : EReal) := by
  simp [Ideal.ofBits, Ideal.ieee, -EReal.coe_mul]; norm_num

/-- The bfloat16 pattern of one eighth. -/
theorem eighth : Ideal.ofBits .bf16 0x3E00#16 = ((1 / 8 : ℝ) : EReal) := by
  simp [Ideal.ofBits, Ideal.ieee, -EReal.coe_mul]; norm_num

/-- The float32 pattern of three eighths, the scale of the low-rank term. -/
theorem scale : Ideal.ofBits .f32 0x3EC00000#32 = ((3 / 8 : ℝ) : EReal) := by
  simp [Ideal.ofBits, Ideal.ieee, -EReal.coe_mul]; norm_num

/-- A nonnegative real factor goes inside a finite sum of extended reals. -/
theorem mul_sum {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- One quarter and one eighth of a number make three eighths of it, infinities included. -/
theorem quarter_add_eighth (x : EReal) :
    ((1 / 4 : ℝ) : EReal) * x + ((1 / 8 : ℝ) : EReal) * x = ((3 / 8 : ℝ) : EReal) * x := by
  rw [← EReal.right_distrib_of_nonneg (by exact_mod_cast (by norm_num : (0 : ℝ) ≤ 1 / 4))
    (by exact_mod_cast (by norm_num : (0 : ℝ) ≤ 1 / 8)), ← EReal.coe_add]
  norm_num

/-- The split low-rank product: a quarter of the factor against `b` and an eighth of it against `b` again
    sum to three eighths of the plain product. -/
theorem lora {n : ℕ} (t b : Fin n → EReal) :
    (∑ k, t k * Ideal.ofBits .bf16 0x3E80#16 * b k) + (∑ k, t k * Ideal.ofBits .bf16 0x3E00#16 * b k)
      = Ideal.ofBits .f32 0x3EC00000#32 * ∑ k, t k * b k := by
  rw [quarter, eighth, scale, ← quarter_add_eighth, mul_sum _ _ (by norm_num), mul_sum _ _ (by norm_num)]
  refine congrArg₂ (· + ·) (Finset.sum_congr rfl fun k _ => ?_) (Finset.sum_congr rfl fun k _ => ?_) <;>
    rw [mul_comm (t k), mul_assoc]

/-- A sum over 8192 terms is the sum of its two halves. -/
theorem halves (f : Fin 8192 → EReal) :
    (∑ k : Fin 4096, f ⟨k.val, by omega⟩) + (∑ k : Fin 4096, f ⟨4096 + k.val, by omega⟩) = ∑ k, f k :=
  (Fin.sum_univ_two_halves 4096 4096 rfl f).symm

/-- A sum over 3584 terms is the sum of its two halves. -/
theorem halves' (f : Fin 3584 → EReal) :
    (∑ k : Fin 1792, f ⟨k.val, by omega⟩) + (∑ k : Fin 1792, f ⟨1792 + k.val, by omega⟩) = ∑ k, f k :=
  (Fin.sum_univ_two_halves 1792 1792 rfl f).symm

/-- The float32 pattern of 8192. -/
theorem eightk : Ideal.ofBits .f32 0x46000000#32 = ((8192 : ℝ) : EReal) := by
  simp [Ideal.ofBits, Ideal.ieee, -EReal.coe_mul]; norm_num

/-- The float32 pattern of the reciprocal of 8192. -/
theorem eightk_inv : Ideal.ofBits .f32 0x39000000#32 = ((1 / 8192 : ℝ) : EReal) := by
  simp [Ideal.ofBits, Ideal.ieee, -EReal.coe_mul]; norm_num

/-- Dividing by 8192 is multiplying by its reciprocal, infinities included. -/
theorem div_eightk (x : EReal) : Ideal.div x (Ideal.ofBits .f32 0x46000000#32) = x * Ideal.ofBits .f32 0x39000000#32 := by
  rw [eightk, eightk_inv, Ideal.div, if_neg (by exact_mod_cast (by norm_num : (8192 : ℝ) ≠ 0)), div_eq_mul_inv, ← EReal.coe_inv]
  norm_num

end Cert.Scalars
end
end
-- ==== Proof.GateUpValue.lean ====
module
public import proofs.«01_k».proof.Proof.Scalars
public import proofs.«01_k».proof.Proof.Gen.GateUpIdeal.Value
public import proofs.«01_k».proof.Proof.Gen.GateUpRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.GateUpIdeal.RefValue

open Cert.GateUpIdeal Cert.GateUpIdeal.Gen

variable (m : (ℓ : Loc nD τ sig) → Buf (Elt Ideal) ℓ)

theorem idx : ∀ t : Fin cfg0.N, win0_0.index t = ![(grid0.coords t 1).val, 0]
    ∧ win0_1.index t = ![(grid0.coords t 0).val, 0]
    ∧ win0_2.index t = ![(grid0.coords t 0).val, 0]
    ∧ win0_3.index t = ![(grid0.coords t 1).val, 0]
    ∧ win0_4.index t = ![(grid0.coords t 1).val, 0]
    ∧ win0_5.index t = ![0, (grid0.coords t 0).val]
    ∧ win0_6.index t = ![0, (grid0.coords t 0).val]
    ∧ win0_7.index t = ![0, (grid0.coords t 0).val]
    ∧ win0_8.index t = ![0, (grid0.coords t 0).val]
    ∧ win0_9.index t = ![(grid0.coords t 1).val, (grid0.coords t 0).val]
    ∧ win0_10.index t = ![(grid0.coords t 1).val, (grid0.coords t 0).val]
    ∧ win0_11.index t = ![(grid0.coords t 1).val, (grid0.coords t 0).val] :=
  (by decide +kernel : ∀ t : Fin grid0.N, _)

def U (h : FVec Ideal S2048x8192 .bf16) (w : FVec Ideal S3584x8192 .bf16) (t : FVec Ideal S2048x64 .bf16)
    (b : FVec Ideal S3584x64 .bf16) (r : Fin 2048) (n : Fin 3584) : EReal :=
  (∑ k : Fin 8192, h (ix2 r k) * w (ix2 n k))
    + Ideal.ofBits .f32 0x3EC00000#32 * ∑ k : Fin 64, t (ix2 r k) * b (ix2 n k)

theorem pay2 (v0 : FVec Ideal S1024x8192 .bf16) (v1 : FVec Ideal S64x256 .bf16) (v3 : FVec Ideal S256x8192 .bf16)
    (v5 : FVec Ideal S1024x128 .bf16) (r : Fin 1024) (n : Fin 256)
    (h : FVec Ideal S2048x8192 .bf16) (w : FVec Ideal S3584x8192 .bf16) (t : FVec Ideal S2048x64 .bf16)
    (b : FVec Ideal S3584x64 .bf16) (r' : Fin 2048) (n' : Fin 3584)
    (e0 : ∀ k, v0 (ix2 r k) = h (ix2 r' k)) (e1 : ∀ k, v1 (ix2 k n) = b (ix2 n' k))
    (e3 : ∀ k, v3 (ix2 n k) = w (ix2 n' k))
    (e5 : ∀ k : Fin 64, v5 (ix2 r ⟨k.val, by omega⟩) = t (ix2 r' k) * Ideal.ofBits .bf16 0x3E80#16)
    (e5' : ∀ k : Fin 64, v5 (ix2 r ⟨64 + k.val, by omega⟩) = t (ix2 r' k) * Ideal.ofBits .bf16 0x3E00#16) :
    k0_pay2 (F := Ideal) v0 v1 v3 v5 (ix2 r n) = U h w t b r' n' := by
  pointwise [k0_pay2, U, e0, e1, e3, e5, e5']
  rw [Cert.Scalars.lora]

theorem pay3 (v0 : FVec Ideal S1024x8192 .bf16) (v1 : FVec Ideal S64x256 .bf16) (v3 : FVec Ideal S256x8192 .bf16)
    (v5 : FVec Ideal S1024x128 .bf16) : k0_pay3 (F := Ideal) v0 v1 v3 v5 = k0_pay2 (F := Ideal) v0 v1 v3 v5 := rfl

theorem ref_u (x0 : FVec Ideal S2048x8192 .bf16) (x1 : FVec Ideal S3584x8192 .bf16) (x3 : FVec Ideal S2048x64 .bf16)
    (x5 : FVec Ideal S3584x64 .bf16) (i : S2048x3584.Idx) :
    Cert.GateUpRefIdeal.Read.val_main_v10 (F := Ideal) x0 x1 x3 x5 i = U x0 x1 x3 x5 (i 0) (i 1) := by
  idx_vars i
  pointwise [Cert.GateUpRefIdeal.Read.val_main_v10, Cert.GateUpRefIdeal.Read.val_main_v9, Cert.GateUpRefIdeal.Read.val_main_v8, Cert.GateUpRefIdeal.Read.val_main_v7, Cert.GateUpRefIdeal.Read.val_main_v6, Cert.GateUpRefIdeal.Read.val_main_v5, Cert.GateUpRefIdeal.Read.val_main_v4, Cert.GateUpRefIdeal.Read.val_main_v3, Cert.GateUpRefIdeal.Read.val_main_v2, Cert.GateUpRefIdeal.Read.val_main_v1, Cert.GateUpRefIdeal.Read.val_main_v0, Cert.GateUpRefIdeal.Read.val_main_cst, U, ← Cert.Scalars.halves]

/-- The row of the arrays that row `r` of grid point `t`'s blocks is. -/
def row (t : Fin cfg0.N) (r : Fin 1024) : Fin 2048 :=
  ⟨(grid0.coords t 1).val * 1024 + r.val, by have h : (grid0.coords t 1).val < 2 := (grid0.coords t 1).isLt; omega⟩

/-- The column of the results that column `n` of grid point `t`'s blocks is. -/
def col (t : Fin cfg0.N) (n : Fin 256) : Fin 3584 :=
  ⟨(grid0.coords t 0).val * 256 + n.val, by have h : (grid0.coords t 0).val < 14 := (grid0.coords t 0).isLt; omega⟩

theorem blk0 (c : Dev nD) (t : Fin cfg0.N) (r : Fin 1024) (k : Fin 8192) :
    iblk m c 0 t (ix2 r k) = m ((c.tc : Thread nD τ).loc main_arg0) (ix2 (row t r) k) := by
  blk_ext [iblk, V, idx t, row]

theorem blk1 (c : Dev nD) (t : Fin cfg0.N) (n : Fin 256) (k : Fin 8192) :
    iblk m c 1 t (ix2 n k) = m ((c.tc : Thread nD τ).loc main_arg1) (ix2 (col t n) k) := by
  blk_ext [iblk, V, idx t, col]

theorem blk3 (c : Dev nD) (t : Fin cfg0.N) (r : Fin 1024) (k : Fin 128) :
    iblk m c 3 t (ix2 r k) = V m c main_v4 (ix2 (row t r) k) := by
  blk_ext [iblk, idx t, row]

theorem blk3_lo (c : Dev nD) (t : Fin cfg0.N) (r : Fin 1024) (k : Fin 64) :
    iblk m c 3 t (ix2 r ⟨k.val, by omega⟩) = (show EReal from m ((c.tc : Thread nD τ).loc main_arg3) (ix2 (row t r) k)) * Ideal.ofBits .bf16 0x3E80#16 := by
  rw [blk3]; entry_read; pointwise

theorem blk3_hi (c : Dev nD) (t : Fin cfg0.N) (r : Fin 1024) (k : Fin 64) :
    iblk m c 3 t (ix2 r ⟨64 + k.val, by omega⟩) = (show EReal from m ((c.tc : Thread nD τ).loc main_arg3) (ix2 (row t r) k)) * Ideal.ofBits .bf16 0x3E00#16 := by
  rw [blk3]; entry_read; pointwise

theorem blk5 (c : Dev nD) (t : Fin cfg0.N) (k : Fin 64) (n : Fin 256) :
    iblk m c 5 t (ix2 k n) = m ((c.tc : Thread nD τ).loc main_arg5) (ix2 (col t n) k) := by
  have h : iblk m c 5 t (ix2 k n) = V m c main_v10 (ix2 k (col t n)) := by blk_ext [iblk, idx t, col]
  rw [h]; entry_read; pointwise

theorem blk2 (c : Dev nD) (t : Fin cfg0.N) (n : Fin 256) (k : Fin 8192) :
    iblk m c 2 t (ix2 n k) = m ((c.tc : Thread nD τ).loc main_arg2) (ix2 (col t n) k) := by
  blk_ext [iblk, V, idx t, col]

theorem blk4 (c : Dev nD) (t : Fin cfg0.N) (r : Fin 1024) (k : Fin 128) :
    iblk m c 4 t (ix2 r k) = V m c main_v9 (ix2 (row t r) k) := by
  blk_ext [iblk, idx t, row]

theorem blk4_lo (c : Dev nD) (t : Fin cfg0.N) (r : Fin 1024) (k : Fin 64) :
    iblk m c 4 t (ix2 r ⟨k.val, by omega⟩) = (show EReal from m ((c.tc : Thread nD τ).loc main_arg4) (ix2 (row t r) k)) * Ideal.ofBits .bf16 0x3E80#16 := by
  rw [blk4]; entry_read; pointwise

theorem blk4_hi (c : Dev nD) (t : Fin cfg0.N) (r : Fin 1024) (k : Fin 64) :
    iblk m c 4 t (ix2 r ⟨64 + k.val, by omega⟩) = (show EReal from m ((c.tc : Thread nD τ).loc main_arg4) (ix2 (row t r) k)) * Ideal.ofBits .bf16 0x3E00#16 := by
  rw [blk4]; entry_read; pointwise

theorem blk6 (c : Dev nD) (t : Fin cfg0.N) (k : Fin 64) (n : Fin 256) :
    iblk m c 6 t (ix2 k n) = m ((c.tc : Thread nD τ).loc main_arg6) (ix2 (col t n) k) := by
  have h : iblk m c 6 t (ix2 k n) = V m c main_v11 (ix2 k (col t n)) := by blk_ext [iblk, idx t, col]
  rw [h]; entry_read; pointwise

theorem blk7 (c : Dev nD) (t : Fin cfg0.N) (n : Fin 256) :
    iblk m c 7 t (ix2 0 n) = m ((c.tc : Thread nD τ).loc main_arg7) (ix1 (col t n)) := by
  have h : iblk m c 7 t (ix2 0 n) = V m c main_v12 (ix2 0 (col t n)) := by blk_ext [iblk, idx t, col]
  rw [h]; entry_read; pointwise

theorem blk8 (c : Dev nD) (t : Fin cfg0.N) (n : Fin 256) :
    iblk m c 8 t (ix2 0 n) = m ((c.tc : Thread nD τ).loc main_arg8) (ix1 (col t n)) := by
  have h : iblk m c 8 t (ix2 0 n) = V m c main_v13 (ix2 0 (col t n)) := by blk_ext [iblk, idx t, col]
  rw [h]; entry_read; pointwise

/-- The gate projection of the entry arrays. -/
def UG (c : Dev nD) : Fin 2048 → Fin 3584 → EReal :=
  U (m ((c.tc : Thread nD τ).loc main_arg0)) (m ((c.tc : Thread nD τ).loc main_arg1)) (m ((c.tc : Thread nD τ).loc main_arg3)) (m ((c.tc : Thread nD τ).loc main_arg5))

/-- The up projection of the entry arrays. -/
def UU (c : Dev nD) : Fin 2048 → Fin 3584 → EReal :=
  U (m ((c.tc : Thread nD τ).loc main_arg0)) (m ((c.tc : Thread nD τ).loc main_arg2)) (m ((c.tc : Thread nD τ).loc main_arg4)) (m ((c.tc : Thread nD τ).loc main_arg6))

theorem point_g (c : Dev nD) (t : Fin cfg0.N) (r : Fin 1024) (n : Fin 256) :
    k0_pay2 (F := Ideal) (iblk m c 0 t) (iblk m c 5 t) (iblk m c 1 t) (iblk m c 3 t) (ix2 r n) = UG m c (row t r) (col t n) :=
  pay2 _ _ _ _ r n _ _ _ _ _ _ (blk0 m c t r) (fun k => blk5 m c t k n) (blk1 m c t n) (blk3_lo m c t r) (blk3_hi m c t r)

theorem point_u (c : Dev nD) (t : Fin cfg0.N) (r : Fin 1024) (n : Fin 256) :
    k0_pay3 (F := Ideal) (iblk m c 0 t) (iblk m c 6 t) (iblk m c 2 t) (iblk m c 4 t) (ix2 r n) = UU m c (row t r) (col t n) :=
  pay2 _ _ _ _ r n _ _ _ _ _ _ (blk0 m c t r) (fun k => blk6 m c t k n) (blk2 m c t n) (blk4_lo m c t r) (blk4_hi m c t r)

theorem final9 (c : Dev nD) : (dats m 0 c).arrAt 9 (cfgs 0).N = fun i => UG m c (i 0) (i 1) := by
  refine (dats m 0 c).arrAt_eq_of_covers 9 _ (by decide +kernel) fun t hf y => ?_
  blk_simp; rw [after0_9]; unfold outsAt0; frame_out
  refine ((congrArg _ (eq_ix2 y)).trans (point_g m c t (y 0) (y 1))).trans (congrArg₂ (UG m c) (Fin.ext ?_) (Fin.ext ?_))
  all_goals (blk_simp [idx t, row, col]; try rfl)

theorem final10 (c : Dev nD) : (dats m 0 c).arrAt 10 (cfgs 0).N = fun i => UU m c (i 0) (i 1) := by
  refine (dats m 0 c).arrAt_eq_of_covers 10 _ (by decide +kernel) fun t hf y => ?_
  blk_simp; rw [after0_10]; unfold outsAt0; frame_out
  refine ((congrArg _ (eq_ix2 y)).trans (point_u m c t (y 0) (y 1))).trans (congrArg₂ (UU m c) (Fin.ext ?_) (Fin.ext ?_))
  all_goals (blk_simp [idx t, row, col]; try rfl)

/-- The activation of one element: the scaled gate projection times its logistic, times the scaled up projection. -/
def A (rg ug ru uu : EReal) : EReal := (rg * ug) * Ideal.logistic (rg * ug) * (ru * uu)

/-- The activation of the entry arrays. -/
def ACT (c : Dev nD) (r : Fin 2048) (n : Fin 3584) : EReal :=
  A (m ((c.tc : Thread nD τ).loc main_arg7) (ix1 n)) (UG m c r n) (m ((c.tc : Thread nD τ).loc main_arg8) (ix1 n)) (UU m c r n)

theorem pay_act (rg : FVec Ideal S1x256 .f32) (ug : FVec Ideal S1024x256 .f32) (ru : FVec Ideal S1x256 .f32)
    (uu : FVec Ideal S1024x256 .f32) (r : Fin 1024) (n : Fin 256) :
    k0_pay1 (F := Ideal) (k0_pay4 (F := Ideal) rg ug) ru uu (ix2 r n)
      = A (rg (ix2 0 n)) (ug (ix2 r n)) (ru (ix2 0 n)) (uu (ix2 r n)) := by
  pointwise [k0_pay1, k0_pay4, A]

theorem point_act (c : Dev nD) (t : Fin cfg0.N) (r : Fin 1024) (n : Fin 256) :
    k0_pay1 (F := Ideal) (k0_pay4 (F := Ideal) (iblk m c 7 t) (k0_pay2 (F := Ideal) (iblk m c 0 t) (iblk m c 5 t) (iblk m c 1 t) (iblk m c 3 t)))
      (iblk m c 8 t) (k0_pay3 (F := Ideal) (iblk m c 0 t) (iblk m c 6 t) (iblk m c 2 t) (iblk m c 4 t)) (ix2 r n)
      = ACT m c (row t r) (col t n) := by
  rw [pay_act, point_g, point_u]
  exact congrArg₂ (fun a b => A a (UG m c (row t r) (col t n)) b (UU m c (row t r) (col t n))) (blk7 m c t n) (blk8 m c t n)

theorem final11 (c : Dev nD) : (dats m 0 c).arrAt 11 (cfgs 0).N = fun i => ACT m c (i 0) (i 1) := by
  refine (dats m 0 c).arrAt_eq_of_covers 11 _ (by decide +kernel) fun t hf y => ?_
  blk_simp; rw [after0_11]; unfold outsAt0; frame_out
  refine ((congrArg _ (eq_ix2 y)).trans (point_act m c t (y 0) (y 1))).trans (congrArg₂ (ACT m c) (Fin.ext ?_) (Fin.ext ?_))
  all_goals (blk_simp [idx t, row, col]; try rfl)

theorem ref_u' (x0 : FVec Ideal S2048x8192 .bf16) (x2 : FVec Ideal S3584x8192 .bf16) (x4 : FVec Ideal S2048x64 .bf16)
    (x6 : FVec Ideal S3584x64 .bf16) (i : S2048x3584.Idx) :
    Cert.GateUpRefIdeal.Read.val_main_v24 (F := Ideal) x0 x2 x4 x6 i = U x0 x2 x4 x6 (i 0) (i 1) :=
  ref_u x0 x2 x4 x6 i

theorem ref_act (x0 : FVec Ideal S2048x8192 .bf16) (x1 x2 : FVec Ideal S3584x8192 .bf16) (x3 x4 : FVec Ideal S2048x64 .bf16)
    (x5 x6 : FVec Ideal S3584x64 .bf16) (x7 x8 : FVec Ideal S3584 .f32) (i : S2048x3584.Idx) :
    Cert.GateUpRefIdeal.Read.val_main_v36 (F := Ideal) x0 x1 x2 x3 x4 x5 x6 x7 x8 i
      = A (x7 (ix1 (i 1))) (U x0 x1 x3 x5 (i 0) (i 1)) (x8 (ix1 (i 1))) (U x0 x2 x4 x6 (i 0) (i 1)) := by
  have hg := ref_u x0 x1 x3 x5 i
  have hu := ref_u' x0 x2 x4 x6 i
  idx_vars i
  pointwise [A, Cert.GateUpRefIdeal.Read.val_main_v11, Cert.GateUpRefIdeal.Read.val_main_v12, Cert.GateUpRefIdeal.Read.val_main_v13, Cert.GateUpRefIdeal.Read.val_main_v25, Cert.GateUpRefIdeal.Read.val_main_v26, Cert.GateUpRefIdeal.Read.val_main_v27, Cert.GateUpRefIdeal.Read.val_main_v28, Cert.GateUpRefIdeal.Read.val_main_v29, Cert.GateUpRefIdeal.Read.val_main_v30, Cert.GateUpRefIdeal.Read.val_main_v31, Cert.GateUpRefIdeal.Read.val_main_v32, Cert.GateUpRefIdeal.Read.val_main_v33, Cert.GateUpRefIdeal.Read.val_main_v34, Cert.GateUpRefIdeal.Read.val_main_v35, Cert.GateUpRefIdeal.Read.val_main_v36, Cert.GateUpRefIdeal.Read.val_main_cst_1, Cert.GateUpRefIdeal.Read.val_main_cst_2, hg, hu]
  all_goals rfl

end Cert.GateUpIdeal.RefValue
end
-- ==== Proof.GateUpClaim.lean ====
module
public import proofs.«01_k».proof.Defs
public import proofs.«01_k».proof.Proof.Gen.GateUpIdeal.Value
public import proofs.«01_k».proof.Proof.Gen.GateUpRefIdeal.Run
public import proofs.«01_k».proof.Proof.GateUpValue
public import Idealize.ShloMosaic.Lib.Claim

/-! The algebraic claim of the gate/up call: kernel and reference run, and end with equal results. -/

@[expose] public section

set_option maxRecDepth 16384

noncomputable section

namespace Cert.GateUpProof

open Idealize.ShloMosaic Idealize.ShloMosaic.TcCoe Idealize.SL.Sem

set_option maxHeartbeats 1600000 in
theorem algebraic : Cert.algebraic_GateUpIdeal_GateUpRefIdeal (hGateUpIdeal := Cert.GateUpIdeal.Gen.facts)
    (hGateUpRefIdeal := Cert.GateUpRefIdeal.Gen.facts) := by
  pair_intro
  · run_from Cert.GateUpIdeal.Gen.run_main m g
  · run_from Cert.GateUpRefIdeal.Value.run m' g'
    · exact (funext fun i => Cert.GateUpIdeal.RefValue.ref_u _ _ _ _ i).trans (Cert.GateUpIdeal.RefValue.final9 m c).symm
    · exact (funext fun i => Cert.GateUpIdeal.RefValue.ref_u' _ _ _ _ i).trans (Cert.GateUpIdeal.RefValue.final10 m c).symm
    · exact (funext fun i => Cert.GateUpIdeal.RefValue.ref_act _ _ _ _ _ _ _ _ _ i).trans (Cert.GateUpIdeal.RefValue.final11 m c).symm

end Cert.GateUpProof
end
-- ==== Proof.DownValue.lean ====
module
public import proofs.«01_k».proof.Proof.Scalars
public import proofs.«01_k».proof.Proof.Gen.DownIdeal.Value
public import proofs.«01_k».proof.Proof.Gen.DownRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.DownIdeal.RefValue

open Cert.DownIdeal Cert.DownIdeal.Gen

variable (m : (ℓ : Loc nD τ sig) → Buf (Elt Ideal) ℓ)

theorem idx : ∀ t : Fin cfg0.N, win0_0.index t = ![0, 0]
    ∧ win0_1.index t = ![t.val, 0]
    ∧ win0_2.index t = ![0, 0]
    ∧ win0_3.index t = ![t.val, 0]
    ∧ win0_4.index t = ![0, t.val]
    ∧ win0_5.index t = ![0, t.val]
    ∧ win0_6.index t = ![0, t.val]
    ∧ win0_7.index t = ![0, t.val]
    ∧ win0_8.index t = ![0, t.val]
    ∧ win0_9.index t = ![0, t.val]
    ∧ win0_10.index t = ![t.val, 0]
    ∧ win0_11.index t = ![0, 0] :=
  (by decide +kernel : ∀ t : Fin grid0.N, _)

/-- The column of the results that column `n` of grid point `t`'s blocks is. -/
def col (t : Fin cfg0.N) (n : Fin 256) : Fin 8192 :=
  ⟨t.val * 256 + n.val, by have h : t.val < 32 := lt_of_lt_of_eq t.isLt N_0; omega⟩

/-- The low-rank product of the activation. -/
def T (x : FVec Ideal S2048x3584 .bf16) (a : FVec Ideal S64x3584 .bf16) (r : Fin 2048) (j : Fin 64) : EReal :=
  ∑ k : Fin 3584, x (ix2 r k) * a (ix2 j k)

/-- The projection: the weight product plus 3/8 of the low-rank product. -/
def U (x : FVec Ideal S2048x3584 .bf16) (w : FVec Ideal S8192x3584 .bf16) (a : FVec Ideal S64x3584 .bf16)
    (b : FVec Ideal S8192x64 .bf16) (r : Fin 2048) (n : Fin 8192) : EReal :=
  (∑ k : Fin 3584, x (ix2 r k) * w (ix2 n k))
    + Ideal.ofBits .f32 0x3EC00000#32 * ∑ k : Fin 64, T x a r k * b (ix2 n k)

/-- The scaled incoming gradient. -/
def G (dy : FVec Ideal S2048x8192 .bf16) (ratio : FVec Ideal S8192 .f32) (r : Fin 2048) (n : Fin 8192) : EReal :=
  dy (ix2 r n) * ratio (ix1 n)

/-! ## The blocks as entries of the arrays -/

theorem blk0 (c : Dev nD) (t : Fin cfg0.N) (r : Fin 2048) (k : Fin 3584) :
    iblk m c 0 t (ix2 r k) = m ((c.tc : Thread nD τ).loc main_arg0) (ix2 r k) := by
  blk_ext [iblk, V, idx t]

theorem blk1 (c : Dev nD) (t : Fin cfg0.N) (n : Fin 256) (k : Fin 3584) :
    iblk m c 1 t (ix2 n k) = m ((c.tc : Thread nD τ).loc main_arg1) (ix2 (col t n) k) := by
  blk_ext [iblk, V, idx t, col]

theorem blk2 (c : Dev nD) (t : Fin cfg0.N) (j : Fin 64) (k : Fin 3584) :
    iblk m c 2 t (ix2 j k) = m ((c.tc : Thread nD τ).loc main_arg2) (ix2 j k) := by
  blk_ext [iblk, V, idx t]

theorem blk3 (c : Dev nD) (t : Fin cfg0.N) (n : Fin 256) (k : Fin 64) :
    iblk m c 3 t (ix2 n k) = m ((c.tc : Thread nD τ).loc main_arg3) (ix2 (col t n) k) := by
  blk_ext [iblk, V, idx t, col]

theorem blk4 (c : Dev nD) (t : Fin cfg0.N) (r : Fin 2048) (n : Fin 256) :
    iblk m c 4 t (ix2 r n) = m ((c.tc : Thread nD τ).loc main_arg4) (ix2 r (col t n)) := by
  blk_ext [iblk, V, idx t, col]

theorem blk5 (c : Dev nD) (t : Fin cfg0.N) (n : Fin 256) :
    iblk m c 5 t (ix2 0 n) = m ((c.tc : Thread nD τ).loc main_arg5) (ix1 (col t n)) := by
  have h : iblk m c 5 t (ix2 0 n) = V m c main_v0 (ix2 0 (col t n)) := by blk_ext [iblk, idx t, col]
  rw [h]; entry_read; pointwise

theorem blk6 (c : Dev nD) (t : Fin cfg0.N) (n : Fin 256) :
    iblk m c 6 t (ix2 0 n) = m ((c.tc : Thread nD τ).loc main_arg6) (ix1 (col t n)) := by
  have h : iblk m c 6 t (ix2 0 n) = V m c main_v1 (ix2 0 (col t n)) := by blk_ext [iblk, idx t, col]
  rw [h]; entry_read; pointwise

/-! ## The payloads -/

theorem pay5 (v0 : FVec Ideal S2048x3584 .bf16) (v1 : FVec Ideal S64x3584 .bf16) (r : Fin 2048) (j : Fin 64)
    (x : FVec Ideal S2048x3584 .bf16) (a : FVec Ideal S64x3584 .bf16)
    (e0 : ∀ k, v0 (ix2 r k) = x (ix2 r k)) (e1 : ∀ k, v1 (ix2 j k) = a (ix2 j k)) :
    k0_pay5 (F := Ideal) v0 v1 (ix2 r j) = T x a r j := by
  pointwise [k0_pay5, k0_pay4, T, e0, e1]

theorem pay6_lo (v0 : FVec Ideal S2048x3584 .bf16) (v1 : FVec Ideal S64x3584 .bf16) (r : Fin 2048) (j : Fin 64)
    (x : FVec Ideal S2048x3584 .bf16) (a : FVec Ideal S64x3584 .bf16)
    (e0 : ∀ k, v0 (ix2 r k) = x (ix2 r k)) (e1 : ∀ k, v1 (ix2 j k) = a (ix2 j k)) :
    k0_pay6 (F := Ideal) v0 v1 (ix2 r ⟨j.val, by omega⟩) = T x a r j * Ideal.ofBits .bf16 0x3E80#16 := by
  pointwise [k0_pay6, k0_pay4, T, e0, e1]

theorem pay6_hi (v0 : FVec Ideal S2048x3584 .bf16) (v1 : FVec Ideal S64x3584 .bf16) (r : Fin 2048) (j : Fin 64)
    (x : FVec Ideal S2048x3584 .bf16) (a : FVec Ideal S64x3584 .bf16)
    (e0 : ∀ k, v0 (ix2 r k) = x (ix2 r k)) (e1 : ∀ k, v1 (ix2 j k) = a (ix2 j k)) :
    k0_pay6 (F := Ideal) v0 v1 (ix2 r ⟨64 + j.val, by omega⟩) = T x a r j * Ideal.ofBits .bf16 0x3E00#16 := by
  pointwise [k0_pay6, k0_pay4, T, e0, e1]

theorem pay7 (i : S2048x64.Idx) : k0_pay7 (F := Ideal) i = 0 := by
  idx_vars i
  pointwise [k0_pay7]

theorem pay8 (v3 : FVec Ideal S256x64 .bf16) (v4 : FVec Ideal S2048x3584 .bf16) (v5 : FVec Ideal S256x3584 .bf16)
    (v7 : FVec Ideal S2048x128 .bf16) (r : Fin 2048) (n : Fin 256)
    (x : FVec Ideal S2048x3584 .bf16) (w : FVec Ideal S8192x3584 .bf16) (a : FVec Ideal S64x3584 .bf16)
    (b : FVec Ideal S8192x64 .bf16) (n' : Fin 8192)
    (e3 : ∀ k, v3 (ix2 n k) = b (ix2 n' k)) (e4 : ∀ k, v4 (ix2 r k) = x (ix2 r k))
    (e5 : ∀ k, v5 (ix2 n k) = w (ix2 n' k))
    (e7 : ∀ k : Fin 64, v7 (ix2 r ⟨k.val, by omega⟩) = T x a r k * Ideal.ofBits .bf16 0x3E80#16)
    (e7' : ∀ k : Fin 64, v7 (ix2 r ⟨64 + k.val, by omega⟩) = T x a r k * Ideal.ofBits .bf16 0x3E00#16) :
    k0_pay8 (F := Ideal) v3 v4 v5 v7 (ix2 r n) = U x w a b r n' := by
  pointwise [k0_pay8, U, e3, e4, e5, e7, e7']
  rw [Cert.Scalars.lora]

theorem pay9 (v3 : FVec Ideal S256x64 .bf16) (v4 : FVec Ideal S2048x3584 .bf16) (v5 : FVec Ideal S256x3584 .bf16)
    (v7 : FVec Ideal S2048x128 .bf16) (v11 : FVec Ideal S1x256 .f32) (r : Fin 2048) (n : Fin 256) :
    k0_pay9 (F := Ideal) v3 v4 v5 v7 v11 (ix2 r n) = v11 (ix2 0 n) * k0_pay8 (F := Ideal) v3 v4 v5 v7 (ix2 r n) := by
  pointwise [k0_pay9]

theorem pay11 (v3 : FVec Ideal S256x64 .bf16) (v4 : FVec Ideal S2048x3584 .bf16) (v5 : FVec Ideal S256x3584 .bf16)
    (v7 : FVec Ideal S2048x128 .bf16) (v17 : FVec Ideal S2048x256 .bf16) (v22 : FVec Ideal S1x256 .f32) (n : Fin 256) :
    k0_pay11 (F := Ideal) v3 v4 v5 v7 v17 v22 (ix2 0 n)
      = Ideal.div (∑ r : Fin 2048, v17 (ix2 r n) * k0_pay8 (F := Ideal) v3 v4 v5 v7 (ix2 r n)) (v22 (ix2 0 n)) := by
  pointwise [k0_pay11, k0_pay10]

theorem pay12 (v17 : FVec Ideal S2048x256 .bf16) (v26 : FVec Ideal S1x256 .f32) (r : Fin 2048) (n : Fin 256) :
    k0_pay12 (F := Ideal) v17 v26 (ix2 r n) = v17 (ix2 r n) * v26 (ix2 0 n) := by
  pointwise [k0_pay12, k0_pay10]

theorem pay1 (v30 : FVec Ideal S2048x256 .bf16) (v32 : FVec Ideal S2048x64 .bf16) (n : Fin 256) (j : Fin 64) :
    k0_pay1 (F := Ideal) v30 v32 (ix2 n j)
      = Ideal.ofBits .f32 0x3EC00000#32 * ∑ r : Fin 2048, v32 (ix2 r j) * v30 (ix2 r n) := by
  pointwise [k0_pay1]

theorem pay2 (v3 : FVec Ideal S256x64 .bf16) (v30 : FVec Ideal S2048x256 .bf16) (v38 : FVec Ideal S2048x64 .f32)
    (r : Fin 2048) (j : Fin 64) :
    k0_pay2 (F := Ideal) v3 v30 v38 (ix2 r j) = v38 (ix2 r j) + ∑ n : Fin 256, v30 (ix2 r n) * v3 (ix2 n j) := by
  pointwise [k0_pay2]

theorem pay3 (v47 : FVec Ideal S2048x64 .f32) (r : Fin 2048) (j : Fin 64) :
    k0_pay3 (F := Ideal) v47 (ix2 r j) = Ideal.ofBits .f32 0x3EC00000#32 * v47 (ix2 r j) := by
  pointwise [k0_pay3]

/-! ## What the scratch carries -/

abbrev X (c : Dev nD) : FVec Ideal S2048x3584 .bf16 := m ((c.tc : Thread nD τ).loc main_arg0)
abbrev W (c : Dev nD) : FVec Ideal S8192x3584 .bf16 := m ((c.tc : Thread nD τ).loc main_arg1)
abbrev A (c : Dev nD) : FVec Ideal S64x3584 .bf16 := m ((c.tc : Thread nD τ).loc main_arg2)
abbrev B (c : Dev nD) : FVec Ideal S8192x64 .bf16 := m ((c.tc : Thread nD τ).loc main_arg3)
abbrev DY (c : Dev nD) : FVec Ideal S2048x8192 .bf16 := m ((c.tc : Thread nD τ).loc main_arg4)
abbrev RA (c : Dev nD) : FVec Ideal S8192 .f32 := m ((c.tc : Thread nD τ).loc main_arg5)
abbrev NO (c : Dev nD) : FVec Ideal S8192 .f32 := m ((c.tc : Thread nD τ).loc main_arg6)

/-- The low-rank product and its two scaled copies stay in scratch from the first point on. -/
theorem carried (c : Dev nD) : ∀ (n : ℕ) (hn : n < cfg0.N),
    (∀ r j, (outsAt0 m c n hn).2.2.2.2.2.1 (ix2 r j) = T (X m c) (A m c) r j)
    ∧ (∀ r (j : Fin 64), (outsAt0 m c n hn).2.2.2.2.2.2.1 (ix2 r ⟨j.val, by omega⟩) = T (X m c) (A m c) r j * Ideal.ofBits .bf16 0x3E80#16)
    ∧ (∀ r (j : Fin 64), (outsAt0 m c n hn).2.2.2.2.2.2.1 (ix2 r ⟨64 + j.val, by omega⟩) = T (X m c) (A m c) r j * Ideal.ofBits .bf16 0x3E00#16) := by
  intro n
  induction n with
  | zero =>
    intro hn
    have e := outsAt0_A m c ⟨0, hn⟩ (Nat.zero_mod _) (by show ¬ (0 % 32 = 31); decide)
    refine ⟨fun r j => ?_, fun r j => ?_, fun r j => ?_⟩
    · refine (congrFun (congrArg (fun p => p.2.2.2.2.2.1) e) _).trans ?_
      frame_out
      exact pay5 _ _ r j _ _ (blk0 m c _ r) (blk2 m c _ j)
    · refine (congrFun (congrArg (fun p => p.2.2.2.2.2.2.1) e) _).trans ?_
      frame_out
      exact pay6_lo _ _ r j _ _ (blk0 m c _ r) (blk2 m c _ j)
    · refine (congrFun (congrArg (fun p => p.2.2.2.2.2.2.1) e) _).trans ?_
      frame_out
      exact pay6_hi _ _ r j _ _ (blk0 m c _ r) (blk2 m c _ j)
  | succ n ih =>
    intro hn
    have hN : n + 1 < 32 := lt_of_lt_of_eq hn N_0
    have ih' := ih (by omega)
    have h0 : ¬ (n + 1) % 32 = 0 := by omega
    by_cases h1 : (n + 1) % 32 = 31
    · have e := outsAt0_C m c ⟨n + 1, hn⟩ h0 h1
      have e0 : (outsAt0 m c (n + 1) hn).2.2.2.2.2.1 = (outsAt0 m c n (by omega)).2.2.2.2.2.1 := congrArg (fun p => p.2.2.2.2.2.1) e
      have e1 : (outsAt0 m c (n + 1) hn).2.2.2.2.2.2.1 = (outsAt0 m c n (by omega)).2.2.2.2.2.2.1 := congrArg (fun p => p.2.2.2.2.2.2.1) e
      rw [e0, e1]; exact ih'
    · have e := outsAt0_B m c ⟨n + 1, hn⟩ h0 h1
      have e0 : (outsAt0 m c (n + 1) hn).2.2.2.2.2.1 = (outsAt0 m c n (by omega)).2.2.2.2.2.1 := congrArg (fun p => p.2.2.2.2.2.1) e
      have e1 : (outsAt0 m c (n + 1) hn).2.2.2.2.2.2.1 = (outsAt0 m c n (by omega)).2.2.2.2.2.2.1 := congrArg (fun p => p.2.2.2.2.2.2.1) e
      rw [e0, e1]; exact ih'

/-! ## What each grid point leaves -/

/-- What the point leaves in every output: the payloads over the blocks, the low-rank product `p` and its two scaled copies `q`. -/
theorem outs (c : Dev nD) (t : Fin cfg0.N) : ∃ (p : FVec Ideal S2048x64 .bf16) (q : FVec Ideal S2048x128 .bf16),
    (∀ r j, p (ix2 r j) = T (X m c) (A m c) r j)
    ∧ (∀ r (j : Fin 64), q (ix2 r ⟨j.val, by omega⟩) = T (X m c) (A m c) r j * Ideal.ofBits .bf16 0x3E80#16)
    ∧ (∀ r (j : Fin 64), q (ix2 r ⟨64 + j.val, by omega⟩) = T (X m c) (A m c) r j * Ideal.ofBits .bf16 0x3E00#16)
    ∧ (outsAt0 m c t.val t.isLt).1 = k0_pay9 (F := Ideal) (iblk m c 3 t) (iblk m c 0 t) (iblk m c 1 t) q (iblk m c 5 t)
    ∧ (outsAt0 m c t.val t.isLt).2.1 = k0_pay12 (F := Ideal) (iblk m c 4 t) (iblk m c 5 t)
    ∧ (outsAt0 m c t.val t.isLt).2.2.1 = k0_pay11 (F := Ideal) (iblk m c 3 t) (iblk m c 0 t) (iblk m c 1 t) q (iblk m c 4 t) (iblk m c 6 t)
    ∧ (outsAt0 m c t.val t.isLt).2.2.2.1 = k0_pay1 (F := Ideal) (k0_pay12 (F := Ideal) (iblk m c 4 t) (iblk m c 5 t)) p := by
  have hN : t.val < 32 := lt_of_lt_of_eq t.isLt N_0
  by_cases h0 : t.val % 32 = 0
  · have h1 : ¬ t.val % 32 = 31 := by omega
    refine ⟨k0_pay5 (F := Ideal) (iblk m c 0 t) (iblk m c 2 t), k0_pay6 (F := Ideal) (iblk m c 0 t) (iblk m c 2 t), fun r j => ?_, fun r j => ?_, fun r j => ?_, ?_⟩
    · exact pay5 _ _ r j _ _ (blk0 m c _ r) (blk2 m c _ j)
    · exact pay6_lo _ _ r j _ _ (blk0 m c _ r) (blk2 m c _ j)
    · exact pay6_hi _ _ r j _ _ (blk0 m c _ r) (blk2 m c _ j)
    · rw [outsAt0_A m c t h0 h1]
      refine ⟨?_, ?_, ?_, ?_⟩ <;> frame_out
  · have hc := carried m c (t.val - 1) (Nat.lt_of_le_of_lt (Nat.sub_le _ _) t.isLt)
    refine ⟨_, _, hc.1, hc.2.1, hc.2.2, ?_⟩
    by_cases h1 : t.val % 32 = 31
    · rw [outsAt0_C m c t h0 h1]
      refine ⟨?_, ?_, ?_, ?_⟩ <;> frame_out <;> simp only [read_unread_whole]
    · rw [outsAt0_B m c t h0 h1]
      refine ⟨?_, ?_, ?_, ?_⟩ <;> frame_out <;> simp only [read_unread_whole]

/-- The projection of the entry arrays. -/
abbrev UD (c : Dev nD) : Fin 2048 → Fin 8192 → EReal := U (X m c) (W m c) (A m c) (B m c)

/-- The scaled gradient of the entry arrays. -/
abbrev GD (c : Dev nD) : Fin 2048 → Fin 8192 → EReal := G (DY m c) (RA m c)

theorem out_y (c : Dev nD) (t : Fin cfg0.N) (r : Fin 2048) (n : Fin 256) :
    (outsAt0 m c t.val t.isLt).1 (ix2 r n) = RA m c (ix1 (col t n)) * UD m c r (col t n) := by
  obtain ⟨p, q, hp, hq, hq', e7, e8, e9, e10⟩ := outs m c t
  rw [e7, pay9, pay8 _ _ _ _ r n (X m c) (W m c) (A m c) (B m c) (col t n) (blk3 m c t n) (blk0 m c t r) (blk1 m c t n) (hq r) (hq' r)]
  exact congrArg (fun a => a * UD m c r (col t n)) (blk5 m c t n)

theorem out_g (c : Dev nD) (t : Fin cfg0.N) (r : Fin 2048) (n : Fin 256) :
    (outsAt0 m c t.val t.isLt).2.1 (ix2 r n) = GD m c r (col t n) := by
  obtain ⟨p, q, hp, hq, hq', e7, e8, e9, e10⟩ := outs m c t
  rw [e8, pay12]
  exact congrArg₂ (fun a b : EReal => a * b) (blk4 m c t r n) (blk5 m c t n)

theorem out_dmag (c : Dev nD) (t : Fin cfg0.N) (n : Fin 256) :
    (outsAt0 m c t.val t.isLt).2.2.1 (ix2 0 n)
      = Ideal.div (∑ r : Fin 2048, DY m c (ix2 r (col t n)) * UD m c r (col t n)) (NO m c (ix1 (col t n))) := by
  obtain ⟨p, q, hp, hq, hq', e7, e8, e9, e10⟩ := outs m c t
  rw [e9, pay11]
  refine congrArg₂ Ideal.div (Fin.sum_fin_congr fun r => ?_) (blk6 m c t n)
  rw [pay8 _ _ _ _ r n (X m c) (W m c) (A m c) (B m c) (col t n) (blk3 m c t n) (blk0 m c t r) (blk1 m c t n) (hq r) (hq' r)]
  exact congrArg (fun a => a * UD m c r (col t n)) (blk4 m c t r n)

theorem out_db (c : Dev nD) (t : Fin cfg0.N) (n : Fin 256) (j : Fin 64) :
    (outsAt0 m c t.val t.isLt).2.2.2.1 (ix2 n j)
      = Ideal.ofBits .f32 0x3EC00000#32 * ∑ r : Fin 2048, GD m c r (col t n) * T (X m c) (A m c) r j := by
  obtain ⟨p, q, hp, hq, hq', e7, e8, e9, e10⟩ := outs m c t
  rw [e10, pay1]
  refine congrArg (fun a : EReal => Ideal.ofBits .f32 0x3EC00000#32 * a) (Fin.sum_fin_congr fun r => ?_)
  rw [hp, pay12]
  exact (mul_comm _ _).trans (congrArg (fun a : EReal => a * T (X m c) (A m c) r j) (congrArg₂ (fun a b : EReal => a * b) (blk4 m c t r n) (blk5 m c t n)))

theorem pay2r (c : Dev nD) (t : Fin cfg0.N) (acc : FVec Ideal S2048x64 .f32) (r : Fin 2048) (j : Fin 64) :
    k0_pay2 (F := Ideal) (iblk m c 3 t) (k0_pay12 (F := Ideal) (iblk m c 4 t) (iblk m c 5 t)) acc (ix2 r j)
      = acc (ix2 r j) + ∑ n : Fin 256, GD m c r (col t n) * B m c (ix2 (col t n) j) := by
  rw [pay2]
  refine congrArg (fun a : EReal => acc (ix2 r j) + a) (Fin.sum_fin_congr fun n => ?_)
  rw [pay12]
  exact congrArg₂ (fun a b : EReal => a * b) (congrArg₂ (fun a b : EReal => a * b) (blk4 m c t r n) (blk5 m c t n)) (blk3 m c t n j)

theorem pay2' (c : Dev nD) (t : Fin cfg0.N) (acc : FVec Ideal S2048x64 .f32) (i : S2048x64.Idx) :
    k0_pay2 (F := Ideal) (iblk m c 3 t) (k0_pay12 (F := Ideal) (iblk m c 4 t) (iblk m c 5 t)) acc i
      = acc i + ∑ n : Fin 256, GD m c (i 0) (col t n) * B m c (ix2 (col t n) (i 1)) :=
  (congrArg _ (eq_ix2 i)).trans ((pay2r m c t acc (i 0) (i 1)).trans (congrArg (fun a : EReal => a + _) (congrArg acc (eq_ix2 i).symm)))

/-- The accumulator: zero at the first point, then each point adds its columns' share. -/
theorem acc_zero (c : Dev nD) (t : Fin cfg0.N) (h : t.val % 32 = 0) (i : S2048x64.Idx) :
    (outsAt0 m c t.val t.isLt).2.2.2.2.2.2.2 i
      = (0 : EReal) + ∑ n : Fin 256, GD m c (i 0) (col t n) * B m c (ix2 (col t n) (i 1)) := by
  have hN : t.val < 32 := lt_of_lt_of_eq t.isLt N_0
  rw [outsAt0_A m c t h (by omega)]
  frame_out
  exact (pay2' m c t _ i).trans (congrArg (fun a : EReal => a + _) (pay7 i))

theorem acc_step (c : Dev nD) (t : Fin cfg0.N) (h : ¬ t.val % 32 = 0) (i : S2048x64.Idx) :
    (outsAt0 m c t.val t.isLt).2.2.2.2.2.2.2 i
      = (show EReal from (outsAt0 m c (t.val - 1) (Nat.lt_of_le_of_lt (Nat.sub_le _ _) t.isLt)).2.2.2.2.2.2.2 i)
        + ∑ n : Fin 256, GD m c (i 0) (col t n) * B m c (ix2 (col t n) (i 1)) := by
  by_cases h1 : t.val % 32 = 31
  · rw [outsAt0_C m c t h h1]
    frame_out
    simp only [read_unread_whole]
    exact pay2' m c t _ i
  · rw [outsAt0_B m c t h h1]
    frame_out
    simp only [read_unread_whole]
    exact pay2' m c t _ i

theorem out_s (c : Dev nD) (t : Fin cfg0.N) (h : t.val % 32 = 31) (r : Fin 2048) (j : Fin 64) :
    (outsAt0 m c t.val t.isLt).2.2.2.2.1 (ix2 r j)
      = Ideal.ofBits .f32 0x3EC00000#32 * (show EReal from (outsAt0 m c t.val t.isLt).2.2.2.2.2.2.2 (ix2 r j)) := by
  rw [outsAt0_C m c t (by omega) h]
  frame_out
  rw [pay3]

/-- After the last point the accumulator is the sum over all columns. -/
theorem acc_last (c : Dev nD) (t : Fin cfg0.N) (h : t.val % 32 = 31) (r : Fin 2048) (j : Fin 64) :
    (outsAt0 m c t.val t.isLt).2.2.2.2.2.2.2 (ix2 r j) = ∑ n : Fin 8192, GD m c r n * B m c (ix2 n j) := by
  have hN : t.val < 32 := lt_of_lt_of_eq t.isLt N_0
  refine (Pipeline.eq_sum_fin_of_reset_step_apply_last (fun n h => (outsAt0 m c n h).2.2.2.2.2.2.2) 32 (fun _ => (0 : EReal))
    (fun t i => ∑ n : Fin 256, GD m c (i 0) (col t n) * B m c (ix2 (col t n) (i 1)))
    (fun t h i => acc_zero m c t h i) (fun t h i => acc_step m c t h i) (le_of_eq N_0) t (by have e : cfg0.N = 32 := N_0; omega) (ix2 r j)).trans ?_
  rw [zero_add]
  exact Fin.sum_mul_add_fin (M := EReal) 32 256 (fun n : Fin 8192 => GD m c r n * B m c (ix2 n j))

/-! ## The results -/

theorem final7 (c : Dev nD) : (dats m 0 c).arrAt 7 (cfgs 0).N = fun i => RA m c (ix1 (i 1)) * UD m c (i 0) (i 1) := by
  refine (dats m 0 c).arrAt_eq_of_covers 7 _ (by decide +kernel) fun t hf y => ?_
  blk_simp; rw [after0_7]
  refine ((congrArg _ (eq_ix2 y)).trans (out_y m c t (y 0) (y 1))).trans (congrArg₂ (fun (a : Fin 2048) (b : Fin 8192) => RA m c (ix1 b) * UD m c a b) (Fin.ext ?_) (Fin.ext ?_))
  all_goals (blk_simp [idx t, col]; try rfl)

theorem final8 (c : Dev nD) : (dats m 0 c).arrAt 8 (cfgs 0).N = fun i => GD m c (i 0) (i 1) := by
  refine (dats m 0 c).arrAt_eq_of_covers 8 _ (by decide +kernel) fun t hf y => ?_
  blk_simp; rw [after0_8]
  refine ((congrArg _ (eq_ix2 y)).trans (out_g m c t (y 0) (y 1))).trans (congrArg₂ (GD m c) (Fin.ext ?_) (Fin.ext ?_))
  all_goals (blk_simp [idx t, col]; try rfl)

/-- The magnitude gradient of one column. -/
def DM (c : Dev nD) (n : Fin 8192) : EReal :=
  Ideal.div (∑ r : Fin 2048, DY m c (ix2 r n) * UD m c r n) (NO m c (ix1 n))

theorem final9 (c : Dev nD) : (dats m 0 c).arrAt 9 (cfgs 0).N = fun i => DM m c (i 1) := by
  refine (dats m 0 c).arrAt_eq_of_covers 9 _ (by decide +kernel) fun t hf y => ?_
  blk_simp; rw [after0_9]
  have hy : y = ix2 0 (y 1) := by
    refine (eq_ix2 y).trans (congrArg (fun a : Fin 1 => ix2 a (y 1)) (Subsingleton.elim _ _))
  refine ((congrArg _ hy).trans (out_dmag m c t (y 1))).trans (congrArg (DM m c) (Fin.ext ?_))
  all_goals (blk_simp [idx t, col]; try rfl)

/-- The gradient of the second low-rank factor. -/
def DB (c : Dev nD) (n : Fin 8192) (j : Fin 64) : EReal :=
  Ideal.ofBits .f32 0x3EC00000#32 * ∑ r : Fin 2048, GD m c r n * T (X m c) (A m c) r j

theorem final10 (c : Dev nD) : (dats m 0 c).arrAt 10 (cfgs 0).N = fun i => DB m c (i 0) (i 1) := by
  refine (dats m 0 c).arrAt_eq_of_covers 10 _ (by decide +kernel) fun t hf y => ?_
  blk_simp; rw [after0_10]
  refine ((congrArg _ (eq_ix2 y)).trans (out_db m c t (y 0) (y 1))).trans (congrArg₂ (DB m c) (Fin.ext ?_) (Fin.ext ?_))
  all_goals (blk_simp [idx t, col]; try rfl)

/-- The scaled low-rank product of the gradient. -/
def S (c : Dev nD) (r : Fin 2048) (j : Fin 64) : EReal :=
  Ideal.ofBits .f32 0x3EC00000#32 * ∑ n : Fin 8192, GD m c r n * B m c (ix2 n j)

theorem final11 (c : Dev nD) : (dats m 0 c).arrAt 11 (cfgs 0).N = fun i => S m c (i 0) (i 1) := by
  refine (dats m 0 c).arrAt_eq_of_covers 11 _ (by decide +kernel) fun t hf y => ?_
  blk_simp; rw [after0_11]
  have h31 : t.val % 32 = 31 := (flush0_11 t).mp hf
  refine ((congrArg _ (eq_ix2 y)).trans ((out_s m c t h31 (y 0) (y 1)).trans (congrArg (fun a : EReal => _ * a) (acc_last m c t h31 (y 0) (y 1))))).trans (congrArg₂ (S m c) (Fin.ext ?_) (Fin.ext ?_))
  all_goals (blk_simp [idx t, col]; try rfl)

/-! ## The reference -/

section
open Cert.DownRefIdeal.Read

theorem ref_u (x0 : FVec Ideal S2048x3584 .bf16) (x1 : FVec Ideal S8192x3584 .bf16) (x2 : FVec Ideal S64x3584 .bf16)
    (x3 : FVec Ideal S8192x64 .bf16) (i : S2048x8192.Idx) :
    val_main_v12 (F := Ideal) x0 x1 x2 x3 i = U x0 x1 x2 x3 (i 0) (i 1) := by
  idx_vars i
  pointwise [val_main_v12, val_main_v11, val_main_v10, val_main_v9, val_main_v8, val_main_v7, val_main_v6, val_main_v5, val_main_v4, val_main_v3, val_main_v2, val_main_v1, val_main_v0, val_main_cst, U, T, ← Cert.Scalars.halves']

theorem ref_y (x0 : FVec Ideal S2048x3584 .bf16) (x1 : FVec Ideal S8192x3584 .bf16) (x2 : FVec Ideal S64x3584 .bf16)
    (x3 : FVec Ideal S8192x64 .bf16) (x5 : FVec Ideal S8192 .f32) (i : S2048x8192.Idx) :
    val_main_v16 (F := Ideal) x0 x1 x2 x3 x5 i = x5 (ix1 (i 1)) * U x0 x1 x2 x3 (i 0) (i 1) := by
  have h := ref_u x0 x1 x2 x3 i
  idx_vars i
  pointwise [val_main_v16, val_main_v15, val_main_v14, val_main_v13, h]

theorem ref_g (x4 : FVec Ideal S2048x8192 .bf16) (x5 : FVec Ideal S8192 .f32) (i : S2048x8192.Idx) :
    val_main_v24 (F := Ideal) x4 x5 i = G x4 x5 (i 0) (i 1) := by
  idx_vars i
  pointwise [val_main_v24, val_main_v23, val_main_v22, val_main_v21, val_main_v17, G]

theorem ref_t (x0 : FVec Ideal S2048x3584 .bf16) (x2 : FVec Ideal S64x3584 .bf16) (i : S2048x64.Idx) :
    val_main_v1 (F := Ideal) x0 x2 i = T x0 x2 (i 0) (i 1) := by
  idx_vars i
  pointwise [val_main_v1, val_main_v0, T]

theorem ref_dmag (x0 : FVec Ideal S2048x3584 .bf16) (x1 : FVec Ideal S8192x3584 .bf16) (x2 : FVec Ideal S64x3584 .bf16)
    (x3 : FVec Ideal S8192x64 .bf16) (x4 : FVec Ideal S2048x8192 .bf16) (x6 : FVec Ideal S8192 .f32) (i : S1x8192.Idx) :
    val_main_v32 (F := Ideal) x0 x1 x2 x3 x4 x6 i
      = Ideal.div (∑ r : Fin 2048, x4 (ix2 r (i 1)) * U x0 x1 x2 x3 r (i 1)) (x6 (ix1 (i 1))) := by
  have h : ∀ r, val_main_v12 (F := Ideal) x0 x1 x2 x3 (ix2 r (i 1)) = U x0 x1 x2 x3 r (i 1) := fun r => ref_u x0 x1 x2 x3 _
  idx_vars i
  pointwise [val_main_v32, val_main_v20, val_main_v19, val_main_v18, val_main_v17, val_main_cst_0, h]

theorem ref_db (x0 : FVec Ideal S2048x3584 .bf16) (x2 : FVec Ideal S64x3584 .bf16)
    (x4 : FVec Ideal S2048x8192 .bf16) (x5 : FVec Ideal S8192 .f32) (i : S8192x64.Idx) :
    val_main_v27 (F := Ideal) x0 x2 x4 x5 i
      = Ideal.ofBits .f32 0x3EC00000#32 * ∑ r : Fin 2048, G x4 x5 r (i 0) * T x0 x2 r (i 1) := by
  have h : ∀ r, val_main_v24 (F := Ideal) x4 x5 (ix2 r (i 0)) = G x4 x5 r (i 0) := fun r => ref_g x4 x5 _
  have h' : ∀ r, val_main_v1 (F := Ideal) x0 x2 (ix2 r (i 1)) = T x0 x2 r (i 1) := fun r => ref_t x0 x2 _
  idx_vars i
  pointwise [val_main_v27, val_main_v26, val_main_v25, val_main_cst_1, h, h']

theorem ref_s (x3 : FVec Ideal S8192x64 .bf16) (x4 : FVec Ideal S2048x8192 .bf16) (x5 : FVec Ideal S8192 .f32) (i : S2048x64.Idx) :
    val_main_v31 (F := Ideal) x3 x4 x5 i
      = Ideal.ofBits .f32 0x3EC00000#32 * ∑ n : Fin 8192, G x4 x5 (i 0) n * x3 (ix2 n (i 1)) := by
  have h : ∀ n, val_main_v24 (F := Ideal) x4 x5 (ix2 (i 0) n) = G x4 x5 (i 0) n := fun n => ref_g x4 x5 _
  idx_vars i
  pointwise [val_main_v31, val_main_v30, val_main_v29, val_main_v28, val_main_cst_2, h]

end

end Cert.DownIdeal.RefValue
end
-- ==== Proof.DownClaim.lean ====
module
public import proofs.«01_k».proof.Defs
public import proofs.«01_k».proof.Proof.Gen.DownIdeal.Value
public import proofs.«01_k».proof.Proof.Gen.DownRefIdeal.Run
public import proofs.«01_k».proof.Proof.DownValue
public import Idealize.ShloMosaic.Lib.Claim

/-! The algebraic claim of the down call: kernel and reference run, and end with equal results. -/

@[expose] public section

set_option maxRecDepth 16384

noncomputable section

namespace Cert.DownProof

open Idealize.ShloMosaic Idealize.ShloMosaic.TcCoe Idealize.SL.Sem

set_option maxHeartbeats 1600000 in
theorem algebraic : Cert.algebraic_DownIdeal_DownRefIdeal (hDownIdeal := Cert.DownIdeal.Gen.facts)
    (hDownRefIdeal := Cert.DownRefIdeal.Gen.facts) := by
  pair_intro
  · run_from Cert.DownIdeal.Gen.run_main m g
  · run_from Cert.DownRefIdeal.Value.run m' g'
    · exact (funext fun i => Cert.DownIdeal.RefValue.ref_y _ _ _ _ _ i).trans (Cert.DownIdeal.RefValue.final7 m c).symm
    · exact (funext fun i => Cert.DownIdeal.RefValue.ref_g _ _ i).trans (Cert.DownIdeal.RefValue.final8 m c).symm
    · exact (funext fun i => Cert.DownIdeal.RefValue.ref_dmag _ _ _ _ _ _ i).trans (Cert.DownIdeal.RefValue.final9 m c).symm
    · exact (funext fun i => Cert.DownIdeal.RefValue.ref_db _ _ _ _ i).trans (Cert.DownIdeal.RefValue.final10 m c).symm
    · exact (funext fun i => Cert.DownIdeal.RefValue.ref_s _ _ _ i).trans (Cert.DownIdeal.RefValue.final11 m c).symm

end Cert.DownProof
end
-- ==== Proof.DxRun.lean ====
module

public import proofs.«01_k».proof.Proof.Gen.Dx.Frame
public import proofs.«01_k».proof.Proof.Gen.Dx.Skeleton
public import Idealize.ShloMosaic.Lib.VecWindow
public import Idealize.ShloMosaic.Lib.Pipeline.DatRel
public import Idealize.ShloMosaic.Lib.Pipeline.Frame
public import Idealize.ShloMosaic.Lib.Tactic

@[expose] public section

set_option maxRecDepth 16384

noncomputable section

namespace Cert.Dx.Body

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- The first row of the half of the tokens that a point works on. -/
def offs (i : grid0.Coords) : Fin 2 → ℕ := ![1024 * (i 1).val, 0]

theorem offs_inb (i : grid0.Coords) : ∀ a, offs i a + S1024x128.size a ≤ S2048x128.size a := by
  have h := k0_off2_inb i
  rwa [k0_off2_eq] at h

/-- The rows of a whole array that a point works on. -/
def rows {e : EltTy} (x : Vec F S2048x128 e) (i : grid0.Coords) : Vec F S1024x128 e :=
  VecWindow.window x (offs i) S1024x128.size (offs_inb i)

/-- A whole array with the rows of the point replaced. -/
def putRows {e : EltTy} (x : Vec F S2048x128 e) (i : grid0.Coords) (w : Vec F S1024x128 e) : Vec F S2048x128 e :=
  VecWindow.put x (offs i) S1024x128.size w

/-- The condition of the first conditional: the first block of columns. -/
abbrev c1 (i : grid0.Coords) : Prop := k0_cond1 i = 1#1
/-- The condition of the second conditional: the first half of the tokens. -/
abbrev c2 (i : grid0.Coords) : Prop := (Scalar.cmpi .ne (Scalar.extui (Scalar.cmpi .eq (BitVec.ofNat 32 (i 1).val) 0#32)) 0#32) = 1#1
/-- The condition of the third conditional: the last block of columns. -/
abbrev c3 (i : grid0.Coords) : Prop := k0_cond3 i = 1#1

open Classical in
/-- The scratch of row means after a point. -/
def meanV (i : grid0.Coords) (x9 : Vec F S2048x128 .f32) (ys : Vec F S2048x128 .f32) : Vec F S2048x128 .f32 :=
  if c1 i then putRows ys i (k0_pay7 (rows x9 i)) else ys

/-- The gradient with respect to the normalised input at a point. -/
def dhV (i : grid0.Coords) (x0 x1 : Vec F S1024x3584 .bf16) (x2 x3 : Vec F S3584x256 .bf16) (x4 : Vec F S2048x128 .bf16)
    (x5 : Vec F S128x256 .bf16) : FVec F S1024x256 .f32 := k0_pay10 x0 x2 x1 x3 (rows x4 i) x5

/-- The reciprocal of the norm of each token of the point, over the columns. -/
def rV (i : grid0.Coords) (x8 : Vec F S2048x128 .f32) : FVec F S1024x256 .f32 := k0_pay12 (rows x8 i) (rows x8 i)

open Classical in
/-- The running row sums before the point adds to them. -/
def baseV (i : grid0.Coords) (y : Vec F S2048x128 .f32) : Vec F S2048x128 .f32 :=
  if c1 i then putRows y i (k0_pay8 (F := F)) else y

/-- The running row sums after the point has added to them. -/
def newV (i : grid0.Coords) (dh : FVec F S1024x256 .f32) (r : FVec F S1024x256 .f32) (x6 : Vec F S1024x256 .bf16)
    (x7 : Vec F S1x256 .f32) (y : Vec F S2048x128 .f32) : Vec F S2048x128 .f32 :=
  putRows (baseV i y) i (k0_pay3 dh (k0_pay11 x7) r x6 (rows (baseV i y) i))

open Classical in
/-- The row sums as the point leaves them. -/
def rdV (i : grid0.Coords) (dh : FVec F S1024x256 .f32) (r : FVec F S1024x256 .f32) (x6 : Vec F S1024x256 .bf16)
    (x7 : Vec F S1x256 .f32) (y : Vec F S2048x128 .f32) : Vec F S2048x128 .f32 :=
  if c3 i then putRows (newV i dh r x6 x7 y) i (k0_pay6 (rows (newV i dh r x6 x7 y) i)) else newV i dh r x6 x7 y

/-- The block of the input gradient that a point writes. -/
def dxV (i : grid0.Coords) (dh : FVec F S1024x256 .f32) (r : FVec F S1024x256 .f32) (x6 : Vec F S1024x256 .bf16)
    (x7 : Vec F S1x256 .f32) (mean : Vec F S2048x128 .f32) : Vec F S1024x256 .bf16 :=
  k0_pay4 dh (k0_pay11 x7) r (rows mean i) (rows mean i) x6

open Classical in
/-- The block of the gradient of the low-rank factors after a point. -/
def dagV (i : grid0.Coords) (r : FVec F S1024x256 .f32) (x4 : Vec F S2048x128 .bf16) (x6 : Vec F S1024x256 .bf16)
    (x7 : Vec F S1x256 .f32) (y : Vec F S128x256 .f32) : Vec F S128x256 .f32 :=
  k0_pay5 (k0_pay11 x7) r x6 (if c2 i then k0_pay9 (F := F) else y) (rows x4 i)

theorem offs_eq1 (i : grid0.Coords) : k0_off1 i = offs i := k0_off1_eq i
theorem offs_eq2 (i : grid0.Coords) : k0_off2 i = offs i := k0_off2_eq i
theorem offs_eq3 (i : grid0.Coords) : k0_off3 i = offs i := k0_off3_eq i

/-- A load of the rows of the point reads those rows. -/
theorem readAt_rows1 {e : EltTy} (m : Memref sig .tc .vmem S2048x128 e) (f : m.view.ty.Contents (Elt F)) (i : grid0.Coords)
    (inb : ∀ a, k0_off1 i a + S1024x128.size a ≤ S2048x128.size a) :
    m.view.readAt (Elt F) (Rect.unit (s := S2048x128) (k0_off1 i) ![1024, 128] inb).toLoadRect f = rows (m.view.read (Elt F) f) i :=
  View.readAt_unit m.view f inb (offs_eq1 i) (offs_inb i)

/-- A store at the rows of the point replaces those rows. -/
theorem read_writes_rows1 {e : EltTy} (m : Memref sig .tc .vmem S2048x128 e) (f : m.view.ty.Contents (Elt F)) (i : grid0.Coords)
    (inb : ∀ a, k0_off1 i a + S1024x128.size a ≤ S2048x128.size a) (w : Vec F S1024x128 e) (L : List (View.Piece (Elt F) S2048x128 e)) :
    m.view.read (Elt F) (m.view.writes (Elt F) f (⟨Rect.unit (s := S2048x128) (k0_off1 i) ![1024, 128] inb, w⟩ :: L))
      = putRows (m.view.read (Elt F) (m.view.writes (Elt F) f L)) i w :=
  View.read_writes_cons_put m.view f inb w L (offs_eq1 i)

/-- A load of the rows of the point reads those rows. -/
theorem readAt_rows2 {e : EltTy} (m : Memref sig .tc .vmem S2048x128 e) (f : m.view.ty.Contents (Elt F)) (i : grid0.Coords)
    (inb : ∀ a, k0_off2 i a + S1024x128.size a ≤ S2048x128.size a) :
    m.view.readAt (Elt F) (Rect.unit (s := S2048x128) (k0_off2 i) ![1024, 128] inb).toLoadRect f = rows (m.view.read (Elt F) f) i :=
  View.readAt_unit m.view f inb (offs_eq2 i) (offs_inb i)

/-- A store at the rows of the point replaces those rows. -/
theorem read_writes_rows2 {e : EltTy} (m : Memref sig .tc .vmem S2048x128 e) (f : m.view.ty.Contents (Elt F)) (i : grid0.Coords)
    (inb : ∀ a, k0_off2 i a + S1024x128.size a ≤ S2048x128.size a) (w : Vec F S1024x128 e) (L : List (View.Piece (Elt F) S2048x128 e)) :
    m.view.read (Elt F) (m.view.writes (Elt F) f (⟨Rect.unit (s := S2048x128) (k0_off2 i) ![1024, 128] inb, w⟩ :: L))
      = putRows (m.view.read (Elt F) (m.view.writes (Elt F) f L)) i w :=
  View.read_writes_cons_put m.view f inb w L (offs_eq2 i)

/-- A load of the rows of the point reads those rows. -/
theorem readAt_rows3 {e : EltTy} (m : Memref sig .tc .vmem S2048x128 e) (f : m.view.ty.Contents (Elt F)) (i : grid0.Coords)
    (inb : ∀ a, k0_off3 i a + S1024x128.size a ≤ S2048x128.size a) :
    m.view.readAt (Elt F) (Rect.unit (s := S2048x128) (k0_off3 i) ![1024, 128] inb).toLoadRect f = rows (m.view.read (Elt F) f) i :=
  View.readAt_unit m.view f inb (offs_eq3 i) (offs_inb i)

/-- A store at the rows of the point replaces those rows. -/
theorem read_writes_rows3 {e : EltTy} (m : Memref sig .tc .vmem S2048x128 e) (f : m.view.ty.Contents (Elt F)) (i : grid0.Coords)
    (inb : ∀ a, k0_off3 i a + S1024x128.size a ≤ S2048x128.size a) (w : Vec F S1024x128 e) (L : List (View.Piece (Elt F) S2048x128 e)) :
    m.view.read (Elt F) (m.view.writes (Elt F) f (⟨Rect.unit (s := S2048x128) (k0_off3 i) ![1024, 128] inb, w⟩ :: L))
      = putRows (m.view.read (Elt F) (m.view.writes (Elt F) f L)) i w :=
  View.read_writes_cons_put m.view f inb w L (offs_eq3 i)

/-- Rows just put are read back. -/
theorem rows_putRows {e : EltTy} (x : Vec F S2048x128 e) (i : grid0.Coords) (w : Vec F S1024x128 e) : rows (putRows x i w) i = w :=
  VecWindow.window_put_same x _ _ _ w

theorem putRows_putRows {e : EltTy} (x : Vec F S2048x128 e) (i : grid0.Coords) (w w' : Vec F S1024x128 e) :
    putRows (putRows x i w) i w' = putRows x i w' :=
  VecWindow.put_put_same x _ _ w w'

theorem readCov_rows11 {e : EltTy} (m : Memref sig .tc .vmem S2048x128 e) (i : grid0.Coords)
    (inb : ∀ a, k0_off1 i a + S1024x128.size a ≤ S2048x128.size a) (inb' : ∀ a, k0_off1 i a + S1024x128.size a ≤ S2048x128.size a)
    (w : Vec F S1024x128 e) (L : List (View.Piece (Elt F) S2048x128 e)) :
    m.view.readCov (⟨Rect.unit (s := S2048x128) (k0_off1 i) ![1024, 128] inb', w⟩ :: L)
      (Rect.unit (s := S2048x128) (k0_off1 i) ![1024, 128] inb).toLoadRect = w :=
  (readAt_rows1 m _ i inb).trans ((congrArg (rows · i) (read_writes_rows1 m _ i inb' w L)).trans (rows_putRows _ i w))

theorem readCov_rows12 {e : EltTy} (m : Memref sig .tc .vmem S2048x128 e) (i : grid0.Coords)
    (inb : ∀ a, k0_off1 i a + S1024x128.size a ≤ S2048x128.size a) (inb' : ∀ a, k0_off2 i a + S1024x128.size a ≤ S2048x128.size a)
    (w : Vec F S1024x128 e) (L : List (View.Piece (Elt F) S2048x128 e)) :
    m.view.readCov (⟨Rect.unit (s := S2048x128) (k0_off2 i) ![1024, 128] inb', w⟩ :: L)
      (Rect.unit (s := S2048x128) (k0_off1 i) ![1024, 128] inb).toLoadRect = w :=
  (readAt_rows1 m _ i inb).trans ((congrArg (rows · i) (read_writes_rows2 m _ i inb' w L)).trans (rows_putRows _ i w))

theorem readCov_rows13 {e : EltTy} (m : Memref sig .tc .vmem S2048x128 e) (i : grid0.Coords)
    (inb : ∀ a, k0_off1 i a + S1024x128.size a ≤ S2048x128.size a) (inb' : ∀ a, k0_off3 i a + S1024x128.size a ≤ S2048x128.size a)
    (w : Vec F S1024x128 e) (L : List (View.Piece (Elt F) S2048x128 e)) :
    m.view.readCov (⟨Rect.unit (s := S2048x128) (k0_off3 i) ![1024, 128] inb', w⟩ :: L)
      (Rect.unit (s := S2048x128) (k0_off1 i) ![1024, 128] inb).toLoadRect = w :=
  (readAt_rows1 m _ i inb).trans ((congrArg (rows · i) (read_writes_rows3 m _ i inb' w L)).trans (rows_putRows _ i w))

theorem readCov_rows21 {e : EltTy} (m : Memref sig .tc .vmem S2048x128 e) (i : grid0.Coords)
    (inb : ∀ a, k0_off2 i a + S1024x128.size a ≤ S2048x128.size a) (inb' : ∀ a, k0_off1 i a + S1024x128.size a ≤ S2048x128.size a)
    (w : Vec F S1024x128 e) (L : List (View.Piece (Elt F) S2048x128 e)) :
    m.view.readCov (⟨Rect.unit (s := S2048x128) (k0_off1 i) ![1024, 128] inb', w⟩ :: L)
      (Rect.unit (s := S2048x128) (k0_off2 i) ![1024, 128] inb).toLoadRect = w :=
  (readAt_rows2 m _ i inb).trans ((congrArg (rows · i) (read_writes_rows1 m _ i inb' w L)).trans (rows_putRows _ i w))

theorem readCov_rows22 {e : EltTy} (m : Memref sig .tc .vmem S2048x128 e) (i : grid0.Coords)
    (inb : ∀ a, k0_off2 i a + S1024x128.size a ≤ S2048x128.size a) (inb' : ∀ a, k0_off2 i a + S1024x128.size a ≤ S2048x128.size a)
    (w : Vec F S1024x128 e) (L : List (View.Piece (Elt F) S2048x128 e)) :
    m.view.readCov (⟨Rect.unit (s := S2048x128) (k0_off2 i) ![1024, 128] inb', w⟩ :: L)
      (Rect.unit (s := S2048x128) (k0_off2 i) ![1024, 128] inb).toLoadRect = w :=
  (readAt_rows2 m _ i inb).trans ((congrArg (rows · i) (read_writes_rows2 m _ i inb' w L)).trans (rows_putRows _ i w))

theorem readCov_rows23 {e : EltTy} (m : Memref sig .tc .vmem S2048x128 e) (i : grid0.Coords)
    (inb : ∀ a, k0_off2 i a + S1024x128.size a ≤ S2048x128.size a) (inb' : ∀ a, k0_off3 i a + S1024x128.size a ≤ S2048x128.size a)
    (w : Vec F S1024x128 e) (L : List (View.Piece (Elt F) S2048x128 e)) :
    m.view.readCov (⟨Rect.unit (s := S2048x128) (k0_off3 i) ![1024, 128] inb', w⟩ :: L)
      (Rect.unit (s := S2048x128) (k0_off2 i) ![1024, 128] inb).toLoadRect = w :=
  (readAt_rows2 m _ i inb).trans ((congrArg (rows · i) (read_writes_rows3 m _ i inb' w L)).trans (rows_putRows _ i w))

theorem readCov_rows31 {e : EltTy} (m : Memref sig .tc .vmem S2048x128 e) (i : grid0.Coords)
    (inb : ∀ a, k0_off3 i a + S1024x128.size a ≤ S2048x128.size a) (inb' : ∀ a, k0_off1 i a + S1024x128.size a ≤ S2048x128.size a)
    (w : Vec F S1024x128 e) (L : List (View.Piece (Elt F) S2048x128 e)) :
    m.view.readCov (⟨Rect.unit (s := S2048x128) (k0_off1 i) ![1024, 128] inb', w⟩ :: L)
      (Rect.unit (s := S2048x128) (k0_off3 i) ![1024, 128] inb).toLoadRect = w :=
  (readAt_rows3 m _ i inb).trans ((congrArg (rows · i) (read_writes_rows1 m _ i inb' w L)).trans (rows_putRows _ i w))

theorem readCov_rows32 {e : EltTy} (m : Memref sig .tc .vmem S2048x128 e) (i : grid0.Coords)
    (inb : ∀ a, k0_off3 i a + S1024x128.size a ≤ S2048x128.size a) (inb' : ∀ a, k0_off2 i a + S1024x128.size a ≤ S2048x128.size a)
    (w : Vec F S1024x128 e) (L : List (View.Piece (Elt F) S2048x128 e)) :
    m.view.readCov (⟨Rect.unit (s := S2048x128) (k0_off2 i) ![1024, 128] inb', w⟩ :: L)
      (Rect.unit (s := S2048x128) (k0_off3 i) ![1024, 128] inb).toLoadRect = w :=
  (readAt_rows3 m _ i inb).trans ((congrArg (rows · i) (read_writes_rows2 m _ i inb' w L)).trans (rows_putRows _ i w))

theorem readCov_rows33 {e : EltTy} (m : Memref sig .tc .vmem S2048x128 e) (i : grid0.Coords)
    (inb : ∀ a, k0_off3 i a + S1024x128.size a ≤ S2048x128.size a) (inb' : ∀ a, k0_off3 i a + S1024x128.size a ≤ S2048x128.size a)
    (w : Vec F S1024x128 e) (L : List (View.Piece (Elt F) S2048x128 e)) :
    m.view.readCov (⟨Rect.unit (s := S2048x128) (k0_off3 i) ![1024, 128] inb', w⟩ :: L)
      (Rect.unit (s := S2048x128) (k0_off3 i) ![1024, 128] inb).toLoadRect = w :=
  (readAt_rows3 m _ i inb).trans ((congrArg (rows · i) (read_writes_rows3 m _ i inb' w L)).trans (rows_putRows _ i w))

theorem readAt_S1024x3584 {e : EltTy} (m : Memref sig .tc .vmem S1024x3584 e) (f : m.view.ty.Contents (Elt F)) (inb : ∀ a, (![0, 0] : Fin 2 → ℕ) a + S1024x3584.size a ≤ S1024x3584.size a) :
    m.view.readAt (Elt F) (Rect.unit (s := S1024x3584) ![0, 0] ![1024, 3584] inb).toLoadRect f = m.view.read (Elt F) f :=
  View.readAt_full m.view f inb

theorem readAt_S3584x256 {e : EltTy} (m : Memref sig .tc .vmem S3584x256 e) (f : m.view.ty.Contents (Elt F)) (inb : ∀ a, (![0, 0] : Fin 2 → ℕ) a + S3584x256.size a ≤ S3584x256.size a) :
    m.view.readAt (Elt F) (Rect.unit (s := S3584x256) ![0, 0] ![3584, 256] inb).toLoadRect f = m.view.read (Elt F) f :=
  View.readAt_full m.view f inb

theorem readAt_S128x256 {e : EltTy} (m : Memref sig .tc .vmem S128x256 e) (f : m.view.ty.Contents (Elt F)) (inb : ∀ a, (![0, 0] : Fin 2 → ℕ) a + S128x256.size a ≤ S128x256.size a) :
    m.view.readAt (Elt F) (Rect.unit (s := S128x256) ![0, 0] ![128, 256] inb).toLoadRect f = m.view.read (Elt F) f :=
  View.readAt_full m.view f inb

theorem readAt_S1024x256 {e : EltTy} (m : Memref sig .tc .vmem S1024x256 e) (f : m.view.ty.Contents (Elt F)) (inb : ∀ a, (![0, 0] : Fin 2 → ℕ) a + S1024x256.size a ≤ S1024x256.size a) :
    m.view.readAt (Elt F) (Rect.unit (s := S1024x256) ![0, 0] ![1024, 256] inb).toLoadRect f = m.view.read (Elt F) f :=
  View.readAt_full m.view f inb

theorem readAt_S1x256 {e : EltTy} (m : Memref sig .tc .vmem S1x256 e) (f : m.view.ty.Contents (Elt F)) (inb : ∀ a, (![0, 0] : Fin 2 → ℕ) a + S1x256.size a ≤ S1x256.size a) :
    m.view.readAt (Elt F) (Rect.unit (s := S1x256) ![0, 0] ![1, 256] inb).toLoadRect f = m.view.read (Elt F) f :=
  View.readAt_full m.view f inb

theorem read_writes_S128x256 {e : EltTy} (m : Memref sig .tc .vmem S128x256 e) (f : m.view.ty.Contents (Elt F)) (inb : ∀ a, (![0, 0] : Fin 2 → ℕ) a + S128x256.size a ≤ S128x256.size a)
    (w : Vec F S128x256 e) (L : List (View.Piece (Elt F) S128x256 e)) :
    m.view.read (Elt F) (m.view.writes (Elt F) f (⟨Rect.unit (s := S128x256) ![0, 0] ![128, 256] inb, w⟩ :: L)) = w :=
  View.read_writes_full m.view f inb w L

theorem readCov_S128x256 {e : EltTy} (m : Memref sig .tc .vmem S128x256 e) (inb inb' : ∀ a, (![0, 0] : Fin 2 → ℕ) a + S128x256.size a ≤ S128x256.size a)
    (w : Vec F S128x256 e) (L : List (View.Piece (Elt F) S128x256 e)) :
    m.view.readCov (⟨Rect.unit (s := S128x256) ![0, 0] ![128, 256] inb', w⟩ :: L) (Rect.unit (s := S128x256) ![0, 0] ![128, 256] inb).toLoadRect = w :=
  View.readCov_full m.view inb inb' w L

theorem read_writes_S1024x256 {e : EltTy} (m : Memref sig .tc .vmem S1024x256 e) (f : m.view.ty.Contents (Elt F)) (inb : ∀ a, (![0, 0] : Fin 2 → ℕ) a + S1024x256.size a ≤ S1024x256.size a)
    (w : Vec F S1024x256 e) (L : List (View.Piece (Elt F) S1024x256 e)) :
    m.view.read (Elt F) (m.view.writes (Elt F) f (⟨Rect.unit (s := S1024x256) ![0, 0] ![1024, 256] inb, w⟩ :: L)) = w :=
  View.read_writes_full m.view f inb w L

theorem readCov_S1024x256 {e : EltTy} (m : Memref sig .tc .vmem S1024x256 e) (inb inb' : ∀ a, (![0, 0] : Fin 2 → ℕ) a + S1024x256.size a ≤ S1024x256.size a)
    (w : Vec F S1024x256 e) (L : List (View.Piece (Elt F) S1024x256 e)) :
    m.view.readCov (⟨Rect.unit (s := S1024x256) ![0, 0] ![1024, 256] inb', w⟩ :: L) (Rect.unit (s := S1024x256) ![0, 0] ![1024, 256] inb).toLoadRect = w :=
  View.readCov_full m.view inb inb' w L

set_option maxHeartbeats 1200000 in
/-- What the body does at a point of the first block of columns, first half of the tokens. -/
theorem run_A (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : c1 i) (hc2 : c2 i) (hc3 : ¬c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [run_A.sl.HS0_1, run_A.sl.v32, dxV, meanV, dhV, rV]; simp only [if_pos hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [run_A.sl.H11_1, run_A.sl.v59, dagV, rV]; simp only [if_pos hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [run_A.sl.H12_1, run_A.sl.v46, rdV, newV, baseV, dhV, rV]; simp only [if_pos hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [run_A.sl.HS0_1, meanV]; simp only [if_pos hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

set_option maxHeartbeats 1200000 in
/-- What the body does at a point of the first block of columns, second half of the tokens. -/
theorem run_B (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : c1 i) (hc2 : ¬c2 i) (hc3 : ¬c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [run_B.sl.HS0_1, run_B.sl.v32, dxV, meanV, dhV, rV]; simp only [if_pos hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [dagV, rV]; simp only [if_pos hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [run_B.sl.H12_1, run_B.sl.v46, rdV, newV, baseV, dhV, rV]; simp only [if_pos hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [run_B.sl.HS0_1, meanV]; simp only [if_pos hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

set_option maxHeartbeats 1200000 in
/-- What the body does at a point of the a middle block of columns, first half of the tokens. -/
theorem run_C (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : ¬c1 i) (hc2 : c2 i) (hc3 : ¬c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [dxV, meanV, dhV, rV]; simp only [if_neg hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [run_C.sl.H11_1, run_C.sl.v59, dagV, rV]; simp only [if_neg hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [rdV, newV, baseV, dhV, rV]; simp only [if_neg hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [meanV]; simp only [if_neg hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

set_option maxHeartbeats 1200000 in
/-- What the body does at a point of the a middle block of columns, second half of the tokens. -/
theorem run_D (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : ¬c1 i) (hc2 : ¬c2 i) (hc3 : ¬c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [dxV, meanV, dhV, rV]; simp only [if_neg hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [dagV, rV]; simp only [if_neg hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [rdV, newV, baseV, dhV, rV]; simp only [if_neg hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [meanV]; simp only [if_neg hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

set_option maxHeartbeats 1200000 in
/-- What the body does at a point of the last block of columns, first half of the tokens. -/
theorem run_E (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : ¬c1 i) (hc2 : c2 i) (hc3 : c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [dxV, meanV, dhV, rV]; simp only [if_neg hc1, if_pos hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [run_E.sl.H11_1, run_E.sl.v59, dagV, rV]; simp only [if_neg hc1, if_pos hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [run_E.sl.H12_1, run_E.sl.v71, rdV, newV, baseV, dhV, rV]; simp only [if_neg hc1, if_pos hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [meanV]; simp only [if_neg hc1, if_pos hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

set_option maxHeartbeats 1200000 in
/-- What the body does at a point of the last block of columns, second half of the tokens. -/
theorem run_H (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : ¬c1 i) (hc2 : ¬c2 i) (hc3 : c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [dxV, meanV, dhV, rV]; simp only [if_neg hc1, if_neg hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [dagV, rV]; simp only [if_neg hc1, if_neg hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [run_H.sl.H12_1, run_H.sl.v71, rdV, newV, baseV, dhV, rV]; simp only [if_neg hc1, if_neg hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [meanV]; simp only [if_neg hc1, if_neg hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

/-- What the body does at any point. -/
theorem kernelRun (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (h13 : ¬ (c1 i ∧ c3 i))
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  by_cases h1 : c1 i
  · have h3 : ¬ c3 i := fun h => h13 ⟨h1, h⟩
    by_cases h2 : c2 i
    · exact run_A c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K
    · exact run_B c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K
  · by_cases h2 : c2 i
    · by_cases h3 : c3 i
      · exact run_E c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K
      · exact run_C c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K
    · by_cases h3 : c3 i
      · exact run_H c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K
      · exact run_D c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K

end Cert.Dx.Body

end
-- ==== Proof.DxFrame.lean ====
module

public import proofs.«01_k».proof.Proof.Gen.Dx.Frame
public import proofs.«01_k».proof.Proof.Gen.Dx.Skeleton
public import proofs.«01_k».proof.Proof.DxRun
public import Idealize.ShloMosaic.Lib.VecWindow
public import Idealize.ShloMosaic.Lib.Pipeline.DatRel
public import Idealize.ShloMosaic.Lib.Pipeline.Frame
public import Idealize.ShloMosaic.Lib.Tactic

@[expose] public section

set_option maxRecDepth 16384

noncomputable section

namespace Cert.Dx.Body

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem hc1 : ∀ t : Fin cfg0.N, c1 (grid0.coords t) ↔ t.val < 2 :=
  (fun t => by
    have ht : t.val < 64 := Nat.lt_of_lt_of_eq t.isLt N_0
    have e0 : (grid0.coords t 0).val = t.val / 2 % 32 := Pipeline.Grid.coords_val t 0 (by decide) rfl
    simp only [c1, k0_cond1, e0]; word_cmp)
theorem hc2 : ∀ t : Fin cfg0.N, c2 (grid0.coords t) ↔ t.val % 2 = 0 :=
  (fun t => by
    have ht : t.val < 64 := Nat.lt_of_lt_of_eq t.isLt N_0
    have e1 : (grid0.coords t 1).val = t.val / 1 % 2 := Pipeline.Grid.coords_val t 1 (by decide) rfl
    rw [Nat.div_one] at e1
    simp only [c2, e1]; word_cmp)
theorem hc3 : ∀ t : Fin cfg0.N, c3 (grid0.coords t) ↔ 62 ≤ t.val :=
  (fun t => by
    have ht : t.val < 64 := Nat.lt_of_lt_of_eq t.isLt N_0
    have e0 : (grid0.coords t 0).val = t.val / 2 % 32 := Pipeline.Grid.coords_val t 0 (by decide) rfl
    simp only [c3, k0_cond3, e0]; word_cmp)

abbrev ms0_0 (t : Fin cfg0.N) : Memref sig .tc .vmem S1024x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x128 .f32 := win0_12.stage (cfg0.slots t 12)
abbrev hs0_12 (t : Fin cfg0.N) : (ms0_12 t).IsWhole := hstage0_12 ((cfg0.slots t 12).cast nbuf0_12)
abbrev scM0_0 : Memref sig .tc .vmem S2048x128 .f32 := Memref.whole cc0_scratch0

/-- The invariant of the scratch at anything: the scratch of row means, and the register of the random generator. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-! ## What the buffers hold after each point -/

/-- A state carried from point to point, from `d` before the first. -/
def iter {α : Type} (step : Fin cfg0.N → α → α) (d : α) : (n : ℕ) → n < cfg0.N → α
  | 0, h => step ⟨0, h⟩ d
  | n + 1, h => step ⟨n + 1, h⟩ (iter step d n (Nat.lt_of_succ_lt h))

theorem iter_zero {α : Type} (step : Fin cfg0.N → α → α) (d : α) (t : Fin cfg0.N) (h : t.val = 0) :
    iter step d t.val t.isLt = step t d := by
  obtain ⟨n, hn⟩ := t; cases h; rfl

theorem iter_pos {α : Type} (step : Fin cfg0.N → α → α) (d : α) (t : Fin cfg0.N) (h : t.val ≠ 0) :
    iter step d t.val t.isLt = step t (iter step d (t.val - 1) (by omega)) := by
  obtain ⟨n, hn⟩ := t
  cases n with
  | zero => exact absurd rfl h
  | succ n => rfl

/-- The gradient with respect to the normalised input at a point, of the launch arrays. -/
def dhAt (c : Dev nD) (t : Fin cfg0.N) : FVec F S1024x256 .f32 :=
  dhV (grid0.coords t) (iblk m c 0 t) (iblk m c 1 t) (iblk m c 2 t) (iblk m c 3 t) (iblk m c 4 t) (iblk m c 5 t)
/-- The reciprocal of the norms at a point. -/
def rAt (c : Dev nD) (t : Fin cfg0.N) : FVec F S1024x256 .f32 := rV (grid0.coords t) (iblk m c 8 t)
/-- One point's change of the scratch of row means. -/
def meanStep (c : Dev nD) (t : Fin cfg0.N) (d : Vec F S2048x128 .f32) : Vec F S2048x128 .f32 := meanV (grid0.coords t) (iblk m c 9 t) d
/-- One point's change of the row sums. -/
def rdStep (c : Dev nD) (t : Fin cfg0.N) (d : Vec F S2048x128 .f32) : Vec F S2048x128 .f32 :=
  rdV (grid0.coords t) (dhAt m c t) (rAt m c t) (iblk m c 6 t) (iblk m c 7 t) d
/-- One point's change of the block of the gradient of the low-rank factors. -/
def dagStep (c : Dev nD) (t : Fin cfg0.N) (d : Vec F S128x256 .f32) : Vec F S128x256 .f32 :=
  dagV (grid0.coords t) (rAt m c t) (iblk m c 4 t) (iblk m c 6 t) (iblk m c 7 t) d
/-- The scratch after a point, had it held `d` before the first. -/
abbrev meanAt (c : Dev nD) (d : Vec F S2048x128 .f32) (n : ℕ) (h : n < cfg0.N) : Vec F S2048x128 .f32 := iter (meanStep m c) d n h
/-- The row sums after a point, had the buffer held `d` before the first. -/
abbrev rdAt (c : Dev nD) (d : Vec F S2048x128 .f32) (n : ℕ) (h : n < cfg0.N) : Vec F S2048x128 .f32 := iter (rdStep m c) d n h
/-- The block of the gradient of the low-rank factors after a point. -/
abbrev dagAt (c : Dev nD) (n : ℕ) (h : n < cfg0.N) : Vec F S128x256 .f32 := iter (dagStep m c) (k0_pay9 (F := F)) n h
/-- The block of the input gradient written at a point, had the scratch held `d` before the first. -/
def dxAt (c : Dev nD) (d : Vec F S2048x128 .f32) (t : Fin cfg0.N) : Vec F S1024x256 .bf16 :=
  dxV (grid0.coords t) (dhAt m c t) (rAt m c t) (iblk m c 6 t) (iblk m c 7 t) (meanAt m c d t.val t.isLt)

/-- At a point of the first half of the tokens the block starts from zero. -/
theorem dagStep_reset (c : Dev nD) (t : Fin cfg0.N) (h : t.val % 2 = 0) (d d' : Vec F S128x256 .f32) : dagStep m c t d = dagStep m c t d' := by
  unfold dagStep dagV; rw [if_pos ((hc2 t).mpr h), if_pos ((hc2 t).mpr h)]

/-! ## The proof data -/

/-- The three outputs are stated by what they may hold after each point. -/
def fgt : Fin 13 → Bool := fun w => decide (10 ≤ w.val)

/-- What an output's buffer may hold after a point. -/
def Rl (c : Dev nD) (w : Fin cfg0.W) (t : Fin cfg0.N) : ((cfg0.win w).block.Idx → Elt F (cfg0.win w).elt) → Prop :=
  match w with
  | ⟨10, _⟩ => fun X => ∃ d, X = dxAt m c d t
  | ⟨11, _⟩ => fun X => X = dagAt m c t.val t.isLt
  | ⟨12, _⟩ => fun X => ∃ d, X = rdAt m c d t.val t.isLt
  | _ => fun _ => True

/-- The scratch between points: at anything before the first, then what the points have left from anything. -/
def PhiS (c : Dev nD) : (n : ℕ) → n ≤ cfg0.N → sProp 𝕄
  | 0, _ => Pipeline.ΦA spec0 c
  | n + 1, hn => iprop((∃ d, owns (c : Thread nD τ) scM0_0 fullShare (meanAt m c d n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop((∃ d, owns (c : Thread nD τ) scM0_0 fullShare (meanAt m c d n hn)) ∗ (∃ r, prngReg c r)) := rfl
theorem PhiS_pos (c : Dev nD) (n : ℕ) (h : n ≤ cfg0.N) (hz : n ≠ 0) :
    PhiS m c n h = iprop((∃ d, owns (c : Thread nD τ) scM0_0 fullShare (meanAt m c d (n - 1) (by omega))) ∗ (∃ r, prngReg c r)) := by
  cases n with
  | zero => exact absurd rfl hz
  | succ n => rfl

/-- The proof data: the inputs' buffers hold their blocks; the outputs are stated by `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The proof data with the outputs stated by `Rl`. -/
abbrev rdat (c : Dev nD) : RDat τ (Elt F) Unit ℕ (UR sig nD τ) ℕ cfg0 c := (dats m 0 c).toRRel fgt (Rl m c)

/-- What a point finds in the buffer of the row sums: anything at the first, else what the point before left. -/
theorem finds12 (c : Dev nD) (t : Fin cfg0.N) (Y) (h : (rdat m c).Finds 12 t Y) : ∃ d, rdStep m c t Y = rdAt m c d t.val t.isLt := by
  by_cases hz : t.val = 0
  · exact ⟨Y, (iter_zero _ _ t hz).symm⟩
  · rcases (RDat.finds_of_pos (rdat m c) (w := 12) rfl hz Y).mp h with h | h
    · have := (flush0_12 _).mp h
      have hN : t.val < 64 := Nat.lt_of_lt_of_eq t.isLt N_0
      simp only at this; omega
    · obtain ⟨d, rfl⟩ := (dats m 0 c).toRRel_leaves (fgt := fgt) (Rl := Rl m c) (w := 12) rfl h
      exact ⟨d, (iter_pos _ _ t hz).symm⟩

/-- What a point leaves in the buffer of the gradient of the low-rank factors. -/
theorem finds11 (c : Dev nD) (t : Fin cfg0.N) (Y) (h : (rdat m c).Finds 11 t Y) : dagStep m c t Y = dagAt m c t.val t.isLt := by
  by_cases hz : t.val = 0
  · exact (dagStep_reset m c t (by omega) _ _).trans (iter_zero _ _ t hz).symm
  · rw [dagAt, iter_pos _ _ t hz]
    rcases (RDat.finds_of_pos (rdat m c) (w := 11) rfl hz Y).mp h with h | h
    · have := (flush0_11 _).mp h
      exact dagStep_reset m c t (by simp only at this; omega) _ _
    · exact congrArg _ ((dats m 0 c).toRRel_leaves (fgt := fgt) (Rl := Rl m c) (w := 11) rfl h)

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X))

set_option maxHeartbeats 1600000 in
/-- The body from the scratch at `ys`. -/
theorem sound_from (c : Dev nD) (t : Fin cfg0.N) (ys : Vec F S2048x128 .f32) (hys : ∃ d, meanStep m c t ys = meanAt m c d t.val t.isLt) :
    iprop((owns (c : Thread nD τ) scM0_0 fullShare ys ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y))
      ⊢ wp frame (wpE (defs₀ (F := F)) Variants.none c none) Set.univ (bodyAt0 t) (fun _ => bodyPost m c t) := by
  unfold bodyPost bodyAt0
  simp only [before0_0, before0_1, before0_2, before0_3, before0_4, before0_5, before0_6, before0_7, before0_8, before0_9,
    after0_0, after0_1, after0_2, after0_3, after0_4, after0_5, after0_6, after0_7, after0_8, after0_9]
  rw [show (dats m 0 c).owesAt () t.succ = (dats m 0 c).owesAt () t.castSucc from rfl]
  rw [show (dats m 0 c).Φ t.succ = PhiS m c (t.val + 1) t.isLt from rfl, PhiS_succ]
  obtain ⟨dm, hdm⟩ := hys
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%y10, -, H10⟩, ⟨%y11, %hy11, H11⟩, ⟨%y12, %hy12, H12⟩⟩
  obtain ⟨dr, hdr⟩ := finds12 m c t y12 hy12
  have hdg := finds11 m c t y11 hy11
  iapply (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    (fun h => by have a := (hc1 t).mp h.1; have b := (hc3 t).mp h.2; omega)
    (iblk m c 0 t) (iblk m c 1 t) (iblk m c 2 t) (iblk m c 3 t) (iblk m c 4 t) (iblk m c 5 t) (iblk m c 6 t) (iblk m c 7 t) (iblk m c 8 t) (iblk m c 9 t) y11 y12 ys Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hg]
  · isplitl [HS0]
    · iexists dm; rw [← hdm]; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro; exact ⟨dm, by unfold dxAt; rw [← hdm]; rfl⟩
  isplitl [H11]
  · iexists _; isplitr; swap; · iexact H11
    ipureintro; exact hdg
  iexists _; isplitr; swap; · iexact H12
  ipureintro; exact ⟨dr, hdr⟩

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hz : t.val = 0
  · rw [PhiS_castSucc m c t, PhiS_zero m c _ _ hz, PhiA0_eq]
    iintro ⟨⟨⟨%ys, HS0⟩, Hg⟩, Hr⟩
    iapply (sound_from m c t ys ⟨ys, (iter_zero _ _ t hz).symm⟩)
    isplitl [HS0 Hg]
    · isplitl [HS0]; · iexact HS0
      iexact Hg
    iexact Hr
  · rw [PhiS_castSucc m c t, PhiS_pos m c _ _ hz]
    iintro ⟨⟨⟨%d, HS0⟩, Hg⟩, Hr⟩
    iapply (sound_from m c t (meanAt m c d (t.val - 1) (by omega)) ⟨d, (iter_pos _ _ t hz).symm⟩)
    isplitl [HS0 Hg]
    · isplitl [HS0]; · iexact HS0
      iexact Hg
    iexact Hr

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

theorem hout (c : Dev nD) : (rdat m c).Φ (Fin.last cfg0.N) ⊢ Pipeline.ΦA spec0 c := by
  rw [show (rdat m c).Φ (Fin.last cfg0.N) = PhiS m c cfg0.N (Nat.le_refl _) from rfl,
    PhiS_pos m c _ _ (by have : cfg0.N = 64 := N_0; omega), PhiA0_eq]
  iintro ⟨⟨%d, HS0⟩, Hg⟩
  isplitl [HS0]
  · iexists _; iexact HS0
  iexact Hg

/-! ## The run and the frame -/

set_option backward.isDefEq.respectTransparency.types false in
/-- Every run ends, with each array at what the proof data allow and every semaphore counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

variable {m} in
/-- An input array ends as the region found it. -/
theorem final_in (w : Fin cfg0.W) (hw : (cfg0.win w).isOut = false) {r : PUnit × MemSt nD τ sig (Elt F)}
    (h : Pipeline.RDat.FramePost (cfgs 0) (rdat m) (V m) r) (c : Dev nD) :
    r.2.mem ((cfg0.win w).arr.view.loc (c.tc : Thread nD τ)) = V m c (Pipeline.arrRef spec0 w) := by
  have := (h c).1 w
  rw [RDat.ArrAt_in (rdat m c) w hw] at this
  exact this.trans (A_eq m c w)

/-- The frame: every run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(final_in 0 rfl h.1 c).trans (V_main_arg0 m c),
      (final_in 1 rfl h.1 c).trans (V_main_arg1 m c),
      (final_in 2 rfl h.1 c).trans (V_main_arg2 m c),
      (final_in 3 rfl h.1 c).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (final_in 6 rfl h.1 c).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      (final_in 9 rfl h.1 c).trans (V_main_arg11 m c)⟩, h.2⟩) (run_main m ρ)

end Cert.Dx.Body

end
-- ==== Proof.DxIdealRun.lean ====
module

public import proofs.«01_k».proof.Proof.Gen.DxIdeal.Frame
public import proofs.«01_k».proof.Proof.Gen.DxIdeal.Skeleton
public import Idealize.ShloMosaic.Lib.VecWindow
public import Idealize.ShloMosaic.Lib.Pipeline.DatRel
public import Idealize.ShloMosaic.Lib.Pipeline.Frame
public import Idealize.ShloMosaic.Lib.Tactic

@[expose] public section

set_option maxRecDepth 16384

noncomputable section

namespace Cert.DxIdeal.Body

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- The first row of the half of the tokens that a point works on. -/
def offs (i : grid0.Coords) : Fin 2 → ℕ := ![1024 * (i 1).val, 0]

theorem offs_inb (i : grid0.Coords) : ∀ a, offs i a + S1024x128.size a ≤ S2048x128.size a := by
  have h := k0_off2_inb i
  rwa [k0_off2_eq] at h

/-- The rows of a whole array that a point works on. -/
def rows {e : EltTy} (x : Vec F S2048x128 e) (i : grid0.Coords) : Vec F S1024x128 e :=
  VecWindow.window x (offs i) S1024x128.size (offs_inb i)

/-- A whole array with the rows of the point replaced. -/
def putRows {e : EltTy} (x : Vec F S2048x128 e) (i : grid0.Coords) (w : Vec F S1024x128 e) : Vec F S2048x128 e :=
  VecWindow.put x (offs i) S1024x128.size w

/-- The condition of the first conditional: the first block of columns. -/
abbrev c1 (i : grid0.Coords) : Prop := k0_cond1 i = 1#1
/-- The condition of the second conditional: the first half of the tokens. -/
abbrev c2 (i : grid0.Coords) : Prop := (Scalar.cmpi .ne (Scalar.extui (Scalar.cmpi .eq (BitVec.ofNat 32 (i 1).val) 0#32)) 0#32) = 1#1
/-- The condition of the third conditional: the last block of columns. -/
abbrev c3 (i : grid0.Coords) : Prop := k0_cond3 i = 1#1

open Classical in
/-- The scratch of row means after a point. -/
def meanV (i : grid0.Coords) (x9 : Vec F S2048x128 .f32) (ys : Vec F S2048x128 .f32) : Vec F S2048x128 .f32 :=
  if c1 i then putRows ys i (k0_pay7 (rows x9 i)) else ys

/-- The gradient with respect to the normalised input at a point. -/
def dhV (i : grid0.Coords) (x0 x1 : Vec F S1024x3584 .bf16) (x2 x3 : Vec F S3584x256 .bf16) (x4 : Vec F S2048x128 .bf16)
    (x5 : Vec F S128x256 .bf16) : FVec F S1024x256 .f32 := k0_pay10 x0 x2 x1 x3 (rows x4 i) x5

/-- The reciprocal of the norm of each token of the point, over the columns. -/
def rV (i : grid0.Coords) (x8 : Vec F S2048x128 .f32) : FVec F S1024x256 .f32 := k0_pay12 (rows x8 i) (rows x8 i)

open Classical in
/-- The running row sums before the point adds to them. -/
def baseV (i : grid0.Coords) (y : Vec F S2048x128 .f32) : Vec F S2048x128 .f32 :=
  if c1 i then putRows y i (k0_pay8 (F := F)) else y

/-- The running row sums after the point has added to them. -/
def newV (i : grid0.Coords) (dh : FVec F S1024x256 .f32) (r : FVec F S1024x256 .f32) (x6 : Vec F S1024x256 .bf16)
    (x7 : Vec F S1x256 .f32) (y : Vec F S2048x128 .f32) : Vec F S2048x128 .f32 :=
  putRows (baseV i y) i (k0_pay3 dh (k0_pay11 x7) r x6 (rows (baseV i y) i))

open Classical in
/-- The row sums as the point leaves them. -/
def rdV (i : grid0.Coords) (dh : FVec F S1024x256 .f32) (r : FVec F S1024x256 .f32) (x6 : Vec F S1024x256 .bf16)
    (x7 : Vec F S1x256 .f32) (y : Vec F S2048x128 .f32) : Vec F S2048x128 .f32 :=
  if c3 i then putRows (newV i dh r x6 x7 y) i (k0_pay6 (rows (newV i dh r x6 x7 y) i)) else newV i dh r x6 x7 y

/-- The block of the input gradient that a point writes. -/
def dxV (i : grid0.Coords) (dh : FVec F S1024x256 .f32) (r : FVec F S1024x256 .f32) (x6 : Vec F S1024x256 .bf16)
    (x7 : Vec F S1x256 .f32) (mean : Vec F S2048x128 .f32) : Vec F S1024x256 .bf16 :=
  k0_pay4 dh (k0_pay11 x7) r (rows mean i) (rows mean i) x6

open Classical in
/-- The block of the gradient of the low-rank factors after a point. -/
def dagV (i : grid0.Coords) (r : FVec F S1024x256 .f32) (x4 : Vec F S2048x128 .bf16) (x6 : Vec F S1024x256 .bf16)
    (x7 : Vec F S1x256 .f32) (y : Vec F S128x256 .f32) : Vec F S128x256 .f32 :=
  k0_pay5 (k0_pay11 x7) r x6 (if c2 i then k0_pay9 (F := F) else y) (rows x4 i)

theorem offs_eq1 (i : grid0.Coords) : k0_off1 i = offs i := k0_off1_eq i
theorem offs_eq2 (i : grid0.Coords) : k0_off2 i = offs i := k0_off2_eq i
theorem offs_eq3 (i : grid0.Coords) : k0_off3 i = offs i := k0_off3_eq i

/-- A load of the rows of the point reads those rows. -/
theorem readAt_rows1 {e : EltTy} (m : Memref sig .tc .vmem S2048x128 e) (f : m.view.ty.Contents (Elt F)) (i : grid0.Coords)
    (inb : ∀ a, k0_off1 i a + S1024x128.size a ≤ S2048x128.size a) :
    m.view.readAt (Elt F) (Rect.unit (s := S2048x128) (k0_off1 i) ![1024, 128] inb).toLoadRect f = rows (m.view.read (Elt F) f) i :=
  View.readAt_unit m.view f inb (offs_eq1 i) (offs_inb i)

/-- A store at the rows of the point replaces those rows. -/
theorem read_writes_rows1 {e : EltTy} (m : Memref sig .tc .vmem S2048x128 e) (f : m.view.ty.Contents (Elt F)) (i : grid0.Coords)
    (inb : ∀ a, k0_off1 i a + S1024x128.size a ≤ S2048x128.size a) (w : Vec F S1024x128 e) (L : List (View.Piece (Elt F) S2048x128 e)) :
    m.view.read (Elt F) (m.view.writes (Elt F) f (⟨Rect.unit (s := S2048x128) (k0_off1 i) ![1024, 128] inb, w⟩ :: L))
      = putRows (m.view.read (Elt F) (m.view.writes (Elt F) f L)) i w :=
  View.read_writes_cons_put m.view f inb w L (offs_eq1 i)

/-- A load of the rows of the point reads those rows. -/
theorem readAt_rows2 {e : EltTy} (m : Memref sig .tc .vmem S2048x128 e) (f : m.view.ty.Contents (Elt F)) (i : grid0.Coords)
    (inb : ∀ a, k0_off2 i a + S1024x128.size a ≤ S2048x128.size a) :
    m.view.readAt (Elt F) (Rect.unit (s := S2048x128) (k0_off2 i) ![1024, 128] inb).toLoadRect f = rows (m.view.read (Elt F) f) i :=
  View.readAt_unit m.view f inb (offs_eq2 i) (offs_inb i)

/-- A store at the rows of the point replaces those rows. -/
theorem read_writes_rows2 {e : EltTy} (m : Memref sig .tc .vmem S2048x128 e) (f : m.view.ty.Contents (Elt F)) (i : grid0.Coords)
    (inb : ∀ a, k0_off2 i a + S1024x128.size a ≤ S2048x128.size a) (w : Vec F S1024x128 e) (L : List (View.Piece (Elt F) S2048x128 e)) :
    m.view.read (Elt F) (m.view.writes (Elt F) f (⟨Rect.unit (s := S2048x128) (k0_off2 i) ![1024, 128] inb, w⟩ :: L))
      = putRows (m.view.read (Elt F) (m.view.writes (Elt F) f L)) i w :=
  View.read_writes_cons_put m.view f inb w L (offs_eq2 i)

/-- A load of the rows of the point reads those rows. -/
theorem readAt_rows3 {e : EltTy} (m : Memref sig .tc .vmem S2048x128 e) (f : m.view.ty.Contents (Elt F)) (i : grid0.Coords)
    (inb : ∀ a, k0_off3 i a + S1024x128.size a ≤ S2048x128.size a) :
    m.view.readAt (Elt F) (Rect.unit (s := S2048x128) (k0_off3 i) ![1024, 128] inb).toLoadRect f = rows (m.view.read (Elt F) f) i :=
  View.readAt_unit m.view f inb (offs_eq3 i) (offs_inb i)

/-- A store at the rows of the point replaces those rows. -/
theorem read_writes_rows3 {e : EltTy} (m : Memref sig .tc .vmem S2048x128 e) (f : m.view.ty.Contents (Elt F)) (i : grid0.Coords)
    (inb : ∀ a, k0_off3 i a + S1024x128.size a ≤ S2048x128.size a) (w : Vec F S1024x128 e) (L : List (View.Piece (Elt F) S2048x128 e)) :
    m.view.read (Elt F) (m.view.writes (Elt F) f (⟨Rect.unit (s := S2048x128) (k0_off3 i) ![1024, 128] inb, w⟩ :: L))
      = putRows (m.view.read (Elt F) (m.view.writes (Elt F) f L)) i w :=
  View.read_writes_cons_put m.view f inb w L (offs_eq3 i)

/-- Rows just put are read back. -/
theorem rows_putRows {e : EltTy} (x : Vec F S2048x128 e) (i : grid0.Coords) (w : Vec F S1024x128 e) : rows (putRows x i w) i = w :=
  VecWindow.window_put_same x _ _ _ w

theorem putRows_putRows {e : EltTy} (x : Vec F S2048x128 e) (i : grid0.Coords) (w w' : Vec F S1024x128 e) :
    putRows (putRows x i w) i w' = putRows x i w' :=
  VecWindow.put_put_same x _ _ w w'

theorem readCov_rows11 {e : EltTy} (m : Memref sig .tc .vmem S2048x128 e) (i : grid0.Coords)
    (inb : ∀ a, k0_off1 i a + S1024x128.size a ≤ S2048x128.size a) (inb' : ∀ a, k0_off1 i a + S1024x128.size a ≤ S2048x128.size a)
    (w : Vec F S1024x128 e) (L : List (View.Piece (Elt F) S2048x128 e)) :
    m.view.readCov (⟨Rect.unit (s := S2048x128) (k0_off1 i) ![1024, 128] inb', w⟩ :: L)
      (Rect.unit (s := S2048x128) (k0_off1 i) ![1024, 128] inb).toLoadRect = w :=
  (readAt_rows1 m _ i inb).trans ((congrArg (rows · i) (read_writes_rows1 m _ i inb' w L)).trans (rows_putRows _ i w))

theorem readCov_rows12 {e : EltTy} (m : Memref sig .tc .vmem S2048x128 e) (i : grid0.Coords)
    (inb : ∀ a, k0_off1 i a + S1024x128.size a ≤ S2048x128.size a) (inb' : ∀ a, k0_off2 i a + S1024x128.size a ≤ S2048x128.size a)
    (w : Vec F S1024x128 e) (L : List (View.Piece (Elt F) S2048x128 e)) :
    m.view.readCov (⟨Rect.unit (s := S2048x128) (k0_off2 i) ![1024, 128] inb', w⟩ :: L)
      (Rect.unit (s := S2048x128) (k0_off1 i) ![1024, 128] inb).toLoadRect = w :=
  (readAt_rows1 m _ i inb).trans ((congrArg (rows · i) (read_writes_rows2 m _ i inb' w L)).trans (rows_putRows _ i w))

theorem readCov_rows13 {e : EltTy} (m : Memref sig .tc .vmem S2048x128 e) (i : grid0.Coords)
    (inb : ∀ a, k0_off1 i a + S1024x128.size a ≤ S2048x128.size a) (inb' : ∀ a, k0_off3 i a + S1024x128.size a ≤ S2048x128.size a)
    (w : Vec F S1024x128 e) (L : List (View.Piece (Elt F) S2048x128 e)) :
    m.view.readCov (⟨Rect.unit (s := S2048x128) (k0_off3 i) ![1024, 128] inb', w⟩ :: L)
      (Rect.unit (s := S2048x128) (k0_off1 i) ![1024, 128] inb).toLoadRect = w :=
  (readAt_rows1 m _ i inb).trans ((congrArg (rows · i) (read_writes_rows3 m _ i inb' w L)).trans (rows_putRows _ i w))

theorem readCov_rows21 {e : EltTy} (m : Memref sig .tc .vmem S2048x128 e) (i : grid0.Coords)
    (inb : ∀ a, k0_off2 i a + S1024x128.size a ≤ S2048x128.size a) (inb' : ∀ a, k0_off1 i a + S1024x128.size a ≤ S2048x128.size a)
    (w : Vec F S1024x128 e) (L : List (View.Piece (Elt F) S2048x128 e)) :
    m.view.readCov (⟨Rect.unit (s := S2048x128) (k0_off1 i) ![1024, 128] inb', w⟩ :: L)
      (Rect.unit (s := S2048x128) (k0_off2 i) ![1024, 128] inb).toLoadRect = w :=
  (readAt_rows2 m _ i inb).trans ((congrArg (rows · i) (read_writes_rows1 m _ i inb' w L)).trans (rows_putRows _ i w))

theorem readCov_rows22 {e : EltTy} (m : Memref sig .tc .vmem S2048x128 e) (i : grid0.Coords)
    (inb : ∀ a, k0_off2 i a + S1024x128.size a ≤ S2048x128.size a) (inb' : ∀ a, k0_off2 i a + S1024x128.size a ≤ S2048x128.size a)
    (w : Vec F S1024x128 e) (L : List (View.Piece (Elt F) S2048x128 e)) :
    m.view.readCov (⟨Rect.unit (s := S2048x128) (k0_off2 i) ![1024, 128] inb', w⟩ :: L)
      (Rect.unit (s := S2048x128) (k0_off2 i) ![1024, 128] inb).toLoadRect = w :=
  (readAt_rows2 m _ i inb).trans ((congrArg (rows · i) (read_writes_rows2 m _ i inb' w L)).trans (rows_putRows _ i w))

theorem readCov_rows23 {e : EltTy} (m : Memref sig .tc .vmem S2048x128 e) (i : grid0.Coords)
    (inb : ∀ a, k0_off2 i a + S1024x128.size a ≤ S2048x128.size a) (inb' : ∀ a, k0_off3 i a + S1024x128.size a ≤ S2048x128.size a)
    (w : Vec F S1024x128 e) (L : List (View.Piece (Elt F) S2048x128 e)) :
    m.view.readCov (⟨Rect.unit (s := S2048x128) (k0_off3 i) ![1024, 128] inb', w⟩ :: L)
      (Rect.unit (s := S2048x128) (k0_off2 i) ![1024, 128] inb).toLoadRect = w :=
  (readAt_rows2 m _ i inb).trans ((congrArg (rows · i) (read_writes_rows3 m _ i inb' w L)).trans (rows_putRows _ i w))

theorem readCov_rows31 {e : EltTy} (m : Memref sig .tc .vmem S2048x128 e) (i : grid0.Coords)
    (inb : ∀ a, k0_off3 i a + S1024x128.size a ≤ S2048x128.size a) (inb' : ∀ a, k0_off1 i a + S1024x128.size a ≤ S2048x128.size a)
    (w : Vec F S1024x128 e) (L : List (View.Piece (Elt F) S2048x128 e)) :
    m.view.readCov (⟨Rect.unit (s := S2048x128) (k0_off1 i) ![1024, 128] inb', w⟩ :: L)
      (Rect.unit (s := S2048x128) (k0_off3 i) ![1024, 128] inb).toLoadRect = w :=
  (readAt_rows3 m _ i inb).trans ((congrArg (rows · i) (read_writes_rows1 m _ i inb' w L)).trans (rows_putRows _ i w))

theorem readCov_rows32 {e : EltTy} (m : Memref sig .tc .vmem S2048x128 e) (i : grid0.Coords)
    (inb : ∀ a, k0_off3 i a + S1024x128.size a ≤ S2048x128.size a) (inb' : ∀ a, k0_off2 i a + S1024x128.size a ≤ S2048x128.size a)
    (w : Vec F S1024x128 e) (L : List (View.Piece (Elt F) S2048x128 e)) :
    m.view.readCov (⟨Rect.unit (s := S2048x128) (k0_off2 i) ![1024, 128] inb', w⟩ :: L)
      (Rect.unit (s := S2048x128) (k0_off3 i) ![1024, 128] inb).toLoadRect = w :=
  (readAt_rows3 m _ i inb).trans ((congrArg (rows · i) (read_writes_rows2 m _ i inb' w L)).trans (rows_putRows _ i w))

theorem readCov_rows33 {e : EltTy} (m : Memref sig .tc .vmem S2048x128 e) (i : grid0.Coords)
    (inb : ∀ a, k0_off3 i a + S1024x128.size a ≤ S2048x128.size a) (inb' : ∀ a, k0_off3 i a + S1024x128.size a ≤ S2048x128.size a)
    (w : Vec F S1024x128 e) (L : List (View.Piece (Elt F) S2048x128 e)) :
    m.view.readCov (⟨Rect.unit (s := S2048x128) (k0_off3 i) ![1024, 128] inb', w⟩ :: L)
      (Rect.unit (s := S2048x128) (k0_off3 i) ![1024, 128] inb).toLoadRect = w :=
  (readAt_rows3 m _ i inb).trans ((congrArg (rows · i) (read_writes_rows3 m _ i inb' w L)).trans (rows_putRows _ i w))

theorem readAt_S1024x3584 {e : EltTy} (m : Memref sig .tc .vmem S1024x3584 e) (f : m.view.ty.Contents (Elt F)) (inb : ∀ a, (![0, 0] : Fin 2 → ℕ) a + S1024x3584.size a ≤ S1024x3584.size a) :
    m.view.readAt (Elt F) (Rect.unit (s := S1024x3584) ![0, 0] ![1024, 3584] inb).toLoadRect f = m.view.read (Elt F) f :=
  View.readAt_full m.view f inb

theorem readAt_S3584x256 {e : EltTy} (m : Memref sig .tc .vmem S3584x256 e) (f : m.view.ty.Contents (Elt F)) (inb : ∀ a, (![0, 0] : Fin 2 → ℕ) a + S3584x256.size a ≤ S3584x256.size a) :
    m.view.readAt (Elt F) (Rect.unit (s := S3584x256) ![0, 0] ![3584, 256] inb).toLoadRect f = m.view.read (Elt F) f :=
  View.readAt_full m.view f inb

theorem readAt_S128x256 {e : EltTy} (m : Memref sig .tc .vmem S128x256 e) (f : m.view.ty.Contents (Elt F)) (inb : ∀ a, (![0, 0] : Fin 2 → ℕ) a + S128x256.size a ≤ S128x256.size a) :
    m.view.readAt (Elt F) (Rect.unit (s := S128x256) ![0, 0] ![128, 256] inb).toLoadRect f = m.view.read (Elt F) f :=
  View.readAt_full m.view f inb

theorem readAt_S1024x256 {e : EltTy} (m : Memref sig .tc .vmem S1024x256 e) (f : m.view.ty.Contents (Elt F)) (inb : ∀ a, (![0, 0] : Fin 2 → ℕ) a + S1024x256.size a ≤ S1024x256.size a) :
    m.view.readAt (Elt F) (Rect.unit (s := S1024x256) ![0, 0] ![1024, 256] inb).toLoadRect f = m.view.read (Elt F) f :=
  View.readAt_full m.view f inb

theorem readAt_S1x256 {e : EltTy} (m : Memref sig .tc .vmem S1x256 e) (f : m.view.ty.Contents (Elt F)) (inb : ∀ a, (![0, 0] : Fin 2 → ℕ) a + S1x256.size a ≤ S1x256.size a) :
    m.view.readAt (Elt F) (Rect.unit (s := S1x256) ![0, 0] ![1, 256] inb).toLoadRect f = m.view.read (Elt F) f :=
  View.readAt_full m.view f inb

theorem read_writes_S128x256 {e : EltTy} (m : Memref sig .tc .vmem S128x256 e) (f : m.view.ty.Contents (Elt F)) (inb : ∀ a, (![0, 0] : Fin 2 → ℕ) a + S128x256.size a ≤ S128x256.size a)
    (w : Vec F S128x256 e) (L : List (View.Piece (Elt F) S128x256 e)) :
    m.view.read (Elt F) (m.view.writes (Elt F) f (⟨Rect.unit (s := S128x256) ![0, 0] ![128, 256] inb, w⟩ :: L)) = w :=
  View.read_writes_full m.view f inb w L

theorem readCov_S128x256 {e : EltTy} (m : Memref sig .tc .vmem S128x256 e) (inb inb' : ∀ a, (![0, 0] : Fin 2 → ℕ) a + S128x256.size a ≤ S128x256.size a)
    (w : Vec F S128x256 e) (L : List (View.Piece (Elt F) S128x256 e)) :
    m.view.readCov (⟨Rect.unit (s := S128x256) ![0, 0] ![128, 256] inb', w⟩ :: L) (Rect.unit (s := S128x256) ![0, 0] ![128, 256] inb).toLoadRect = w :=
  View.readCov_full m.view inb inb' w L

theorem read_writes_S1024x256 {e : EltTy} (m : Memref sig .tc .vmem S1024x256 e) (f : m.view.ty.Contents (Elt F)) (inb : ∀ a, (![0, 0] : Fin 2 → ℕ) a + S1024x256.size a ≤ S1024x256.size a)
    (w : Vec F S1024x256 e) (L : List (View.Piece (Elt F) S1024x256 e)) :
    m.view.read (Elt F) (m.view.writes (Elt F) f (⟨Rect.unit (s := S1024x256) ![0, 0] ![1024, 256] inb, w⟩ :: L)) = w :=
  View.read_writes_full m.view f inb w L

theorem readCov_S1024x256 {e : EltTy} (m : Memref sig .tc .vmem S1024x256 e) (inb inb' : ∀ a, (![0, 0] : Fin 2 → ℕ) a + S1024x256.size a ≤ S1024x256.size a)
    (w : Vec F S1024x256 e) (L : List (View.Piece (Elt F) S1024x256 e)) :
    m.view.readCov (⟨Rect.unit (s := S1024x256) ![0, 0] ![1024, 256] inb', w⟩ :: L) (Rect.unit (s := S1024x256) ![0, 0] ![1024, 256] inb).toLoadRect = w :=
  View.readCov_full m.view inb inb' w L

set_option maxHeartbeats 1200000 in
/-- What the body does at a point of the first block of columns, first half of the tokens. -/
theorem run_A (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : c1 i) (hc2 : c2 i) (hc3 : ¬c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [run_A.sl.HS0_1, run_A.sl.v32, dxV, meanV, dhV, rV]; simp only [if_pos hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [run_A.sl.H11_1, run_A.sl.v59, dagV, rV]; simp only [if_pos hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [run_A.sl.H12_1, run_A.sl.v46, rdV, newV, baseV, dhV, rV]; simp only [if_pos hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [run_A.sl.HS0_1, meanV]; simp only [if_pos hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

set_option maxHeartbeats 1200000 in
/-- What the body does at a point of the first block of columns, second half of the tokens. -/
theorem run_B (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : c1 i) (hc2 : ¬c2 i) (hc3 : ¬c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [run_B.sl.HS0_1, run_B.sl.v32, dxV, meanV, dhV, rV]; simp only [if_pos hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [dagV, rV]; simp only [if_pos hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [run_B.sl.H12_1, run_B.sl.v46, rdV, newV, baseV, dhV, rV]; simp only [if_pos hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [run_B.sl.HS0_1, meanV]; simp only [if_pos hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

set_option maxHeartbeats 1200000 in
/-- What the body does at a point of the a middle block of columns, first half of the tokens. -/
theorem run_C (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : ¬c1 i) (hc2 : c2 i) (hc3 : ¬c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [dxV, meanV, dhV, rV]; simp only [if_neg hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [run_C.sl.H11_1, run_C.sl.v59, dagV, rV]; simp only [if_neg hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [rdV, newV, baseV, dhV, rV]; simp only [if_neg hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [meanV]; simp only [if_neg hc1, if_pos hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

set_option maxHeartbeats 1200000 in
/-- What the body does at a point of the a middle block of columns, second half of the tokens. -/
theorem run_D (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : ¬c1 i) (hc2 : ¬c2 i) (hc3 : ¬c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [dxV, meanV, dhV, rV]; simp only [if_neg hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [dagV, rV]; simp only [if_neg hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [rdV, newV, baseV, dhV, rV]; simp only [if_neg hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [meanV]; simp only [if_neg hc1, if_neg hc2, if_neg hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

set_option maxHeartbeats 1200000 in
/-- What the body does at a point of the last block of columns, first half of the tokens. -/
theorem run_E (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : ¬c1 i) (hc2 : c2 i) (hc3 : c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [dxV, meanV, dhV, rV]; simp only [if_neg hc1, if_pos hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [run_E.sl.H11_1, run_E.sl.v59, dagV, rV]; simp only [if_neg hc1, if_pos hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [run_E.sl.H12_1, run_E.sl.v71, rdV, newV, baseV, dhV, rV]; simp only [if_neg hc1, if_pos hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [meanV]; simp only [if_neg hc1, if_pos hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

set_option maxHeartbeats 1200000 in
/-- What the body does at a point of the last block of columns, second half of the tokens. -/
theorem run_H (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (hc1 : ¬c1 i) (hc2 : ¬c2 i) (hc3 : c3 i)
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dx_eq_skeleton]; unfold cc0_dx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    dsimp only [dxV, meanV, dhV, rV]; simp only [if_neg hc1, if_neg hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H11]
  · iexists _; isplitr; swap; · iexact H11
    ipureintro
    dsimp only [dagV, rV]; simp only [if_neg hc1, if_neg hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  isplitl [H12]
  · iexists _; isplitr; swap; · iexact H12
    ipureintro
    dsimp only [run_H.sl.H12_1, run_H.sl.v71, rdV, newV, baseV, dhV, rV]; simp only [if_neg hc1, if_neg hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]
  iexists _; isplitr; swap; · iexact HS0
  ipureintro
  dsimp only [meanV]; simp only [if_neg hc1, if_neg hc2, if_pos hc3, readAt_S1024x3584, readAt_S3584x256, readAt_S128x256, readAt_S1024x256, readAt_S1x256, read_writes_S128x256, readCov_S128x256, read_writes_S1024x256, readCov_S1024x256, rows_putRows, readCov_rows33, readCov_rows32, readCov_rows31, readCov_rows23, readCov_rows22, readCov_rows21, readCov_rows13, readCov_rows12, readCov_rows11, readAt_rows1, readAt_rows2, readAt_rows3, read_writes_rows1, read_writes_rows2, read_writes_rows3, View.writes_nil, harg2.read_unread, harg3.read_unread, harg4.read_unread, harg5.read_unread, harg6.read_unread, harg7.read_unread, harg8.read_unread, harg9.read_unread, harg10.read_unread, harg11.read_unread, harg13.read_unread, harg14.read_unread, harg15.read_unread]

/-- What the body does at any point. -/
theorem kernelRun (c : Dev nD) (i : grid0.Coords) (arg2 : Memref sig .tc .vmem S1024x3584 .bf16) (harg2 : arg2.IsWhole) (arg3 : Memref sig .tc .vmem S1024x3584 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S2048x128 .bf16) (harg6 : arg6.IsWhole) (arg7 : Memref sig .tc .vmem S128x256 .bf16) (harg7 : arg7.IsWhole) (arg8 : Memref sig .tc .vmem S1024x256 .bf16) (harg8 : arg8.IsWhole) (arg9 : Memref sig .tc .vmem S1x256 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x256 .bf16) (harg12 : arg12.IsWhole) (arg13 : Memref sig .tc .vmem S128x256 .f32) (harg13 : arg13.IsWhole) (arg14 : Memref sig .tc .vmem S2048x128 .f32) (harg14 : arg14.IsWhole) (arg15 : Memref sig .tc .vmem S2048x128 .f32) (harg15 : arg15.IsWhole) (h13 : ¬ (c1 i ∧ c3 i))
    (x0 : Vec F S1024x3584 .bf16) (x1 : Vec F S1024x3584 .bf16) (x2 : Vec F S3584x256 .bf16) (x3 : Vec F S3584x256 .bf16) (x4 : Vec F S2048x128 .bf16) (x5 : Vec F S128x256 .bf16) (x6 : Vec F S1024x256 .bf16) (x7 : Vec F S1x256 .f32) (x8 : Vec F S2048x128 .f32) (x9 : Vec F S2048x128 .f32) (y11 : Vec F S128x256 .f32) (y12 : Vec F S2048x128 .f32) (ys : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ owns (c : Thread nD τ) arg15 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxV i (dhV i x0 x1 x2 x3 x4 x5) (rV i x8) x6 x7 (meanV i x9 ys)) ∗ owns (c : Thread nD τ) arg13 fullShare (dagV i (rV i x8) x4 x6 x7 y11) ∗ owns (c : Thread nD τ) arg14 fullShare (rdV i (dhV i x0 x1 x2 x3 x4 x5) (rV i x8) x6 x7 y12) ∗ owns (c : Thread nD τ) arg15 fullShare (meanV i x9 ys)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15) K := by
  by_cases h1 : c1 i
  · have h3 : ¬ c3 i := fun h => h13 ⟨h1, h⟩
    by_cases h2 : c2 i
    · exact run_A c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K
    · exact run_B c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K
  · by_cases h2 : c2 i
    · by_cases h3 : c3 i
      · exact run_E c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K
      · exact run_C c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K
    · by_cases h3 : c3 i
      · exact run_H c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K
      · exact run_D c i arg2 harg2 arg3 harg3 arg4 harg4 arg5 harg5 arg6 harg6 arg7 harg7 arg8 harg8 arg9 harg9 arg10 harg10 arg11 harg11 arg12 harg12 arg13 harg13 arg14 harg14 arg15 harg15 h1 h2 h3 x0 x1 x2 x3 x4 x5 x6 x7 x8 x9 y11 y12 ys E K

end Cert.DxIdeal.Body

end
-- ==== Proof.DxIdealFrame.lean ====
module

public import proofs.«01_k».proof.Proof.Gen.DxIdeal.Frame
public import proofs.«01_k».proof.Proof.Gen.DxIdeal.Skeleton
public import proofs.«01_k».proof.Proof.DxIdealRun
public import Idealize.ShloMosaic.Lib.VecWindow
public import Idealize.ShloMosaic.Lib.Pipeline.DatRel
public import Idealize.ShloMosaic.Lib.Pipeline.Frame
public import Idealize.ShloMosaic.Lib.Tactic

@[expose] public section

set_option maxRecDepth 16384

noncomputable section

namespace Cert.DxIdeal.Body

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem hc1 : ∀ t : Fin cfg0.N, c1 (grid0.coords t) ↔ t.val < 2 :=
  (fun t => by
    have ht : t.val < 64 := Nat.lt_of_lt_of_eq t.isLt N_0
    have e0 : (grid0.coords t 0).val = t.val / 2 % 32 := Pipeline.Grid.coords_val t 0 (by decide) rfl
    simp only [c1, k0_cond1, e0]; word_cmp)
theorem hc2 : ∀ t : Fin cfg0.N, c2 (grid0.coords t) ↔ t.val % 2 = 0 :=
  (fun t => by
    have ht : t.val < 64 := Nat.lt_of_lt_of_eq t.isLt N_0
    have e1 : (grid0.coords t 1).val = t.val / 1 % 2 := Pipeline.Grid.coords_val t 1 (by decide) rfl
    rw [Nat.div_one] at e1
    simp only [c2, e1]; word_cmp)
theorem hc3 : ∀ t : Fin cfg0.N, c3 (grid0.coords t) ↔ 62 ≤ t.val :=
  (fun t => by
    have ht : t.val < 64 := Nat.lt_of_lt_of_eq t.isLt N_0
    have e0 : (grid0.coords t 0).val = t.val / 2 % 32 := Pipeline.Grid.coords_val t 0 (by decide) rfl
    simp only [c3, k0_cond3, e0]; word_cmp)

abbrev ms0_0 (t : Fin cfg0.N) : Memref sig .tc .vmem S1024x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x128 .f32 := win0_12.stage (cfg0.slots t 12)
abbrev hs0_12 (t : Fin cfg0.N) : (ms0_12 t).IsWhole := hstage0_12 ((cfg0.slots t 12).cast nbuf0_12)
abbrev scM0_0 : Memref sig .tc .vmem S2048x128 .f32 := Memref.whole cc0_scratch0

/-- The invariant of the scratch at anything: the scratch of row means, and the register of the random generator. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-! ## What the buffers hold after each point -/

/-- A state carried from point to point, from `d` before the first. -/
def iter {α : Type} (step : Fin cfg0.N → α → α) (d : α) : (n : ℕ) → n < cfg0.N → α
  | 0, h => step ⟨0, h⟩ d
  | n + 1, h => step ⟨n + 1, h⟩ (iter step d n (Nat.lt_of_succ_lt h))

theorem iter_zero {α : Type} (step : Fin cfg0.N → α → α) (d : α) (t : Fin cfg0.N) (h : t.val = 0) :
    iter step d t.val t.isLt = step t d := by
  obtain ⟨n, hn⟩ := t; cases h; rfl

theorem iter_pos {α : Type} (step : Fin cfg0.N → α → α) (d : α) (t : Fin cfg0.N) (h : t.val ≠ 0) :
    iter step d t.val t.isLt = step t (iter step d (t.val - 1) (by omega)) := by
  obtain ⟨n, hn⟩ := t
  cases n with
  | zero => exact absurd rfl h
  | succ n => rfl

/-- The gradient with respect to the normalised input at a point, of the launch arrays. -/
def dhAt (c : Dev nD) (t : Fin cfg0.N) : FVec F S1024x256 .f32 :=
  dhV (grid0.coords t) (iblk m c 0 t) (iblk m c 1 t) (iblk m c 2 t) (iblk m c 3 t) (iblk m c 4 t) (iblk m c 5 t)
/-- The reciprocal of the norms at a point. -/
def rAt (c : Dev nD) (t : Fin cfg0.N) : FVec F S1024x256 .f32 := rV (grid0.coords t) (iblk m c 8 t)
/-- One point's change of the scratch of row means. -/
def meanStep (c : Dev nD) (t : Fin cfg0.N) (d : Vec F S2048x128 .f32) : Vec F S2048x128 .f32 := meanV (grid0.coords t) (iblk m c 9 t) d
/-- One point's change of the row sums. -/
def rdStep (c : Dev nD) (t : Fin cfg0.N) (d : Vec F S2048x128 .f32) : Vec F S2048x128 .f32 :=
  rdV (grid0.coords t) (dhAt m c t) (rAt m c t) (iblk m c 6 t) (iblk m c 7 t) d
/-- One point's change of the block of the gradient of the low-rank factors. -/
def dagStep (c : Dev nD) (t : Fin cfg0.N) (d : Vec F S128x256 .f32) : Vec F S128x256 .f32 :=
  dagV (grid0.coords t) (rAt m c t) (iblk m c 4 t) (iblk m c 6 t) (iblk m c 7 t) d
/-- The scratch after a point, had it held `d` before the first. -/
abbrev meanAt (c : Dev nD) (d : Vec F S2048x128 .f32) (n : ℕ) (h : n < cfg0.N) : Vec F S2048x128 .f32 := iter (meanStep m c) d n h
/-- The row sums after a point, had the buffer held `d` before the first. -/
abbrev rdAt (c : Dev nD) (d : Vec F S2048x128 .f32) (n : ℕ) (h : n < cfg0.N) : Vec F S2048x128 .f32 := iter (rdStep m c) d n h
/-- The block of the gradient of the low-rank factors after a point. -/
abbrev dagAt (c : Dev nD) (n : ℕ) (h : n < cfg0.N) : Vec F S128x256 .f32 := iter (dagStep m c) (k0_pay9 (F := F)) n h
/-- The block of the input gradient written at a point, had the scratch held `d` before the first. -/
def dxAt (c : Dev nD) (d : Vec F S2048x128 .f32) (t : Fin cfg0.N) : Vec F S1024x256 .bf16 :=
  dxV (grid0.coords t) (dhAt m c t) (rAt m c t) (iblk m c 6 t) (iblk m c 7 t) (meanAt m c d t.val t.isLt)

/-- At a point of the first half of the tokens the block starts from zero. -/
theorem dagStep_reset (c : Dev nD) (t : Fin cfg0.N) (h : t.val % 2 = 0) (d d' : Vec F S128x256 .f32) : dagStep m c t d = dagStep m c t d' := by
  unfold dagStep dagV; rw [if_pos ((hc2 t).mpr h), if_pos ((hc2 t).mpr h)]

/-! ## The proof data -/

/-- The three outputs are stated by what they may hold after each point. -/
def fgt : Fin 13 → Bool := fun w => decide (10 ≤ w.val)

/-- What an output's buffer may hold after a point. -/
def Rl (c : Dev nD) (w : Fin cfg0.W) (t : Fin cfg0.N) : ((cfg0.win w).block.Idx → Elt F (cfg0.win w).elt) → Prop :=
  match w with
  | ⟨10, _⟩ => fun X => ∃ d, X = dxAt m c d t
  | ⟨11, _⟩ => fun X => X = dagAt m c t.val t.isLt
  | ⟨12, _⟩ => fun X => ∃ d, X = rdAt m c d t.val t.isLt
  | _ => fun _ => True

/-- The scratch between points: at anything before the first, then what the points have left from anything. -/
def PhiS (c : Dev nD) : (n : ℕ) → n ≤ cfg0.N → sProp 𝕄
  | 0, _ => Pipeline.ΦA spec0 c
  | n + 1, hn => iprop((∃ d, owns (c : Thread nD τ) scM0_0 fullShare (meanAt m c d n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop((∃ d, owns (c : Thread nD τ) scM0_0 fullShare (meanAt m c d n hn)) ∗ (∃ r, prngReg c r)) := rfl
theorem PhiS_pos (c : Dev nD) (n : ℕ) (h : n ≤ cfg0.N) (hz : n ≠ 0) :
    PhiS m c n h = iprop((∃ d, owns (c : Thread nD τ) scM0_0 fullShare (meanAt m c d (n - 1) (by omega))) ∗ (∃ r, prngReg c r)) := by
  cases n with
  | zero => exact absurd rfl hz
  | succ n => rfl

/-- The proof data: the inputs' buffers hold their blocks; the outputs are stated by `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The proof data with the outputs stated by `Rl`. -/
abbrev rdat (c : Dev nD) : RDat τ (Elt F) Unit ℕ (UR sig nD τ) ℕ cfg0 c := (dats m 0 c).toRRel fgt (Rl m c)

/-- What a point finds in the buffer of the row sums: anything at the first, else what the point before left. -/
theorem finds12 (c : Dev nD) (t : Fin cfg0.N) (Y) (h : (rdat m c).Finds 12 t Y) : ∃ d, rdStep m c t Y = rdAt m c d t.val t.isLt := by
  by_cases hz : t.val = 0
  · exact ⟨Y, (iter_zero _ _ t hz).symm⟩
  · rcases (RDat.finds_of_pos (rdat m c) (w := 12) rfl hz Y).mp h with h | h
    · have := (flush0_12 _).mp h
      have hN : t.val < 64 := Nat.lt_of_lt_of_eq t.isLt N_0
      simp only at this; omega
    · obtain ⟨d, rfl⟩ := (dats m 0 c).toRRel_leaves (fgt := fgt) (Rl := Rl m c) (w := 12) rfl h
      exact ⟨d, (iter_pos _ _ t hz).symm⟩

/-- What a point leaves in the buffer of the gradient of the low-rank factors. -/
theorem finds11 (c : Dev nD) (t : Fin cfg0.N) (Y) (h : (rdat m c).Finds 11 t Y) : dagStep m c t Y = dagAt m c t.val t.isLt := by
  by_cases hz : t.val = 0
  · exact (dagStep_reset m c t (by omega) _ _).trans (iter_zero _ _ t hz).symm
  · rw [dagAt, iter_pos _ _ t hz]
    rcases (RDat.finds_of_pos (rdat m c) (w := 11) rfl hz Y).mp h with h | h
    · have := (flush0_11 _).mp h
      exact dagStep_reset m c t (by simp only at this; omega) _ _
    · exact congrArg _ ((dats m 0 c).toRRel_leaves (fgt := fgt) (Rl := Rl m c) (w := 11) rfl h)

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X))

set_option maxHeartbeats 1600000 in
/-- The body from the scratch at `ys`. -/
theorem sound_from (c : Dev nD) (t : Fin cfg0.N) (ys : Vec F S2048x128 .f32) (hys : ∃ d, meanStep m c t ys = meanAt m c d t.val t.isLt) :
    iprop((owns (c : Thread nD τ) scM0_0 fullShare ys ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y))
      ⊢ wp frame (wpE (defs₀ (F := F)) Variants.none c none) Set.univ (bodyAt0 t) (fun _ => bodyPost m c t) := by
  unfold bodyPost bodyAt0
  simp only [before0_0, before0_1, before0_2, before0_3, before0_4, before0_5, before0_6, before0_7, before0_8, before0_9,
    after0_0, after0_1, after0_2, after0_3, after0_4, after0_5, after0_6, after0_7, after0_8, after0_9]
  rw [show (dats m 0 c).owesAt () t.succ = (dats m 0 c).owesAt () t.castSucc from rfl]
  rw [show (dats m 0 c).Φ t.succ = PhiS m c (t.val + 1) t.isLt from rfl, PhiS_succ]
  obtain ⟨dm, hdm⟩ := hys
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%y10, -, H10⟩, ⟨%y11, %hy11, H11⟩, ⟨%y12, %hy12, H12⟩⟩
  obtain ⟨dr, hdr⟩ := finds12 m c t y12 hy12
  have hdg := finds11 m c t y11 hy11
  iapply (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    (fun h => by have a := (hc1 t).mp h.1; have b := (hc3 t).mp h.2; omega)
    (iblk m c 0 t) (iblk m c 1 t) (iblk m c 2 t) (iblk m c 3 t) (iblk m c 4 t) (iblk m c 5 t) (iblk m c 6 t) (iblk m c 7 t) (iblk m c 8 t) (iblk m c 9 t) y11 y12 ys Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hg]
  · isplitl [HS0]
    · iexists dm; rw [← hdm]; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro; exact ⟨dm, by unfold dxAt; rw [← hdm]; rfl⟩
  isplitl [H11]
  · iexists _; isplitr; swap; · iexact H11
    ipureintro; exact hdg
  iexists _; isplitr; swap; · iexact H12
  ipureintro; exact ⟨dr, hdr⟩

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hz : t.val = 0
  · rw [PhiS_castSucc m c t, PhiS_zero m c _ _ hz, PhiA0_eq]
    iintro ⟨⟨⟨%ys, HS0⟩, Hg⟩, Hr⟩
    iapply (sound_from m c t ys ⟨ys, (iter_zero _ _ t hz).symm⟩)
    isplitl [HS0 Hg]
    · isplitl [HS0]; · iexact HS0
      iexact Hg
    iexact Hr
  · rw [PhiS_castSucc m c t, PhiS_pos m c _ _ hz]
    iintro ⟨⟨⟨%d, HS0⟩, Hg⟩, Hr⟩
    iapply (sound_from m c t (meanAt m c d (t.val - 1) (by omega)) ⟨d, (iter_pos _ _ t hz).symm⟩)
    isplitl [HS0 Hg]
    · isplitl [HS0]; · iexact HS0
      iexact Hg
    iexact Hr

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

theorem hout (c : Dev nD) : (rdat m c).Φ (Fin.last cfg0.N) ⊢ Pipeline.ΦA spec0 c := by
  rw [show (rdat m c).Φ (Fin.last cfg0.N) = PhiS m c cfg0.N (Nat.le_refl _) from rfl,
    PhiS_pos m c _ _ (by have : cfg0.N = 64 := N_0; omega), PhiA0_eq]
  iintro ⟨⟨%d, HS0⟩, Hg⟩
  isplitl [HS0]
  · iexists _; iexact HS0
  iexact Hg

/-! ## The run and the frame -/

set_option backward.isDefEq.respectTransparency.types false in
/-- Every run ends, with each array at what the proof data allow and every semaphore counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

variable {m} in
/-- An input array ends as the region found it. -/
theorem final_in (w : Fin cfg0.W) (hw : (cfg0.win w).isOut = false) {r : PUnit × MemSt nD τ sig (Elt F)}
    (h : Pipeline.RDat.FramePost (cfgs 0) (rdat m) (V m) r) (c : Dev nD) :
    r.2.mem ((cfg0.win w).arr.view.loc (c.tc : Thread nD τ)) = V m c (Pipeline.arrRef spec0 w) := by
  have := (h c).1 w
  rw [RDat.ArrAt_in (rdat m c) w hw] at this
  exact this.trans (A_eq m c w)

/-- The frame: every run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(final_in 0 rfl h.1 c).trans (V_main_arg0 m c),
      (final_in 1 rfl h.1 c).trans (V_main_arg1 m c),
      (final_in 2 rfl h.1 c).trans (V_main_arg2 m c),
      (final_in 3 rfl h.1 c).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (final_in 6 rfl h.1 c).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      (final_in 9 rfl h.1 c).trans (V_main_arg11 m c)⟩, h.2⟩) (run_main m ρ)

end Cert.DxIdeal.Body

end
-- ==== Proof.DxValue.lean ====
module
public import proofs.«01_k».proof.Proof.Scalars
public import proofs.«01_k».proof.Proof.DxIdealFrame
public import proofs.«01_k».proof.Proof.Gen.DxRefIdeal.Read
public import Idealize.ShloMosaic.Lib.Pipeline.ValueKit
public import Idealize.ShloMosaic.Lib.Pipeline.ReadBack
public import Idealize.ShloMosaic.Lib.Pipeline.ArrRel

/-! What the kernel of the input gradient computes at the extended reals: each result as one formula of the entry
    arrays, and the same formulas for the reference. -/

@[expose] public section

set_option maxRecDepth 16384

noncomputable section

open Idealize.ShloMosaic Idealize.ShloMosaic.TcCoe Idealize.SL.Sem
open Idealize.ShloMosaic.Pipeline (Dat RDat)
open scoped BigOperators

namespace Cert.DxIdeal.RefValue

open Cert.DxIdeal Cert.DxIdeal.Gen Cert.DxIdeal.Body

variable (m : (ℓ : Loc nD τ sig) → Buf (Elt Ideal) ℓ)

theorem idx : ∀ t : Fin cfg0.N, win0_0.index t = ![t.val % 2, 0]
    ∧ win0_1.index t = ![t.val % 2, 0]
    ∧ win0_2.index t = ![0, t.val / 2]
    ∧ win0_3.index t = ![0, t.val / 2]
    ∧ win0_4.index t = ![0, 0]
    ∧ win0_5.index t = ![0, t.val / 2]
    ∧ win0_6.index t = ![t.val % 2, t.val / 2]
    ∧ win0_7.index t = ![0, t.val / 2]
    ∧ win0_8.index t = ![0, 0]
    ∧ win0_9.index t = ![0, 0]
    ∧ win0_10.index t = ![t.val % 2, t.val / 2]
    ∧ win0_11.index t = ![0, t.val / 2]
    ∧ win0_12.index t = ![0, 0] :=
  (by decide +kernel : ∀ t : Fin grid0.N, _)

/-- The column of the arrays that column `n` of grid point `t`'s blocks is. -/
def col (t : Fin cfg0.N) (n : Fin 256) : Fin 8192 :=
  ⟨t.val / 2 * 256 + n.val, by have h : t.val < 64 := lt_of_lt_of_eq t.isLt N_0; omega⟩

/-- The token that row `r` of grid point `t`'s blocks is. -/
def tok (t : Fin cfg0.N) (r : Fin 1024) : Fin 2048 := ⟨t.val % 2 * 1024 + r.val, by omega⟩

/-! ## The formulas -/

/-- Two arrays of 64 columns side by side. -/
def SC (sg su : FVec Ideal S2048x64 .bf16) (r : Fin 2048) (k : Fin 128) : EReal :=
  if h : k.val < 64 then sg (ix2 r ⟨k.val, h⟩) else su (ix2 r ⟨k.val - 64, by omega⟩)

/-- Two arrays of 64 rows one above the other. -/
def AC (ag au : FVec Ideal S64x8192 .bf16) (k : Fin 128) (n : Fin 8192) : EReal :=
  if h : k.val < 64 then ag (ix2 ⟨k.val, h⟩ n) else au (ix2 ⟨k.val - 64, by omega⟩ n)

/-- The normalised input. -/
def XH (x : FVec Ideal S2048x8192 .bf16) (rn : FVec Ideal S2048x1 .f32) (r : Fin 2048) (n : Fin 8192) : EReal :=
  x (ix2 r n) * rn (ix2 r 0)

/-- The gradient with respect to the scaled normalised input. -/
def DH (gg gu : FVec Ideal S2048x3584 .bf16) (wg wu : FVec Ideal S3584x8192 .bf16) (sg su : FVec Ideal S2048x64 .bf16)
    (ag au : FVec Ideal S64x8192 .bf16) (r : Fin 2048) (n : Fin 8192) : EReal :=
  (∑ k : Fin 3584, gg (ix2 r k) * wg (ix2 k n)) + (∑ k : Fin 3584, gu (ix2 r k) * wu (ix2 k n))
    + ((∑ k : Fin 64, sg (ix2 r k) * ag (ix2 k n)) + ∑ k : Fin 64, su (ix2 r k) * au (ix2 k n))

/-- The low-rank sum over the joined factors is the sum of the two. -/
theorem sum_joined (sg su : FVec Ideal S2048x64 .bf16) (ag au : FVec Ideal S64x8192 .bf16) (r : Fin 2048) (n : Fin 8192) :
    ∑ k : Fin 128, SC sg su r k * AC ag au k n
      = (∑ k : Fin 64, sg (ix2 r k) * ag (ix2 k n)) + ∑ k : Fin 64, su (ix2 r k) * au (ix2 k n) := by
  rw [Fin.sum_univ_two_halves 64 64 rfl]
  refine congrArg₂ (fun a b : EReal => a + b) (Fin.sum_fin_congr fun k => ?_) (Fin.sum_fin_congr fun k => ?_)
  · have h : k.val < 64 := k.isLt
    simp only [SC, AC, h, dif_pos]
  · have h : ¬ 64 + k.val < 64 := by omega
    simp only [SC, AC, h, dif_neg, not_false_eq_true, Nat.add_sub_cancel_left]

abbrev GG (c : Dev nD) : FVec Ideal S2048x3584 .bf16 := m ((c.tc : Thread nD τ).loc main_arg0)
abbrev GU (c : Dev nD) : FVec Ideal S2048x3584 .bf16 := m ((c.tc : Thread nD τ).loc main_arg1)
abbrev WG (c : Dev nD) : FVec Ideal S3584x8192 .bf16 := m ((c.tc : Thread nD τ).loc main_arg2)
abbrev WU (c : Dev nD) : FVec Ideal S3584x8192 .bf16 := m ((c.tc : Thread nD τ).loc main_arg3)
abbrev SG (c : Dev nD) : FVec Ideal S2048x64 .bf16 := m ((c.tc : Thread nD τ).loc main_arg4)
abbrev SU (c : Dev nD) : FVec Ideal S2048x64 .bf16 := m ((c.tc : Thread nD τ).loc main_arg5)
abbrev AG (c : Dev nD) : FVec Ideal S64x8192 .bf16 := m ((c.tc : Thread nD τ).loc main_arg6)
abbrev AU (c : Dev nD) : FVec Ideal S64x8192 .bf16 := m ((c.tc : Thread nD τ).loc main_arg7)
abbrev X (c : Dev nD) : FVec Ideal S2048x8192 .bf16 := m ((c.tc : Thread nD τ).loc main_arg8)
abbrev NW (c : Dev nD) : FVec Ideal S8192 .f32 := m ((c.tc : Thread nD τ).loc main_arg9)
abbrev RN (c : Dev nD) : FVec Ideal S2048x1 .f32 := m ((c.tc : Thread nD τ).loc main_arg10)
abbrev DL (c : Dev nD) : FVec Ideal S2048x128 .f32 := m ((c.tc : Thread nD τ).loc main_arg11)

/-! ## The blocks as entries of the arrays -/

theorem blk0 (c : Dev nD) (t : Fin cfg0.N) (r : Fin 1024) (k : Fin 3584) : iblk m c 0 t (ix2 r k) = GG m c (ix2 (tok t r) k) := by
  blk_ext [iblk, V, idx t, tok]
theorem blk1 (c : Dev nD) (t : Fin cfg0.N) (r : Fin 1024) (k : Fin 3584) : iblk m c 1 t (ix2 r k) = GU m c (ix2 (tok t r) k) := by
  blk_ext [iblk, V, idx t, tok]
theorem blk2 (c : Dev nD) (t : Fin cfg0.N) (k : Fin 3584) (n : Fin 256) : iblk m c 2 t (ix2 k n) = WG m c (ix2 k (col t n)) := by
  blk_ext [iblk, V, idx t, col]
theorem blk3 (c : Dev nD) (t : Fin cfg0.N) (k : Fin 3584) (n : Fin 256) : iblk m c 3 t (ix2 k n) = WU m c (ix2 k (col t n)) := by
  blk_ext [iblk, V, idx t, col]
theorem blk6 (c : Dev nD) (t : Fin cfg0.N) (r : Fin 1024) (n : Fin 256) : iblk m c 6 t (ix2 r n) = X m c (ix2 (tok t r) (col t n)) := by
  blk_ext [iblk, V, idx t, tok, col]
theorem blk9 (c : Dev nD) (t : Fin cfg0.N) (r : Fin 2048) (k : Fin 128) : iblk m c 9 t (ix2 r k) = DL m c (ix2 r k) := by
  blk_ext [iblk, V, idx t]

theorem v2_lo (c : Dev nD) (r : Fin 2048) (k : Fin 64) : V m c main_v2 (ix2 r ⟨k.val, by omega⟩) = SG m c (ix2 r k) := by
  entry_read; pointwise
theorem v2_hi (c : Dev nD) (r : Fin 2048) (k : Fin 64) : V m c main_v2 (ix2 r ⟨64 + k.val, by omega⟩) = SU m c (ix2 r k) := by
  entry_read; pointwise
theorem v0_lo (c : Dev nD) (k : Fin 64) (n : Fin 8192) : V m c main_v0 (ix2 ⟨k.val, by omega⟩ n) = AG m c (ix2 k n) := by
  entry_read; pointwise
theorem v0_hi (c : Dev nD) (k : Fin 64) (n : Fin 8192) : V m c main_v0 (ix2 ⟨64 + k.val, by omega⟩ n) = AU m c (ix2 k n) := by
  entry_read; pointwise

theorem blk4 (c : Dev nD) (t : Fin cfg0.N) (r : Fin 2048) (k : Fin 128) : iblk m c 4 t (ix2 r k) = SC (SG m c) (SU m c) r k := by
  have h : iblk m c 4 t (ix2 r k) = V m c main_v2 (ix2 r k) := by blk_ext [iblk, idx t]
  rw [h, SC]
  by_cases hk : k.val < 64
  · rw [dif_pos hk]; exact v2_lo m c r ⟨k.val, hk⟩
  · rw [dif_neg hk]
    refine Eq.trans (congrArg (fun q => V m c main_v2 (ix2 r q)) (Fin.ext ?_)) (v2_hi m c r ⟨k.val - 64, by omega⟩)
    show k.val = 64 + (k.val - 64); omega

theorem blk5 (c : Dev nD) (t : Fin cfg0.N) (k : Fin 128) (n : Fin 256) : iblk m c 5 t (ix2 k n) = AC (AG m c) (AU m c) k (col t n) := by
  have h : iblk m c 5 t (ix2 k n) = V m c main_v0 (ix2 k (col t n)) := by blk_ext [iblk, idx t, col]
  rw [h, AC]
  by_cases hk : k.val < 64
  · rw [dif_pos hk]; exact v0_lo m c ⟨k.val, hk⟩ _
  · rw [dif_neg hk]
    refine Eq.trans (congrArg (fun q => V m c main_v0 (ix2 q (col t n))) (Fin.ext ?_)) (v0_hi m c ⟨k.val - 64, by omega⟩ _)
    show k.val = 64 + (k.val - 64); omega

theorem blk7 (c : Dev nD) (t : Fin cfg0.N) (n : Fin 256) : iblk m c 7 t (ix2 0 n) = NW m c (ix1 (col t n)) := by
  have h : iblk m c 7 t (ix2 0 n) = V m c main_v3 (ix2 0 (col t n)) := by blk_ext [iblk, idx t, col]
  rw [h]; entry_read; pointwise
theorem blk8 (c : Dev nD) (t : Fin cfg0.N) (r : Fin 2048) (k : Fin 128) : iblk m c 8 t (ix2 r k) = RN m c (ix2 r 0) := by
  have h : iblk m c 8 t (ix2 r k) = V m c main_v1 (ix2 r k) := by blk_ext [iblk, idx t]
  rw [h]; entry_read; pointwise

/-! ## The payloads -/

theorem pay10 (v8 v11 : FVec Ideal S1024x3584 .bf16) (v9 v12 : FVec Ideal S3584x256 .bf16) (v16 : FVec Ideal S1024x128 .bf16)
    (v18 : FVec Ideal S128x256 .bf16) (r : Fin 1024) (n : Fin 256) :
    k0_pay10 (F := Ideal) v8 v9 v11 v12 v16 v18 (ix2 r n)
      = (∑ k : Fin 3584, v8 (ix2 r k) * v9 (ix2 k n)) + (∑ k : Fin 3584, v11 (ix2 r k) * v12 (ix2 k n))
        + ∑ k : Fin 128, v16 (ix2 r k) * v18 (ix2 k n) := by
  pointwise [k0_pay10]

theorem pay11 (v22 : FVec Ideal S1x256 .f32) (n : Fin 256) : k0_pay11 (F := Ideal) v22 (ix2 0 n) = v22 (ix2 0 n) := by
  pointwise [k0_pay11]

theorem pay12_lo (v25 v28 : FVec Ideal S1024x128 .f32) (r : Fin 1024) (k : Fin 128) :
    k0_pay12 (F := Ideal) v25 v28 (ix2 r ⟨k.val, by omega⟩) = v25 (ix2 r k) := by
  pointwise [k0_pay12]
theorem pay12_hi (v25 v28 : FVec Ideal S1024x128 .f32) (r : Fin 1024) (k : Fin 128) :
    k0_pay12 (F := Ideal) v25 v28 (ix2 r ⟨128 + k.val, by omega⟩) = v28 (ix2 r k) := by
  pointwise [k0_pay12]

theorem pay3 (v21 : FVec Ideal S1024x256 .f32) (v23 : FVec Ideal S1x256 .f32) (v30 : FVec Ideal S1024x256 .f32)
    (v36 : FVec Ideal S1024x256 .bf16) (v46 : FVec Ideal S1024x128 .f32) (r : Fin 1024) (k : Fin 128) :
    k0_pay3 (F := Ideal) v21 v23 v30 v36 v46 (ix2 r k)
      = v46 (ix2 r k)
        + (v21 (ix2 r ⟨k.val, by omega⟩) * v23 (ix2 0 ⟨k.val, by omega⟩) * (v36 (ix2 r ⟨k.val, by omega⟩) * v30 (ix2 r ⟨k.val, by omega⟩))
          + v21 (ix2 r ⟨128 + k.val, by omega⟩) * v23 (ix2 0 ⟨128 + k.val, by omega⟩)
            * (v36 (ix2 r ⟨128 + k.val, by omega⟩) * v30 (ix2 r ⟨128 + k.val, by omega⟩))) := by
  pointwise [k0_pay3, k0_pay2, k0_pay1]

theorem pay4_lo (v21 : FVec Ideal S1024x256 .f32) (v23 : FVec Ideal S1x256 .f32) (v30 : FVec Ideal S1024x256 .f32)
    (v32 v34 : FVec Ideal S1024x128 .f32) (v36 : FVec Ideal S1024x256 .bf16) (r : Fin 1024) (k : Fin 128) :
    k0_pay4 (F := Ideal) v21 v23 v30 v32 v34 v36 (ix2 r ⟨k.val, by omega⟩)
      = v30 (ix2 r ⟨k.val, by omega⟩) * (v21 (ix2 r ⟨k.val, by omega⟩) * v23 (ix2 0 ⟨k.val, by omega⟩)
          - v36 (ix2 r ⟨k.val, by omega⟩) * v30 (ix2 r ⟨k.val, by omega⟩) * v32 (ix2 r k)) := by
  pointwise [k0_pay4, k0_pay2, k0_pay1]
theorem pay4_hi (v21 : FVec Ideal S1024x256 .f32) (v23 : FVec Ideal S1x256 .f32) (v30 : FVec Ideal S1024x256 .f32)
    (v32 v34 : FVec Ideal S1024x128 .f32) (v36 : FVec Ideal S1024x256 .bf16) (r : Fin 1024) (k : Fin 128) :
    k0_pay4 (F := Ideal) v21 v23 v30 v32 v34 v36 (ix2 r ⟨128 + k.val, by omega⟩)
      = v30 (ix2 r ⟨128 + k.val, by omega⟩) * (v21 (ix2 r ⟨128 + k.val, by omega⟩) * v23 (ix2 0 ⟨128 + k.val, by omega⟩)
          - v36 (ix2 r ⟨128 + k.val, by omega⟩) * v30 (ix2 r ⟨128 + k.val, by omega⟩) * v34 (ix2 r k)) := by
  pointwise [k0_pay4, k0_pay2, k0_pay1]

theorem pay5 (v23 : FVec Ideal S1x256 .f32) (v30 : FVec Ideal S1024x256 .f32) (v36 : FVec Ideal S1024x256 .bf16)
    (v59 : FVec Ideal S128x256 .f32) (v62 : FVec Ideal S1024x128 .bf16) (j : Fin 128) (n : Fin 256) :
    k0_pay5 (F := Ideal) v23 v30 v36 v59 v62 (ix2 j n)
      = v59 (ix2 j n) + ∑ r : Fin 1024, v62 (ix2 r j) * (v36 (ix2 r n) * v30 (ix2 r n) * v23 (ix2 0 n)) := by
  pointwise [k0_pay5, k0_pay1]

theorem pay6 (v71 : FVec Ideal S1024x128 .f32) (r : Fin 1024) (k : Fin 128) :
    k0_pay6 (F := Ideal) v71 (ix2 r k) = (∑ k : Fin 128, v71 (ix2 r k)) * Ideal.ofBits .f32 0x39000000#32 := by
  pointwise [k0_pay6]
theorem pay7 (v71 : FVec Ideal S1024x128 .f32) (r : Fin 1024) (k : Fin 128) :
    k0_pay7 (F := Ideal) v71 (ix2 r k) = (∑ k : Fin 128, v71 (ix2 r k)) * Ideal.ofBits .f32 0x39000000#32 := by
  pointwise [k0_pay7]
theorem pay8 (i : S1024x128.Idx) : k0_pay8 (F := Ideal) i = 0 := by
  idx_vars i
  pointwise [k0_pay8]
theorem pay9 (i : S128x256.Idx) : k0_pay9 (F := Ideal) i = 0 := by
  idx_vars i
  pointwise [k0_pay9]

/-! ## The rows of a point -/

theorem coord1 (t : Fin cfg0.N) : (grid0.coords t 1).val = t.val % 2 := by
  have e1 : (grid0.coords t 1).val = t.val / 1 % 2 := Pipeline.Grid.coords_val t 1 (by decide) rfl
  rwa [Nat.div_one] at e1

theorem emb_rows (t : Fin cfg0.N) (r : Fin 1024) (k : Fin 128) :
    (Rect.unit (s := S2048x128) (offs (grid0.coords t)) S1024x128.size (offs_inb _)).emb (ix2 r k) = ix2 (tok t r) k := by
  funext a
  have h := coord1 t
  match a with
  | ⟨0, _⟩ =>
    refine Fin.ext ?_
    show 1024 * (grid0.coords t 1).val + 1 * r.val = t.val % 2 * 1024 + r.val
    omega
  | ⟨1, _⟩ =>
    refine Fin.ext ?_
    show 0 + 1 * k.val = k.val
    omega

theorem rows_at {e : EltTy} (x : Vec Ideal S2048x128 e) (t : Fin cfg0.N) (r : Fin 1024) (k : Fin 128) :
    rows x (grid0.coords t) (ix2 r k) = x (ix2 (tok t r) k) := congrArg x (emb_rows t r k)

theorem put_own {e : EltTy} (x : Vec Ideal S2048x128 e) (t : Fin cfg0.N) (w : Vec Ideal S1024x128 e) (r : Fin 1024) (k : Fin 128) :
    putRows x (grid0.coords t) w (ix2 (tok t r) k) = w (ix2 r k) :=
  (rows_at _ t r k).symm.trans (congrFun (rows_putRows x (grid0.coords t) w) (ix2 r k))

theorem put_other {e : EltTy} (x : Vec Ideal S2048x128 e) (t s : Fin cfg0.N) (h : s.val % 2 ≠ t.val % 2) (w : Vec Ideal S1024x128 e) (r : Fin 1024) (k : Fin 128) :
    putRows x (grid0.coords t) w (ix2 (tok s r) k) = x (ix2 (tok s r) k) := by
  unfold putRows VecWindow.put
  rw [dif_neg]
  intro hh
  have h0 := hh 0
  have e := coord1 t
  have a1 : 1024 * (grid0.coords t 1).val ≤ s.val % 2 * 1024 + r.val := h0.1
  have a2 : s.val % 2 * 1024 + r.val < 1024 * (grid0.coords t 1).val + 1024 := h0.2
  have := r.isLt
  omega

end Cert.DxIdeal.RefValue
end
-- ==== Proof.DxSums.lean ====
module
public import proofs.«01_k».proof.Proof.DxValue
public import Idealize.ShloMosaic.Lib.Pipeline.ValueKit
public import Idealize.ShloMosaic.Lib.Pipeline.ReadBack
public import Idealize.ShloMosaic.Lib.Pipeline.ArrRel

/-! What the kernel of the input gradient ends with at the extended reals: each result as one formula of the entry
    arrays. -/

@[expose] public section

set_option maxRecDepth 16384

noncomputable section

open Idealize.ShloMosaic Idealize.ShloMosaic.TcCoe Idealize.SL.Sem
open Idealize.ShloMosaic.Pipeline (Dat RDat)
open scoped BigOperators

namespace Cert.DxIdeal.RefValue

open Cert.DxIdeal Cert.DxIdeal.Gen Cert.DxIdeal.Body

variable (m : (ℓ : Loc nD τ sig) → Buf (Elt Ideal) ℓ)

/-- The reciprocal of 8192, as the kernel has it. -/
abbrev K : EReal := Ideal.ofBits .f32 0x39000000#32

abbrev XHc (c : Dev nD) : Fin 2048 → Fin 8192 → EReal := XH (X m c) (RN m c)
abbrev DHc (c : Dev nD) : Fin 2048 → Fin 8192 → EReal :=
  DH (GG m c) (GU m c) (WG m c) (WU m c) (SG m c) (SU m c) (AG m c) (AU m c)
/-- The mean of a row of the sums given. -/
def MEAN (c : Dev nD) (r : Fin 2048) : EReal := (∑ k : Fin 128, DL m c (ix2 r k)) * K
/-- One term of the sum of a row. -/
def Q (c : Dev nD) (r : Fin 2048) (n : Fin 8192) : EReal := DHc m c r n * NW m c (ix1 n) * XHc m c r n
/-- The input gradient. -/
def DX (c : Dev nD) (r : Fin 2048) (n : Fin 8192) : EReal :=
  RN m c (ix2 r 0) * (DHc m c r n * NW m c (ix1 n) - XHc m c r n * MEAN m c r)
/-- The gradient of the joined low-rank factors. -/
def DAG (c : Dev nD) (j : Fin 128) (n : Fin 8192) : EReal :=
  ∑ r : Fin 2048, SC (SG m c) (SU m c) r j * (XHc m c r n * NW m c (ix1 n))
/-- The mean of a row. -/
def RD (c : Dev nD) (r : Fin 2048) : EReal := (∑ n : Fin 8192, Q m c r n) * K

theorem tok_congr (s t : Fin cfg0.N) (h : s.val % 2 = t.val % 2) (r : Fin 1024) : tok s r = tok t r := by
  refine Fin.ext ?_
  show s.val % 2 * 1024 + r.val = t.val % 2 * 1024 + r.val
  rw [h]

theorem lohi (n : Fin 256) : (∃ k : Fin 128, n = ⟨k.val, by omega⟩) ∨ (∃ k : Fin 128, n = ⟨128 + k.val, by omega⟩) := by
  by_cases h : n.val < 128
  · exact Or.inl ⟨⟨n.val, h⟩, rfl⟩
  · exact Or.inr ⟨⟨n.val - 128, by omega⟩, Fin.ext (by show n.val = 128 + (n.val - 128); omega)⟩

/-! ## What a point computes -/

theorem dh_at (c : Dev nD) (t : Fin cfg0.N) (r : Fin 1024) (n : Fin 256) : dhAt m c t (ix2 r n) = DHc m c (tok t r) (col t n) := by
  unfold dhAt dhV
  rw [pay10]
  simp only [blk0, blk1, blk2, blk3, blk5, rows_at, blk4]
  rw [sum_joined, DHc, DH]

theorem r_at (c : Dev nD) (t : Fin cfg0.N) (r : Fin 1024) (n : Fin 256) : rAt m c t (ix2 r n) = RN m c (ix2 (tok t r) 0) := by
  unfold rAt rV
  rcases lohi n with ⟨k, rfl⟩ | ⟨k, rfl⟩
  · rw [pay12_lo, rows_at, blk8]
  · rw [pay12_hi, rows_at, blk8]

theorem nw_at (c : Dev nD) (t : Fin cfg0.N) (n : Fin 256) : k0_pay11 (iblk m c 7 t) (ix2 0 n) = NW m c (ix1 (col t n)) := by
  rw [pay11, blk7]

/-! ## The scratch of row means -/

theorem mean_own (c : Dev nD) (t : Fin cfg0.N) (h : t.val < 2) (d : Vec Ideal S2048x128 .f32) (r : Fin 1024) (k : Fin 128) :
    meanStep m c t d (ix2 (tok t r) k) = MEAN m c (tok t r) := by
  unfold meanStep meanV
  rw [if_pos ((hc1 t).mpr h), put_own, pay7]
  simp only [rows_at, blk9, MEAN]

theorem mean_other (c : Dev nD) (s t : Fin cfg0.N) (h : ¬ t.val < 2 ∨ s.val % 2 ≠ t.val % 2) (d : Vec Ideal S2048x128 .f32) (r : Fin 1024) (k : Fin 128) :
    meanStep m c t d (ix2 (tok s r) k) = d (ix2 (tok s r) k) := by
  unfold meanStep meanV
  by_cases h1 : t.val < 2
  · rw [if_pos ((hc1 t).mpr h1), put_other _ t s (h.resolve_left (not_not_intro h1))]
  · rw [if_neg (fun hh => h1 ((hc1 t).mp hh))]

theorem mean_at (c : Dev nD) (d : Vec Ideal S2048x128 .f32) (n : ℕ) (h : n < cfg0.N) (s : Fin cfg0.N) (hs : s.val % 2 ≤ n) (r : Fin 1024) (k : Fin 128) :
    meanAt m c d n h (ix2 (tok s r) k) = MEAN m c (tok s r) := by
  induction n with
  | zero =>
    show meanStep m c ⟨0, h⟩ d (ix2 (tok s r) k) = _
    rw [tok_congr s ⟨0, h⟩ (by show s.val % 2 = 0 % 2; omega)]
    exact mean_own m c ⟨0, h⟩ (by show 0 < 2; omega) d r k
  | succ n ih =>
    show meanStep m c ⟨n + 1, h⟩ (meanAt m c d n (Nat.lt_of_succ_lt h)) (ix2 (tok s r) k) = _
    by_cases h1 : n + 1 < 2 ∧ s.val % 2 = (n + 1) % 2
    · rw [tok_congr s ⟨n + 1, h⟩ h1.2]
      exact mean_own m c ⟨n + 1, h⟩ h1.1 _ r k
    · rw [mean_other m c s ⟨n + 1, h⟩ (by show ¬ n + 1 < 2 ∨ s.val % 2 ≠ (n + 1) % 2; omega)]
      exact ih _ (by omega)

theorem dx_at (c : Dev nD) (d : Vec Ideal S2048x128 .f32) (t : Fin cfg0.N) (r : Fin 1024) (n : Fin 256) :
    dxAt m c d t (ix2 r n) = DX m c (tok t r) (col t n) := by
  unfold dxAt dxV
  rcases lohi n with ⟨k, rfl⟩ | ⟨k, rfl⟩
  · rw [pay4_lo, r_at, dh_at, nw_at, blk6, rows_at, mean_at m c d t.val t.isLt t (Nat.mod_le _ _)]; rfl
  · rw [pay4_hi, r_at, dh_at, nw_at, blk6, rows_at, mean_at m c d t.val t.isLt t (Nat.mod_le _ _)]; rfl

/-! ## The row sums -/

/-- What column block `i` adds to lane `k` of row `r`. -/
def E (c : Dev nD) (r : Fin 2048) (k : Fin 128) (i : Fin 32) : EReal :=
  Q m c r ⟨i.val * 256 + k.val, by omega⟩ + Q m c r ⟨i.val * 256 + (128 + k.val), by omega⟩
/-- The same for any number of a block. -/
def E' (c : Dev nD) (r : Fin 2048) (k : Fin 128) (i : ℕ) : EReal := if h : i < 32 then E m c r k ⟨i, h⟩ else 0

theorem new_at (c : Dev nD) (t : Fin cfg0.N) (d : Vec Ideal S2048x128 .f32) (r : Fin 1024) (k : Fin 128) :
    newV (grid0.coords t) (dhAt m c t) (rAt m c t) (iblk m c 6 t) (iblk m c 7 t) d (ix2 (tok t r) k)
      = (if t.val < 2 then 0 else d (ix2 (tok t r) k)) + E' m c (tok t r) k (t.val / 2) := by
  have hN : t.val < 64 := lt_of_lt_of_eq t.isLt N_0
  unfold newV
  rw [put_own, pay3, rows_at, E', dif_pos (by omega)]
  simp only [dh_at, r_at, nw_at, blk6]
  refine congrArg₂ (fun a b : EReal => a + b) ?_ rfl
  unfold baseV
  by_cases h1 : t.val < 2
  · rw [if_pos ((hc1 t).mpr h1), if_pos h1, put_own, pay8]
  · rw [if_neg (fun hh => h1 ((hc1 t).mp hh)), if_neg h1]

theorem new_other (c : Dev nD) (s t : Fin cfg0.N) (h : s.val % 2 ≠ t.val % 2) (d : Vec Ideal S2048x128 .f32) (r : Fin 1024) (k : Fin 128) :
    newV (grid0.coords t) (dhAt m c t) (rAt m c t) (iblk m c 6 t) (iblk m c 7 t) d (ix2 (tok s r) k) = d (ix2 (tok s r) k) := by
  unfold newV
  rw [put_other _ t s h]
  unfold baseV
  by_cases h1 : t.val < 2
  · rw [if_pos ((hc1 t).mpr h1), put_other _ t s h]
  · rw [if_neg (fun hh => h1 ((hc1 t).mp hh))]

theorem rd_own (c : Dev nD) (t : Fin cfg0.N) (h : t.val < 62) (d : Vec Ideal S2048x128 .f32) (r : Fin 1024) (k : Fin 128) :
    rdStep m c t d (ix2 (tok t r) k) = (if t.val < 2 then 0 else d (ix2 (tok t r) k)) + E' m c (tok t r) k (t.val / 2) := by
  unfold rdStep rdV
  rw [if_neg (fun hh => by have := (hc3 t).mp hh; omega), new_at]

theorem rd_last (c : Dev nD) (t : Fin cfg0.N) (h : 62 ≤ t.val) (d : Vec Ideal S2048x128 .f32) (r : Fin 1024) (k : Fin 128) :
    rdStep m c t d (ix2 (tok t r) k) = (∑ k : Fin 128, (d (ix2 (tok t r) k) + E' m c (tok t r) k (t.val / 2))) * K := by
  unfold rdStep rdV
  rw [if_pos ((hc3 t).mpr h), put_own, pay6]
  simp only [rows_at, new_at]
  simp only [if_neg (show ¬ t.val < 2 by omega)]

theorem rd_other (c : Dev nD) (s t : Fin cfg0.N) (h : s.val % 2 ≠ t.val % 2) (d : Vec Ideal S2048x128 .f32) (r : Fin 1024) (k : Fin 128) :
    rdStep m c t d (ix2 (tok s r) k) = d (ix2 (tok s r) k) := by
  unfold rdStep rdV
  by_cases h3 : 62 ≤ t.val
  · rw [if_pos ((hc3 t).mpr h3), put_other _ t s h, new_other m c s t h]
  · rw [if_neg (fun hh => h3 ((hc3 t).mp hh)), new_other m c s t h]

/-- Before the last column block the lanes hold the partial sums. -/
theorem rd_partial (c : Dev nD) (d : Vec Ideal S2048x128 .f32) (n : ℕ) (h : n < cfg0.N) (hn : n < 62) (s : Fin cfg0.N) (hs : s.val % 2 ≤ n)
    (r : Fin 1024) (k : Fin 128) :
    rdAt m c d n h (ix2 (tok s r) k) = ∑ i ∈ Finset.range ((n + 2 - s.val % 2) / 2), E' m c (tok s r) k i := by
  induction n with
  | zero =>
    have h0 : s.val % 2 = 0 := by omega
    show rdStep m c ⟨0, h⟩ d (ix2 (tok s r) k) = _
    rw [h0, tok_congr s ⟨0, h⟩ (by show s.val % 2 = 0 % 2; omega)]
    refine (rd_own m c ⟨0, h⟩ (by show 0 < 62; omega) d r k).trans ?_
    rw [if_pos (by show 0 < 2; omega), zero_add]
    simp only [Nat.reduceAdd, Nat.reduceSub, Nat.reduceDiv, Finset.sum_range_one, Nat.zero_div]
  | succ n ih =>
    show rdStep m c ⟨n + 1, h⟩ (rdAt m c d n (Nat.lt_of_succ_lt h)) (ix2 (tok s r) k) = _
    by_cases h1 : s.val % 2 = (n + 1) % 2
    · have e : (n + 1 + 2 - s.val % 2) / 2 = (n + 1) / 2 + 1 := by omega
      have ih' := fun hle => ih (Nat.lt_of_succ_lt h) (by omega) hle
      rw [e, Finset.sum_range_succ]
      rw [tok_congr s ⟨n + 1, h⟩ h1] at ih' ⊢
      refine (rd_own m c ⟨n + 1, h⟩ hn _ r k).trans (congrArg₂ (fun a b : EReal => a + b) ?_ rfl)
      by_cases h2 : n + 1 < 2
      · rw [if_pos h2, show (n + 1) / 2 = 0 by omega, Finset.sum_range_zero]
      · rw [if_neg h2, ih' (by omega), show (n + 2 - s.val % 2) / 2 = (n + 1) / 2 by omega]
    · rw [rd_other m c s ⟨n + 1, h⟩ h1, ih _ (by omega) (by omega), show (n + 1 + 2 - s.val % 2) / 2 = (n + 2 - s.val % 2) / 2 by omega]

theorem sum_lanes (c : Dev nD) (r : Fin 2048) :
    ∑ k : Fin 128, ((∑ i ∈ Finset.range 31, E' m c r k i) + E' m c r k 31) = ∑ n : Fin 8192, Q m c r n := by
  simp only [← Finset.sum_range_succ]
  refine Finset.sum_comm.trans ((Finset.sum_range (M := EReal) _).trans ?_)
  refine Eq.trans (Fin.sum_fin_congr fun i => ?_) (Fin.sum_mul_add_fin (M := EReal) 32 256 (Q m c r))
  rw [Fin.sum_univ_two_halves 128 128 rfl, ← Finset.sum_add_distrib]
  refine Fin.sum_fin_congr fun k => ?_
  rw [E', dif_pos i.isLt]
  rfl

theorem rd_final (c : Dev nD) (d : Vec Ideal S2048x128 .f32) (h : 63 < cfg0.N) (s : Fin cfg0.N) (r : Fin 1024) (k : Fin 128) :
    rdAt m c d 63 h (ix2 (tok s r) k) = RD m c (tok s r) := by
  have p61 := fun k => rd_partial m c d 61 (by omega) (by omega) s (by omega) r k
  show rdStep m c ⟨63, h⟩ (rdStep m c ⟨62, by omega⟩ (rdAt m c d 61 (by omega))) (ix2 (tok s r) k) = _
  by_cases hs : s.val % 2 = 0
  · rw [rd_other m c s ⟨63, h⟩ (by show s.val % 2 ≠ 63 % 2; omega)]
    rw [tok_congr s ⟨62, by omega⟩ (by show s.val % 2 = 62 % 2; omega)] at p61 ⊢
    refine (rd_last m c ⟨62, by omega⟩ (by show 62 ≤ 62; omega) _ r k).trans (congrArg (fun a : EReal => a * K) ?_)
    refine Eq.trans (Fin.sum_fin_congr fun k => ?_) (sum_lanes m c _)
    rw [p61, hs]
    simp only [Nat.reduceAdd, Nat.reduceSub, Nat.reduceDiv]
  · have p62 : ∀ k, rdStep m c ⟨62, by omega⟩ (rdAt m c d 61 (by omega)) (ix2 (tok s r) k) = _ :=
      fun k => (rd_other m c s ⟨62, by omega⟩ (by show s.val % 2 ≠ 62 % 2; omega) _ r k).trans (p61 k)
    rw [tok_congr s ⟨63, h⟩ (by show s.val % 2 = 63 % 2; omega)] at p62 ⊢
    refine (rd_last m c ⟨63, h⟩ (by show 62 ≤ 63; omega) _ r k).trans (congrArg (fun a : EReal => a * K) ?_)
    refine Eq.trans (Fin.sum_fin_congr fun k => ?_) (sum_lanes m c _)
    rw [p62, show s.val % 2 = 1 by omega]
    simp only [Nat.reduceAdd, Nat.reduceSub, Nat.reduceDiv]

/-! ## The gradient of the low-rank factors -/

theorem dag_at (c : Dev nD) (t : Fin cfg0.N) (d : Vec Ideal S128x256 .f32) (j : Fin 128) (n : Fin 256) :
    dagStep m c t d (ix2 j n)
      = (if t.val % 2 = 0 then 0 else d (ix2 j n))
        + ∑ r : Fin 1024, SC (SG m c) (SU m c) (tok t r) j * (XHc m c (tok t r) (col t n) * NW m c (ix1 (col t n))) := by
  unfold dagStep dagV
  rw [pay5]
  simp only [r_at, nw_at, blk6, rows_at, blk4]
  refine congrArg₂ (fun a b : EReal => a + b) ?_ rfl
  by_cases h2 : t.val % 2 = 0
  · rw [if_pos ((hc2 t).mpr h2), if_pos h2, pay9]
  · rw [if_neg (fun hh => h2 ((hc2 t).mp hh)), if_neg h2]

theorem dag_last (c : Dev nD) (t : Fin cfg0.N) (h : t.val % 2 = 1) (j : Fin 128) (n : Fin 256) :
    dagAt m c t.val t.isLt (ix2 j n) = DAG m c j (col t n) := by
  have hlt : t.val - 1 < cfg0.N := lt_of_le_of_lt (Nat.sub_le _ _) t.isLt
  have hprev : dagAt m c (t.val - 1) hlt (ix2 j n)
      = 0 + ∑ r : Fin 1024, SC (SG m c) (SU m c) (tok ⟨t.val - 1, hlt⟩ r) j
          * (XHc m c (tok ⟨t.val - 1, hlt⟩ r) (col ⟨t.val - 1, hlt⟩ n) * NW m c (ix1 (col ⟨t.val - 1, hlt⟩ n))) := by
    have h2 : (t.val - 1) % 2 = 0 := by omega
    by_cases hz : t.val - 1 = 0
    · refine (congrFun (iter_zero (dagStep m c) (k0_pay9 (F := Ideal)) ⟨t.val - 1, hlt⟩ hz) (ix2 j n)).trans ?_
      rw [dag_at, if_pos h2]
    · refine (congrFun (iter_pos (dagStep m c) (k0_pay9 (F := Ideal)) ⟨t.val - 1, hlt⟩ hz) (ix2 j n)).trans ?_
      rw [dag_at, if_pos h2]
  refine (congrFun (iter_pos (dagStep m c) (k0_pay9 (F := Ideal)) t (by omega)) (ix2 j n)).trans ?_
  rw [dag_at, if_neg (by omega)]
  refine (congrArg (fun a : EReal => a + _) hprev).trans ?_
  rw [zero_add, DAG, Fin.sum_univ_two_halves 1024 1024 rfl]
  have ec : col ⟨t.val - 1, hlt⟩ n = col t n := Fin.ext (by show (t.val - 1) / 2 * 256 + n.val = t.val / 2 * 256 + n.val; omega)
  rw [ec]
  refine congrArg₂ (fun a b : EReal => a + b) (Fin.sum_fin_congr fun r => ?_) (Fin.sum_fin_congr fun r => ?_)
  · have e : tok ⟨t.val - 1, hlt⟩ r = ⟨r.val, by omega⟩ := Fin.ext (by show (t.val - 1) % 2 * 1024 + r.val = r.val; omega)
    rw [e]
  · have e : tok t r = ⟨1024 + r.val, by omega⟩ := Fin.ext (by show t.val % 2 * 1024 + r.val = 1024 + r.val; omega)
    rw [e]

/-! ## The results -/

theorem tok_all (r : Fin 2048) : ∃ (s : Fin cfg0.N) (q : Fin 1024), r = tok s q :=
  ⟨⟨r.val / 1024, lt_of_lt_of_eq (by omega : r.val / 1024 < 64) N_0.symm⟩, ⟨r.val % 1024, by omega⟩, Fin.ext (by show r.val = r.val / 1024 % 2 * 1024 + r.val % 1024; omega)⟩

theorem final10 (c : Dev nD) (after) (ha : ∀ t : Fin cfg0.N, (cfg0.win 10).flush t = true → (rdat m c).Leaves 10 t (after 10 t)) :
    ((rdat m c).withAfter after).arrAt 10 cfg0.N = fun i => DX m c (i 0) (i 1) := by
  refine Dat.arrAt_eq_of_covers _ 10 _ (by decide +kernel) fun t hf y => ?_
  blk_simp
  obtain ⟨d, hd⟩ := (dats m 0 c).toRRel_leaves (fgt := fgt) (Rl := Rl m c) (w := 10) rfl (ha t hf)
  refine (congrFun hd y).trans ?_
  refine ((congrArg _ (eq_ix2 y)).trans (dx_at m c d t (y 0) (y 1))).trans (congrArg₂ (DX m c) (Fin.ext ?_) (Fin.ext ?_))
  all_goals (blk_simp [idx t, col, tok]; try rfl)

theorem final11 (c : Dev nD) (after) (ha : ∀ t : Fin cfg0.N, (cfg0.win 11).flush t = true → (rdat m c).Leaves 11 t (after 11 t)) :
    ((rdat m c).withAfter after).arrAt 11 cfg0.N = fun i => DAG m c (i 0) (i 1) := by
  refine Dat.arrAt_eq_of_covers _ 11 _ (by decide +kernel) fun t hf y => ?_
  blk_simp
  have hd : after 11 t = dagAt m c t.val t.isLt := (dats m 0 c).toRRel_leaves (fgt := fgt) (Rl := Rl m c) (w := 11) rfl (ha t hf)
  refine (congrFun hd y).trans ?_
  have h2 : t.val % 2 = 1 := (flush0_11 t).mp hf
  refine ((congrArg _ (eq_ix2 y)).trans (dag_last m c t h2 (y 0) (y 1))).trans (congrArg₂ (DAG m c) (Fin.ext ?_) (Fin.ext ?_))
  all_goals (blk_simp [idx t, col]; try rfl)

theorem final12 (c : Dev nD) (after) (ha : ∀ t : Fin cfg0.N, (cfg0.win 12).flush t = true → (rdat m c).Leaves 12 t (after 12 t)) :
    ((rdat m c).withAfter after).arrAt 12 cfg0.N = fun i => RD m c (i 0) := by
  refine Dat.arrAt_eq_of_covers _ 12 _ (by decide +kernel) fun t hf y => ?_
  blk_simp
  obtain ⟨d, hd⟩ := (dats m 0 c).toRRel_leaves (fgt := fgt) (Rl := Rl m c) (w := 12) rfl (ha t hf)
  refine (congrFun hd y).trans ?_
  have hN : t.val < 64 := lt_of_lt_of_eq t.isLt N_0
  have h2 : t.val = 63 := by have := (flush0_12 t).mp hf; omega
  have key : ∀ (n : ℕ) (h : n < cfg0.N), n = 63 → ∀ (s : Fin cfg0.N) (r : Fin 1024) (k : Fin 128),
      rdAt m c d n h (ix2 (tok s r) k) = RD m c (tok s r) := by
    intro n h hn; subst hn; exact rd_final m c d h
  obtain ⟨s, q, hq⟩ := tok_all (y 0)
  refine ((congrArg _ ((eq_ix2 y).trans (congrArg (fun a => ix2 a (y 1)) hq))).trans (key t.val t.isLt h2 s q (y 1))).trans
    ((congrArg (RD m c) hq.symm).trans (congrArg (RD m c) (Fin.ext ?_)))
  all_goals (blk_simp [idx t]; try rfl)

/-- The kernel runs to its three results. -/
theorem run_values (ρ : Dev nD → PrngReg) : θ_run defs (onTc (τ := τ) (main (F := Ideal))) (s₀ m ρ) (fun r => ∀ c : Dev nD,
      r.2.mem ((c.tc : Thread nD τ).loc main_v4_0) = (fun i => DX m c (i 0) (i 1))
      ∧ r.2.mem ((c.tc : Thread nD τ).loc main_v4_1) = (fun i => DAG m c (i 0) (i 1))
      ∧ r.2.mem ((c.tc : Thread nD τ).loc main_v4_2) = (fun i => RD m c (i 0))) :=
  (θ_run defs _ _).mono (fun r h c => by
    obtain ⟨after, hL, hA⟩ := RDat.FramePost.exists_exact h.1 c
    exact ⟨(hA 10).trans (final10 m c after (hL 10)), (hA 11).trans (final11 m c after (hL 11)), (hA 12).trans (final12 m c after (hL 12))⟩)
    (run_main m ρ)

end Cert.DxIdeal.RefValue
end
-- ==== Proof.DxRefValue.lean ====
module
public import proofs.«01_k».proof.Proof.DxValue
public import Idealize.ShloMosaic.Lib.Pipeline.ValueKit
public import Idealize.ShloMosaic.Lib.Pipeline.ReadBack
public import Idealize.ShloMosaic.Lib.Pipeline.ArrRel

/-! The reference of the input gradient at the extended reals: the same formulas of its arguments. -/

@[expose] public section

set_option maxRecDepth 16384

noncomputable section

open Idealize.ShloMosaic Idealize.ShloMosaic.TcCoe Idealize.SL.Sem
open Idealize.ShloMosaic.Pipeline (Dat RDat)
open scoped BigOperators

namespace Cert.DxIdeal.RefValue

open Cert.DxIdeal Cert.DxRefIdeal.Read

section

variable (x0 x1 : FVec Ideal S2048x3584 .bf16) (x2 x3 : FVec Ideal S3584x8192 .bf16) (x4 x5 : FVec Ideal S2048x64 .bf16)
  (x6 x7 : FVec Ideal S64x8192 .bf16) (x8 : FVec Ideal S2048x8192 .bf16) (x9 : FVec Ideal S8192 .f32) (x10 : FVec Ideal S2048x1 .f32)
  (x11 : FVec Ideal S2048x128 .f32)

theorem ref_xh (i : S2048x8192.Idx) : val_main_v2 (F := Ideal) x8 x10 i = XH x8 x10 (i 0) (i 1) := by
  idx_vars i
  pointwise [val_main_v2, val_main_v1, val_main_v0, XH]

theorem ref_hn (i : S2048x8192.Idx) : val_main_v6 (F := Ideal) x8 x9 x10 i = XH x8 x10 (i 0) (i 1) * x9 (ix1 (i 1)) := by
  have h := ref_xh x8 x10 i
  idx_vars i
  pointwise [val_main_v6, val_main_v5, val_main_v4, val_main_v3, h]

theorem ref_g (i : S2048x8192.Idx) : val_main_v12 (F := Ideal) x0 x2 i = ∑ k : Fin 3584, x0 (ix2 (i 0) k) * x2 (ix2 k (i 1)) := by
  idx_vars i
  pointwise [val_main_v12, val_main_v11, val_main_v10, val_main_v8, val_main_v7]
  split
  · rfl
  · refine Fin.sum_fin_congr fun k => ?_
    refine congrArg (fun q => x0 (ix2 i0 k) * x2 (ix2 k q)) (Fin.ext ?_)
    show 4096 + (i1.val - 4096) = i1.val
    omega

theorem ref_u (i : S2048x8192.Idx) : val_main_v20 (F := Ideal) x1 x3 i = ∑ k : Fin 3584, x1 (ix2 (i 0) k) * x3 (ix2 k (i 1)) := by
  idx_vars i
  pointwise [val_main_v20, val_main_v19, val_main_v18, val_main_v16, val_main_v15]
  split
  · rfl
  · refine Fin.sum_fin_congr fun k => ?_
    refine congrArg (fun q => x1 (ix2 i0 k) * x3 (ix2 k q)) (Fin.ext ?_)
    show 4096 + (i1.val - 4096) = i1.val
    omega

theorem ref_dh (i : S2048x8192.Idx) :
    val_main_v23 (F := Ideal) x0 x1 x2 x3 x4 x5 x6 x7 i = DH x0 x1 x2 x3 x4 x5 x6 x7 (i 0) (i 1) := by
  have h1 := ref_g x0 x2 i
  have h2 := ref_u x1 x3 i
  idx_vars i
  pointwise [val_main_v23, val_main_v22, val_main_v14, val_main_v21, val_main_v13, h1, h2, DH]
  exact add_add_add_comm _ _ _ _

theorem ref_dxh (i : S2048x8192.Idx) :
    val_main_v26 (F := Ideal) x0 x1 x2 x3 x4 x5 x6 x7 x9 i = DH x0 x1 x2 x3 x4 x5 x6 x7 (i 0) (i 1) * x9 (ix1 (i 1)) := by
  have h1 := ref_dh x0 x1 x2 x3 x4 x5 x6 x7 i
  idx_vars i
  pointwise [val_main_v26, val_main_v25, val_main_v24, h1]

theorem ref_dx (i : S2048x8192.Idx) :
    val_main_v41 (F := Ideal) x0 x1 x2 x3 x4 x5 x6 x7 x8 x9 x10 x11 i
      = x10 (ix2 (i 0) 0) * (DH x0 x1 x2 x3 x4 x5 x6 x7 (i 0) (i 1) * x9 (ix1 (i 1))
          - XH x8 x10 (i 0) (i 1) * ((∑ k : Fin 128, x11 (ix2 (i 0) k)) * Ideal.ofBits .f32 0x39000000#32)) := by
  have h1 := ref_dxh x0 x1 x2 x3 x4 x5 x6 x7 x9 i
  have h2 := ref_xh x8 x10 i
  idx_vars i
  pointwise [val_main_v41, val_main_v40, val_main_v39, val_main_v38, val_main_v37, val_main_v36, val_main_v35, val_main_v34, val_main_v33,
    val_main_v32, val_main_cst_1, val_main_cst_2, h1, h2, Cert.Scalars.div_eightk]

theorem ref_da_lo (j : Fin 64) (n : Fin 8192) :
    val_main_v42 (F := Ideal) x4 x5 x8 x9 x10 (ix2 ⟨j.val, by omega⟩ n)
      = ∑ r : Fin 2048, x4 (ix2 r j) * (XH x8 x10 r n * x9 (ix1 n)) := by
  have h : ∀ r n, val_main_v6 (F := Ideal) x8 x9 x10 (ix2 r n) = XH x8 x10 r n * x9 (ix1 n) := fun r n => ref_hn x8 x9 x10 (ix2 r n)
  pointwise [val_main_v42, val_main_v9, val_main_v17, h]

theorem ref_da_hi (j : Fin 64) (n : Fin 8192) :
    val_main_v42 (F := Ideal) x4 x5 x8 x9 x10 (ix2 ⟨64 + j.val, by omega⟩ n)
      = ∑ r : Fin 2048, x5 (ix2 r j) * (XH x8 x10 r n * x9 (ix1 n)) := by
  have h : ∀ r n, val_main_v6 (F := Ideal) x8 x9 x10 (ix2 r n) = XH x8 x10 r n * x9 (ix1 n) := fun r n => ref_hn x8 x9 x10 (ix2 r n)
  pointwise [val_main_v42, val_main_v9, val_main_v17, h]

theorem ref_da (i : S128x8192.Idx) :
    val_main_v42 (F := Ideal) x4 x5 x8 x9 x10 i
      = ∑ r : Fin 2048, SC x4 x5 r (i 0) * (XH x8 x10 r (i 1) * x9 (ix1 (i 1))) := by
  have key : ∀ (j : Fin 128) (n : Fin 8192), val_main_v42 (F := Ideal) x4 x5 x8 x9 x10 (ix2 j n)
      = ∑ r : Fin 2048, SC x4 x5 r j * (XH x8 x10 r n * x9 (ix1 n)) := by
    intro j n
    by_cases h : j.val < 64
    · refine (ref_da_lo x4 x5 x8 x9 x10 ⟨j.val, h⟩ n).trans (Fin.sum_fin_congr fun r => ?_)
      rw [SC, dif_pos h]
    · have e : j = (⟨64 + (j.val - 64), by omega⟩ : Fin 128) := Fin.ext (by show j.val = 64 + (j.val - 64); omega)
      refine ((congrArg (fun a => val_main_v42 (F := Ideal) x4 x5 x8 x9 x10 (ix2 a n)) e).trans
        (ref_da_hi x4 x5 x8 x9 x10 ⟨j.val - 64, by omega⟩ n)).trans (Fin.sum_fin_congr fun r => ?_)
      rw [SC, dif_neg h]
  exact (congrArg _ (eq_ix2 i)).trans (key (i 0) (i 1))

theorem ref_rd (i : S2048x128.Idx) :
    val_main_v43 (F := Ideal) x0 x1 x2 x3 x4 x5 x6 x7 x8 x9 x10 i
      = (∑ n : Fin 8192, DH x0 x1 x2 x3 x4 x5 x6 x7 (i 0) n * x9 (ix1 n) * XH x8 x10 (i 0) n) * Ideal.ofBits .f32 0x39000000#32 := by
  have h1 : ∀ r n, val_main_v26 (F := Ideal) x0 x1 x2 x3 x4 x5 x6 x7 x9 (ix2 r n) = _ := fun r n => ref_dxh x0 x1 x2 x3 x4 x5 x6 x7 x9 (ix2 r n)
  have h2 : ∀ r n, val_main_v2 (F := Ideal) x8 x10 (ix2 r n) = _ := fun r n => ref_xh x8 x10 (ix2 r n)
  idx_vars i
  pointwise [val_main_v43, val_main_v31, val_main_v30, val_main_v29, val_main_v28, val_main_v27, val_main_cst, val_main_cst_0, h1, h2,
    Cert.Scalars.div_eightk]

end

end Cert.DxIdeal.RefValue
end
-- ==== Proof.DxClaim.lean ====
module
public import proofs.«01_k».proof.Defs
public import proofs.«01_k».proof.Proof.Gen.DxRefIdeal.Run
public import proofs.«01_k».proof.Proof.DxSums
public import proofs.«01_k».proof.Proof.DxRefValue
public import Idealize.ShloMosaic.Lib.Claim

/-! The algebraic claim of the input gradient call: kernel and reference run, and end with equal results. -/

@[expose] public section

set_option maxRecDepth 16384

noncomputable section

namespace Cert.DxProof

open Idealize.ShloMosaic Idealize.ShloMosaic.TcCoe Idealize.SL.Sem

set_option maxHeartbeats 1600000 in
theorem algebraic : Cert.algebraic_DxIdeal_DxRefIdeal (hDxIdeal := Cert.DxIdeal.Gen.facts)
    (hDxRefIdeal := Cert.DxRefIdeal.Gen.facts) := by
  pair_intro
  · run_from Cert.DxIdeal.RefValue.run_values m g & Cert.DxIdeal.Body.frame m g
  · run_from Cert.DxRefIdeal.Value.run m' g'
    · exact funext fun i => Cert.DxIdeal.RefValue.ref_dx _ _ _ _ _ _ _ _ _ _ _ _ i
    · obtain ⟨-, -, -, -, h4, h5, -, -, h8, h9, h10, -⟩ := hagree c
      refine (funext fun i => Cert.DxIdeal.RefValue.ref_da _ _ _ _ _ i).trans ?_
      rw [h4, h5, h8, h9, h10]
      rfl
    · exact funext fun i => Cert.DxIdeal.RefValue.ref_rd _ _ _ _ _ _ _ _ _ _ _ i

end Cert.DxProof
end
-- ==== Proof.DactBody.lean ====
module

public import proofs.«01_k».proof.Proof.Gen.Dact.Frame
public import proofs.«01_k».proof.Proof.Gen.Dact.Skeleton
public import Idealize.ShloMosaic.Lib.VecWindow
public import Idealize.ShloMosaic.Lib.Pipeline.DatRel
public import Idealize.ShloMosaic.Lib.Pipeline.Frame
public import Idealize.ShloMosaic.Lib.Tactic
public import Idealize.ShloMosaic.Lib.LaneScatter.Own

@[expose] public section

set_option maxRecDepth 16384

noncomputable section

namespace Cert.Dact.Body

open Cert.Dact Cert.Dact.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw owns_raw raw_owns)
open Idealize.ShloMosaic.Pipeline (Dat RDat Cfg Window BodyObligation BodyObligationRel cellOf)

variable {F : FTy → Type} [FloatOps F]

local notation "𝕄" => MT nD τ sig Unit (Elt F) ℕ (UR sig nD τ) ℕ

/-- The buffers that the body works on, each of which is whole. -/
structure Bufs where
  a2 : Memref sig .tc .vmem S1024x8192 .bf16
  h2 : a2.IsWhole
  a3 : Memref sig .tc .vmem S8192x256 .bf16
  h3 : a3.IsWhole
  a4 : Memref sig .tc .vmem S2048x64 .bf16
  h4 : a4.IsWhole
  a5 : Memref sig .tc .vmem S64x256 .bf16
  h5 : a5.IsWhole
  a6 : Memref sig .tc .vmem S1024x256 .bf16
  h6 : a6.IsWhole
  a7 : Memref sig .tc .vmem S1024x256 .f32
  h7 : a7.IsWhole
  a8 : Memref sig .tc .vmem S1024x256 .f32
  h8 : a8.IsWhole
  a9 : Memref sig .tc .vmem S2048x64 .bf16
  h9 : a9.IsWhole
  a10 : Memref sig .tc .vmem S2048x64 .bf16
  h10 : a10.IsWhole
  a11 : Memref sig .tc .vmem S256x64 .bf16
  h11 : a11.IsWhole
  a12 : Memref sig .tc .vmem S256x64 .bf16
  h12 : a12.IsWhole
  a13 : Memref sig .tc .vmem S1x256 .f32
  h13 : a13.IsWhole
  a14 : Memref sig .tc .vmem S1x256 .f32
  h14 : a14.IsWhole
  a15 : Memref sig .tc .vmem S1x256 .f32
  h15 : a15.IsWhole
  a16 : Memref sig .tc .vmem S1x256 .f32
  h16 : a16.IsWhole
  a17 : Memref sig .tc .vmem S1024x256 .bf16
  h17 : a17.IsWhole
  a18 : Memref sig .tc .vmem S1024x256 .bf16
  h18 : a18.IsWhole
  a19 : Memref sig .tc .vmem S1x256 .f32
  h19 : a19.IsWhole
  a20 : Memref sig .tc .vmem S1x256 .f32
  h20 : a20.IsWhole
  a21 : Memref sig .tc .vmem S256x64 .f32
  h21 : a21.IsWhole
  a22 : Memref sig .tc .vmem S256x64 .f32
  h22 : a22.IsWhole
  a23 : Memref sig .tc .vmem S64x256 .f32
  h23 : a23.IsWhole
  a24 : Memref sig .tc .vmem S2048x64 .bf16
  h24 : a24.IsWhole
  a25 : Memref sig .tc .vmem S2048x64 .bf16
  h25 : a25.IsWhole
  a26 : Memref sig .tc .vmem S2048x128 .f32
  h26 : a26.IsWhole
  a27 : Memref sig .tc .vmem S2048x64 .f32
  h27 : a27.IsWhole
  a28 : Memref sig .tc .vmem S2048x64 .f32
  h28 : a28.IsWhole
  a29 : Memref sig .tc .vmem S1024x256 .f32
  h29 : a29.IsWhole

variable (F) in
/-- What the input buffers hold at a point. -/
structure Ins where
  x0 : Vec F S1024x8192 .bf16
  x1 : Vec F S8192x256 .bf16
  x2 : Vec F S2048x64 .bf16
  x3 : Vec F S64x256 .bf16
  x4 : Vec F S1024x256 .bf16
  x5 : Vec F S1024x256 .f32
  x6 : Vec F S1024x256 .f32
  x7 : Vec F S2048x64 .bf16
  x8 : Vec F S2048x64 .bf16
  x9 : Vec F S256x64 .bf16
  x10 : Vec F S256x64 .bf16
  x11 : Vec F S1x256 .f32
  x12 : Vec F S1x256 .f32
  x13 : Vec F S1x256 .f32
  x14 : Vec F S1x256 .f32

variable (F) in
/-- What the buffers that carry something from point to point hold before a point. -/
structure Olds where
  y17 : Vec F S1x256 .f32
  y18 : Vec F S1x256 .f32
  y19 : Vec F S256x64 .f32
  y20 : Vec F S256x64 .f32
  y21 : Vec F S64x256 .f32
  y22 : Vec F S2048x64 .bf16
  y23 : Vec F S2048x64 .bf16
  y24 : Vec F S2048x128 .f32
  s0 : Vec F S2048x64 .f32
  s1 : Vec F S2048x64 .f32

/-- The first row of the half of the tokens that a point works on. -/
def offs (i : grid0.Coords) : Fin 2 → ℕ := ![1024 * (i 1).val, 0]

theorem offs_inb (i : grid0.Coords) : ∀ a, offs i a + S1024x64.size a ≤ S2048x64.size a := by
  have h := k0_off3_inb i
  rwa [k0_off3_eq] at h

theorem offs_inb' (i : grid0.Coords) : ∀ a, offs i a + S1024x128.size a ≤ S2048x128.size a := by
  have h := k0_off4_inb i
  rwa [k0_off4_eq] at h

/-- The rows of a whole array of 64 columns that a point works on. -/
def rows {e : EltTy} (x : Vec F S2048x64 e) (i : grid0.Coords) : Vec F S1024x64 e :=
  VecWindow.window x (offs i) S1024x64.size (offs_inb i)

/-- A whole array of 64 columns with the rows of the point replaced. -/
def putRows {e : EltTy} (x : Vec F S2048x64 e) (i : grid0.Coords) (w : Vec F S1024x64 e) : Vec F S2048x64 e :=
  VecWindow.put x (offs i) S1024x64.size w

/-- The rows of a whole array of 128 columns that a point works on. -/
def rows' {e : EltTy} (x : Vec F S2048x128 e) (i : grid0.Coords) : Vec F S1024x128 e :=
  VecWindow.window x (offs i) S1024x128.size (offs_inb' i)

/-- A whole array of 128 columns with the rows of the point replaced. -/
def putRows' {e : EltTy} (x : Vec F S2048x128 e) (i : grid0.Coords) (w : Vec F S1024x128 e) : Vec F S2048x128 e :=
  VecWindow.put x (offs i) S1024x128.size w

/-- The condition of the first conditional: the first block of columns. -/
abbrev c1 (i : grid0.Coords) : Prop := k0_cond1 i = 1#1
/-- The condition of the second conditional: the first half of the tokens. -/
abbrev c2 (i : grid0.Coords) : Prop := (Scalar.cmpi .ne (Scalar.extui (Scalar.cmpi .eq (BitVec.ofNat 32 (i 1).val) 0#32)) 0#32) = 1#1
/-- The condition of the third conditional: the last block of columns. -/
abbrev c3 (i : grid0.Coords) : Prop := k0_cond3 i = 1#1

/-- The gradient with respect to the activation at a point. -/
def dactV (i : grid0.Coords) (v : Ins F) : Vec F S1024x256 .f32 := k0_pay14 v.x0 v.x1 (rows v.x2 i) v.x3
/-- The scaled gate projection, -/
def ygV (v : Ins F) : FVec F S1024x256 .f32 := k0_pay15 v.x5 v.x11
/-- the ratios of the up projection over the rows, -/
def ruV (v : Ins F) : FVec F S1024x256 .f32 := k0_pay16 v.x12
/-- the gradient with respect to the scaled up projection -/
def gluV (i : grid0.Coords) (v : Ins F) : FVec F S1024x256 .f32 := k0_pay19 (dactV i v) (ygV v)
/-- and that with respect to the scaled gate projection. -/
def glgV (i : grid0.Coords) (v : Ins F) : FVec F S1024x256 .f32 := k0_pay20 (dactV i v) v.x6 (ygV v) (ruV v)
/-- The block of the gate gradient that a point writes -/
def ggV (i : grid0.Coords) (v : Ins F) : Vec F S1024x256 .bf16 := k0_pay26 (glgV i v) v.x11
/-- and that of the up gradient. -/
def guV (i : grid0.Coords) (v : Ins F) : Vec F S1024x256 .bf16 := k0_pay27 (gluV i v) v.x12

open Classical in
/-- The block of the gradient of the gate magnitude after a point, -/
def dmgV (i : grid0.Coords) (v : Ins F) (y : Vec F S1x256 .f32) : Vec F S1x256 .f32 :=
  k0_pay21 (dactV i v) v.x5 v.x6 (ygV v) (ruV v) (if c2 i then k0_pay9 (F := F) else y) v.x13
open Classical in
/-- of the up magnitude, -/
def dmuV (i : grid0.Coords) (v : Ins F) (y : Vec F S1x256 .f32) : Vec F S1x256 .f32 :=
  k0_pay22 (dactV i v) v.x6 (ygV v) (if c2 i then k0_pay10 (F := F) else y) v.x14
open Classical in
/-- of the gate factor `b`, -/
def dbgV (i : grid0.Coords) (v : Ins F) (y : Vec F S256x64 .f32) : Vec F S256x64 .f32 :=
  k0_pay28 (glgV i v) v.x11 (if c2 i then k0_pay11 (F := F) else y) (rows v.x7 i)
open Classical in
/-- of the up factor `b`, -/
def dbuV (i : grid0.Coords) (v : Ins F) (y : Vec F S256x64 .f32) : Vec F S256x64 .f32 :=
  k0_pay29 (gluV i v) v.x12 (if c2 i then k0_pay12 (F := F) else y) (rows v.x8 i)
open Classical in
/-- of the down factor `a`. -/
def dadV (i : grid0.Coords) (v : Ins F) (y : Vec F S64x256 .f32) : Vec F S64x256 .f32 :=
  k0_pay1 (if c2 i then k0_pay13 (F := F) else y) (rows v.x2 i) v.x4

open Classical in
/-- The running sum of the gate low-rank gradient before a point adds to it, -/
def sgaB (i : grid0.Coords) (y : Vec F S2048x64 .f32) : Vec F S2048x64 .f32 := if c1 i then putRows y i (k0_pay6 (F := F)) else y
/-- and after. -/
def sgaV (i : grid0.Coords) (v : Ins F) (y : Vec F S2048x64 .f32) : Vec F S2048x64 .f32 :=
  putRows (sgaB i y) i (k0_pay2 (ggV i v) (rows (sgaB i y) i) v.x9)
open Classical in
/-- The running sum of the up low-rank gradient before a point adds to it, -/
def suaB (i : grid0.Coords) (y : Vec F S2048x64 .f32) : Vec F S2048x64 .f32 := if c1 i then putRows y i (k0_pay7 (F := F)) else y
/-- and after. -/
def suaV (i : grid0.Coords) (v : Ins F) (y : Vec F S2048x64 .f32) : Vec F S2048x64 .f32 :=
  putRows (suaB i y) i (k0_pay3 (guV i v) (rows (suaB i y) i) v.x10)
open Classical in
/-- The running lane sums before a point adds to them, -/
def deltaB (i : grid0.Coords) (y : Vec F S2048x128 .f32) : Vec F S2048x128 .f32 := if c1 i then putRows' y i (k0_pay8 (F := F)) else y
/-- and after. -/
def deltaV (i : grid0.Coords) (v : Ins F) (y : Vec F S2048x128 .f32) : Vec F S2048x128 .f32 :=
  putRows' (deltaB i y) i (k0_pay25 (k0_pay23 (rows' (deltaB i y) i)) (k0_pay24 (dactV i v) v.x6 (ygV v) (ruV v)))
open Classical in
/-- The gate low-rank gradient after a point, the running sum before it being `s`, -/
def sgV (i : grid0.Coords) (v : Ins F) (s : Vec F S2048x64 .f32) (y : Vec F S2048x64 .bf16) : Vec F S2048x64 .bf16 :=
  if c3 i then putRows y i (k0_pay4 (rows (sgaV i v s) i)) else y
open Classical in
/-- and the up low-rank gradient. -/
def suV (i : grid0.Coords) (v : Ins F) (s : Vec F S2048x64 .f32) (y : Vec F S2048x64 .bf16) : Vec F S2048x64 .bf16 :=
  if c3 i then putRows y i (k0_pay5 (rows (suaV i v s) i)) else y

/-- The input buffers. -/
def insP (c : Dev nD) (b : Bufs) (v : Ins F) : sProp 𝕄 :=
  iprop(owns (c : Thread nD τ) b.a2 fullShare v.x0
    ∗ owns (c : Thread nD τ) b.a3 fullShare v.x1
    ∗ owns (c : Thread nD τ) b.a4 fullShare v.x2
    ∗ owns (c : Thread nD τ) b.a5 fullShare v.x3
    ∗ owns (c : Thread nD τ) b.a6 fullShare v.x4
    ∗ owns (c : Thread nD τ) b.a7 fullShare v.x5
    ∗ owns (c : Thread nD τ) b.a8 fullShare v.x6
    ∗ owns (c : Thread nD τ) b.a9 fullShare v.x7
    ∗ owns (c : Thread nD τ) b.a10 fullShare v.x8
    ∗ owns (c : Thread nD τ) b.a11 fullShare v.x9
    ∗ owns (c : Thread nD τ) b.a12 fullShare v.x10
    ∗ owns (c : Thread nD τ) b.a13 fullShare v.x11
    ∗ owns (c : Thread nD τ) b.a14 fullShare v.x12
    ∗ owns (c : Thread nD τ) b.a15 fullShare v.x13
    ∗ owns (c : Thread nD τ) b.a16 fullShare v.x14)
/-- The output buffers and the scratch before a point. -/
def oldP (c : Dev nD) (b : Bufs) (o : Olds F) : sProp 𝕄 :=
  iprop((∃ d, owns (c : Thread nD τ) b.a17 fullShare d)
    ∗ (∃ d, owns (c : Thread nD τ) b.a18 fullShare d)
    ∗ owns (c : Thread nD τ) b.a19 fullShare o.y17
    ∗ owns (c : Thread nD τ) b.a20 fullShare o.y18
    ∗ owns (c : Thread nD τ) b.a21 fullShare o.y19
    ∗ owns (c : Thread nD τ) b.a22 fullShare o.y20
    ∗ owns (c : Thread nD τ) b.a23 fullShare o.y21
    ∗ owns (c : Thread nD τ) b.a24 fullShare o.y22
    ∗ owns (c : Thread nD τ) b.a25 fullShare o.y23
    ∗ owns (c : Thread nD τ) b.a26 fullShare o.y24
    ∗ owns (c : Thread nD τ) b.a27 fullShare o.s0
    ∗ owns (c : Thread nD τ) b.a28 fullShare o.s1
    ∗ (∃ d, owns (c : Thread nD τ) b.a29 fullShare d))
/-- The output buffers and the scratch after a point. -/
def newP (c : Dev nD) (i : grid0.Coords) (b : Bufs) (v : Ins F) (o : Olds F) : sProp 𝕄 :=
  iprop(owns (c : Thread nD τ) b.a17 fullShare (ggV i v)
    ∗ owns (c : Thread nD τ) b.a18 fullShare (guV i v)
    ∗ owns (c : Thread nD τ) b.a19 fullShare (dmgV i v o.y17)
    ∗ owns (c : Thread nD τ) b.a20 fullShare (dmuV i v o.y18)
    ∗ owns (c : Thread nD τ) b.a21 fullShare (dbgV i v o.y19)
    ∗ owns (c : Thread nD τ) b.a22 fullShare (dbuV i v o.y20)
    ∗ owns (c : Thread nD τ) b.a23 fullShare (dadV i v o.y21)
    ∗ owns (c : Thread nD τ) b.a24 fullShare (sgV i v o.s0 o.y22)
    ∗ owns (c : Thread nD τ) b.a25 fullShare (suV i v o.s1 o.y23)
    ∗ owns (c : Thread nD τ) b.a26 fullShare (deltaV i v o.y24)
    ∗ owns (c : Thread nD τ) b.a27 fullShare (sgaV i v o.s0)
    ∗ owns (c : Thread nD τ) b.a28 fullShare (suaV i v o.s1)
    ∗ owns (c : Thread nD τ) b.a29 fullShare (dactV i v))
/-- The input buffers, held raw. -/
def rawIns (c : Dev nD) (b : Bufs) (v : Ins F) : sProp 𝕄 :=
  iprop(raw (c : Thread nD τ) b.a2 (b.h2.unread v.x0)
    ∗ raw (c : Thread nD τ) b.a3 (b.h3.unread v.x1)
    ∗ raw (c : Thread nD τ) b.a4 (b.h4.unread v.x2)
    ∗ raw (c : Thread nD τ) b.a5 (b.h5.unread v.x3)
    ∗ raw (c : Thread nD τ) b.a6 (b.h6.unread v.x4)
    ∗ raw (c : Thread nD τ) b.a7 (b.h7.unread v.x5)
    ∗ raw (c : Thread nD τ) b.a8 (b.h8.unread v.x6)
    ∗ raw (c : Thread nD τ) b.a9 (b.h9.unread v.x7)
    ∗ raw (c : Thread nD τ) b.a10 (b.h10.unread v.x8)
    ∗ raw (c : Thread nD τ) b.a11 (b.h11.unread v.x9)
    ∗ raw (c : Thread nD τ) b.a12 (b.h12.unread v.x10)
    ∗ raw (c : Thread nD τ) b.a13 (b.h13.unread v.x11)
    ∗ raw (c : Thread nD τ) b.a14 (b.h14.unread v.x12)
    ∗ raw (c : Thread nD τ) b.a15 (b.h15.unread v.x13)
    ∗ raw (c : Thread nD τ) b.a16 (b.h16.unread v.x14))
/-- The output buffers and the scratch before a point, held raw. -/
def rawOld (c : Dev nD) (b : Bufs) (o : Olds F) : sProp 𝕄 :=
  iprop((∃ f, raw (c : Thread nD τ) b.a17 f)
    ∗ (∃ f, raw (c : Thread nD τ) b.a18 f)
    ∗ raw (c : Thread nD τ) b.a19 (b.h19.unread o.y17)
    ∗ raw (c : Thread nD τ) b.a20 (b.h20.unread o.y18)
    ∗ raw (c : Thread nD τ) b.a21 (b.h21.unread o.y19)
    ∗ raw (c : Thread nD τ) b.a22 (b.h22.unread o.y20)
    ∗ raw (c : Thread nD τ) b.a23 (b.h23.unread o.y21)
    ∗ raw (c : Thread nD τ) b.a24 (b.h24.unread o.y22)
    ∗ raw (c : Thread nD τ) b.a25 (b.h25.unread o.y23)
    ∗ raw (c : Thread nD τ) b.a26 (b.h26.unread o.y24)
    ∗ raw (c : Thread nD τ) b.a27 (b.h27.unread o.s0)
    ∗ raw (c : Thread nD τ) b.a28 (b.h28.unread o.s1)
    ∗ (∃ f, raw (c : Thread nD τ) b.a29 f))

theorem own_raw (c : Dev nD) {s : Shape} {e : EltTy} (M : Memref sig .tc .vmem s e) (h : M.IsWhole) (x : Vec F s e) :
    owns (c : Thread nD τ) M fullShare x ⊢ (raw (c : Thread nD τ) M (h.unread x) : sProp 𝕄) := owns_raw (Val := Elt F) (c : Thread nD τ) M h x
theorem raw_own (c : Dev nD) {s : Shape} {e : EltTy} (M : Memref sig .tc .vmem s e) (h : M.IsWhole) (x : Vec F s e) :
    (raw (c : Thread nD τ) M (h.unread x) : sProp 𝕄) ⊢ owns (c : Thread nD τ) M fullShare x := raw_owns (Val := Elt F) (c : Thread nD τ) M (h.read_unread x)
theorem ins_raw (c : Dev nD) (b : Bufs) (v : Ins F) : insP c b v ⊢ rawIns c b v := by
  unfold insP rawIns
  iintro ⟨H0, H1, H2, H3, H4, H5, H6, H7, H8, H9, H10, H11, H12, H13, H14⟩
  isplitl [H0]; iapply (own_raw c b.a2 b.h2 v.x0); iexact H0
  isplitl [H1]; iapply (own_raw c b.a3 b.h3 v.x1); iexact H1
  isplitl [H2]; iapply (own_raw c b.a4 b.h4 v.x2); iexact H2
  isplitl [H3]; iapply (own_raw c b.a5 b.h5 v.x3); iexact H3
  isplitl [H4]; iapply (own_raw c b.a6 b.h6 v.x4); iexact H4
  isplitl [H5]; iapply (own_raw c b.a7 b.h7 v.x5); iexact H5
  isplitl [H6]; iapply (own_raw c b.a8 b.h8 v.x6); iexact H6
  isplitl [H7]; iapply (own_raw c b.a9 b.h9 v.x7); iexact H7
  isplitl [H8]; iapply (own_raw c b.a10 b.h10 v.x8); iexact H8
  isplitl [H9]; iapply (own_raw c b.a11 b.h11 v.x9); iexact H9
  isplitl [H10]; iapply (own_raw c b.a12 b.h12 v.x10); iexact H10
  isplitl [H11]; iapply (own_raw c b.a13 b.h13 v.x11); iexact H11
  isplitl [H12]; iapply (own_raw c b.a14 b.h14 v.x12); iexact H12
  isplitl [H13]; iapply (own_raw c b.a15 b.h15 v.x13); iexact H13
  iapply (own_raw c b.a16 b.h16 v.x14); iexact H14
theorem raw_ins (c : Dev nD) (b : Bufs) (v : Ins F) : rawIns c b v ⊢ insP c b v := by
  unfold insP rawIns
  iintro ⟨H0, H1, H2, H3, H4, H5, H6, H7, H8, H9, H10, H11, H12, H13, H14⟩
  isplitl [H0]; iapply (raw_own c b.a2 b.h2 v.x0); iexact H0
  isplitl [H1]; iapply (raw_own c b.a3 b.h3 v.x1); iexact H1
  isplitl [H2]; iapply (raw_own c b.a4 b.h4 v.x2); iexact H2
  isplitl [H3]; iapply (raw_own c b.a5 b.h5 v.x3); iexact H3
  isplitl [H4]; iapply (raw_own c b.a6 b.h6 v.x4); iexact H4
  isplitl [H5]; iapply (raw_own c b.a7 b.h7 v.x5); iexact H5
  isplitl [H6]; iapply (raw_own c b.a8 b.h8 v.x6); iexact H6
  isplitl [H7]; iapply (raw_own c b.a9 b.h9 v.x7); iexact H7
  isplitl [H8]; iapply (raw_own c b.a10 b.h10 v.x8); iexact H8
  isplitl [H9]; iapply (raw_own c b.a11 b.h11 v.x9); iexact H9
  isplitl [H10]; iapply (raw_own c b.a12 b.h12 v.x10); iexact H10
  isplitl [H11]; iapply (raw_own c b.a13 b.h13 v.x11); iexact H11
  isplitl [H12]; iapply (raw_own c b.a14 b.h14 v.x12); iexact H12
  isplitl [H13]; iapply (raw_own c b.a15 b.h15 v.x13); iexact H13
  iapply (raw_own c b.a16 b.h16 v.x14); iexact H14
theorem any_raw (c : Dev nD) {s : Shape} {e : EltTy} (M : Memref sig .tc .vmem s e) :
    iprop(∃ d : Vec F s e, owns (c : Thread nD τ) M fullShare d) ⊢ (iprop(∃ f, raw (c : Thread nD τ) M f) : sProp 𝕄) := by
  unfold owns raw
  iintro ⟨%d, %f, -, H⟩
  iexists f; iexact H
theorem old_raw (c : Dev nD) (b : Bufs) (o : Olds F) : oldP c b o ⊢ rawOld c b o := by
  unfold oldP rawOld
  iintro ⟨H15, H16, H17, H18, H19, H20, H21, H22, H23, H24, H25, H26, H27⟩
  isplitl [H15]; iapply (any_raw c b.a17); iexact H15
  isplitl [H16]; iapply (any_raw c b.a18); iexact H16
  isplitl [H17]; iapply (own_raw c b.a19 b.h19 o.y17); iexact H17
  isplitl [H18]; iapply (own_raw c b.a20 b.h20 o.y18); iexact H18
  isplitl [H19]; iapply (own_raw c b.a21 b.h21 o.y19); iexact H19
  isplitl [H20]; iapply (own_raw c b.a22 b.h22 o.y20); iexact H20
  isplitl [H21]; iapply (own_raw c b.a23 b.h23 o.y21); iexact H21
  isplitl [H22]; iapply (own_raw c b.a24 b.h24 o.y22); iexact H22
  isplitl [H23]; iapply (own_raw c b.a25 b.h25 o.y23); iexact H23
  isplitl [H24]; iapply (own_raw c b.a26 b.h26 o.y24); iexact H24
  isplitl [H25]; iapply (own_raw c b.a27 b.h27 o.s0); iexact H25
  isplitl [H26]; iapply (own_raw c b.a28 b.h28 o.s1); iexact H26
  iapply (any_raw c b.a29); iexact H27

/-- The body on the buffers. -/
abbrev call (i : grid0.Coords) (b : Bufs) := cc0_dact_swiglu (F := F) i b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 b.a26 b.h26 b.a27 b.h27 b.a28 b.h28 b.a29 b.h29

/-! Loads and stores of the rows of the point, through each printed offset. -/

theorem readAt1 {e : EltTy} (m : Memref sig .tc .vmem S2048x64 e) (f : m.view.ty.Contents (Elt F)) (i : grid0.Coords)
    (inb : ∀ a, k0_off1 i a + S1024x64.size a ≤ S2048x64.size a) :
    m.view.readAt (Elt F) (Rect.unit (s := S2048x64) (k0_off1 i) ![1024, 64] inb).toLoadRect f = rows (m.view.read (Elt F) f) i :=
  View.readAt_unit m.view f inb (k0_off1_eq i) (offs_inb i)
theorem readW1 {e : EltTy} (m : Memref sig .tc .vmem S2048x64 e) (f : m.view.ty.Contents (Elt F)) (i : grid0.Coords)
    (inb : ∀ a, k0_off1 i a + S1024x64.size a ≤ S2048x64.size a) (w : Vec F S1024x64 e) (L : List (View.Piece (Elt F) S2048x64 e)) :
    m.view.read (Elt F) (m.view.writes (Elt F) f (⟨Rect.unit (s := S2048x64) (k0_off1 i) ![1024, 64] inb, w⟩ :: L))
      = putRows (m.view.read (Elt F) (m.view.writes (Elt F) f L)) i w :=
  View.read_writes_cons_put m.view f inb w L (k0_off1_eq i)
theorem readAt3 {e : EltTy} (m : Memref sig .tc .vmem S2048x64 e) (f : m.view.ty.Contents (Elt F)) (i : grid0.Coords)
    (inb : ∀ a, k0_off3 i a + S1024x64.size a ≤ S2048x64.size a) :
    m.view.readAt (Elt F) (Rect.unit (s := S2048x64) (k0_off3 i) ![1024, 64] inb).toLoadRect f = rows (m.view.read (Elt F) f) i :=
  View.readAt_unit m.view f inb (k0_off3_eq i) (offs_inb i)
theorem readW3 {e : EltTy} (m : Memref sig .tc .vmem S2048x64 e) (f : m.view.ty.Contents (Elt F)) (i : grid0.Coords)
    (inb : ∀ a, k0_off3 i a + S1024x64.size a ≤ S2048x64.size a) (w : Vec F S1024x64 e) (L : List (View.Piece (Elt F) S2048x64 e)) :
    m.view.read (Elt F) (m.view.writes (Elt F) f (⟨Rect.unit (s := S2048x64) (k0_off3 i) ![1024, 64] inb, w⟩ :: L))
      = putRows (m.view.read (Elt F) (m.view.writes (Elt F) f L)) i w :=
  View.read_writes_cons_put m.view f inb w L (k0_off3_eq i)
theorem readAt5 {e : EltTy} (m : Memref sig .tc .vmem S2048x64 e) (f : m.view.ty.Contents (Elt F)) (i : grid0.Coords)
    (inb : ∀ a, k0_off5 i a + S1024x64.size a ≤ S2048x64.size a) :
    m.view.readAt (Elt F) (Rect.unit (s := S2048x64) (k0_off5 i) ![1024, 64] inb).toLoadRect f = rows (m.view.read (Elt F) f) i :=
  View.readAt_unit m.view f inb (k0_off5_eq i) (offs_inb i)
theorem readW5 {e : EltTy} (m : Memref sig .tc .vmem S2048x64 e) (f : m.view.ty.Contents (Elt F)) (i : grid0.Coords)
    (inb : ∀ a, k0_off5 i a + S1024x64.size a ≤ S2048x64.size a) (w : Vec F S1024x64 e) (L : List (View.Piece (Elt F) S2048x64 e)) :
    m.view.read (Elt F) (m.view.writes (Elt F) f (⟨Rect.unit (s := S2048x64) (k0_off5 i) ![1024, 64] inb, w⟩ :: L))
      = putRows (m.view.read (Elt F) (m.view.writes (Elt F) f L)) i w :=
  View.read_writes_cons_put m.view f inb w L (k0_off5_eq i)
theorem rows_putRows {e : EltTy} (x : Vec F S2048x64 e) (i : grid0.Coords) (w : Vec F S1024x64 e) : rows (putRows x i w) i = w :=
  VecWindow.window_put_same x _ _ _ w
theorem readAt2 {e : EltTy} (m : Memref sig .tc .vmem S2048x128 e) (f : m.view.ty.Contents (Elt F)) (i : grid0.Coords)
    (inb : ∀ a, k0_off2 i a + S1024x128.size a ≤ S2048x128.size a) :
    m.view.readAt (Elt F) (Rect.unit (s := S2048x128) (k0_off2 i) ![1024, 128] inb).toLoadRect f = rows' (m.view.read (Elt F) f) i :=
  View.readAt_unit m.view f inb (k0_off2_eq i) (offs_inb' i)
theorem readW2 {e : EltTy} (m : Memref sig .tc .vmem S2048x128 e) (f : m.view.ty.Contents (Elt F)) (i : grid0.Coords)
    (inb : ∀ a, k0_off2 i a + S1024x128.size a ≤ S2048x128.size a) (w : Vec F S1024x128 e) (L : List (View.Piece (Elt F) S2048x128 e)) :
    m.view.read (Elt F) (m.view.writes (Elt F) f (⟨Rect.unit (s := S2048x128) (k0_off2 i) ![1024, 128] inb, w⟩ :: L))
      = putRows' (m.view.read (Elt F) (m.view.writes (Elt F) f L)) i w :=
  View.read_writes_cons_put m.view f inb w L (k0_off2_eq i)
theorem readAt4 {e : EltTy} (m : Memref sig .tc .vmem S2048x128 e) (f : m.view.ty.Contents (Elt F)) (i : grid0.Coords)
    (inb : ∀ a, k0_off4 i a + S1024x128.size a ≤ S2048x128.size a) :
    m.view.readAt (Elt F) (Rect.unit (s := S2048x128) (k0_off4 i) ![1024, 128] inb).toLoadRect f = rows' (m.view.read (Elt F) f) i :=
  View.readAt_unit m.view f inb (k0_off4_eq i) (offs_inb' i)
theorem readW4 {e : EltTy} (m : Memref sig .tc .vmem S2048x128 e) (f : m.view.ty.Contents (Elt F)) (i : grid0.Coords)
    (inb : ∀ a, k0_off4 i a + S1024x128.size a ≤ S2048x128.size a) (w : Vec F S1024x128 e) (L : List (View.Piece (Elt F) S2048x128 e)) :
    m.view.read (Elt F) (m.view.writes (Elt F) f (⟨Rect.unit (s := S2048x128) (k0_off4 i) ![1024, 128] inb, w⟩ :: L))
      = putRows' (m.view.read (Elt F) (m.view.writes (Elt F) f L)) i w :=
  View.read_writes_cons_put m.view f inb w L (k0_off4_eq i)
theorem rows_putRows' {e : EltTy} (x : Vec F S2048x128 e) (i : grid0.Coords) (w : Vec F S1024x128 e) : rows' (putRows' x i w) i = w :=
  VecWindow.window_put_same x _ _ _ w
theorem readC31 {e : EltTy} (m : Memref sig .tc .vmem S2048x64 e) (i : grid0.Coords)
    (inb : ∀ a, k0_off3 i a + S1024x64.size a ≤ S2048x64.size a) (inb' : ∀ a, k0_off1 i a + S1024x64.size a ≤ S2048x64.size a)
    (w : Vec F S1024x64 e) (L : List (View.Piece (Elt F) S2048x64 e)) :
    m.view.readCov (⟨Rect.unit (s := S2048x64) (k0_off1 i) ![1024, 64] inb', w⟩ :: L)
      (Rect.unit (s := S2048x64) (k0_off3 i) ![1024, 64] inb).toLoadRect = w :=
  (readAt3 m _ i inb).trans ((congrArg (rows · i) (readW1 m _ i inb' w L)).trans (rows_putRows _ i w))
theorem readC53 {e : EltTy} (m : Memref sig .tc .vmem S2048x64 e) (i : grid0.Coords)
    (inb : ∀ a, k0_off5 i a + S1024x64.size a ≤ S2048x64.size a) (inb' : ∀ a, k0_off3 i a + S1024x64.size a ≤ S2048x64.size a)
    (w : Vec F S1024x64 e) (L : List (View.Piece (Elt F) S2048x64 e)) :
    m.view.readCov (⟨Rect.unit (s := S2048x64) (k0_off3 i) ![1024, 64] inb', w⟩ :: L)
      (Rect.unit (s := S2048x64) (k0_off5 i) ![1024, 64] inb).toLoadRect = w :=
  (readAt5 m _ i inb).trans ((congrArg (rows · i) (readW3 m _ i inb' w L)).trans (rows_putRows _ i w))
theorem readC42 {e : EltTy} (m : Memref sig .tc .vmem S2048x128 e) (i : grid0.Coords)
    (inb : ∀ a, k0_off4 i a + S1024x128.size a ≤ S2048x128.size a) (inb' : ∀ a, k0_off2 i a + S1024x128.size a ≤ S2048x128.size a)
    (w : Vec F S1024x128 e) (L : List (View.Piece (Elt F) S2048x128 e)) :
    m.view.readCov (⟨Rect.unit (s := S2048x128) (k0_off2 i) ![1024, 128] inb', w⟩ :: L)
      (Rect.unit (s := S2048x128) (k0_off4 i) ![1024, 128] inb).toLoadRect = w :=
  (readAt4 m _ i inb).trans ((congrArg (rows' · i) (readW2 m _ i inb' w L)).trans (rows_putRows' _ i w))

/-! Loads and stores of whole buffers. -/

theorem readAt_S1024x8192 {e : EltTy} (m : Memref sig .tc .vmem S1024x8192 e) (f : m.view.ty.Contents (Elt F)) (inb : ∀ a, (![0, 0] : Fin 2 → ℕ) a + S1024x8192.size a ≤ S1024x8192.size a) :
    m.view.readAt (Elt F) (Rect.unit (s := S1024x8192) ![0, 0] ![1024, 8192] inb).toLoadRect f = m.view.read (Elt F) f :=
  View.readAt_full m.view f inb
theorem readAt_S8192x256 {e : EltTy} (m : Memref sig .tc .vmem S8192x256 e) (f : m.view.ty.Contents (Elt F)) (inb : ∀ a, (![0, 0] : Fin 2 → ℕ) a + S8192x256.size a ≤ S8192x256.size a) :
    m.view.readAt (Elt F) (Rect.unit (s := S8192x256) ![0, 0] ![8192, 256] inb).toLoadRect f = m.view.read (Elt F) f :=
  View.readAt_full m.view f inb
theorem readAt_S64x256 {e : EltTy} (m : Memref sig .tc .vmem S64x256 e) (f : m.view.ty.Contents (Elt F)) (inb : ∀ a, (![0, 0] : Fin 2 → ℕ) a + S64x256.size a ≤ S64x256.size a) :
    m.view.readAt (Elt F) (Rect.unit (s := S64x256) ![0, 0] ![64, 256] inb).toLoadRect f = m.view.read (Elt F) f :=
  View.readAt_full m.view f inb
theorem readAt_S1024x256 {e : EltTy} (m : Memref sig .tc .vmem S1024x256 e) (f : m.view.ty.Contents (Elt F)) (inb : ∀ a, (![0, 0] : Fin 2 → ℕ) a + S1024x256.size a ≤ S1024x256.size a) :
    m.view.readAt (Elt F) (Rect.unit (s := S1024x256) ![0, 0] ![1024, 256] inb).toLoadRect f = m.view.read (Elt F) f :=
  View.readAt_full m.view f inb
theorem readAt_S256x64 {e : EltTy} (m : Memref sig .tc .vmem S256x64 e) (f : m.view.ty.Contents (Elt F)) (inb : ∀ a, (![0, 0] : Fin 2 → ℕ) a + S256x64.size a ≤ S256x64.size a) :
    m.view.readAt (Elt F) (Rect.unit (s := S256x64) ![0, 0] ![256, 64] inb).toLoadRect f = m.view.read (Elt F) f :=
  View.readAt_full m.view f inb
theorem readAt_S1x256 {e : EltTy} (m : Memref sig .tc .vmem S1x256 e) (f : m.view.ty.Contents (Elt F)) (inb : ∀ a, (![0, 0] : Fin 2 → ℕ) a + S1x256.size a ≤ S1x256.size a) :
    m.view.readAt (Elt F) (Rect.unit (s := S1x256) ![0, 0] ![1, 256] inb).toLoadRect f = m.view.read (Elt F) f :=
  View.readAt_full m.view f inb
theorem readW_S64x256 {e : EltTy} (m : Memref sig .tc .vmem S64x256 e) (f : m.view.ty.Contents (Elt F)) (inb : ∀ a, (![0, 0] : Fin 2 → ℕ) a + S64x256.size a ≤ S64x256.size a)
    (w : Vec F S64x256 e) (L : List (View.Piece (Elt F) S64x256 e)) :
    m.view.read (Elt F) (m.view.writes (Elt F) f (⟨Rect.unit (s := S64x256) ![0, 0] ![64, 256] inb, w⟩ :: L)) = w :=
  View.read_writes_full m.view f inb w L
theorem readC_S64x256 {e : EltTy} (m : Memref sig .tc .vmem S64x256 e) (inb inb' : ∀ a, (![0, 0] : Fin 2 → ℕ) a + S64x256.size a ≤ S64x256.size a)
    (w : Vec F S64x256 e) (L : List (View.Piece (Elt F) S64x256 e)) :
    m.view.readCov (⟨Rect.unit (s := S64x256) ![0, 0] ![64, 256] inb', w⟩ :: L) (Rect.unit (s := S64x256) ![0, 0] ![64, 256] inb).toLoadRect = w :=
  View.readCov_full m.view inb inb' w L
theorem readW_S1024x256 {e : EltTy} (m : Memref sig .tc .vmem S1024x256 e) (f : m.view.ty.Contents (Elt F)) (inb : ∀ a, (![0, 0] : Fin 2 → ℕ) a + S1024x256.size a ≤ S1024x256.size a)
    (w : Vec F S1024x256 e) (L : List (View.Piece (Elt F) S1024x256 e)) :
    m.view.read (Elt F) (m.view.writes (Elt F) f (⟨Rect.unit (s := S1024x256) ![0, 0] ![1024, 256] inb, w⟩ :: L)) = w :=
  View.read_writes_full m.view f inb w L
theorem readC_S1024x256 {e : EltTy} (m : Memref sig .tc .vmem S1024x256 e) (inb inb' : ∀ a, (![0, 0] : Fin 2 → ℕ) a + S1024x256.size a ≤ S1024x256.size a)
    (w : Vec F S1024x256 e) (L : List (View.Piece (Elt F) S1024x256 e)) :
    m.view.readCov (⟨Rect.unit (s := S1024x256) ![0, 0] ![1024, 256] inb', w⟩ :: L) (Rect.unit (s := S1024x256) ![0, 0] ![1024, 256] inb).toLoadRect = w :=
  View.readCov_full m.view inb inb' w L
theorem readW_S256x64 {e : EltTy} (m : Memref sig .tc .vmem S256x64 e) (f : m.view.ty.Contents (Elt F)) (inb : ∀ a, (![0, 0] : Fin 2 → ℕ) a + S256x64.size a ≤ S256x64.size a)
    (w : Vec F S256x64 e) (L : List (View.Piece (Elt F) S256x64 e)) :
    m.view.read (Elt F) (m.view.writes (Elt F) f (⟨Rect.unit (s := S256x64) ![0, 0] ![256, 64] inb, w⟩ :: L)) = w :=
  View.read_writes_full m.view f inb w L
theorem readC_S256x64 {e : EltTy} (m : Memref sig .tc .vmem S256x64 e) (inb inb' : ∀ a, (![0, 0] : Fin 2 → ℕ) a + S256x64.size a ≤ S256x64.size a)
    (w : Vec F S256x64 e) (L : List (View.Piece (Elt F) S256x64 e)) :
    m.view.readCov (⟨Rect.unit (s := S256x64) ![0, 0] ![256, 64] inb', w⟩ :: L) (Rect.unit (s := S256x64) ![0, 0] ![256, 64] inb).toLoadRect = w :=
  View.readCov_full m.view inb inb' w L
theorem readW_S1x256 {e : EltTy} (m : Memref sig .tc .vmem S1x256 e) (f : m.view.ty.Contents (Elt F)) (inb : ∀ a, (![0, 0] : Fin 2 → ℕ) a + S1x256.size a ≤ S1x256.size a)
    (w : Vec F S1x256 e) (L : List (View.Piece (Elt F) S1x256 e)) :
    m.view.read (Elt F) (m.view.writes (Elt F) f (⟨Rect.unit (s := S1x256) ![0, 0] ![1, 256] inb, w⟩ :: L)) = w :=
  View.read_writes_full m.view f inb w L
theorem readC_S1x256 {e : EltTy} (m : Memref sig .tc .vmem S1x256 e) (inb inb' : ∀ a, (![0, 0] : Fin 2 → ℕ) a + S1x256.size a ≤ S1x256.size a)
    (w : Vec F S1x256 e) (L : List (View.Piece (Elt F) S1x256 e)) :
    m.view.readCov (⟨Rect.unit (s := S1x256) ![0, 0] ![1, 256] inb', w⟩ :: L) (Rect.unit (s := S1x256) ![0, 0] ![1, 256] inb).toLoadRect = w :=
  View.readCov_full m.view inb inb' w L

end Cert.Dact.Body

end
-- ==== Proof.DactRun.lean ====
module

public import proofs.«01_k».proof.Proof.Gen.Dact.Frame
public import proofs.«01_k».proof.Proof.Gen.Dact.Skeleton
public import proofs.«01_k».proof.Proof.DactBody
public import Idealize.ShloMosaic.Lib.VecWindow
public import Idealize.ShloMosaic.Lib.Pipeline.DatRel
public import Idealize.ShloMosaic.Lib.Pipeline.Frame
public import Idealize.ShloMosaic.Lib.Tactic
public import Idealize.ShloMosaic.Lib.LaneScatter.Own

@[expose] public section

set_option maxRecDepth 16384

noncomputable section

namespace Cert.Dact.Body

open Cert.Dact Cert.Dact.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw owns_raw raw_owns)
open Idealize.ShloMosaic.Pipeline (Dat RDat Cfg Window BodyObligation BodyObligationRel cellOf)

variable {F : FTy → Type} [FloatOps F]

local notation "𝕄" => MT nD τ sig Unit (Elt F) ℕ (UR sig nD τ) ℕ

set_option maxHeartbeats 3200000 in
/-- What the body does at a point of the first block of columns, first half of the tokens. -/
theorem run_A (c : Dev nD) (i : grid0.Coords) (b : Bufs) (v : Ins F) (o : Olds F) (E : Set ℕ) (K : PUnit → sProp 𝕄) (hc1 : c1 i) (hc2 : c2 i) (hc3 : ¬c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_A.sl.H17_1, run_A.sl.H18_1, run_A.sl.H19_1, run_A.sl.H20_1, run_A.sl.H21_1, run_A.sl.H24_1, run_A.sl.H25_1, run_A.sl.H26_1, run_A.sl.H27_1, run_A.sl.v105, run_A.sl.v108, run_A.sl.v109, run_A.sl.v114, run_A.sl.v115, run_A.sl.v123, run_A.sl.v124, run_A.sl.v13, run_A.sl.v19, run_A.sl.v20, run_A.sl.v21, run_A.sl.v22, run_A.sl.v26, run_A.sl.v41, run_A.sl.v46, run_A.sl.v51, run_A.sl.v56, run_A.sl.v65, run_A.sl.v8, run_A.sl.v85, run_A.sl.v9, run_A.sl.v95, dactV, ygV, ruV, gluV, glgV, ggV, guV, dmgV, dmuV, dbgV, dbuV, dadV, sgaB, sgaV, suaB, suaV, deltaB, deltaV, sgV, suV]
  all_goals simp only [if_pos hc1, if_pos hc2, if_neg hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

set_option maxHeartbeats 3200000 in
/-- What the body does at a point of the first block of columns, second half of the tokens. -/
theorem run_B (c : Dev nD) (i : grid0.Coords) (b : Bufs) (v : Ins F) (o : Olds F) (E : Set ℕ) (K : PUnit → sProp 𝕄) (hc1 : c1 i) (hc2 : ¬c2 i) (hc3 : ¬c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_B.sl.H24_1, run_B.sl.H25_1, run_B.sl.H26_1, run_B.sl.H27_1, run_B.sl.v105, run_B.sl.v108, run_B.sl.v109, run_B.sl.v114, run_B.sl.v115, run_B.sl.v123, run_B.sl.v124, run_B.sl.v13, run_B.sl.v19, run_B.sl.v20, run_B.sl.v21, run_B.sl.v22, run_B.sl.v26, run_B.sl.v41, run_B.sl.v46, run_B.sl.v51, run_B.sl.v56, run_B.sl.v65, run_B.sl.v8, run_B.sl.v85, run_B.sl.v9, run_B.sl.v95, dactV, ygV, ruV, gluV, glgV, ggV, guV, dmgV, dmuV, dbgV, dbuV, dadV, sgaB, sgaV, suaB, suaV, deltaB, deltaV, sgV, suV]
  all_goals simp only [if_pos hc1, if_neg hc2, if_neg hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

set_option maxHeartbeats 3200000 in
/-- What the body does at a point of the a middle block of columns, first half of the tokens. -/
theorem run_C (c : Dev nD) (i : grid0.Coords) (b : Bufs) (v : Ins F) (o : Olds F) (E : Set ℕ) (K : PUnit → sProp 𝕄) (hc1 : ¬c1 i) (hc2 : c2 i) (hc3 : ¬c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_C.sl.H17_1, run_C.sl.H18_1, run_C.sl.H19_1, run_C.sl.H20_1, run_C.sl.H21_1, run_C.sl.H27_1, run_C.sl.v105, run_C.sl.v108, run_C.sl.v109, run_C.sl.v114, run_C.sl.v115, run_C.sl.v123, run_C.sl.v124, run_C.sl.v13, run_C.sl.v19, run_C.sl.v20, run_C.sl.v21, run_C.sl.v22, run_C.sl.v26, run_C.sl.v41, run_C.sl.v46, run_C.sl.v51, run_C.sl.v56, run_C.sl.v8, run_C.sl.v85, run_C.sl.v9, run_C.sl.v95, dactV, ygV, ruV, gluV, glgV, ggV, guV, dmgV, dmuV, dbgV, dbuV, dadV, sgaB, sgaV, suaB, suaV, deltaB, deltaV, sgV, suV]
  all_goals simp only [if_neg hc1, if_pos hc2, if_neg hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

set_option maxHeartbeats 3200000 in
/-- What the body does at a point of the a middle block of columns, second half of the tokens. -/
theorem run_D (c : Dev nD) (i : grid0.Coords) (b : Bufs) (v : Ins F) (o : Olds F) (E : Set ℕ) (K : PUnit → sProp 𝕄) (hc1 : ¬c1 i) (hc2 : ¬c2 i) (hc3 : ¬c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_D.sl.H27_1, run_D.sl.v105, run_D.sl.v108, run_D.sl.v109, run_D.sl.v114, run_D.sl.v115, run_D.sl.v123, run_D.sl.v124, run_D.sl.v13, run_D.sl.v19, run_D.sl.v20, run_D.sl.v21, run_D.sl.v22, run_D.sl.v26, run_D.sl.v41, run_D.sl.v46, run_D.sl.v51, run_D.sl.v56, run_D.sl.v8, run_D.sl.v85, run_D.sl.v9, run_D.sl.v95, dactV, ygV, ruV, gluV, glgV, ggV, guV, dmgV, dmuV, dbgV, dbuV, dadV, sgaB, sgaV, suaB, suaV, deltaB, deltaV, sgV, suV]
  all_goals simp only [if_neg hc1, if_neg hc2, if_neg hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

set_option maxHeartbeats 3200000 in
/-- What the body does at a point of the last block of columns, first half of the tokens. -/
theorem run_E (c : Dev nD) (i : grid0.Coords) (b : Bufs) (v : Ins F) (o : Olds F) (E : Set ℕ) (K : PUnit → sProp 𝕄) (hc1 : ¬c1 i) (hc2 : c2 i) (hc3 : c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_E.sl.H17_1, run_E.sl.H18_1, run_E.sl.H19_1, run_E.sl.H20_1, run_E.sl.H21_1, run_E.sl.H25_1, run_E.sl.H26_1, run_E.sl.H27_1, run_E.sl.v105, run_E.sl.v108, run_E.sl.v109, run_E.sl.v114, run_E.sl.v115, run_E.sl.v123, run_E.sl.v124, run_E.sl.v13, run_E.sl.v135, run_E.sl.v142, run_E.sl.v19, run_E.sl.v20, run_E.sl.v21, run_E.sl.v22, run_E.sl.v26, run_E.sl.v41, run_E.sl.v46, run_E.sl.v51, run_E.sl.v56, run_E.sl.v8, run_E.sl.v85, run_E.sl.v9, run_E.sl.v95, dactV, ygV, ruV, gluV, glgV, ggV, guV, dmgV, dmuV, dbgV, dbuV, dadV, sgaB, sgaV, suaB, suaV, deltaB, deltaV, sgV, suV]
  all_goals simp only [if_neg hc1, if_pos hc2, if_pos hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

set_option maxHeartbeats 3200000 in
/-- What the body does at a point of the last block of columns, second half of the tokens. -/
theorem run_H (c : Dev nD) (i : grid0.Coords) (b : Bufs) (v : Ins F) (o : Olds F) (E : Set ℕ) (K : PUnit → sProp 𝕄) (hc1 : ¬c1 i) (hc2 : ¬c2 i) (hc3 : c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_H.sl.H25_1, run_H.sl.H26_1, run_H.sl.H27_1, run_H.sl.v105, run_H.sl.v108, run_H.sl.v109, run_H.sl.v114, run_H.sl.v115, run_H.sl.v123, run_H.sl.v124, run_H.sl.v13, run_H.sl.v135, run_H.sl.v142, run_H.sl.v19, run_H.sl.v20, run_H.sl.v21, run_H.sl.v22, run_H.sl.v26, run_H.sl.v41, run_H.sl.v46, run_H.sl.v51, run_H.sl.v56, run_H.sl.v8, run_H.sl.v85, run_H.sl.v9, run_H.sl.v95, dactV, ygV, ruV, gluV, glgV, ggV, guV, dmgV, dmuV, dbgV, dbuV, dadV, sgaB, sgaV, suaB, suaV, deltaB, deltaV, sgV, suV]
  all_goals simp only [if_neg hc1, if_neg hc2, if_pos hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

/-- What the body does at any point. -/
theorem kernelRun (c : Dev nD) (i : grid0.Coords) (b : Bufs) (v : Ins F) (o : Olds F) (E : Set ℕ) (K : PUnit → sProp 𝕄) (h13 : ¬ (c1 i ∧ c3 i)) :
    iprop(insP c b v ∗ oldP c b o ∗ (iprop(insP c b v ∗ newP c i b v o) -∗ K ⟨⟩))
      ⊢ wp frame (wpE (defs₀ (F := F)) Variants.none c none) E (call i b) K := by
  have key : iprop(rawIns c b v ∗ rawOld c b o ∗ (iprop(rawIns c b v ∗ newP c i b v o) -∗ K ⟨⟩))
      ⊢ wp frame (wpE (defs₀ (F := F)) Variants.none c none) E (call i b) K := by
    by_cases h1 : c1 i
    · have h3 : ¬ c3 i := fun h => h13 ⟨h1, h⟩
      by_cases h2 : c2 i
      · exact run_A c i b v o E K h1 h2 h3
      · exact run_B c i b v o E K h1 h2 h3
    · by_cases h2 : c2 i
      · by_cases h3 : c3 i
        · exact run_E c i b v o E K h1 h2 h3
        · exact run_C c i b v o E K h1 h2 h3
      · by_cases h3 : c3 i
        · exact run_H c i b v o E K h1 h2 h3
        · exact run_D c i b v o E K h1 h2 h3
  iintro ⟨HI, HO, Hk⟩
  iapply key
  isplitl [HI]; · iapply (ins_raw c b v); iexact HI
  isplitl [HO]; · iapply (old_raw c b o); iexact HO
  iintro ⟨HI, HN⟩
  iapply Hk
  isplitl [HI]; · iapply (raw_ins c b v); iexact HI
  iexact HN

end Cert.Dact.Body

end
-- ==== Proof.DactFrame.lean ====
module

public import proofs.«01_k».proof.Proof.Gen.Dact.Frame
public import proofs.«01_k».proof.Proof.Gen.Dact.Skeleton
public import proofs.«01_k».proof.Proof.DactRun
public import Idealize.ShloMosaic.Lib.VecWindow
public import Idealize.ShloMosaic.Lib.Pipeline.DatRel
public import Idealize.ShloMosaic.Lib.Pipeline.Frame
public import Idealize.ShloMosaic.Lib.Tactic
public import Idealize.ShloMosaic.Lib.LaneScatter.Own

@[expose] public section

set_option maxRecDepth 16384

noncomputable section

namespace Cert.Dact.Body

open Cert.Dact Cert.Dact.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw owns_raw raw_owns)
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem hc1 : ∀ t : Fin cfg0.N, c1 (grid0.coords t) ↔ t.val < 2 :=
  (fun t => by
    have ht : t.val < 28 := Nat.lt_of_lt_of_eq t.isLt N_0
    have e0 : (grid0.coords t 0).val = t.val / 2 % 14 := Pipeline.Grid.coords_val t 0 (by decide) rfl
    simp only [c1, k0_cond1, e0]; word_cmp)
theorem hc2 : ∀ t : Fin cfg0.N, c2 (grid0.coords t) ↔ t.val % 2 = 0 :=
  (fun t => by
    have ht : t.val < 28 := Nat.lt_of_lt_of_eq t.isLt N_0
    have e1 : (grid0.coords t 1).val = t.val / 1 % 2 := Pipeline.Grid.coords_val t 1 (by decide) rfl
    rw [Nat.div_one] at e1
    simp only [c2, e1]; word_cmp)
theorem hc3 : ∀ t : Fin cfg0.N, c3 (grid0.coords t) ↔ 26 ≤ t.val :=
  (fun t => by
    have ht : t.val < 28 := Nat.lt_of_lt_of_eq t.isLt N_0
    have e0 : (grid0.coords t 0).val = t.val / 2 % 14 := Pipeline.Grid.coords_val t 0 (by decide) rfl
    simp only [c3, k0_cond3, e0]; word_cmp)

abbrev ms0_0 (t : Fin cfg0.N) : Memref sig .tc .vmem S1024x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x64 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x64 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x64 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x64 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x64 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S64x256 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S2048x64 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S2048x64 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S2048x128 .f32 := win0_24.stage (cfg0.slots t 24)
abbrev hs0_24 (t : Fin cfg0.N) : (ms0_24 t).IsWhole := hstage0_24 ((cfg0.slots t 24).cast nbuf0_24)
abbrev scM0_0 : Memref sig .tc .vmem S2048x64 .f32 := Memref.whole cc0_scratch0
abbrev scM0_1 : Memref sig .tc .vmem S2048x64 .f32 := Memref.whole cc0_scratch1
abbrev scM0_2 : Memref sig .tc .vmem S1024x256 .f32 := Memref.whole cc0_scratch2

/-- The buffers of a point. -/
abbrev bufsAt (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, ms0_24 t, hs0_24 t, scM0_0, Memref.isWhole_whole _, scM0_1, Memref.isWhole_whole _, scM0_2, Memref.isWhole_whole _⟩

/-- The blocks of the launch arrays that a point reads. -/
abbrev insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The invariant of the scratch at anything: the three scratch buffers, and the register of the random generator. -/
theorem PhiA0_eq (c : Dev nD) :
    (Pipeline.ΦA spec0 c : sProp 𝕄) = iprop(((∃ d, owns (c : Thread nD τ) scM0_0 fullShare d) ∗ (∃ d, owns (c : Thread nD τ) scM0_1 fullShare d)
      ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the buffers hold after each point -/

/-- A state carried from point to point, from `d` before the first. -/
def iter {α : Type} (step : Fin cfg0.N → α → α) (d : α) : (n : ℕ) → n < cfg0.N → α
  | 0, h => step ⟨0, h⟩ d
  | n + 1, h => step ⟨n + 1, h⟩ (iter step d n (Nat.lt_of_succ_lt h))

theorem iter_zero {α : Type} (step : Fin cfg0.N → α → α) (d : α) (t : Fin cfg0.N) (h : t.val = 0) :
    iter step d t.val t.isLt = step t d := by
  obtain ⟨n, hn⟩ := t; cases h; rfl

theorem iter_pos {α : Type} (step : Fin cfg0.N → α → α) (d : α) (t : Fin cfg0.N) (h : t.val ≠ 0) :
    iter step d t.val t.isLt = step t (iter step d (t.val - 1) (by omega)) := by
  obtain ⟨n, hn⟩ := t
  cases n with
  | zero => exact absurd rfl h
  | succ n => rfl

/-- A state carried from point to point, from what was found before a point to what it leaves. -/
theorem iter_next {α : Type} (step : Fin cfg0.N → α → α) (t : Fin cfg0.N) (s : α)
    (h : t.val = 0 ∨ ∃ d, s = iter step d (t.val - 1) (by omega)) : ∃ d, step t s = iter step d t.val t.isLt := by
  by_cases hz : t.val = 0
  · exact ⟨s, (iter_zero _ _ t hz).symm⟩
  · obtain ⟨d, rfl⟩ := h.resolve_left hz
    exact ⟨d, (iter_pos _ _ t hz).symm⟩

/-- A relation carried from point to point along a state. -/
def chain {α β : Type} (step : Fin cfg0.N → α → α) (out : Fin cfg0.N → α → β → β) : (n : ℕ) → n < cfg0.N → β → Prop
  | 0, h => fun X => ∃ s Y, X = out ⟨0, h⟩ s Y
  | n + 1, h => fun X => ∃ d Y, chain step out n (Nat.lt_of_succ_lt h) Y ∧ X = out ⟨n + 1, h⟩ (iter step d n (Nat.lt_of_succ_lt h)) Y

theorem chain_next {α β : Type} (step : Fin cfg0.N → α → α) (out : Fin cfg0.N → α → β → β) (t : Fin cfg0.N) (s : α) (Y : β)
    (hs : t.val = 0 ∨ ∃ d, s = iter step d (t.val - 1) (by omega)) (hY : t.val = 0 ∨ chain step out (t.val - 1) (by omega) Y) :
    chain step out t.val t.isLt (out t s Y) := by
  obtain ⟨n, hn⟩ := t
  cases n with
  | zero => exact ⟨s, Y, rfl⟩
  | succ n =>
    obtain ⟨d, rfl⟩ := hs.resolve_left (Nat.succ_ne_zero n)
    exact ⟨d, Y, hY.resolve_left (Nat.succ_ne_zero n), rfl⟩

/-- One point's change of the gradient of the gate magnitude. -/
def dmgStep (c : Dev nD) (t : Fin cfg0.N) (d : Vec F S1x256 .f32) : Vec F S1x256 .f32 := dmgV (grid0.coords t) (insAt m c t) d
/-- The gradient of the gate magnitude after a point. -/
abbrev dmgAt (c : Dev nD) (n : ℕ) (h : n < cfg0.N) : Vec F S1x256 .f32 := iter (dmgStep m c) (k0_pay9 (F := F)) n h
/-- At a point of the first half of the tokens it starts from zero. -/
theorem dmgStep_reset (c : Dev nD) (t : Fin cfg0.N) (h : t.val % 2 = 0) (d d' : Vec F S1x256 .f32) : dmgStep m c t d = dmgStep m c t d' := by
  unfold dmgStep dmgV; rw [if_pos ((hc2 t).mpr h), if_pos ((hc2 t).mpr h)]
/-- One point's change of the gradient of the up magnitude. -/
def dmuStep (c : Dev nD) (t : Fin cfg0.N) (d : Vec F S1x256 .f32) : Vec F S1x256 .f32 := dmuV (grid0.coords t) (insAt m c t) d
/-- The gradient of the up magnitude after a point. -/
abbrev dmuAt (c : Dev nD) (n : ℕ) (h : n < cfg0.N) : Vec F S1x256 .f32 := iter (dmuStep m c) (k0_pay10 (F := F)) n h
/-- At a point of the first half of the tokens it starts from zero. -/
theorem dmuStep_reset (c : Dev nD) (t : Fin cfg0.N) (h : t.val % 2 = 0) (d d' : Vec F S1x256 .f32) : dmuStep m c t d = dmuStep m c t d' := by
  unfold dmuStep dmuV; rw [if_pos ((hc2 t).mpr h), if_pos ((hc2 t).mpr h)]
/-- One point's change of the gradient of the gate factor `b`. -/
def dbgStep (c : Dev nD) (t : Fin cfg0.N) (d : Vec F S256x64 .f32) : Vec F S256x64 .f32 := dbgV (grid0.coords t) (insAt m c t) d
/-- The gradient of the gate factor `b` after a point. -/
abbrev dbgAt (c : Dev nD) (n : ℕ) (h : n < cfg0.N) : Vec F S256x64 .f32 := iter (dbgStep m c) (k0_pay11 (F := F)) n h
/-- At a point of the first half of the tokens it starts from zero. -/
theorem dbgStep_reset (c : Dev nD) (t : Fin cfg0.N) (h : t.val % 2 = 0) (d d' : Vec F S256x64 .f32) : dbgStep m c t d = dbgStep m c t d' := by
  unfold dbgStep dbgV; rw [if_pos ((hc2 t).mpr h), if_pos ((hc2 t).mpr h)]
/-- One point's change of the gradient of the up factor `b`. -/
def dbuStep (c : Dev nD) (t : Fin cfg0.N) (d : Vec F S256x64 .f32) : Vec F S256x64 .f32 := dbuV (grid0.coords t) (insAt m c t) d
/-- The gradient of the up factor `b` after a point. -/
abbrev dbuAt (c : Dev nD) (n : ℕ) (h : n < cfg0.N) : Vec F S256x64 .f32 := iter (dbuStep m c) (k0_pay12 (F := F)) n h
/-- At a point of the first half of the tokens it starts from zero. -/
theorem dbuStep_reset (c : Dev nD) (t : Fin cfg0.N) (h : t.val % 2 = 0) (d d' : Vec F S256x64 .f32) : dbuStep m c t d = dbuStep m c t d' := by
  unfold dbuStep dbuV; rw [if_pos ((hc2 t).mpr h), if_pos ((hc2 t).mpr h)]
/-- One point's change of the gradient of the down factor `a`. -/
def dadStep (c : Dev nD) (t : Fin cfg0.N) (d : Vec F S64x256 .f32) : Vec F S64x256 .f32 := dadV (grid0.coords t) (insAt m c t) d
/-- The gradient of the down factor `a` after a point. -/
abbrev dadAt (c : Dev nD) (n : ℕ) (h : n < cfg0.N) : Vec F S64x256 .f32 := iter (dadStep m c) (k0_pay13 (F := F)) n h
/-- At a point of the first half of the tokens it starts from zero. -/
theorem dadStep_reset (c : Dev nD) (t : Fin cfg0.N) (h : t.val % 2 = 0) (d d' : Vec F S64x256 .f32) : dadStep m c t d = dadStep m c t d' := by
  unfold dadStep dadV; rw [if_pos ((hc2 t).mpr h), if_pos ((hc2 t).mpr h)]
/-- One point's change of the lane sums. -/
def deltaStep (c : Dev nD) (t : Fin cfg0.N) (d : Vec F S2048x128 .f32) : Vec F S2048x128 .f32 := deltaV (grid0.coords t) (insAt m c t) d
/-- The lane sums after a point, had the buffer held `d` before the first. -/
abbrev deltaAt (c : Dev nD) (d : Vec F S2048x128 .f32) (n : ℕ) (h : n < cfg0.N) : Vec F S2048x128 .f32 := iter (deltaStep m c) d n h
/-- One point's change of the running sum of the gate low-rank gradient. -/
def sgaStep (c : Dev nD) (t : Fin cfg0.N) (d : Vec F S2048x64 .f32) : Vec F S2048x64 .f32 := sgaV (grid0.coords t) (insAt m c t) d
/-- The running sum of the gate low-rank gradient after a point, had the buffer held `d` before the first. -/
abbrev sgaAt (c : Dev nD) (d : Vec F S2048x64 .f32) (n : ℕ) (h : n < cfg0.N) : Vec F S2048x64 .f32 := iter (sgaStep m c) d n h
/-- One point's change of the running sum of the up low-rank gradient. -/
def suaStep (c : Dev nD) (t : Fin cfg0.N) (d : Vec F S2048x64 .f32) : Vec F S2048x64 .f32 := suaV (grid0.coords t) (insAt m c t) d
/-- The running sum of the up low-rank gradient after a point, had the buffer held `d` before the first. -/
abbrev suaAt (c : Dev nD) (d : Vec F S2048x64 .f32) (n : ℕ) (h : n < cfg0.N) : Vec F S2048x64 .f32 := iter (suaStep m c) d n h

/-! ## The proof data -/

/-- The outputs are stated by what they may hold after each point. -/
def fgt : Fin 25 → Bool := fun w => decide (15 ≤ w.val)

/-- What an output's buffer may hold after a point. -/
def Rl (c : Dev nD) (w : Fin cfg0.W) (t : Fin cfg0.N) : ((cfg0.win w).block.Idx → Elt F (cfg0.win w).elt) → Prop :=
  match w with
  | ⟨15, _⟩ => fun X => X = ggV (grid0.coords t) (insAt m c t)
  | ⟨16, _⟩ => fun X => X = guV (grid0.coords t) (insAt m c t)
  | ⟨17, _⟩ => fun X => X = dmgAt m c t.val t.isLt
  | ⟨18, _⟩ => fun X => X = dmuAt m c t.val t.isLt
  | ⟨19, _⟩ => fun X => X = dbgAt m c t.val t.isLt
  | ⟨20, _⟩ => fun X => X = dbuAt m c t.val t.isLt
  | ⟨21, _⟩ => fun X => X = dadAt m c t.val t.isLt
  | ⟨22, _⟩ => fun X => chain (sgaStep m c) (fun t => sgV (grid0.coords t) (insAt m c t)) t.val t.isLt X
  | ⟨23, _⟩ => fun X => chain (suaStep m c) (fun t => suV (grid0.coords t) (insAt m c t)) t.val t.isLt X
  | ⟨24, _⟩ => fun X => ∃ d, X = deltaAt m c d t.val t.isLt
  | _ => fun _ => True

/-- The scratch after a point: what the points have left from anything. -/
def scr (c : Dev nD) (n : ℕ) (h : n < cfg0.N) : sProp 𝕄 :=
  iprop(((∃ d, owns (c : Thread nD τ) scM0_0 fullShare (sgaAt m c d n h)) ∗ (∃ d, owns (c : Thread nD τ) scM0_1 fullShare (suaAt m c d n h))
    ∗ (∃ d, owns (c : Thread nD τ) scM0_2 fullShare d)) ∗ (∃ r, prngReg c r))

/-- The scratch between points: at anything before the first, then what the points have left from anything. -/
def PhiS (c : Dev nD) : (n : ℕ) → n ≤ cfg0.N → sProp 𝕄
  | 0, _ => Pipeline.ΦA spec0 c
  | n + 1, hn => scr m c n hn

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = scr m c n hn := rfl
theorem PhiS_pos (c : Dev nD) (n : ℕ) (h : n ≤ cfg0.N) (hz : n ≠ 0) : PhiS m c n h = scr m c (n - 1) (by omega) := by
  cases n with
  | zero => exact absurd rfl hz
  | succ n => rfl

/-- The proof data: the inputs' buffers hold their blocks; the outputs are stated by `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => Pipeline.Dat.unnamed (cfg := cfg0) 15 t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => Pipeline.Dat.unnamed (cfg := cfg0) 19 t
    | ⟨20, _⟩ => Pipeline.Dat.unnamed (cfg := cfg0) 20 t
    | ⟨21, _⟩ => Pipeline.Dat.unnamed (cfg := cfg0) 21 t
    | ⟨22, _⟩ => Pipeline.Dat.unnamed (cfg := cfg0) 22 t
    | ⟨23, _⟩ => Pipeline.Dat.unnamed (cfg := cfg0) 23 t
    | ⟨24, _⟩ => Pipeline.Dat.unnamed (cfg := cfg0) 24 t
    | ⟨n + 25, h⟩ => absurd (show n + 25 < 25 from h) (by omega)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- The proof data with the outputs stated by `Rl`. -/
abbrev rdat (c : Dev nD) : RDat τ (Elt F) Unit ℕ (UR sig nD τ) ℕ cfg0 c := (dats m 0 c).toRRel fgt (Rl m c)

/-- What a point finds in the buffer of the lane sums: anything at the first, else what the point before left. -/
theorem finds24 (c : Dev nD) (t : Fin cfg0.N) (Y) (h : (rdat m c).Finds 24 t Y) : ∃ d, deltaStep m c t Y = deltaAt m c d t.val t.isLt := by
  refine iter_next _ t Y ?_
  by_cases hz : t.val = 0
  · exact Or.inl hz
  · rcases (RDat.finds_of_pos (rdat m c) (w := 24) rfl hz Y).mp h with h | h
    · have := (flush0_24 _).mp h
      have hN : t.val < 28 := Nat.lt_of_lt_of_eq t.isLt N_0
      simp only at this; omega
    · exact Or.inr ((dats m 0 c).toRRel_leaves (fgt := fgt) (Rl := Rl m c) (w := 24) rfl h)

/-- What a point leaves in the buffer of the gate low-rank gradient. -/
theorem finds22 (c : Dev nD) (t : Fin cfg0.N) (s : Vec F S2048x64 .f32) (Y) (h : (rdat m c).Finds 22 t Y)
    (hs : t.val = 0 ∨ ∃ d, s = sgaAt m c d (t.val - 1) (by omega)) :
    chain (sgaStep m c) (fun t => sgV (grid0.coords t) (insAt m c t)) t.val t.isLt (sgV (grid0.coords t) (insAt m c t) s Y) := by
  refine chain_next (sgaStep m c) (fun t => sgV (grid0.coords t) (insAt m c t)) t s Y hs ?_
  by_cases hz : t.val = 0
  · exact Or.inl hz
  · rcases (RDat.finds_of_pos (rdat m c) (w := 22) rfl hz Y).mp h with h | h
    · have := (flush0_22 _).mp h
      have hN : t.val < 28 := Nat.lt_of_lt_of_eq t.isLt N_0
      simp only at this; omega
    · exact Or.inr ((dats m 0 c).toRRel_leaves (fgt := fgt) (Rl := Rl m c) (w := 22) rfl h)

/-- What a point leaves in the buffer of the up low-rank gradient. -/
theorem finds23 (c : Dev nD) (t : Fin cfg0.N) (s : Vec F S2048x64 .f32) (Y) (h : (rdat m c).Finds 23 t Y)
    (hs : t.val = 0 ∨ ∃ d, s = suaAt m c d (t.val - 1) (by omega)) :
    chain (suaStep m c) (fun t => suV (grid0.coords t) (insAt m c t)) t.val t.isLt (suV (grid0.coords t) (insAt m c t) s Y) := by
  refine chain_next (suaStep m c) (fun t => suV (grid0.coords t) (insAt m c t)) t s Y hs ?_
  by_cases hz : t.val = 0
  · exact Or.inl hz
  · rcases (RDat.finds_of_pos (rdat m c) (w := 23) rfl hz Y).mp h with h | h
    · have := (flush0_23 _).mp h
      have hN : t.val < 28 := Nat.lt_of_lt_of_eq t.isLt N_0
      simp only at this; omega
    · exact Or.inr ((dats m 0 c).toRRel_leaves (fgt := fgt) (Rl := Rl m c) (w := 23) rfl h)

/-- What a point leaves in the buffer of the gradient of the gate magnitude. -/
theorem finds17 (c : Dev nD) (t : Fin cfg0.N) (Y) (h : (rdat m c).Finds 17 t Y) : dmgStep m c t Y = dmgAt m c t.val t.isLt := by
  by_cases hz : t.val = 0
  · exact (dmgStep_reset m c t (by omega) _ _).trans (iter_zero _ _ t hz).symm
  · rw [dmgAt, iter_pos _ _ t hz]
    rcases (RDat.finds_of_pos (rdat m c) (w := 17) rfl hz Y).mp h with h | h
    · have := (flush0_17 _).mp h
      exact dmgStep_reset m c t (by simp only at this; omega) _ _
    · exact congrArg _ ((dats m 0 c).toRRel_leaves (fgt := fgt) (Rl := Rl m c) (w := 17) rfl h)

/-- What a point leaves in the buffer of the gradient of the up magnitude. -/
theorem finds18 (c : Dev nD) (t : Fin cfg0.N) (Y) (h : (rdat m c).Finds 18 t Y) : dmuStep m c t Y = dmuAt m c t.val t.isLt := by
  by_cases hz : t.val = 0
  · exact (dmuStep_reset m c t (by omega) _ _).trans (iter_zero _ _ t hz).symm
  · rw [dmuAt, iter_pos _ _ t hz]
    rcases (RDat.finds_of_pos (rdat m c) (w := 18) rfl hz Y).mp h with h | h
    · have := (flush0_18 _).mp h
      exact dmuStep_reset m c t (by simp only at this; omega) _ _
    · exact congrArg _ ((dats m 0 c).toRRel_leaves (fgt := fgt) (Rl := Rl m c) (w := 18) rfl h)

/-- What a point leaves in the buffer of the gradient of the gate factor `b`. -/
theorem finds19 (c : Dev nD) (t : Fin cfg0.N) (Y) (h : (rdat m c).Finds 19 t Y) : dbgStep m c t Y = dbgAt m c t.val t.isLt := by
  by_cases hz : t.val = 0
  · exact (dbgStep_reset m c t (by omega) _ _).trans (iter_zero _ _ t hz).symm
  · rw [dbgAt, iter_pos _ _ t hz]
    rcases (RDat.finds_of_pos (rdat m c) (w := 19) rfl hz Y).mp h with h | h
    · have := (flush0_19 _).mp h
      exact dbgStep_reset m c t (by simp only at this; omega) _ _
    · exact congrArg _ ((dats m 0 c).toRRel_leaves (fgt := fgt) (Rl := Rl m c) (w := 19) rfl h)

/-- What a point leaves in the buffer of the gradient of the up factor `b`. -/
theorem finds20 (c : Dev nD) (t : Fin cfg0.N) (Y) (h : (rdat m c).Finds 20 t Y) : dbuStep m c t Y = dbuAt m c t.val t.isLt := by
  by_cases hz : t.val = 0
  · exact (dbuStep_reset m c t (by omega) _ _).trans (iter_zero _ _ t hz).symm
  · rw [dbuAt, iter_pos _ _ t hz]
    rcases (RDat.finds_of_pos (rdat m c) (w := 20) rfl hz Y).mp h with h | h
    · have := (flush0_20 _).mp h
      exact dbuStep_reset m c t (by simp only at this; omega) _ _
    · exact congrArg _ ((dats m 0 c).toRRel_leaves (fgt := fgt) (Rl := Rl m c) (w := 20) rfl h)

/-- What a point leaves in the buffer of the gradient of the down factor `a`. -/
theorem finds21 (c : Dev nD) (t : Fin cfg0.N) (Y) (h : (rdat m c).Finds 21 t Y) : dadStep m c t Y = dadAt m c t.val t.isLt := by
  by_cases hz : t.val = 0
  · exact (dadStep_reset m c t (by omega) _ _).trans (iter_zero _ _ t hz).symm
  · rw [dadAt, iter_pos _ _ t hz]
    rcases (RDat.finds_of_pos (rdat m c) (w := 21) rfl hz Y).mp h with h | h
    · have := (flush0_21 _).mp h
      exact dadStep_reset m c t (by simp only at this; omega) _ _
    · exact congrArg _ ((dats m 0 c).toRRel_leaves (fgt := fgt) (Rl := Rl m c) (w := 21) rfl h)

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ Y, ⌜(rdat m c).Finds 15 t Y⌝ ∗ owns (c : Thread nD τ) (ms0_15 t) fullShare Y)
    ∗ (∃ Y, ⌜(rdat m c).Finds 16 t Y⌝ ∗ owns (c : Thread nD τ) (ms0_16 t) fullShare Y)
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y)
    ∗ (∃ Y, ⌜(rdat m c).Finds 19 t Y⌝ ∗ owns (c : Thread nD τ) (ms0_19 t) fullShare Y)
    ∗ (∃ Y, ⌜(rdat m c).Finds 20 t Y⌝ ∗ owns (c : Thread nD τ) (ms0_20 t) fullShare Y)
    ∗ (∃ Y, ⌜(rdat m c).Finds 21 t Y⌝ ∗ owns (c : Thread nD τ) (ms0_21 t) fullShare Y)
    ∗ (∃ Y, ⌜(rdat m c).Finds 22 t Y⌝ ∗ owns (c : Thread nD τ) (ms0_22 t) fullShare Y)
    ∗ (∃ Y, ⌜(rdat m c).Finds 23 t Y⌝ ∗ owns (c : Thread nD τ) (ms0_23 t) fullShare Y)
    ∗ (∃ Y, ⌜(rdat m c).Finds 24 t Y⌝ ∗ owns (c : Thread nD τ) (ms0_24 t) fullShare Y))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ X, ⌜Rl m c 15 t X⌝ ∗ owns (c : Thread nD τ) (ms0_15 t) fullShare X)
    ∗ (∃ X, ⌜Rl m c 16 t X⌝ ∗ owns (c : Thread nD τ) (ms0_16 t) fullShare X)
    ∗ (∃ X, ⌜Rl m c 17 t X⌝ ∗ owns (c : Thread nD τ) (ms0_17 t) fullShare X)
    ∗ (∃ X, ⌜Rl m c 18 t X⌝ ∗ owns (c : Thread nD τ) (ms0_18 t) fullShare X)
    ∗ (∃ X, ⌜Rl m c 19 t X⌝ ∗ owns (c : Thread nD τ) (ms0_19 t) fullShare X)
    ∗ (∃ X, ⌜Rl m c 20 t X⌝ ∗ owns (c : Thread nD τ) (ms0_20 t) fullShare X)
    ∗ (∃ X, ⌜Rl m c 21 t X⌝ ∗ owns (c : Thread nD τ) (ms0_21 t) fullShare X)
    ∗ (∃ X, ⌜Rl m c 22 t X⌝ ∗ owns (c : Thread nD τ) (ms0_22 t) fullShare X)
    ∗ (∃ X, ⌜Rl m c 23 t X⌝ ∗ owns (c : Thread nD τ) (ms0_23 t) fullShare X)
    ∗ (∃ X, ⌜Rl m c 24 t X⌝ ∗ owns (c : Thread nD τ) (ms0_24 t) fullShare X))

set_option maxHeartbeats 3200000 in
/-- The body from the running sums at `s0` and `s1`. -/
theorem sound_from (c : Dev nD) (t : Fin cfg0.N) (s0 s1 : Vec F S2048x64 .f32)
    (h0 : t.val = 0 ∨ ∃ d, s0 = sgaAt m c d (t.val - 1) (by omega)) (h1 : t.val = 0 ∨ ∃ d, s1 = suaAt m c d (t.val - 1) (by omega)) :
    iprop(((owns (c : Thread nD τ) scM0_0 fullShare s0 ∗ owns (c : Thread nD τ) scM0_1 fullShare s1
      ∗ (∃ d, owns (c : Thread nD τ) scM0_2 fullShare d)) ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ Y, ⌜(rdat m c).Finds 15 t Y⌝ ∗ owns (c : Thread nD τ) (ms0_15 t) fullShare Y)
    ∗ (∃ Y, ⌜(rdat m c).Finds 16 t Y⌝ ∗ owns (c : Thread nD τ) (ms0_16 t) fullShare Y)
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y)
    ∗ (∃ Y, ⌜(rdat m c).Finds 19 t Y⌝ ∗ owns (c : Thread nD τ) (ms0_19 t) fullShare Y)
    ∗ (∃ Y, ⌜(rdat m c).Finds 20 t Y⌝ ∗ owns (c : Thread nD τ) (ms0_20 t) fullShare Y)
    ∗ (∃ Y, ⌜(rdat m c).Finds 21 t Y⌝ ∗ owns (c : Thread nD τ) (ms0_21 t) fullShare Y)
    ∗ (∃ Y, ⌜(rdat m c).Finds 22 t Y⌝ ∗ owns (c : Thread nD τ) (ms0_22 t) fullShare Y)
    ∗ (∃ Y, ⌜(rdat m c).Finds 23 t Y⌝ ∗ owns (c : Thread nD τ) (ms0_23 t) fullShare Y)
    ∗ (∃ Y, ⌜(rdat m c).Finds 24 t Y⌝ ∗ owns (c : Thread nD τ) (ms0_24 t) fullShare Y))
      ⊢ wp frame (wpE (defs₀ (F := F)) Variants.none c none) Set.univ (bodyAt0 t) (fun _ => bodyPost m c t) := by
  have key := fun y17 y18 y19 y20 y21 y22 y23 y24 => kernelRun c (grid0.coords t) (bufsAt t) (insAt m c t) ⟨y17, y18, y19, y20, y21, y22, y23, y24, s0, s1⟩ Set.univ (fun _ => bodyPost m c t)
    (fun h => by have a := (hc1 t).mp h.1; have b := (hc3 t).mp h.2; omega)
  unfold insP oldP newP call at key
  dsimp only at key
  unfold bodyPost at key ⊢
  unfold bodyAt0
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, before0_12, after0_12, before0_13, after0_13, before0_14, after0_14] at key ⊢
  rw [show (dats m 0 c).owesAt () t.succ = (dats m 0 c).owesAt () t.castSucc from rfl] at key ⊢
  rw [show (dats m 0 c).Φ t.succ = PhiS m c (t.val + 1) t.isLt from rfl, PhiS_succ] at key ⊢
  unfold scr at key ⊢
  obtain ⟨e0, he0⟩ : ∃ d, sgaV (grid0.coords t) (insAt m c t) s0 = sgaAt m c d t.val t.isLt := iter_next (sgaStep m c) t s0 h0
  obtain ⟨e1, he1⟩ : ∃ d, suaV (grid0.coords t) (insAt m c t) s1 = suaAt m c d t.val t.isLt := iter_next (suaStep m c) t s1 h1
  iintro ⟨⟨⟨HS0, HS1, ⟨%d27, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%y15, %hy15, H15⟩, ⟨%y16, %hy16, H16⟩, ⟨%y17, %hy17, H17⟩, ⟨%y18, %hy18, H18⟩, ⟨%y19, %hy19, H19⟩, ⟨%y20, %hy20, H20⟩, ⟨%y21, %hy21, H21⟩, ⟨%y22, %hy22, H22⟩, ⟨%y23, %hy23, H23⟩, ⟨%y24, %hy24, H24⟩⟩
  have g24 := finds24 m c t y24 hy24
  have g22 := finds22 m c t s0 y22 hy22 h0
  have g23 := finds23 m c t s1 y23 hy23 h1
  have g17 := finds17 m c t y17 hy17
  have g18 := finds18 m c t y18 hy18
  have g19 := finds19 m c t y19 hy19
  have g20 := finds20 m c t y20 hy20
  have g21 := finds21 m c t y21 hy21
  iapply (key y17 y18 y19 y20 y21 y22 y23 y24)
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15 H16 H17 H18 H19 H20 H21 H22 H23 H24 HS0 HS1 HS2]
  · isplitl [H15]; iexists _; iexact H15; isplitl [H16]; iexists _; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [HS0]; iexact HS0; isplitl [HS1]; iexact HS1; iexists _; iexact HS2
  iintro ⟨⟨H0, H1, H2, H3, H4, H5, H6, H7, H8, H9, H10, H11, H12, H13, H14⟩, H15, H16, H17, H18, H19, H20, H21, H22, H23, H24, HS0, HS1, HS2⟩
  isplitl [HS0 HS1 HS2 Hg]
  · isplitl [HS0 HS1 HS2]
    · isplitl [HS0]; iexists e0; rw [← he0]; iexact HS0
      isplitl [HS1]; iexists e1; rw [← he1]; iexact HS1
      iexists _; iexact HS2
    iexact Hg
  isplitl [Ho]; iexact Ho
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexists _; isplitr; swap; iexact H15; ipureintro; exact rfl
  isplitl [H16]; iexists _; isplitr; swap; iexact H16; ipureintro; exact rfl
  isplitl [H17]; iexists _; isplitr; swap; iexact H17; ipureintro; exact g17
  isplitl [H18]; iexists _; isplitr; swap; iexact H18; ipureintro; exact g18
  isplitl [H19]; iexists _; isplitr; swap; iexact H19; ipureintro; exact g19
  isplitl [H20]; iexists _; isplitr; swap; iexact H20; ipureintro; exact g20
  isplitl [H21]; iexists _; isplitr; swap; iexact H21; ipureintro; exact g21
  isplitl [H22]; iexists _; isplitr; swap; iexact H22; ipureintro; exact g22
  isplitl [H23]; iexists _; isplitr; swap; iexact H23; ipureintro; exact g23
  iexists _; isplitr; swap; iexact H24; ipureintro; exact g24

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hz : t.val = 0
  · rw [PhiS_castSucc m c t, PhiS_zero m c _ _ hz, PhiA0_eq]
    iintro ⟨⟨⟨⟨%s0, HS0⟩, ⟨%s1, HS1⟩, HS2⟩, Hg⟩, Hr⟩
    iapply (sound_from m c t s0 s1 (Or.inl hz) (Or.inl hz))
    isplitl [HS0 HS1 HS2 Hg]
    · isplitl [HS0 HS1 HS2]
      · isplitl [HS0]; iexact HS0
        isplitl [HS1]; iexact HS1
        iexact HS2
      iexact Hg
    iexact Hr
  · rw [PhiS_castSucc m c t, PhiS_pos m c _ _ hz]
    unfold scr
    iintro ⟨⟨⟨⟨%d0, HS0⟩, ⟨%d1, HS1⟩, HS2⟩, Hg⟩, Hr⟩
    iapply (sound_from m c t (sgaAt m c d0 (t.val - 1) (by omega)) (suaAt m c d1 (t.val - 1) (by omega)) (Or.inr ⟨d0, rfl⟩) (Or.inr ⟨d1, rfl⟩))
    isplitl [HS0 HS1 HS2 Hg]
    · isplitl [HS0 HS1 HS2]
      · isplitl [HS0]; iexact HS0
        isplitl [HS1]; iexact HS1
        iexact HS2
      iexact Hg
    iexact Hr

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

theorem hout (c : Dev nD) : (rdat m c).Φ (Fin.last cfg0.N) ⊢ Pipeline.ΦA spec0 c := by
  rw [show (rdat m c).Φ (Fin.last cfg0.N) = PhiS m c cfg0.N (Nat.le_refl _) from rfl,
    PhiS_pos m c _ _ (by have : cfg0.N = 28 := N_0; omega), PhiA0_eq]
  unfold scr
  iintro ⟨⟨⟨%d0, HS0⟩, ⟨%d1, HS1⟩, HS2⟩, Hg⟩
  isplitl [HS0 HS1 HS2]
  · isplitl [HS0]; iexists _; iexact HS0
    isplitl [HS1]; iexists _; iexact HS1
    iexact HS2
  iexact Hg

/-! ## The run and the frame -/

set_option backward.isDefEq.respectTransparency.types false in
/-- Every run ends, with each array at what the proof data allow and every semaphore counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

variable {m} in
/-- An input array ends as the region found it. -/
theorem final_in (w : Fin cfg0.W) (hw : (cfg0.win w).isOut = false) {r : PUnit × MemSt nD τ sig (Elt F)}
    (h : Pipeline.RDat.FramePost (cfgs 0) (rdat m) (V m) r) (c : Dev nD) :
    r.2.mem ((cfg0.win w).arr.view.loc (c.tc : Thread nD τ)) = V m c (Pipeline.arrRef spec0 w) := by
  have := (h c).1 w
  rw [RDat.ArrAt_in (rdat m c) w hw] at this
  exact this.trans (A_eq m c w)

/-- The frame: every run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨(final_in 0 rfl h.1 c).trans (V_main_arg0 m c),
      (final_in 1 rfl h.1 c).trans (V_main_arg1 m c),
      (final_in 2 rfl h.1 c).trans (V_main_arg2 m c),
      (final_in 3 rfl h.1 c).trans (V_main_arg3 m c),
      (final_in 4 rfl h.1 c).trans (V_main_arg4 m c),
      (final_in 5 rfl h.1 c).trans (V_main_arg5 m c),
      (final_in 6 rfl h.1 c).trans (V_main_arg6 m c),
      (final_in 7 rfl h.1 c).trans (V_main_arg7 m c),
      (final_in 8 rfl h.1 c).trans (V_main_arg8 m c),
      (final_in 9 rfl h.1 c).trans (V_main_arg9 m c),
      (final_in 10 rfl h.1 c).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c)⟩, h.2⟩) (run_main m ρ)

end Cert.Dact.Body

end
-- ==== Proof.DactIdealBody.lean ====
module

public import proofs.«01_k».proof.Proof.Gen.DactIdeal.Frame
public import proofs.«01_k».proof.Proof.Gen.DactIdeal.Skeleton
public import Idealize.ShloMosaic.Lib.VecWindow
public import Idealize.ShloMosaic.Lib.Pipeline.DatRel
public import Idealize.ShloMosaic.Lib.Pipeline.Frame
public import Idealize.ShloMosaic.Lib.Tactic
public import Idealize.ShloMosaic.Lib.LaneScatter.Own

@[expose] public section

set_option maxRecDepth 16384

noncomputable section

namespace Cert.DactIdeal.Body

open Cert.DactIdeal Cert.DactIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw owns_raw raw_owns)
open Idealize.ShloMosaic.Pipeline (Dat RDat Cfg Window BodyObligation BodyObligationRel cellOf)

variable {F : FTy → Type} [FloatOps F]

local notation "𝕄" => MT nD τ sig Unit (Elt F) ℕ (UR sig nD τ) ℕ

/-- The buffers that the body works on, each of which is whole. -/
structure Bufs where
  a2 : Memref sig .tc .vmem S1024x8192 .bf16
  h2 : a2.IsWhole
  a3 : Memref sig .tc .vmem S8192x256 .bf16
  h3 : a3.IsWhole
  a4 : Memref sig .tc .vmem S2048x64 .bf16
  h4 : a4.IsWhole
  a5 : Memref sig .tc .vmem S64x256 .bf16
  h5 : a5.IsWhole
  a6 : Memref sig .tc .vmem S1024x256 .bf16
  h6 : a6.IsWhole
  a7 : Memref sig .tc .vmem S1024x256 .f32
  h7 : a7.IsWhole
  a8 : Memref sig .tc .vmem S1024x256 .f32
  h8 : a8.IsWhole
  a9 : Memref sig .tc .vmem S2048x64 .bf16
  h9 : a9.IsWhole
  a10 : Memref sig .tc .vmem S2048x64 .bf16
  h10 : a10.IsWhole
  a11 : Memref sig .tc .vmem S256x64 .bf16
  h11 : a11.IsWhole
  a12 : Memref sig .tc .vmem S256x64 .bf16
  h12 : a12.IsWhole
  a13 : Memref sig .tc .vmem S1x256 .f32
  h13 : a13.IsWhole
  a14 : Memref sig .tc .vmem S1x256 .f32
  h14 : a14.IsWhole
  a15 : Memref sig .tc .vmem S1x256 .f32
  h15 : a15.IsWhole
  a16 : Memref sig .tc .vmem S1x256 .f32
  h16 : a16.IsWhole
  a17 : Memref sig .tc .vmem S1024x256 .bf16
  h17 : a17.IsWhole
  a18 : Memref sig .tc .vmem S1024x256 .bf16
  h18 : a18.IsWhole
  a19 : Memref sig .tc .vmem S1x256 .f32
  h19 : a19.IsWhole
  a20 : Memref sig .tc .vmem S1x256 .f32
  h20 : a20.IsWhole
  a21 : Memref sig .tc .vmem S256x64 .f32
  h21 : a21.IsWhole
  a22 : Memref sig .tc .vmem S256x64 .f32
  h22 : a22.IsWhole
  a23 : Memref sig .tc .vmem S64x256 .f32
  h23 : a23.IsWhole
  a24 : Memref sig .tc .vmem S2048x64 .bf16
  h24 : a24.IsWhole
  a25 : Memref sig .tc .vmem S2048x64 .bf16
  h25 : a25.IsWhole
  a26 : Memref sig .tc .vmem S2048x128 .f32
  h26 : a26.IsWhole
  a27 : Memref sig .tc .vmem S2048x64 .f32
  h27 : a27.IsWhole
  a28 : Memref sig .tc .vmem S2048x64 .f32
  h28 : a28.IsWhole
  a29 : Memref sig .tc .vmem S1024x256 .f32
  h29 : a29.IsWhole

variable (F) in
/-- What the input buffers hold at a point. -/
structure Ins where
  x0 : Vec F S1024x8192 .bf16
  x1 : Vec F S8192x256 .bf16
  x2 : Vec F S2048x64 .bf16
  x3 : Vec F S64x256 .bf16
  x4 : Vec F S1024x256 .bf16
  x5 : Vec F S1024x256 .f32
  x6 : Vec F S1024x256 .f32
  x7 : Vec F S2048x64 .bf16
  x8 : Vec F S2048x64 .bf16
  x9 : Vec F S256x64 .bf16
  x10 : Vec F S256x64 .bf16
  x11 : Vec F S1x256 .f32
  x12 : Vec F S1x256 .f32
  x13 : Vec F S1x256 .f32
  x14 : Vec F S1x256 .f32

variable (F) in
/-- What the buffers that carry something from point to point hold before a point. -/
structure Olds where
  y17 : Vec F S1x256 .f32
  y18 : Vec F S1x256 .f32
  y19 : Vec F S256x64 .f32
  y20 : Vec F S256x64 .f32
  y21 : Vec F S64x256 .f32
  y22 : Vec F S2048x64 .bf16
  y23 : Vec F S2048x64 .bf16
  y24 : Vec F S2048x128 .f32
  s0 : Vec F S2048x64 .f32
  s1 : Vec F S2048x64 .f32

/-- The first row of the half of the tokens that a point works on. -/
def offs (i : grid0.Coords) : Fin 2 → ℕ := ![1024 * (i 1).val, 0]

theorem offs_inb (i : grid0.Coords) : ∀ a, offs i a + S1024x64.size a ≤ S2048x64.size a := by
  have h := k0_off3_inb i
  rwa [k0_off3_eq] at h

theorem offs_inb' (i : grid0.Coords) : ∀ a, offs i a + S1024x128.size a ≤ S2048x128.size a := by
  have h := k0_off4_inb i
  rwa [k0_off4_eq] at h

/-- The rows of a whole array of 64 columns that a point works on. -/
def rows {e : EltTy} (x : Vec F S2048x64 e) (i : grid0.Coords) : Vec F S1024x64 e :=
  VecWindow.window x (offs i) S1024x64.size (offs_inb i)

/-- A whole array of 64 columns with the rows of the point replaced. -/
def putRows {e : EltTy} (x : Vec F S2048x64 e) (i : grid0.Coords) (w : Vec F S1024x64 e) : Vec F S2048x64 e :=
  VecWindow.put x (offs i) S1024x64.size w

/-- The rows of a whole array of 128 columns that a point works on. -/
def rows' {e : EltTy} (x : Vec F S2048x128 e) (i : grid0.Coords) : Vec F S1024x128 e :=
  VecWindow.window x (offs i) S1024x128.size (offs_inb' i)

/-- A whole array of 128 columns with the rows of the point replaced. -/
def putRows' {e : EltTy} (x : Vec F S2048x128 e) (i : grid0.Coords) (w : Vec F S1024x128 e) : Vec F S2048x128 e :=
  VecWindow.put x (offs i) S1024x128.size w

/-- The condition of the first conditional: the first block of columns. -/
abbrev c1 (i : grid0.Coords) : Prop := k0_cond1 i = 1#1
/-- The condition of the second conditional: the first half of the tokens. -/
abbrev c2 (i : grid0.Coords) : Prop := (Scalar.cmpi .ne (Scalar.extui (Scalar.cmpi .eq (BitVec.ofNat 32 (i 1).val) 0#32)) 0#32) = 1#1
/-- The condition of the third conditional: the last block of columns. -/
abbrev c3 (i : grid0.Coords) : Prop := k0_cond3 i = 1#1

/-- The gradient with respect to the activation at a point. -/
def dactV (i : grid0.Coords) (v : Ins F) : Vec F S1024x256 .f32 := k0_pay14 v.x0 v.x1 (rows v.x2 i) v.x3
/-- The scaled gate projection, -/
def ygV (v : Ins F) : FVec F S1024x256 .f32 := k0_pay15 v.x5 v.x11
/-- the ratios of the up projection over the rows, -/
def ruV (v : Ins F) : FVec F S1024x256 .f32 := k0_pay16 v.x12
/-- the gradient with respect to the scaled up projection -/
def gluV (i : grid0.Coords) (v : Ins F) : FVec F S1024x256 .f32 := k0_pay19 (dactV i v) (ygV v)
/-- and that with respect to the scaled gate projection. -/
def glgV (i : grid0.Coords) (v : Ins F) : FVec F S1024x256 .f32 := k0_pay20 (dactV i v) v.x6 (ygV v) (ruV v)
/-- The block of the gate gradient that a point writes -/
def ggV (i : grid0.Coords) (v : Ins F) : Vec F S1024x256 .bf16 := k0_pay26 (glgV i v) v.x11
/-- and that of the up gradient. -/
def guV (i : grid0.Coords) (v : Ins F) : Vec F S1024x256 .bf16 := k0_pay27 (gluV i v) v.x12

open Classical in
/-- The block of the gradient of the gate magnitude after a point, -/
def dmgV (i : grid0.Coords) (v : Ins F) (y : Vec F S1x256 .f32) : Vec F S1x256 .f32 :=
  k0_pay21 (dactV i v) v.x5 v.x6 (ygV v) (ruV v) (if c2 i then k0_pay9 (F := F) else y) v.x13
open Classical in
/-- of the up magnitude, -/
def dmuV (i : grid0.Coords) (v : Ins F) (y : Vec F S1x256 .f32) : Vec F S1x256 .f32 :=
  k0_pay22 (dactV i v) v.x6 (ygV v) (if c2 i then k0_pay10 (F := F) else y) v.x14
open Classical in
/-- of the gate factor `b`, -/
def dbgV (i : grid0.Coords) (v : Ins F) (y : Vec F S256x64 .f32) : Vec F S256x64 .f32 :=
  k0_pay28 (glgV i v) v.x11 (if c2 i then k0_pay11 (F := F) else y) (rows v.x7 i)
open Classical in
/-- of the up factor `b`, -/
def dbuV (i : grid0.Coords) (v : Ins F) (y : Vec F S256x64 .f32) : Vec F S256x64 .f32 :=
  k0_pay29 (gluV i v) v.x12 (if c2 i then k0_pay12 (F := F) else y) (rows v.x8 i)
open Classical in
/-- of the down factor `a`. -/
def dadV (i : grid0.Coords) (v : Ins F) (y : Vec F S64x256 .f32) : Vec F S64x256 .f32 :=
  k0_pay1 (if c2 i then k0_pay13 (F := F) else y) (rows v.x2 i) v.x4

open Classical in
/-- The running sum of the gate low-rank gradient before a point adds to it, -/
def sgaB (i : grid0.Coords) (y : Vec F S2048x64 .f32) : Vec F S2048x64 .f32 := if c1 i then putRows y i (k0_pay6 (F := F)) else y
/-- and after. -/
def sgaV (i : grid0.Coords) (v : Ins F) (y : Vec F S2048x64 .f32) : Vec F S2048x64 .f32 :=
  putRows (sgaB i y) i (k0_pay2 (ggV i v) (rows (sgaB i y) i) v.x9)
open Classical in
/-- The running sum of the up low-rank gradient before a point adds to it, -/
def suaB (i : grid0.Coords) (y : Vec F S2048x64 .f32) : Vec F S2048x64 .f32 := if c1 i then putRows y i (k0_pay7 (F := F)) else y
/-- and after. -/
def suaV (i : grid0.Coords) (v : Ins F) (y : Vec F S2048x64 .f32) : Vec F S2048x64 .f32 :=
  putRows (suaB i y) i (k0_pay3 (guV i v) (rows (suaB i y) i) v.x10)
open Classical in
/-- The running lane sums before a point adds to them, -/
def deltaB (i : grid0.Coords) (y : Vec F S2048x128 .f32) : Vec F S2048x128 .f32 := if c1 i then putRows' y i (k0_pay8 (F := F)) else y
/-- and after. -/
def deltaV (i : grid0.Coords) (v : Ins F) (y : Vec F S2048x128 .f32) : Vec F S2048x128 .f32 :=
  putRows' (deltaB i y) i (k0_pay25 (k0_pay23 (rows' (deltaB i y) i)) (k0_pay24 (dactV i v) v.x6 (ygV v) (ruV v)))
open Classical in
/-- The gate low-rank gradient after a point, the running sum before it being `s`, -/
def sgV (i : grid0.Coords) (v : Ins F) (s : Vec F S2048x64 .f32) (y : Vec F S2048x64 .bf16) : Vec F S2048x64 .bf16 :=
  if c3 i then putRows y i (k0_pay4 (rows (sgaV i v s) i)) else y
open Classical in
/-- and the up low-rank gradient. -/
def suV (i : grid0.Coords) (v : Ins F) (s : Vec F S2048x64 .f32) (y : Vec F S2048x64 .bf16) : Vec F S2048x64 .bf16 :=
  if c3 i then putRows y i (k0_pay5 (rows (suaV i v s) i)) else y

/-- The input buffers. -/
def insP (c : Dev nD) (b : Bufs) (v : Ins F) : sProp 𝕄 :=
  iprop(owns (c : Thread nD τ) b.a2 fullShare v.x0
    ∗ owns (c : Thread nD τ) b.a3 fullShare v.x1
    ∗ owns (c : Thread nD τ) b.a4 fullShare v.x2
    ∗ owns (c : Thread nD τ) b.a5 fullShare v.x3
    ∗ owns (c : Thread nD τ) b.a6 fullShare v.x4
    ∗ owns (c : Thread nD τ) b.a7 fullShare v.x5
    ∗ owns (c : Thread nD τ) b.a8 fullShare v.x6
    ∗ owns (c : Thread nD τ) b.a9 fullShare v.x7
    ∗ owns (c : Thread nD τ) b.a10 fullShare v.x8
    ∗ owns (c : Thread nD τ) b.a11 fullShare v.x9
    ∗ owns (c : Thread nD τ) b.a12 fullShare v.x10
    ∗ owns (c : Thread nD τ) b.a13 fullShare v.x11
    ∗ owns (c : Thread nD τ) b.a14 fullShare v.x12
    ∗ owns (c : Thread nD τ) b.a15 fullShare v.x13
    ∗ owns (c : Thread nD τ) b.a16 fullShare v.x14)
/-- The output buffers and the scratch before a point. -/
def oldP (c : Dev nD) (b : Bufs) (o : Olds F) : sProp 𝕄 :=
  iprop((∃ d, owns (c : Thread nD τ) b.a17 fullShare d)
    ∗ (∃ d, owns (c : Thread nD τ) b.a18 fullShare d)
    ∗ owns (c : Thread nD τ) b.a19 fullShare o.y17
    ∗ owns (c : Thread nD τ) b.a20 fullShare o.y18
    ∗ owns (c : Thread nD τ) b.a21 fullShare o.y19
    ∗ owns (c : Thread nD τ) b.a22 fullShare o.y20
    ∗ owns (c : Thread nD τ) b.a23 fullShare o.y21
    ∗ owns (c : Thread nD τ) b.a24 fullShare o.y22
    ∗ owns (c : Thread nD τ) b.a25 fullShare o.y23
    ∗ owns (c : Thread nD τ) b.a26 fullShare o.y24
    ∗ owns (c : Thread nD τ) b.a27 fullShare o.s0
    ∗ owns (c : Thread nD τ) b.a28 fullShare o.s1
    ∗ (∃ d, owns (c : Thread nD τ) b.a29 fullShare d))
/-- The output buffers and the scratch after a point. -/
def newP (c : Dev nD) (i : grid0.Coords) (b : Bufs) (v : Ins F) (o : Olds F) : sProp 𝕄 :=
  iprop(owns (c : Thread nD τ) b.a17 fullShare (ggV i v)
    ∗ owns (c : Thread nD τ) b.a18 fullShare (guV i v)
    ∗ owns (c : Thread nD τ) b.a19 fullShare (dmgV i v o.y17)
    ∗ owns (c : Thread nD τ) b.a20 fullShare (dmuV i v o.y18)
    ∗ owns (c : Thread nD τ) b.a21 fullShare (dbgV i v o.y19)
    ∗ owns (c : Thread nD τ) b.a22 fullShare (dbuV i v o.y20)
    ∗ owns (c : Thread nD τ) b.a23 fullShare (dadV i v o.y21)
    ∗ owns (c : Thread nD τ) b.a24 fullShare (sgV i v o.s0 o.y22)
    ∗ owns (c : Thread nD τ) b.a25 fullShare (suV i v o.s1 o.y23)
    ∗ owns (c : Thread nD τ) b.a26 fullShare (deltaV i v o.y24)
    ∗ owns (c : Thread nD τ) b.a27 fullShare (sgaV i v o.s0)
    ∗ owns (c : Thread nD τ) b.a28 fullShare (suaV i v o.s1)
    ∗ owns (c : Thread nD τ) b.a29 fullShare (dactV i v))
/-- The input buffers, held raw. -/
def rawIns (c : Dev nD) (b : Bufs) (v : Ins F) : sProp 𝕄 :=
  iprop(raw (c : Thread nD τ) b.a2 (b.h2.unread v.x0)
    ∗ raw (c : Thread nD τ) b.a3 (b.h3.unread v.x1)
    ∗ raw (c : Thread nD τ) b.a4 (b.h4.unread v.x2)
    ∗ raw (c : Thread nD τ) b.a5 (b.h5.unread v.x3)
    ∗ raw (c : Thread nD τ) b.a6 (b.h6.unread v.x4)
    ∗ raw (c : Thread nD τ) b.a7 (b.h7.unread v.x5)
    ∗ raw (c : Thread nD τ) b.a8 (b.h8.unread v.x6)
    ∗ raw (c : Thread nD τ) b.a9 (b.h9.unread v.x7)
    ∗ raw (c : Thread nD τ) b.a10 (b.h10.unread v.x8)
    ∗ raw (c : Thread nD τ) b.a11 (b.h11.unread v.x9)
    ∗ raw (c : Thread nD τ) b.a12 (b.h12.unread v.x10)
    ∗ raw (c : Thread nD τ) b.a13 (b.h13.unread v.x11)
    ∗ raw (c : Thread nD τ) b.a14 (b.h14.unread v.x12)
    ∗ raw (c : Thread nD τ) b.a15 (b.h15.unread v.x13)
    ∗ raw (c : Thread nD τ) b.a16 (b.h16.unread v.x14))
/-- The output buffers and the scratch before a point, held raw. -/
def rawOld (c : Dev nD) (b : Bufs) (o : Olds F) : sProp 𝕄 :=
  iprop((∃ f, raw (c : Thread nD τ) b.a17 f)
    ∗ (∃ f, raw (c : Thread nD τ) b.a18 f)
    ∗ raw (c : Thread nD τ) b.a19 (b.h19.unread o.y17)
    ∗ raw (c : Thread nD τ) b.a20 (b.h20.unread o.y18)
    ∗ raw (c : Thread nD τ) b.a21 (b.h21.unread o.y19)
    ∗ raw (c : Thread nD τ) b.a22 (b.h22.unread o.y20)
    ∗ raw (c : Thread nD τ) b.a23 (b.h23.unread o.y21)
    ∗ raw (c : Thread nD τ) b.a24 (b.h24.unread o.y22)
    ∗ raw (c : Thread nD τ) b.a25 (b.h25.unread o.y23)
    ∗ raw (c : Thread nD τ) b.a26 (b.h26.unread o.y24)
    ∗ raw (c : Thread nD τ) b.a27 (b.h27.unread o.s0)
    ∗ raw (c : Thread nD τ) b.a28 (b.h28.unread o.s1)
    ∗ (∃ f, raw (c : Thread nD τ) b.a29 f))

theorem own_raw (c : Dev nD) {s : Shape} {e : EltTy} (M : Memref sig .tc .vmem s e) (h : M.IsWhole) (x : Vec F s e) :
    owns (c : Thread nD τ) M fullShare x ⊢ (raw (c : Thread nD τ) M (h.unread x) : sProp 𝕄) := owns_raw (Val := Elt F) (c : Thread nD τ) M h x
theorem raw_own (c : Dev nD) {s : Shape} {e : EltTy} (M : Memref sig .tc .vmem s e) (h : M.IsWhole) (x : Vec F s e) :
    (raw (c : Thread nD τ) M (h.unread x) : sProp 𝕄) ⊢ owns (c : Thread nD τ) M fullShare x := raw_owns (Val := Elt F) (c : Thread nD τ) M (h.read_unread x)
theorem ins_raw (c : Dev nD) (b : Bufs) (v : Ins F) : insP c b v ⊢ rawIns c b v := by
  unfold insP rawIns
  iintro ⟨H0, H1, H2, H3, H4, H5, H6, H7, H8, H9, H10, H11, H12, H13, H14⟩
  isplitl [H0]; iapply (own_raw c b.a2 b.h2 v.x0); iexact H0
  isplitl [H1]; iapply (own_raw c b.a3 b.h3 v.x1); iexact H1
  isplitl [H2]; iapply (own_raw c b.a4 b.h4 v.x2); iexact H2
  isplitl [H3]; iapply (own_raw c b.a5 b.h5 v.x3); iexact H3
  isplitl [H4]; iapply (own_raw c b.a6 b.h6 v.x4); iexact H4
  isplitl [H5]; iapply (own_raw c b.a7 b.h7 v.x5); iexact H5
  isplitl [H6]; iapply (own_raw c b.a8 b.h8 v.x6); iexact H6
  isplitl [H7]; iapply (own_raw c b.a9 b.h9 v.x7); iexact H7
  isplitl [H8]; iapply (own_raw c b.a10 b.h10 v.x8); iexact H8
  isplitl [H9]; iapply (own_raw c b.a11 b.h11 v.x9); iexact H9
  isplitl [H10]; iapply (own_raw c b.a12 b.h12 v.x10); iexact H10
  isplitl [H11]; iapply (own_raw c b.a13 b.h13 v.x11); iexact H11
  isplitl [H12]; iapply (own_raw c b.a14 b.h14 v.x12); iexact H12
  isplitl [H13]; iapply (own_raw c b.a15 b.h15 v.x13); iexact H13
  iapply (own_raw c b.a16 b.h16 v.x14); iexact H14
theorem raw_ins (c : Dev nD) (b : Bufs) (v : Ins F) : rawIns c b v ⊢ insP c b v := by
  unfold insP rawIns
  iintro ⟨H0, H1, H2, H3, H4, H5, H6, H7, H8, H9, H10, H11, H12, H13, H14⟩
  isplitl [H0]; iapply (raw_own c b.a2 b.h2 v.x0); iexact H0
  isplitl [H1]; iapply (raw_own c b.a3 b.h3 v.x1); iexact H1
  isplitl [H2]; iapply (raw_own c b.a4 b.h4 v.x2); iexact H2
  isplitl [H3]; iapply (raw_own c b.a5 b.h5 v.x3); iexact H3
  isplitl [H4]; iapply (raw_own c b.a6 b.h6 v.x4); iexact H4
  isplitl [H5]; iapply (raw_own c b.a7 b.h7 v.x5); iexact H5
  isplitl [H6]; iapply (raw_own c b.a8 b.h8 v.x6); iexact H6
  isplitl [H7]; iapply (raw_own c b.a9 b.h9 v.x7); iexact H7
  isplitl [H8]; iapply (raw_own c b.a10 b.h10 v.x8); iexact H8
  isplitl [H9]; iapply (raw_own c b.a11 b.h11 v.x9); iexact H9
  isplitl [H10]; iapply (raw_own c b.a12 b.h12 v.x10); iexact H10
  isplitl [H11]; iapply (raw_own c b.a13 b.h13 v.x11); iexact H11
  isplitl [H12]; iapply (raw_own c b.a14 b.h14 v.x12); iexact H12
  isplitl [H13]; iapply (raw_own c b.a15 b.h15 v.x13); iexact H13
  iapply (raw_own c b.a16 b.h16 v.x14); iexact H14
theorem any_raw (c : Dev nD) {s : Shape} {e : EltTy} (M : Memref sig .tc .vmem s e) :
    iprop(∃ d : Vec F s e, owns (c : Thread nD τ) M fullShare d) ⊢ (iprop(∃ f, raw (c : Thread nD τ) M f) : sProp 𝕄) := by
  unfold owns raw
  iintro ⟨%d, %f, -, H⟩
  iexists f; iexact H
theorem old_raw (c : Dev nD) (b : Bufs) (o : Olds F) : oldP c b o ⊢ rawOld c b o := by
  unfold oldP rawOld
  iintro ⟨H15, H16, H17, H18, H19, H20, H21, H22, H23, H24, H25, H26, H27⟩
  isplitl [H15]; iapply (any_raw c b.a17); iexact H15
  isplitl [H16]; iapply (any_raw c b.a18); iexact H16
  isplitl [H17]; iapply (own_raw c b.a19 b.h19 o.y17); iexact H17
  isplitl [H18]; iapply (own_raw c b.a20 b.h20 o.y18); iexact H18
  isplitl [H19]; iapply (own_raw c b.a21 b.h21 o.y19); iexact H19
  isplitl [H20]; iapply (own_raw c b.a22 b.h22 o.y20); iexact H20
  isplitl [H21]; iapply (own_raw c b.a23 b.h23 o.y21); iexact H21
  isplitl [H22]; iapply (own_raw c b.a24 b.h24 o.y22); iexact H22
  isplitl [H23]; iapply (own_raw c b.a25 b.h25 o.y23); iexact H23
  isplitl [H24]; iapply (own_raw c b.a26 b.h26 o.y24); iexact H24
  isplitl [H25]; iapply (own_raw c b.a27 b.h27 o.s0); iexact H25
  isplitl [H26]; iapply (own_raw c b.a28 b.h28 o.s1); iexact H26
  iapply (any_raw c b.a29); iexact H27

/-- The body on the buffers. -/
abbrev call (i : grid0.Coords) (b : Bufs) := cc0_dact_swiglu (F := F) i b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 b.a26 b.h26 b.a27 b.h27 b.a28 b.h28 b.a29 b.h29

/-! Loads and stores of the rows of the point, through each printed offset. -/

theorem readAt1 {e : EltTy} (m : Memref sig .tc .vmem S2048x64 e) (f : m.view.ty.Contents (Elt F)) (i : grid0.Coords)
    (inb : ∀ a, k0_off1 i a + S1024x64.size a ≤ S2048x64.size a) :
    m.view.readAt (Elt F) (Rect.unit (s := S2048x64) (k0_off1 i) ![1024, 64] inb).toLoadRect f = rows (m.view.read (Elt F) f) i :=
  View.readAt_unit m.view f inb (k0_off1_eq i) (offs_inb i)
theorem readW1 {e : EltTy} (m : Memref sig .tc .vmem S2048x64 e) (f : m.view.ty.Contents (Elt F)) (i : grid0.Coords)
    (inb : ∀ a, k0_off1 i a + S1024x64.size a ≤ S2048x64.size a) (w : Vec F S1024x64 e) (L : List (View.Piece (Elt F) S2048x64 e)) :
    m.view.read (Elt F) (m.view.writes (Elt F) f (⟨Rect.unit (s := S2048x64) (k0_off1 i) ![1024, 64] inb, w⟩ :: L))
      = putRows (m.view.read (Elt F) (m.view.writes (Elt F) f L)) i w :=
  View.read_writes_cons_put m.view f inb w L (k0_off1_eq i)
theorem readAt3 {e : EltTy} (m : Memref sig .tc .vmem S2048x64 e) (f : m.view.ty.Contents (Elt F)) (i : grid0.Coords)
    (inb : ∀ a, k0_off3 i a + S1024x64.size a ≤ S2048x64.size a) :
    m.view.readAt (Elt F) (Rect.unit (s := S2048x64) (k0_off3 i) ![1024, 64] inb).toLoadRect f = rows (m.view.read (Elt F) f) i :=
  View.readAt_unit m.view f inb (k0_off3_eq i) (offs_inb i)
theorem readW3 {e : EltTy} (m : Memref sig .tc .vmem S2048x64 e) (f : m.view.ty.Contents (Elt F)) (i : grid0.Coords)
    (inb : ∀ a, k0_off3 i a + S1024x64.size a ≤ S2048x64.size a) (w : Vec F S1024x64 e) (L : List (View.Piece (Elt F) S2048x64 e)) :
    m.view.read (Elt F) (m.view.writes (Elt F) f (⟨Rect.unit (s := S2048x64) (k0_off3 i) ![1024, 64] inb, w⟩ :: L))
      = putRows (m.view.read (Elt F) (m.view.writes (Elt F) f L)) i w :=
  View.read_writes_cons_put m.view f inb w L (k0_off3_eq i)
theorem readAt5 {e : EltTy} (m : Memref sig .tc .vmem S2048x64 e) (f : m.view.ty.Contents (Elt F)) (i : grid0.Coords)
    (inb : ∀ a, k0_off5 i a + S1024x64.size a ≤ S2048x64.size a) :
    m.view.readAt (Elt F) (Rect.unit (s := S2048x64) (k0_off5 i) ![1024, 64] inb).toLoadRect f = rows (m.view.read (Elt F) f) i :=
  View.readAt_unit m.view f inb (k0_off5_eq i) (offs_inb i)
theorem readW5 {e : EltTy} (m : Memref sig .tc .vmem S2048x64 e) (f : m.view.ty.Contents (Elt F)) (i : grid0.Coords)
    (inb : ∀ a, k0_off5 i a + S1024x64.size a ≤ S2048x64.size a) (w : Vec F S1024x64 e) (L : List (View.Piece (Elt F) S2048x64 e)) :
    m.view.read (Elt F) (m.view.writes (Elt F) f (⟨Rect.unit (s := S2048x64) (k0_off5 i) ![1024, 64] inb, w⟩ :: L))
      = putRows (m.view.read (Elt F) (m.view.writes (Elt F) f L)) i w :=
  View.read_writes_cons_put m.view f inb w L (k0_off5_eq i)
theorem rows_putRows {e : EltTy} (x : Vec F S2048x64 e) (i : grid0.Coords) (w : Vec F S1024x64 e) : rows (putRows x i w) i = w :=
  VecWindow.window_put_same x _ _ _ w
theorem readAt2 {e : EltTy} (m : Memref sig .tc .vmem S2048x128 e) (f : m.view.ty.Contents (Elt F)) (i : grid0.Coords)
    (inb : ∀ a, k0_off2 i a + S1024x128.size a ≤ S2048x128.size a) :
    m.view.readAt (Elt F) (Rect.unit (s := S2048x128) (k0_off2 i) ![1024, 128] inb).toLoadRect f = rows' (m.view.read (Elt F) f) i :=
  View.readAt_unit m.view f inb (k0_off2_eq i) (offs_inb' i)
theorem readW2 {e : EltTy} (m : Memref sig .tc .vmem S2048x128 e) (f : m.view.ty.Contents (Elt F)) (i : grid0.Coords)
    (inb : ∀ a, k0_off2 i a + S1024x128.size a ≤ S2048x128.size a) (w : Vec F S1024x128 e) (L : List (View.Piece (Elt F) S2048x128 e)) :
    m.view.read (Elt F) (m.view.writes (Elt F) f (⟨Rect.unit (s := S2048x128) (k0_off2 i) ![1024, 128] inb, w⟩ :: L))
      = putRows' (m.view.read (Elt F) (m.view.writes (Elt F) f L)) i w :=
  View.read_writes_cons_put m.view f inb w L (k0_off2_eq i)
theorem readAt4 {e : EltTy} (m : Memref sig .tc .vmem S2048x128 e) (f : m.view.ty.Contents (Elt F)) (i : grid0.Coords)
    (inb : ∀ a, k0_off4 i a + S1024x128.size a ≤ S2048x128.size a) :
    m.view.readAt (Elt F) (Rect.unit (s := S2048x128) (k0_off4 i) ![1024, 128] inb).toLoadRect f = rows' (m.view.read (Elt F) f) i :=
  View.readAt_unit m.view f inb (k0_off4_eq i) (offs_inb' i)
theorem readW4 {e : EltTy} (m : Memref sig .tc .vmem S2048x128 e) (f : m.view.ty.Contents (Elt F)) (i : grid0.Coords)
    (inb : ∀ a, k0_off4 i a + S1024x128.size a ≤ S2048x128.size a) (w : Vec F S1024x128 e) (L : List (View.Piece (Elt F) S2048x128 e)) :
    m.view.read (Elt F) (m.view.writes (Elt F) f (⟨Rect.unit (s := S2048x128) (k0_off4 i) ![1024, 128] inb, w⟩ :: L))
      = putRows' (m.view.read (Elt F) (m.view.writes (Elt F) f L)) i w :=
  View.read_writes_cons_put m.view f inb w L (k0_off4_eq i)
theorem rows_putRows' {e : EltTy} (x : Vec F S2048x128 e) (i : grid0.Coords) (w : Vec F S1024x128 e) : rows' (putRows' x i w) i = w :=
  VecWindow.window_put_same x _ _ _ w
theorem readC31 {e : EltTy} (m : Memref sig .tc .vmem S2048x64 e) (i : grid0.Coords)
    (inb : ∀ a, k0_off3 i a + S1024x64.size a ≤ S2048x64.size a) (inb' : ∀ a, k0_off1 i a + S1024x64.size a ≤ S2048x64.size a)
    (w : Vec F S1024x64 e) (L : List (View.Piece (Elt F) S2048x64 e)) :
    m.view.readCov (⟨Rect.unit (s := S2048x64) (k0_off1 i) ![1024, 64] inb', w⟩ :: L)
      (Rect.unit (s := S2048x64) (k0_off3 i) ![1024, 64] inb).toLoadRect = w :=
  (readAt3 m _ i inb).trans ((congrArg (rows · i) (readW1 m _ i inb' w L)).trans (rows_putRows _ i w))
theorem readC53 {e : EltTy} (m : Memref sig .tc .vmem S2048x64 e) (i : grid0.Coords)
    (inb : ∀ a, k0_off5 i a + S1024x64.size a ≤ S2048x64.size a) (inb' : ∀ a, k0_off3 i a + S1024x64.size a ≤ S2048x64.size a)
    (w : Vec F S1024x64 e) (L : List (View.Piece (Elt F) S2048x64 e)) :
    m.view.readCov (⟨Rect.unit (s := S2048x64) (k0_off3 i) ![1024, 64] inb', w⟩ :: L)
      (Rect.unit (s := S2048x64) (k0_off5 i) ![1024, 64] inb).toLoadRect = w :=
  (readAt5 m _ i inb).trans ((congrArg (rows · i) (readW3 m _ i inb' w L)).trans (rows_putRows _ i w))
theorem readC42 {e : EltTy} (m : Memref sig .tc .vmem S2048x128 e) (i : grid0.Coords)
    (inb : ∀ a, k0_off4 i a + S1024x128.size a ≤ S2048x128.size a) (inb' : ∀ a, k0_off2 i a + S1024x128.size a ≤ S2048x128.size a)
    (w : Vec F S1024x128 e) (L : List (View.Piece (Elt F) S2048x128 e)) :
    m.view.readCov (⟨Rect.unit (s := S2048x128) (k0_off2 i) ![1024, 128] inb', w⟩ :: L)
      (Rect.unit (s := S2048x128) (k0_off4 i) ![1024, 128] inb).toLoadRect = w :=
  (readAt4 m _ i inb).trans ((congrArg (rows' · i) (readW2 m _ i inb' w L)).trans (rows_putRows' _ i w))

/-! Loads and stores of whole buffers. -/

theorem readAt_S1024x8192 {e : EltTy} (m : Memref sig .tc .vmem S1024x8192 e) (f : m.view.ty.Contents (Elt F)) (inb : ∀ a, (![0, 0] : Fin 2 → ℕ) a + S1024x8192.size a ≤ S1024x8192.size a) :
    m.view.readAt (Elt F) (Rect.unit (s := S1024x8192) ![0, 0] ![1024, 8192] inb).toLoadRect f = m.view.read (Elt F) f :=
  View.readAt_full m.view f inb
theorem readAt_S8192x256 {e : EltTy} (m : Memref sig .tc .vmem S8192x256 e) (f : m.view.ty.Contents (Elt F)) (inb : ∀ a, (![0, 0] : Fin 2 → ℕ) a + S8192x256.size a ≤ S8192x256.size a) :
    m.view.readAt (Elt F) (Rect.unit (s := S8192x256) ![0, 0] ![8192, 256] inb).toLoadRect f = m.view.read (Elt F) f :=
  View.readAt_full m.view f inb
theorem readAt_S64x256 {e : EltTy} (m : Memref sig .tc .vmem S64x256 e) (f : m.view.ty.Contents (Elt F)) (inb : ∀ a, (![0, 0] : Fin 2 → ℕ) a + S64x256.size a ≤ S64x256.size a) :
    m.view.readAt (Elt F) (Rect.unit (s := S64x256) ![0, 0] ![64, 256] inb).toLoadRect f = m.view.read (Elt F) f :=
  View.readAt_full m.view f inb
theorem readAt_S1024x256 {e : EltTy} (m : Memref sig .tc .vmem S1024x256 e) (f : m.view.ty.Contents (Elt F)) (inb : ∀ a, (![0, 0] : Fin 2 → ℕ) a + S1024x256.size a ≤ S1024x256.size a) :
    m.view.readAt (Elt F) (Rect.unit (s := S1024x256) ![0, 0] ![1024, 256] inb).toLoadRect f = m.view.read (Elt F) f :=
  View.readAt_full m.view f inb
theorem readAt_S256x64 {e : EltTy} (m : Memref sig .tc .vmem S256x64 e) (f : m.view.ty.Contents (Elt F)) (inb : ∀ a, (![0, 0] : Fin 2 → ℕ) a + S256x64.size a ≤ S256x64.size a) :
    m.view.readAt (Elt F) (Rect.unit (s := S256x64) ![0, 0] ![256, 64] inb).toLoadRect f = m.view.read (Elt F) f :=
  View.readAt_full m.view f inb
theorem readAt_S1x256 {e : EltTy} (m : Memref sig .tc .vmem S1x256 e) (f : m.view.ty.Contents (Elt F)) (inb : ∀ a, (![0, 0] : Fin 2 → ℕ) a + S1x256.size a ≤ S1x256.size a) :
    m.view.readAt (Elt F) (Rect.unit (s := S1x256) ![0, 0] ![1, 256] inb).toLoadRect f = m.view.read (Elt F) f :=
  View.readAt_full m.view f inb
theorem readW_S64x256 {e : EltTy} (m : Memref sig .tc .vmem S64x256 e) (f : m.view.ty.Contents (Elt F)) (inb : ∀ a, (![0, 0] : Fin 2 → ℕ) a + S64x256.size a ≤ S64x256.size a)
    (w : Vec F S64x256 e) (L : List (View.Piece (Elt F) S64x256 e)) :
    m.view.read (Elt F) (m.view.writes (Elt F) f (⟨Rect.unit (s := S64x256) ![0, 0] ![64, 256] inb, w⟩ :: L)) = w :=
  View.read_writes_full m.view f inb w L
theorem readC_S64x256 {e : EltTy} (m : Memref sig .tc .vmem S64x256 e) (inb inb' : ∀ a, (![0, 0] : Fin 2 → ℕ) a + S64x256.size a ≤ S64x256.size a)
    (w : Vec F S64x256 e) (L : List (View.Piece (Elt F) S64x256 e)) :
    m.view.readCov (⟨Rect.unit (s := S64x256) ![0, 0] ![64, 256] inb', w⟩ :: L) (Rect.unit (s := S64x256) ![0, 0] ![64, 256] inb).toLoadRect = w :=
  View.readCov_full m.view inb inb' w L
theorem readW_S1024x256 {e : EltTy} (m : Memref sig .tc .vmem S1024x256 e) (f : m.view.ty.Contents (Elt F)) (inb : ∀ a, (![0, 0] : Fin 2 → ℕ) a + S1024x256.size a ≤ S1024x256.size a)
    (w : Vec F S1024x256 e) (L : List (View.Piece (Elt F) S1024x256 e)) :
    m.view.read (Elt F) (m.view.writes (Elt F) f (⟨Rect.unit (s := S1024x256) ![0, 0] ![1024, 256] inb, w⟩ :: L)) = w :=
  View.read_writes_full m.view f inb w L
theorem readC_S1024x256 {e : EltTy} (m : Memref sig .tc .vmem S1024x256 e) (inb inb' : ∀ a, (![0, 0] : Fin 2 → ℕ) a + S1024x256.size a ≤ S1024x256.size a)
    (w : Vec F S1024x256 e) (L : List (View.Piece (Elt F) S1024x256 e)) :
    m.view.readCov (⟨Rect.unit (s := S1024x256) ![0, 0] ![1024, 256] inb', w⟩ :: L) (Rect.unit (s := S1024x256) ![0, 0] ![1024, 256] inb).toLoadRect = w :=
  View.readCov_full m.view inb inb' w L
theorem readW_S256x64 {e : EltTy} (m : Memref sig .tc .vmem S256x64 e) (f : m.view.ty.Contents (Elt F)) (inb : ∀ a, (![0, 0] : Fin 2 → ℕ) a + S256x64.size a ≤ S256x64.size a)
    (w : Vec F S256x64 e) (L : List (View.Piece (Elt F) S256x64 e)) :
    m.view.read (Elt F) (m.view.writes (Elt F) f (⟨Rect.unit (s := S256x64) ![0, 0] ![256, 64] inb, w⟩ :: L)) = w :=
  View.read_writes_full m.view f inb w L
theorem readC_S256x64 {e : EltTy} (m : Memref sig .tc .vmem S256x64 e) (inb inb' : ∀ a, (![0, 0] : Fin 2 → ℕ) a + S256x64.size a ≤ S256x64.size a)
    (w : Vec F S256x64 e) (L : List (View.Piece (Elt F) S256x64 e)) :
    m.view.readCov (⟨Rect.unit (s := S256x64) ![0, 0] ![256, 64] inb', w⟩ :: L) (Rect.unit (s := S256x64) ![0, 0] ![256, 64] inb).toLoadRect = w :=
  View.readCov_full m.view inb inb' w L
theorem readW_S1x256 {e : EltTy} (m : Memref sig .tc .vmem S1x256 e) (f : m.view.ty.Contents (Elt F)) (inb : ∀ a, (![0, 0] : Fin 2 → ℕ) a + S1x256.size a ≤ S1x256.size a)
    (w : Vec F S1x256 e) (L : List (View.Piece (Elt F) S1x256 e)) :
    m.view.read (Elt F) (m.view.writes (Elt F) f (⟨Rect.unit (s := S1x256) ![0, 0] ![1, 256] inb, w⟩ :: L)) = w :=
  View.read_writes_full m.view f inb w L
theorem readC_S1x256 {e : EltTy} (m : Memref sig .tc .vmem S1x256 e) (inb inb' : ∀ a, (![0, 0] : Fin 2 → ℕ) a + S1x256.size a ≤ S1x256.size a)
    (w : Vec F S1x256 e) (L : List (View.Piece (Elt F) S1x256 e)) :
    m.view.readCov (⟨Rect.unit (s := S1x256) ![0, 0] ![1, 256] inb', w⟩ :: L) (Rect.unit (s := S1x256) ![0, 0] ![1, 256] inb).toLoadRect = w :=
  View.readCov_full m.view inb inb' w L

end Cert.DactIdeal.Body

end
-- ==== Proof.DactIdealRun.lean ====
module

public import proofs.«01_k».proof.Proof.Gen.DactIdeal.Frame
public import proofs.«01_k».proof.Proof.Gen.DactIdeal.Skeleton
public import proofs.«01_k».proof.Proof.DactIdealBody
public import Idealize.ShloMosaic.Lib.VecWindow
public import Idealize.ShloMosaic.Lib.Pipeline.DatRel
public import Idealize.ShloMosaic.Lib.Pipeline.Frame
public import Idealize.ShloMosaic.Lib.Tactic
public import Idealize.ShloMosaic.Lib.LaneScatter.Own

@[expose] public section

set_option maxRecDepth 16384

noncomputable section

namespace Cert.DactIdeal.Body

open Cert.DactIdeal Cert.DactIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw owns_raw raw_owns)
open Idealize.ShloMosaic.Pipeline (Dat RDat Cfg Window BodyObligation BodyObligationRel cellOf)

variable {F : FTy → Type} [FloatOps F]

local notation "𝕄" => MT nD τ sig Unit (Elt F) ℕ (UR sig nD τ) ℕ

set_option maxHeartbeats 3200000 in
/-- What the body does at a point of the first block of columns, first half of the tokens. -/
theorem run_A (c : Dev nD) (i : grid0.Coords) (b : Bufs) (v : Ins F) (o : Olds F) (E : Set ℕ) (K : PUnit → sProp 𝕄) (hc1 : c1 i) (hc2 : c2 i) (hc3 : ¬c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_A.sl.H17_1, run_A.sl.H18_1, run_A.sl.H19_1, run_A.sl.H20_1, run_A.sl.H21_1, run_A.sl.H24_1, run_A.sl.H25_1, run_A.sl.H26_1, run_A.sl.H27_1, run_A.sl.v105, run_A.sl.v108, run_A.sl.v109, run_A.sl.v114, run_A.sl.v115, run_A.sl.v123, run_A.sl.v124, run_A.sl.v13, run_A.sl.v19, run_A.sl.v20, run_A.sl.v21, run_A.sl.v22, run_A.sl.v26, run_A.sl.v41, run_A.sl.v46, run_A.sl.v51, run_A.sl.v56, run_A.sl.v65, run_A.sl.v8, run_A.sl.v85, run_A.sl.v9, run_A.sl.v95, dactV, ygV, ruV, gluV, glgV, ggV, guV, dmgV, dmuV, dbgV, dbuV, dadV, sgaB, sgaV, suaB, suaV, deltaB, deltaV, sgV, suV]
  all_goals simp only [if_pos hc1, if_pos hc2, if_neg hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

set_option maxHeartbeats 3200000 in
/-- What the body does at a point of the first block of columns, second half of the tokens. -/
theorem run_B (c : Dev nD) (i : grid0.Coords) (b : Bufs) (v : Ins F) (o : Olds F) (E : Set ℕ) (K : PUnit → sProp 𝕄) (hc1 : c1 i) (hc2 : ¬c2 i) (hc3 : ¬c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_B.sl.H24_1, run_B.sl.H25_1, run_B.sl.H26_1, run_B.sl.H27_1, run_B.sl.v105, run_B.sl.v108, run_B.sl.v109, run_B.sl.v114, run_B.sl.v115, run_B.sl.v123, run_B.sl.v124, run_B.sl.v13, run_B.sl.v19, run_B.sl.v20, run_B.sl.v21, run_B.sl.v22, run_B.sl.v26, run_B.sl.v41, run_B.sl.v46, run_B.sl.v51, run_B.sl.v56, run_B.sl.v65, run_B.sl.v8, run_B.sl.v85, run_B.sl.v9, run_B.sl.v95, dactV, ygV, ruV, gluV, glgV, ggV, guV, dmgV, dmuV, dbgV, dbuV, dadV, sgaB, sgaV, suaB, suaV, deltaB, deltaV, sgV, suV]
  all_goals simp only [if_pos hc1, if_neg hc2, if_neg hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

set_option maxHeartbeats 3200000 in
/-- What the body does at a point of the a middle block of columns, first half of the tokens. -/
theorem run_C (c : Dev nD) (i : grid0.Coords) (b : Bufs) (v : Ins F) (o : Olds F) (E : Set ℕ) (K : PUnit → sProp 𝕄) (hc1 : ¬c1 i) (hc2 : c2 i) (hc3 : ¬c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_C.sl.H17_1, run_C.sl.H18_1, run_C.sl.H19_1, run_C.sl.H20_1, run_C.sl.H21_1, run_C.sl.H27_1, run_C.sl.v105, run_C.sl.v108, run_C.sl.v109, run_C.sl.v114, run_C.sl.v115, run_C.sl.v123, run_C.sl.v124, run_C.sl.v13, run_C.sl.v19, run_C.sl.v20, run_C.sl.v21, run_C.sl.v22, run_C.sl.v26, run_C.sl.v41, run_C.sl.v46, run_C.sl.v51, run_C.sl.v56, run_C.sl.v8, run_C.sl.v85, run_C.sl.v9, run_C.sl.v95, dactV, ygV, ruV, gluV, glgV, ggV, guV, dmgV, dmuV, dbgV, dbuV, dadV, sgaB, sgaV, suaB, suaV, deltaB, deltaV, sgV, suV]
  all_goals simp only [if_neg hc1, if_pos hc2, if_neg hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

set_option maxHeartbeats 3200000 in
/-- What the body does at a point of the a middle block of columns, second half of the tokens. -/
theorem run_D (c : Dev nD) (i : grid0.Coords) (b : Bufs) (v : Ins F) (o : Olds F) (E : Set ℕ) (K : PUnit → sProp 𝕄) (hc1 : ¬c1 i) (hc2 : ¬c2 i) (hc3 : ¬c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_D.sl.H27_1, run_D.sl.v105, run_D.sl.v108, run_D.sl.v109, run_D.sl.v114, run_D.sl.v115, run_D.sl.v123, run_D.sl.v124, run_D.sl.v13, run_D.sl.v19, run_D.sl.v20, run_D.sl.v21, run_D.sl.v22, run_D.sl.v26, run_D.sl.v41, run_D.sl.v46, run_D.sl.v51, run_D.sl.v56, run_D.sl.v8, run_D.sl.v85, run_D.sl.v9, run_D.sl.v95, dactV, ygV, ruV, gluV, glgV, ggV, guV, dmgV, dmuV, dbgV, dbuV, dadV, sgaB, sgaV, suaB, suaV, deltaB, deltaV, sgV, suV]
  all_goals simp only [if_neg hc1, if_neg hc2, if_neg hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

set_option maxHeartbeats 3200000 in
/-- What the body does at a point of the last block of columns, first half of the tokens. -/
theorem run_E (c : Dev nD) (i : grid0.Coords) (b : Bufs) (v : Ins F) (o : Olds F) (E : Set ℕ) (K : PUnit → sProp 𝕄) (hc1 : ¬c1 i) (hc2 : c2 i) (hc3 : c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_E.sl.H17_1, run_E.sl.H18_1, run_E.sl.H19_1, run_E.sl.H20_1, run_E.sl.H21_1, run_E.sl.H25_1, run_E.sl.H26_1, run_E.sl.H27_1, run_E.sl.v105, run_E.sl.v108, run_E.sl.v109, run_E.sl.v114, run_E.sl.v115, run_E.sl.v123, run_E.sl.v124, run_E.sl.v13, run_E.sl.v135, run_E.sl.v142, run_E.sl.v19, run_E.sl.v20, run_E.sl.v21, run_E.sl.v22, run_E.sl.v26, run_E.sl.v41, run_E.sl.v46, run_E.sl.v51, run_E.sl.v56, run_E.sl.v8, run_E.sl.v85, run_E.sl.v9, run_E.sl.v95, dactV, ygV, ruV, gluV, glgV, ggV, guV, dmgV, dmuV, dbgV, dbuV, dadV, sgaB, sgaV, suaB, suaV, deltaB, deltaV, sgV, suV]
  all_goals simp only [if_neg hc1, if_pos hc2, if_pos hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

set_option maxHeartbeats 3200000 in
/-- What the body does at a point of the last block of columns, second half of the tokens. -/
theorem run_H (c : Dev nD) (i : grid0.Coords) (b : Bufs) (v : Ins F) (o : Olds F) (E : Set ℕ) (K : PUnit → sProp 𝕄) (hc1 : ¬c1 i) (hc2 : ¬c2 i) (hc3 : c3 i) :
    iprop(rawIns c b v ∗ rawOld c b o ∗ (iprop(rawIns c b v ∗ newP c i b v o) -∗ K ⟨⟩))
      ⊢ wp frame (wpE (defs₀ (F := F)) Variants.none c none) E (call i b) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29⟩ := b
  unfold rawIns rawOld newP call owns; dsimp only
  simp only [cc0_dact_swiglu_eq_skeleton]; unfold cc0_dact_swiglu_skel
  simp only [k0_part1_eq_skeleton, k0_part2_eq_skeleton, k0_part3_eq_skeleton]; unfold k0_part1_skel k0_part2_skel k0_part3_skel
  iintro ⟨⟨H0, H1, H2, H3, H4, H5, H6, H7, H8, H9, H10, H11, H12, H13, H14⟩, ⟨⟨%f15, H15⟩, ⟨%f16, H16⟩, H17, H18, H19, H20, H21, H22, H23, H24, H25, H26, ⟨%f27, H27⟩⟩, Hk⟩
  sl_exec (disch := first | sl_exact hc1 | sl_exact hc2 | sl_exact hc3)
  sl_step
  iapply Hk
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15]; iexists _; isplitr; swap; iexact H15; ipureintro; swap
  isplitl [H16]; iexists _; isplitr; swap; iexact H16; ipureintro; swap
  isplitl [H17]; iexists _; isplitr; swap; iexact H17; ipureintro; swap
  isplitl [H18]; iexists _; isplitr; swap; iexact H18; ipureintro; swap
  isplitl [H19]; iexists _; isplitr; swap; iexact H19; ipureintro; swap
  isplitl [H20]; iexists _; isplitr; swap; iexact H20; ipureintro; swap
  isplitl [H21]; iexists _; isplitr; swap; iexact H21; ipureintro; swap
  isplitl [H22]; iexists _; isplitr; swap; iexact H22; ipureintro; swap
  isplitl [H23]; iexists _; isplitr; swap; iexact H23; ipureintro; swap
  isplitl [H24]; iexists _; isplitr; swap; iexact H24; ipureintro; swap
  isplitl [H25]; iexists _; isplitr; swap; iexact H25; ipureintro; swap
  isplitl [H26]; iexists _; isplitr; swap; iexact H26; ipureintro; swap
  iexists _; isplitr; swap; iexact H27; ipureintro
  all_goals try dsimp only [run_H.sl.H25_1, run_H.sl.H26_1, run_H.sl.H27_1, run_H.sl.v105, run_H.sl.v108, run_H.sl.v109, run_H.sl.v114, run_H.sl.v115, run_H.sl.v123, run_H.sl.v124, run_H.sl.v13, run_H.sl.v135, run_H.sl.v142, run_H.sl.v19, run_H.sl.v20, run_H.sl.v21, run_H.sl.v22, run_H.sl.v26, run_H.sl.v41, run_H.sl.v46, run_H.sl.v51, run_H.sl.v56, run_H.sl.v8, run_H.sl.v85, run_H.sl.v9, run_H.sl.v95, dactV, ygV, ruV, gluV, glgV, ggV, guV, dmgV, dmuV, dbgV, dbuV, dadV, sgaB, sgaV, suaB, suaV, deltaB, deltaV, sgV, suV]
  all_goals simp only [if_neg hc1, if_neg hc2, if_pos hc3, readAt1, readW1, readAt3, readW3, readAt5, readW5, rows_putRows, readAt2, readW2, readAt4, readW4, rows_putRows', readC31, readC53, readC42, readAt_S1024x8192, readAt_S8192x256, readAt_S64x256, readAt_S1024x256, readAt_S256x64, readAt_S1x256, readW_S64x256, readC_S64x256, readW_S1024x256, readC_S1024x256, readW_S256x64, readC_S256x64, readW_S1x256, readC_S1x256, View.writes_nil, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, h21.read_unread, h22.read_unread, h23.read_unread, h24.read_unread, h25.read_unread, h26.read_unread, h27.read_unread, h28.read_unread]

/-- What the body does at any point. -/
theorem kernelRun (c : Dev nD) (i : grid0.Coords) (b : Bufs) (v : Ins F) (o : Olds F) (E : Set ℕ) (K : PUnit → sProp 𝕄) (h13 : ¬ (c1 i ∧ c3 i)) :
    iprop(insP c b v ∗ oldP c b o ∗ (iprop(insP c b v ∗ newP c i b v o) -∗ K ⟨⟩))
      ⊢ wp frame (wpE (defs₀ (F := F)) Variants.none c none) E (call i b) K := by
  have key : iprop(rawIns c b v ∗ rawOld c b o ∗ (iprop(rawIns c b v ∗ newP c i b v o) -∗ K ⟨⟩))
      ⊢ wp frame (wpE (defs₀ (F := F)) Variants.none c none) E (call i b) K := by
    by_cases h1 : c1 i
    · have h3 : ¬ c3 i := fun h => h13 ⟨h1, h⟩
      by_cases h2 : c2 i
      · exact run_A c i b v o E K h1 h2 h3
      · exact run_B c i b v o E K h1 h2 h3
    · by_cases h2 : c2 i
      · by_cases h3 : c3 i
        · exact run_E c i b v o E K h1 h2 h3
        · exact run_C c i b v o E K h1 h2 h3
      · by_cases h3 : c3 i
        · exact run_H c i b v o E K h1 h2 h3
        · exact run_D c i b v o E K h1 h2 h3
  iintro ⟨HI, HO, Hk⟩
  iapply key
  isplitl [HI]; · iapply (ins_raw c b v); iexact HI
  isplitl [HO]; · iapply (old_raw c b o); iexact HO
  iintro ⟨HI, HN⟩
  iapply Hk
  isplitl [HI]; · iapply (raw_ins c b v); iexact HI
  iexact HN

end Cert.DactIdeal.Body

end
-- ==== Proof.DactIdealFrame.lean ====
module

public import proofs.«01_k».proof.Proof.Gen.DactIdeal.Frame
public import proofs.«01_k».proof.Proof.Gen.DactIdeal.Skeleton
public import proofs.«01_k».proof.Proof.DactIdealRun
public import Idealize.ShloMosaic.Lib.VecWindow
public import Idealize.ShloMosaic.Lib.Pipeline.DatRel
public import Idealize.ShloMosaic.Lib.Pipeline.Frame
public import Idealize.ShloMosaic.Lib.Tactic
public import Idealize.ShloMosaic.Lib.LaneScatter.Own

@[expose] public section

set_option maxRecDepth 16384

noncomputable section

namespace Cert.DactIdeal.Body

open Cert.DactIdeal Cert.DactIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw owns_raw raw_owns)
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem hc1 : ∀ t : Fin cfg0.N, c1 (grid0.coords t) ↔ t.val < 2 :=
  (fun t => by
    have ht : t.val < 28 := Nat.lt_of_lt_of_eq t.isLt N_0
    have e0 : (grid0.coords t 0).val = t.val / 2 % 14 := Pipeline.Grid.coords_val t 0 (by decide) rfl
    simp only [c1, k0_cond1, e0]; word_cmp)
theorem hc2 : ∀ t : Fin cfg0.N, c2 (grid0.coords t) ↔ t.val % 2 = 0 :=
  (fun t => by
    have ht : t.val < 28 := Nat.lt_of_lt_of_eq t.isLt N_0
    have e1 : (grid0.coords t 1).val = t.val / 1 % 2 := Pipeline.Grid.coords_val t 1 (by decide) rfl
    rw [Nat.div_one] at e1
    simp only [c2, e1]; word_cmp)
theorem hc3 : ∀ t : Fin cfg0.N, c3 (grid0.coords t) ↔ 26 ≤ t.val :=
  (fun t => by
    have ht : t.val < 28 := Nat.lt_of_lt_of_eq t.isLt N_0
    have e0 : (grid0.coords t 0).val = t.val / 2 % 14 := Pipeline.Grid.coords_val t 0 (by decide) rfl
    simp only [c3, k0_cond3, e0]; word_cmp)

abbrev ms0_0 (t : Fin cfg0.N) : Memref sig .tc .vmem S1024x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x64 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x64 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x64 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x64 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x64 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S64x256 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S2048x64 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S2048x64 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S2048x128 .f32 := win0_24.stage (cfg0.slots t 24)
abbrev hs0_24 (t : Fin cfg0.N) : (ms0_24 t).IsWhole := hstage0_24 ((cfg0.slots t 24).cast nbuf0_24)
abbrev scM0_0 : Memref sig .tc .vmem S2048x64 .f32 := Memref.whole cc0_scratch0
abbrev scM0_1 : Memref sig .tc .vmem S2048x64 .f32 := Memref.whole cc0_scratch1
abbrev scM0_2 : Memref sig .tc .vmem S1024x256 .f32 := Memref.whole cc0_scratch2

/-- The buffers of a point. -/
abbrev bufsAt (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, ms0_24 t, hs0_24 t, scM0_0, Memref.isWhole_whole _, scM0_1, Memref.isWhole_whole _, scM0_2, Memref.isWhole_whole _⟩

/-- The blocks of the launch arrays that a point reads. -/
abbrev insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The invariant of the scratch at anything: the three scratch buffers, and the register of the random generator. -/
theorem PhiA0_eq (c : Dev nD) :
    (Pipeline.ΦA spec0 c : sProp 𝕄) = iprop(((∃ d, owns (c : Thread nD τ) scM0_0 fullShare d) ∗ (∃ d, owns (c : Thread nD τ) scM0_1 fullShare d)
      ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the buffers hold after each point -/

/-- A state carried from point to point, from `d` before the first. -/
def iter {α : Type} (step : Fin cfg0.N → α → α) (d : α) : (n : ℕ) → n < cfg0.N → α
  | 0, h => step ⟨0, h⟩ d
  | n + 1, h => step ⟨n + 1, h⟩ (iter step d n (Nat.lt_of_succ_lt h))

theorem iter_zero {α : Type} (step : Fin cfg0.N → α → α) (d : α) (t : Fin cfg0.N) (h : t.val = 0) :
    iter step d t.val t.isLt = step t d := by
  obtain ⟨n, hn⟩ := t; cases h; rfl

theorem iter_pos {α : Type} (step : Fin cfg0.N → α → α) (d : α) (t : Fin cfg0.N) (h : t.val ≠ 0) :
    iter step d t.val t.isLt = step t (iter step d (t.val - 1) (by omega)) := by
  obtain ⟨n, hn⟩ := t
  cases n with
  | zero => exact absurd rfl h
  | succ n => rfl

/-- A state carried from point to point, from what was found before a point to what it leaves. -/
theorem iter_next {α : Type} (step : Fin cfg0.N → α → α) (t : Fin cfg0.N) (s : α)
    (h : t.val = 0 ∨ ∃ d, s = iter step d (t.val - 1) (by omega)) : ∃ d, step t s = iter step d t.val t.isLt := by
  by_cases hz : t.val = 0
  · exact ⟨s, (iter_zero _ _ t hz).symm⟩
  · obtain ⟨d, rfl⟩ := h.resolve_left hz
    exact ⟨d, (iter_pos _ _ t hz).symm⟩

/-- A relation carried from point to point along a state. -/
def chain {α β : Type} (step : Fin cfg0.N → α → α) (out : Fin cfg0.N → α → β → β) : (n : ℕ) → n < cfg0.N → β → Prop
  | 0, h => fun X => ∃ s Y, X = out ⟨0, h⟩ s Y
  | n + 1, h => fun X => ∃ d Y, chain step out n (Nat.lt_of_succ_lt h) Y ∧ X = out ⟨n + 1, h⟩ (iter step d n (Nat.lt_of_succ_lt h)) Y

theorem chain_next {α β : Type} (step : Fin cfg0.N → α → α) (out : Fin cfg0.N → α → β → β) (t : Fin cfg0.N) (s : α) (Y : β)
    (hs : t.val = 0 ∨ ∃ d, s = iter step d (t.val - 1) (by omega)) (hY : t.val = 0 ∨ chain step out (t.val - 1) (by omega) Y) :
    chain step out t.val t.isLt (out t s Y) := by
  obtain ⟨n, hn⟩ := t
  cases n with
  | zero => exact ⟨s, Y, rfl⟩
  | succ n =>
    obtain ⟨d, rfl⟩ := hs.resolve_left (Nat.succ_ne_zero n)
    exact ⟨d, Y, hY.resolve_left (Nat.succ_ne_zero n), rfl⟩

/-- One point's change of the gradient of the gate magnitude. -/
def dmgStep (c : Dev nD) (t : Fin cfg0.N) (d : Vec F S1x256 .f32) : Vec F S1x256 .f32 := dmgV (grid0.coords t) (insAt m c t) d
/-- The gradient of the gate magnitude after a point. -/
abbrev dmgAt (c : Dev nD) (n : ℕ) (h : n < cfg0.N) : Vec F S1x256 .f32 := iter (dmgStep m c) (k0_pay9 (F := F)) n h
/-- At a point of the first half of the tokens it starts from zero. -/
theorem dmgStep_reset (c : Dev nD) (t : Fin cfg0.N) (h : t.val % 2 = 0) (d d' : Vec F S1x256 .f32) : dmgStep m c t d = dmgStep m c t d' := by
  unfold dmgStep dmgV; rw [if_pos ((hc2 t).mpr h), if_pos ((hc2 t).mpr h)]
/-- One point's change of the gradient of the up magnitude. -/
def dmuStep (c : Dev nD) (t : Fin cfg0.N) (d : Vec F S1x256 .f32) : Vec F S1x256 .f32 := dmuV (grid0.coords t) (insAt m c t) d
/-- The gradient of the up magnitude after a point. -/
abbrev dmuAt (c : Dev nD) (n : ℕ) (h : n < cfg0.N) : Vec F S1x256 .f32 := iter (dmuStep m c) (k0_pay10 (F := F)) n h
/-- At a point of the first half of the tokens it starts from zero. -/
theorem dmuStep_reset (c : Dev nD) (t : Fin cfg0.N) (h : t.val % 2 = 0) (d d' : Vec F S1x256 .f32) : dmuStep m c t d = dmuStep m c t d' := by
  unfold dmuStep dmuV; rw [if_pos ((hc2 t).mpr h), if_pos ((hc2 t).mpr h)]
/-- One point's change of the gradient of the gate factor `b`. -/
def dbgStep (c : Dev nD) (t : Fin cfg0.N) (d : Vec F S256x64 .f32) : Vec F S256x64 .f32 := dbgV (grid0.coords t) (insAt m c t) d
/-- The gradient of the gate factor `b` after a point. -/
abbrev dbgAt (c : Dev nD) (n : ℕ) (h : n < cfg0.N) : Vec F S256x64 .f32 := iter (dbgStep m c) (k0_pay11 (F := F)) n h
/-- At a point of the first half of the tokens it starts from zero. -/
theorem dbgStep_reset (c : Dev nD) (t : Fin cfg0.N) (h : t.val % 2 = 0) (d d' : Vec F S256x64 .f32) : dbgStep m c t d = dbgStep m c t d' := by
  unfold dbgStep dbgV; rw [if_pos ((hc2 t).mpr h), if_pos ((hc2 t).mpr h)]
/-- One point's change of the gradient of the up factor `b`. -/
def dbuStep (c : Dev nD) (t : Fin cfg0.N) (d : Vec F S256x64 .f32) : Vec F S256x64 .f32 := dbuV (grid0.coords t) (insAt m c t) d
/-- The gradient of the up factor `b` after a point. -/
abbrev dbuAt (c : Dev nD) (n : ℕ) (h : n < cfg0.N) : Vec F S256x64 .f32 := iter (dbuStep m c) (k0_pay12 (F := F)) n h
/-- At a point of the first half of the tokens it starts from zero. -/
theorem dbuStep_reset (c : Dev nD) (t : Fin cfg0.N) (h : t.val % 2 = 0) (d d' : Vec F S256x64 .f32) : dbuStep m c t d = dbuStep m c t d' := by
  unfold dbuStep dbuV; rw [if_pos ((hc2 t).mpr h), if_pos ((hc2 t).mpr h)]
/-- One point's change of the gradient of the down factor `a`. -/
def dadStep (c : Dev nD) (t : Fin cfg0.N) (d : Vec F S64x256 .f32) : Vec F S64x256 .f32 := dadV (grid0.coords t) (insAt m c t) d
/-- The gradient of the down factor `a` after a point. -/
abbrev dadAt (c : Dev nD) (n : ℕ) (h : n < cfg0.N) : Vec F S64x256 .f32 := iter (dadStep m c) (k0_pay13 (F := F)) n h
/-- At a point of the first half of the tokens it starts from zero. -/
theorem dadStep_reset (c : Dev nD) (t : Fin cfg0.N) (h : t.val % 2 = 0) (d d' : Vec F S64x256 .f32) : dadStep m c t d = dadStep m c t d' := by
  unfold dadStep dadV; rw [if_pos ((hc2 t).mpr h), if_pos ((hc2 t).mpr h)]
/-- One point's change of the lane sums. -/
def deltaStep (c : Dev nD) (t : Fin cfg0.N) (d : Vec F S2048x128 .f32) : Vec F S2048x128 .f32 := deltaV (grid0.coords t) (insAt m c t) d
/-- The lane sums after a point, had the buffer held `d` before the first. -/
abbrev deltaAt (c : Dev nD) (d : Vec F S2048x128 .f32) (n : ℕ) (h : n < cfg0.N) : Vec F S2048x128 .f32 := iter (deltaStep m c) d n h
/-- One point's change of the running sum of the gate low-rank gradient. -/
def sgaStep (c : Dev nD) (t : Fin cfg0.N) (d : Vec F S2048x64 .f32) : Vec F S2048x64 .f32 := sgaV (grid0.coords t) (insAt m c t) d
/-- The running sum of the gate low-rank gradient after a point, had the buffer held `d` before the first. -/
abbrev sgaAt (c : Dev nD) (d : Vec F S2048x64 .f32) (n : ℕ) (h : n < cfg0.N) : Vec F S2048x64 .f32 := iter (sgaStep m c) d n h
/-- One point's change of the running sum of the up low-rank gradient. -/
def suaStep (c : Dev nD) (t : Fin cfg0.N) (d : Vec F S2048x64 .f32) : Vec F S2048x64 .f32 := suaV (grid0.coords t) (insAt m c t) d
/-- The running sum of the up low-rank gradient after a point, had the buffer held `d` before the first. -/
abbrev suaAt (c : Dev nD) (d : Vec F S2048x64 .f32) (n : ℕ) (h : n < cfg0.N) : Vec F S2048x64 .f32 := iter (suaStep m c) d n h

/-! ## The proof data -/

/-- The outputs are stated by what they may hold after each point. -/
def fgt : Fin 25 → Bool := fun w => decide (15 ≤ w.val)

/-- What an output's buffer may hold after a point. -/
def Rl (c : Dev nD) (w : Fin cfg0.W) (t : Fin cfg0.N) : ((cfg0.win w).block.Idx → Elt F (cfg0.win w).elt) → Prop :=
  match w with
  | ⟨15, _⟩ => fun X => X = ggV (grid0.coords t) (insAt m c t)
  | ⟨16, _⟩ => fun X => X = guV (grid0.coords t) (insAt m c t)
  | ⟨17, _⟩ => fun X => X = dmgAt m c t.val t.isLt
  | ⟨18, _⟩ => fun X => X = dmuAt m c t.val t.isLt
  | ⟨19, _⟩ => fun X => X = dbgAt m c t.val t.isLt
  | ⟨20, _⟩ => fun X => X = dbuAt m c t.val t.isLt
  | ⟨21, _⟩ => fun X => X = dadAt m c t.val t.isLt
  | ⟨22, _⟩ => fun X => chain (sgaStep m c) (fun t => sgV (grid0.coords t) (insAt m c t)) t.val t.isLt X
  | ⟨23, _⟩ => fun X => chain (suaStep m c) (fun t => suV (grid0.coords t) (insAt m c t)) t.val t.isLt X
  | ⟨24, _⟩ => fun X => ∃ d, X = deltaAt m c d t.val t.isLt
  | _ => fun _ => True

/-- The scratch after a point: what the points have left from anything. -/
def scr (c : Dev nD) (n : ℕ) (h : n < cfg0.N) : sProp 𝕄 :=
  iprop(((∃ d, owns (c : Thread nD τ) scM0_0 fullShare (sgaAt m c d n h)) ∗ (∃ d, owns (c : Thread nD τ) scM0_1 fullShare (suaAt m c d n h))
    ∗ (∃ d, owns (c : Thread nD τ) scM0_2 fullShare d)) ∗ (∃ r, prngReg c r))

/-- The scratch between points: at anything before the first, then what the points have left from anything. -/
def PhiS (c : Dev nD) : (n : ℕ) → n ≤ cfg0.N → sProp 𝕄
  | 0, _ => Pipeline.ΦA spec0 c
  | n + 1, hn => scr m c n hn

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = scr m c n hn := rfl
theorem PhiS_pos (c : Dev nD) (n : ℕ) (h : n ≤ cfg0.N) (hz : n ≠ 0) : PhiS m c n h = scr m c (n - 1) (by omega) := by
  cases n with
  | zero => exact absurd rfl hz
  | succ n => rfl

/-- The proof data: the inputs' buffers hold their blocks; the outputs are stated by `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => Pipeline.Dat.unnamed (cfg := cfg0) 15 t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => Pipeline.Dat.unnamed (cfg := cfg0) 19 t
    | ⟨20, _⟩ => Pipeline.Dat.unnamed (cfg := cfg0) 20 t
    | ⟨21, _⟩ => Pipeline.Dat.unnamed (cfg := cfg0) 21 t
    | ⟨22, _⟩ => Pipeline.Dat.unnamed (cfg := cfg0) 22 t
    | ⟨23, _⟩ => Pipeline.Dat.unnamed (cfg := cfg0) 23 t
    | ⟨24, _⟩ => Pipeline.Dat.unnamed (cfg := cfg0) 24 t
    | ⟨n + 25, h⟩ => absurd (show n + 25 < 25 from h) (by omega)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- The proof data with the outputs stated by `Rl`. -/
abbrev rdat (c : Dev nD) : RDat τ (Elt F) Unit ℕ (UR sig nD τ) ℕ cfg0 c := (dats m 0 c).toRRel fgt (Rl m c)

/-- What a point finds in the buffer of the lane sums: anything at the first, else what the point before left. -/
theorem finds24 (c : Dev nD) (t : Fin cfg0.N) (Y) (h : (rdat m c).Finds 24 t Y) : ∃ d, deltaStep m c t Y = deltaAt m c d t.val t.isLt := by
  refine iter_next _ t Y ?_
  by_cases hz : t.val = 0
  · exact Or.inl hz
  · rcases (RDat.finds_of_pos (rdat m c) (w := 24) rfl hz Y).mp h with h | h
    · have := (flush0_24 _).mp h
      have hN : t.val < 28 := Nat.lt_of_lt_of_eq t.isLt N_0
      simp only at this; omega
    · exact Or.inr ((dats m 0 c).toRRel_leaves (fgt := fgt) (Rl := Rl m c) (w := 24) rfl h)

/-- What a point leaves in the buffer of the gate low-rank gradient. -/
theorem finds22 (c : Dev nD) (t : Fin cfg0.N) (s : Vec F S2048x64 .f32) (Y) (h : (rdat m c).Finds 22 t Y)
    (hs : t.val = 0 ∨ ∃ d, s = sgaAt m c d (t.val - 1) (by omega)) :
    chain (sgaStep m c) (fun t => sgV (grid0.coords t) (insAt m c t)) t.val t.isLt (sgV (grid0.coords t) (insAt m c t) s Y) := by
  refine chain_next (sgaStep m c) (fun t => sgV (grid0.coords t) (insAt m c t)) t s Y hs ?_
  by_cases hz : t.val = 0
  · exact Or.inl hz
  · rcases (RDat.finds_of_pos (rdat m c) (w := 22) rfl hz Y).mp h with h | h
    · have := (flush0_22 _).mp h
      have hN : t.val < 28 := Nat.lt_of_lt_of_eq t.isLt N_0
      simp only at this; omega
    · exact Or.inr ((dats m 0 c).toRRel_leaves (fgt := fgt) (Rl := Rl m c) (w := 22) rfl h)

/-- What a point leaves in the buffer of the up low-rank gradient. -/
theorem finds23 (c : Dev nD) (t : Fin cfg0.N) (s : Vec F S2048x64 .f32) (Y) (h : (rdat m c).Finds 23 t Y)
    (hs : t.val = 0 ∨ ∃ d, s = suaAt m c d (t.val - 1) (by omega)) :
    chain (suaStep m c) (fun t => suV (grid0.coords t) (insAt m c t)) t.val t.isLt (suV (grid0.coords t) (insAt m c t) s Y) := by
  refine chain_next (suaStep m c) (fun t => suV (grid0.coords t) (insAt m c t)) t s Y hs ?_
  by_cases hz : t.val = 0
  · exact Or.inl hz
  · rcases (RDat.finds_of_pos (rdat m c) (w := 23) rfl hz Y).mp h with h | h
    · have := (flush0_23 _).mp h
      have hN : t.val < 28 := Nat.lt_of_lt_of_eq t.isLt N_0
      simp only at this; omega
    · exact Or.inr ((dats m 0 c).toRRel_leaves (fgt := fgt) (Rl := Rl m c) (w := 23) rfl h)

/-- What a point leaves in the buffer of the gradient of the gate magnitude. -/
theorem finds17 (c : Dev nD) (t : Fin cfg0.N) (Y) (h : (rdat m c).Finds 17 t Y) : dmgStep m c t Y = dmgAt m c t.val t.isLt := by
  by_cases hz : t.val = 0
  · exact (dmgStep_reset m c t (by omega) _ _).trans (iter_zero _ _ t hz).symm
  · rw [dmgAt, iter_pos _ _ t hz]
    rcases (RDat.finds_of_pos (rdat m c) (w := 17) rfl hz Y).mp h with h | h
    · have := (flush0_17 _).mp h
      exact dmgStep_reset m c t (by simp only at this; omega) _ _
    · exact congrArg _ ((dats m 0 c).toRRel_leaves (fgt := fgt) (Rl := Rl m c) (w := 17) rfl h)

/-- What a point leaves in the buffer of the gradient of the up magnitude. -/
theorem finds18 (c : Dev nD) (t : Fin cfg0.N) (Y) (h : (rdat m c).Finds 18 t Y) : dmuStep m c t Y = dmuAt m c t.val t.isLt := by
  by_cases hz : t.val = 0
  · exact (dmuStep_reset m c t (by omega) _ _).trans (iter_zero _ _ t hz).symm
  · rw [dmuAt, iter_pos _ _ t hz]
    rcases (RDat.finds_of_pos (rdat m c) (w := 18) rfl hz Y).mp h with h | h
    · have := (flush0_18 _).mp h
      exact dmuStep_reset m c t (by simp only at this; omega) _ _
    · exact congrArg _ ((dats m 0 c).toRRel_leaves (fgt := fgt) (Rl := Rl m c) (w := 18) rfl h)

/-- What a point leaves in the buffer of the gradient of the gate factor `b`. -/
theorem finds19 (c : Dev nD) (t : Fin cfg0.N) (Y) (h : (rdat m c).Finds 19 t Y) : dbgStep m c t Y = dbgAt m c t.val t.isLt := by
  by_cases hz : t.val = 0
  · exact (dbgStep_reset m c t (by omega) _ _).trans (iter_zero _ _ t hz).symm
  · rw [dbgAt, iter_pos _ _ t hz]
    rcases (RDat.finds_of_pos (rdat m c) (w := 19) rfl hz Y).mp h with h | h
    · have := (flush0_19 _).mp h
      exact dbgStep_reset m c t (by simp only at this; omega) _ _
    · exact congrArg _ ((dats m 0 c).toRRel_leaves (fgt := fgt) (Rl := Rl m c) (w := 19) rfl h)

/-- What a point leaves in the buffer of the gradient of the up factor `b`. -/
theorem finds20 (c : Dev nD) (t : Fin cfg0.N) (Y) (h : (rdat m c).Finds 20 t Y) : dbuStep m c t Y = dbuAt m c t.val t.isLt := by
  by_cases hz : t.val = 0
  · exact (dbuStep_reset m c t (by omega) _ _).trans (iter_zero _ _ t hz).symm
  · rw [dbuAt, iter_pos _ _ t hz]
    rcases (RDat.finds_of_pos (rdat m c) (w := 20) rfl hz Y).mp h with h | h
    · have := (flush0_20 _).mp h
      exact dbuStep_reset m c t (by simp only at this; omega) _ _
    · exact congrArg _ ((dats m 0 c).toRRel_leaves (fgt := fgt) (Rl := Rl m c) (w := 20) rfl h)

/-- What a point leaves in the buffer of the gradient of the down factor `a`. -/
theorem finds21 (c : Dev nD) (t : Fin cfg0.N) (Y) (h : (rdat m c).Finds 21 t Y) : dadStep m c t Y = dadAt m c t.val t.isLt := by
  by_cases hz : t.val = 0
  · exact (dadStep_reset m c t (by omega) _ _).trans (iter_zero _ _ t hz).symm
  · rw [dadAt, iter_pos _ _ t hz]
    rcases (RDat.finds_of_pos (rdat m c) (w := 21) rfl hz Y).mp h with h | h
    · have := (flush0_21 _).mp h
      exact dadStep_reset m c t (by simp only at this; omega) _ _
    · exact congrArg _ ((dats m 0 c).toRRel_leaves (fgt := fgt) (Rl := Rl m c) (w := 21) rfl h)

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ Y, ⌜(rdat m c).Finds 15 t Y⌝ ∗ owns (c : Thread nD τ) (ms0_15 t) fullShare Y)
    ∗ (∃ Y, ⌜(rdat m c).Finds 16 t Y⌝ ∗ owns (c : Thread nD τ) (ms0_16 t) fullShare Y)
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y)
    ∗ (∃ Y, ⌜(rdat m c).Finds 19 t Y⌝ ∗ owns (c : Thread nD τ) (ms0_19 t) fullShare Y)
    ∗ (∃ Y, ⌜(rdat m c).Finds 20 t Y⌝ ∗ owns (c : Thread nD τ) (ms0_20 t) fullShare Y)
    ∗ (∃ Y, ⌜(rdat m c).Finds 21 t Y⌝ ∗ owns (c : Thread nD τ) (ms0_21 t) fullShare Y)
    ∗ (∃ Y, ⌜(rdat m c).Finds 22 t Y⌝ ∗ owns (c : Thread nD τ) (ms0_22 t) fullShare Y)
    ∗ (∃ Y, ⌜(rdat m c).Finds 23 t Y⌝ ∗ owns (c : Thread nD τ) (ms0_23 t) fullShare Y)
    ∗ (∃ Y, ⌜(rdat m c).Finds 24 t Y⌝ ∗ owns (c : Thread nD τ) (ms0_24 t) fullShare Y))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ X, ⌜Rl m c 15 t X⌝ ∗ owns (c : Thread nD τ) (ms0_15 t) fullShare X)
    ∗ (∃ X, ⌜Rl m c 16 t X⌝ ∗ owns (c : Thread nD τ) (ms0_16 t) fullShare X)
    ∗ (∃ X, ⌜Rl m c 17 t X⌝ ∗ owns (c : Thread nD τ) (ms0_17 t) fullShare X)
    ∗ (∃ X, ⌜Rl m c 18 t X⌝ ∗ owns (c : Thread nD τ) (ms0_18 t) fullShare X)
    ∗ (∃ X, ⌜Rl m c 19 t X⌝ ∗ owns (c : Thread nD τ) (ms0_19 t) fullShare X)
    ∗ (∃ X, ⌜Rl m c 20 t X⌝ ∗ owns (c : Thread nD τ) (ms0_20 t) fullShare X)
    ∗ (∃ X, ⌜Rl m c 21 t X⌝ ∗ owns (c : Thread nD τ) (ms0_21 t) fullShare X)
    ∗ (∃ X, ⌜Rl m c 22 t X⌝ ∗ owns (c : Thread nD τ) (ms0_22 t) fullShare X)
    ∗ (∃ X, ⌜Rl m c 23 t X⌝ ∗ owns (c : Thread nD τ) (ms0_23 t) fullShare X)
    ∗ (∃ X, ⌜Rl m c 24 t X⌝ ∗ owns (c : Thread nD τ) (ms0_24 t) fullShare X))

set_option maxHeartbeats 3200000 in
/-- The body from the running sums at `s0` and `s1`. -/
theorem sound_from (c : Dev nD) (t : Fin cfg0.N) (s0 s1 : Vec F S2048x64 .f32)
    (h0 : t.val = 0 ∨ ∃ d, s0 = sgaAt m c d (t.val - 1) (by omega)) (h1 : t.val = 0 ∨ ∃ d, s1 = suaAt m c d (t.val - 1) (by omega)) :
    iprop(((owns (c : Thread nD τ) scM0_0 fullShare s0 ∗ owns (c : Thread nD τ) scM0_1 fullShare s1
      ∗ (∃ d, owns (c : Thread nD τ) scM0_2 fullShare d)) ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ Y, ⌜(rdat m c).Finds 15 t Y⌝ ∗ owns (c : Thread nD τ) (ms0_15 t) fullShare Y)
    ∗ (∃ Y, ⌜(rdat m c).Finds 16 t Y⌝ ∗ owns (c : Thread nD τ) (ms0_16 t) fullShare Y)
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y)
    ∗ (∃ Y, ⌜(rdat m c).Finds 19 t Y⌝ ∗ owns (c : Thread nD τ) (ms0_19 t) fullShare Y)
    ∗ (∃ Y, ⌜(rdat m c).Finds 20 t Y⌝ ∗ owns (c : Thread nD τ) (ms0_20 t) fullShare Y)
    ∗ (∃ Y, ⌜(rdat m c).Finds 21 t Y⌝ ∗ owns (c : Thread nD τ) (ms0_21 t) fullShare Y)
    ∗ (∃ Y, ⌜(rdat m c).Finds 22 t Y⌝ ∗ owns (c : Thread nD τ) (ms0_22 t) fullShare Y)
    ∗ (∃ Y, ⌜(rdat m c).Finds 23 t Y⌝ ∗ owns (c : Thread nD τ) (ms0_23 t) fullShare Y)
    ∗ (∃ Y, ⌜(rdat m c).Finds 24 t Y⌝ ∗ owns (c : Thread nD τ) (ms0_24 t) fullShare Y))
      ⊢ wp frame (wpE (defs₀ (F := F)) Variants.none c none) Set.univ (bodyAt0 t) (fun _ => bodyPost m c t) := by
  have key := fun y17 y18 y19 y20 y21 y22 y23 y24 => kernelRun c (grid0.coords t) (bufsAt t) (insAt m c t) ⟨y17, y18, y19, y20, y21, y22, y23, y24, s0, s1⟩ Set.univ (fun _ => bodyPost m c t)
    (fun h => by have a := (hc1 t).mp h.1; have b := (hc3 t).mp h.2; omega)
  unfold insP oldP newP call at key
  dsimp only at key
  unfold bodyPost at key ⊢
  unfold bodyAt0
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, before0_12, after0_12, before0_13, after0_13, before0_14, after0_14] at key ⊢
  rw [show (dats m 0 c).owesAt () t.succ = (dats m 0 c).owesAt () t.castSucc from rfl] at key ⊢
  rw [show (dats m 0 c).Φ t.succ = PhiS m c (t.val + 1) t.isLt from rfl, PhiS_succ] at key ⊢
  unfold scr at key ⊢
  obtain ⟨e0, he0⟩ : ∃ d, sgaV (grid0.coords t) (insAt m c t) s0 = sgaAt m c d t.val t.isLt := iter_next (sgaStep m c) t s0 h0
  obtain ⟨e1, he1⟩ : ∃ d, suaV (grid0.coords t) (insAt m c t) s1 = suaAt m c d t.val t.isLt := iter_next (suaStep m c) t s1 h1
  iintro ⟨⟨⟨HS0, HS1, ⟨%d27, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%y15, %hy15, H15⟩, ⟨%y16, %hy16, H16⟩, ⟨%y17, %hy17, H17⟩, ⟨%y18, %hy18, H18⟩, ⟨%y19, %hy19, H19⟩, ⟨%y20, %hy20, H20⟩, ⟨%y21, %hy21, H21⟩, ⟨%y22, %hy22, H22⟩, ⟨%y23, %hy23, H23⟩, ⟨%y24, %hy24, H24⟩⟩
  have g24 := finds24 m c t y24 hy24
  have g22 := finds22 m c t s0 y22 hy22 h0
  have g23 := finds23 m c t s1 y23 hy23 h1
  have g17 := finds17 m c t y17 hy17
  have g18 := finds18 m c t y18 hy18
  have g19 := finds19 m c t y19 hy19
  have g20 := finds20 m c t y20 hy20
  have g21 := finds21 m c t y21 hy21
  iapply (key y17 y18 y19 y20 y21 y22 y23 y24)
  isplitl [H0 H1 H2 H3 H4 H5 H6 H7 H8 H9 H10 H11 H12 H13 H14]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; iexact H14
  isplitl [H15 H16 H17 H18 H19 H20 H21 H22 H23 H24 HS0 HS1 HS2]
  · isplitl [H15]; iexists _; iexact H15; isplitl [H16]; iexists _; iexact H16; isplitl [H17]; iexact H17; isplitl [H18]; iexact H18; isplitl [H19]; iexact H19; isplitl [H20]; iexact H20; isplitl [H21]; iexact H21; isplitl [H22]; iexact H22; isplitl [H23]; iexact H23; isplitl [H24]; iexact H24; isplitl [HS0]; iexact HS0; isplitl [HS1]; iexact HS1; iexists _; iexact HS2
  iintro ⟨⟨H0, H1, H2, H3, H4, H5, H6, H7, H8, H9, H10, H11, H12, H13, H14⟩, H15, H16, H17, H18, H19, H20, H21, H22, H23, H24, HS0, HS1, HS2⟩
  isplitl [HS0 HS1 HS2 Hg]
  · isplitl [HS0 HS1 HS2]
    · isplitl [HS0]; iexists e0; rw [← he0]; iexact HS0
      isplitl [HS1]; iexists e1; rw [← he1]; iexact HS1
      iexists _; iexact HS2
    iexact Hg
  isplitl [Ho]; iexact Ho
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexists _; isplitr; swap; iexact H15; ipureintro; exact rfl
  isplitl [H16]; iexists _; isplitr; swap; iexact H16; ipureintro; exact rfl
  isplitl [H17]; iexists _; isplitr; swap; iexact H17; ipureintro; exact g17
  isplitl [H18]; iexists _; isplitr; swap; iexact H18; ipureintro; exact g18
  isplitl [H19]; iexists _; isplitr; swap; iexact H19; ipureintro; exact g19
  isplitl [H20]; iexists _; isplitr; swap; iexact H20; ipureintro; exact g20
  isplitl [H21]; iexists _; isplitr; swap; iexact H21; ipureintro; exact g21
  isplitl [H22]; iexists _; isplitr; swap; iexact H22; ipureintro; exact g22
  isplitl [H23]; iexists _; isplitr; swap; iexact H23; ipureintro; exact g23
  iexists _; isplitr; swap; iexact H24; ipureintro; exact g24

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hz : t.val = 0
  · rw [PhiS_castSucc m c t, PhiS_zero m c _ _ hz, PhiA0_eq]
    iintro ⟨⟨⟨⟨%s0, HS0⟩, ⟨%s1, HS1⟩, HS2⟩, Hg⟩, Hr⟩
    iapply (sound_from m c t s0 s1 (Or.inl hz) (Or.inl hz))
    isplitl [HS0 HS1 HS2 Hg]
    · isplitl [HS0 HS1 HS2]
      · isplitl [HS0]; iexact HS0
        isplitl [HS1]; iexact HS1
        iexact HS2
      iexact Hg
    iexact Hr
  · rw [PhiS_castSucc m c t, PhiS_pos m c _ _ hz]
    unfold scr
    iintro ⟨⟨⟨⟨%d0, HS0⟩, ⟨%d1, HS1⟩, HS2⟩, Hg⟩, Hr⟩
    iapply (sound_from m c t (sgaAt m c d0 (t.val - 1) (by omega)) (suaAt m c d1 (t.val - 1) (by omega)) (Or.inr ⟨d0, rfl⟩) (Or.inr ⟨d1, rfl⟩))
    isplitl [HS0 HS1 HS2 Hg]
    · isplitl [HS0 HS1 HS2]
      · isplitl [HS0]; iexact HS0
        isplitl [HS1]; iexact HS1
        iexact HS2
      iexact Hg
    iexact Hr

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

theorem hout (c : Dev nD) : (rdat m c).Φ (Fin.last cfg0.N) ⊢ Pipeline.ΦA spec0 c := by
  rw [show (rdat m c).Φ (Fin.last cfg0.N) = PhiS m c cfg0.N (Nat.le_refl _) from rfl,
    PhiS_pos m c _ _ (by have : cfg0.N = 28 := N_0; omega), PhiA0_eq]
  unfold scr
  iintro ⟨⟨⟨%d0, HS0⟩, ⟨%d1, HS1⟩, HS2⟩, Hg⟩
  isplitl [HS0 HS1 HS2]
  · isplitl [HS0]; iexists _; iexact HS0
    isplitl [HS1]; iexists _; iexact HS1
    iexact HS2
  iexact Hg

/-! ## The run and the frame -/

set_option backward.isDefEq.respectTransparency.types false in
/-- Every run ends, with each array at what the proof data allow and every semaphore counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

variable {m} in
/-- An input array ends as the region found it. -/
theorem final_in (w : Fin cfg0.W) (hw : (cfg0.win w).isOut = false) {r : PUnit × MemSt nD τ sig (Elt F)}
    (h : Pipeline.RDat.FramePost (cfgs 0) (rdat m) (V m) r) (c : Dev nD) :
    r.2.mem ((cfg0.win w).arr.view.loc (c.tc : Thread nD τ)) = V m c (Pipeline.arrRef spec0 w) := by
  have := (h c).1 w
  rw [RDat.ArrAt_in (rdat m c) w hw] at this
  exact this.trans (A_eq m c w)

/-- The frame: every run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨(final_in 0 rfl h.1 c).trans (V_main_arg0 m c),
      (final_in 1 rfl h.1 c).trans (V_main_arg1 m c),
      (final_in 2 rfl h.1 c).trans (V_main_arg2 m c),
      (final_in 3 rfl h.1 c).trans (V_main_arg3 m c),
      (final_in 4 rfl h.1 c).trans (V_main_arg4 m c),
      (final_in 5 rfl h.1 c).trans (V_main_arg5 m c),
      (final_in 6 rfl h.1 c).trans (V_main_arg6 m c),
      (final_in 7 rfl h.1 c).trans (V_main_arg7 m c),
      (final_in 8 rfl h.1 c).trans (V_main_arg8 m c),
      (final_in 9 rfl h.1 c).trans (V_main_arg9 m c),
      (final_in 10 rfl h.1 c).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c)⟩, h.2⟩) (run_main m ρ)

end Cert.DactIdeal.Body

end
-- ==== Proof.DactValue.lean ====
module
public import proofs.«01_k».proof.Proof.Scalars
public import proofs.«01_k».proof.Proof.DactIdealFrame
public import proofs.«01_k».proof.Proof.Gen.DactRefIdeal.Read
public import Idealize.ShloMosaic.Lib.Pipeline.ValueKit
public import Idealize.ShloMosaic.Lib.Pipeline.ReadBack
public import Idealize.ShloMosaic.Lib.Pipeline.ArrRel

/-! What a grid point of the kernel of the activation gradient computes at the extended reals, as formulas of the entry
    arrays. -/

@[expose] public section

set_option maxRecDepth 16384

noncomputable section

open Idealize.ShloMosaic Idealize.ShloMosaic.TcCoe Idealize.SL.Sem
open Idealize.ShloMosaic.Pipeline (Dat RDat)
open scoped BigOperators

namespace Cert.DactIdeal.RefValue

open Cert.DactIdeal Cert.DactIdeal.Gen Cert.DactIdeal.Body

theorem idx : ∀ t : Fin cfg0.N, win0_0.index t = ![t.val % 2, 0]
    ∧ win0_1.index t = ![0, t.val / 2]
    ∧ win0_2.index t = ![0, 0]
    ∧ win0_3.index t = ![0, t.val / 2]
    ∧ win0_4.index t = ![t.val % 2, t.val / 2]
    ∧ win0_5.index t = ![t.val % 2, t.val / 2]
    ∧ win0_6.index t = ![t.val % 2, t.val / 2]
    ∧ win0_7.index t = ![0, 0]
    ∧ win0_8.index t = ![0, 0]
    ∧ win0_9.index t = ![t.val / 2, 0]
    ∧ win0_10.index t = ![t.val / 2, 0]
    ∧ win0_11.index t = ![0, t.val / 2]
    ∧ win0_12.index t = ![0, t.val / 2]
    ∧ win0_13.index t = ![0, t.val / 2]
    ∧ win0_14.index t = ![0, t.val / 2]
    ∧ win0_15.index t = ![t.val % 2, t.val / 2]
    ∧ win0_16.index t = ![t.val % 2, t.val / 2]
    ∧ win0_17.index t = ![0, t.val / 2]
    ∧ win0_18.index t = ![0, t.val / 2]
    ∧ win0_19.index t = ![t.val / 2, 0]
    ∧ win0_20.index t = ![t.val / 2, 0]
    ∧ win0_21.index t = ![0, t.val / 2]
    ∧ win0_22.index t = ![0, 0]
    ∧ win0_23.index t = ![0, 0]
    ∧ win0_24.index t = ![0, 0] :=
  (by decide +kernel : ∀ t : Fin grid0.N, _)

/-- The column of the arrays that column `n` of grid point `t`'s blocks is. -/
def col (t : Fin cfg0.N) (n : Fin 256) : Fin 3584 :=
  ⟨t.val / 2 * 256 + n.val, by have h : t.val < 28 := lt_of_lt_of_eq t.isLt N_0; omega⟩

/-- The token that row `r` of grid point `t`'s blocks is. -/
def tok (t : Fin cfg0.N) (r : Fin 1024) : Fin 2048 := ⟨t.val % 2 * 1024 + r.val, by omega⟩

/-! ## The formulas -/

/-- The entry arrays. -/
structure Args where
  x0 : FVec Ideal S2048x8192 .bf16
  x1 : FVec Ideal S8192x3584 .bf16
  x2 : FVec Ideal S2048x64 .bf16
  x3 : FVec Ideal S64x3584 .bf16
  x4 : FVec Ideal S2048x3584 .bf16
  x5 : FVec Ideal S2048x3584 .f32
  x6 : FVec Ideal S2048x3584 .f32
  x7 : FVec Ideal S2048x64 .bf16
  x8 : FVec Ideal S2048x64 .bf16
  x9 : FVec Ideal S3584x64 .bf16
  x10 : FVec Ideal S3584x64 .bf16
  x11 : FVec Ideal S3584 .f32
  x12 : FVec Ideal S3584 .f32
  x13 : FVec Ideal S3584 .f32
  x14 : FVec Ideal S3584 .f32

/-- The scale of the low-rank terms. -/
abbrev K : EReal := Ideal.ofBits .f32 0x3EC00000#32

/-- The gradient with respect to the activation. -/
def DA (A : Args) (r : Fin 2048) (n : Fin 3584) : EReal :=
  (∑ k : Fin 8192, A.x0 (ix2 r k) * A.x1 (ix2 k n)) + ∑ k : Fin 64, A.x2 (ix2 r k) * A.x3 (ix2 k n)
/-- The scaled gate projection, -/
def YG (A : Args) (r : Fin 2048) (n : Fin 3584) : EReal := A.x11 (ix1 n) * A.x5 (ix2 r n)
/-- and the scaled up projection. -/
def YU (A : Args) (r : Fin 2048) (n : Fin 3584) : EReal := A.x12 (ix1 n) * A.x6 (ix2 r n)
/-- The gradient with respect to the scaled up projection, -/
def GLU (A : Args) (r : Fin 2048) (n : Fin 3584) : EReal := DA A r n * YG A r n * Ideal.logistic (YG A r n)
/-- and with respect to the scaled gate projection. -/
def GLG (A : Args) (r : Fin 2048) (n : Fin 3584) : EReal :=
  DA A r n * YU A r n * Ideal.logistic (YG A r n) * (1 + YG A r n * (1 - Ideal.logistic (YG A r n)))
/-- The gate gradient, -/
def GG (A : Args) (r : Fin 2048) (n : Fin 3584) : EReal := GLG A r n * A.x11 (ix1 n)
/-- the up gradient. -/
def GU (A : Args) (r : Fin 2048) (n : Fin 3584) : EReal := GLU A r n * A.x12 (ix1 n)
/-- One term of the lane sums. -/
def EV (A : Args) (r : Fin 2048) (n : Fin 3584) : EReal := GLG A r n * YG A r n + GLU A r n * YU A r n

/-- The gradient of the gate magnitude, -/
def DMG (A : Args) (n : Fin 3584) : EReal := Ideal.div (∑ r : Fin 2048, GLG A r n * A.x5 (ix2 r n)) (A.x13 (ix1 n))
/-- of the up magnitude, -/
def DMU (A : Args) (n : Fin 3584) : EReal := Ideal.div (∑ r : Fin 2048, GLU A r n * A.x6 (ix2 r n)) (A.x14 (ix1 n))
/-- of the gate factor `b`, -/
def DBG (A : Args) (n : Fin 3584) (j : Fin 64) : EReal := K * ∑ r : Fin 2048, A.x7 (ix2 r j) * GG A r n
/-- of the up factor `b`, -/
def DBU (A : Args) (n : Fin 3584) (j : Fin 64) : EReal := K * ∑ r : Fin 2048, A.x8 (ix2 r j) * GU A r n
/-- of the down factor `a`. -/
def DAD (A : Args) (j : Fin 64) (n : Fin 3584) : EReal := ∑ r : Fin 2048, A.x2 (ix2 r j) * A.x4 (ix2 r n)
/-- The gate low-rank gradient, -/
def SGA (A : Args) (r : Fin 2048) (j : Fin 64) : EReal := K * ∑ n : Fin 3584, GG A r n * A.x9 (ix2 n j)
/-- and the up low-rank gradient. -/
def SUA (A : Args) (r : Fin 2048) (j : Fin 64) : EReal := K * ∑ n : Fin 3584, GU A r n * A.x10 (ix2 n j)
/-- The lane sums. -/
def DEL (A : Args) (r : Fin 2048) (k : Fin 128) : EReal := ∑ i : Fin 28, EV A r ⟨i.val * 128 + k.val, by omega⟩

/-! ## The payloads -/

theorem pay14 (a : FVec Ideal S1024x8192 .bf16) (b : FVec Ideal S8192x256 .bf16) (s : FVec Ideal S1024x64 .bf16) (d : FVec Ideal S64x256 .bf16) (r : Fin 1024) (n : Fin 256) :
    k0_pay14 (F := Ideal) a b s d (ix2 r n)
      = (∑ k : Fin 8192, a (ix2 r k) * b (ix2 k n)) + ∑ k : Fin 64, s (ix2 r k) * d (ix2 k n) := by
  pointwise [k0_pay14]
theorem pay15 (u : FVec Ideal S1024x256 .f32) (w : FVec Ideal S1x256 .f32) (r : Fin 1024) (n : Fin 256) :
    k0_pay15 (F := Ideal) u w (ix2 r n)
      = w (ix2 0 n) * u (ix2 r n) := by
  pointwise [k0_pay15]
theorem pay16 (w : FVec Ideal S1x256 .f32) (r : Fin 1024) (n : Fin 256) :
    k0_pay16 (F := Ideal) w (ix2 r n)
      = w (ix2 0 n) := by
  pointwise [k0_pay16]
theorem pay19 (d y : FVec Ideal S1024x256 .f32) (r : Fin 1024) (n : Fin 256) :
    k0_pay19 (F := Ideal) d y (ix2 r n)
      = d (ix2 r n) * y (ix2 r n) * Ideal.logistic (y (ix2 r n)) := by
  pointwise [k0_pay19, k0_pay18]
theorem pay20 (d u y w : FVec Ideal S1024x256 .f32) (r : Fin 1024) (n : Fin 256) :
    k0_pay20 (F := Ideal) d u y w (ix2 r n)
      = d (ix2 r n) * (w (ix2 r n) * u (ix2 r n)) * Ideal.logistic (y (ix2 r n)) * (1 + y (ix2 r n) * (1 - Ideal.logistic (y (ix2 r n)))) := by
  pointwise [k0_pay20, k0_pay18, k0_pay17]
theorem pay26 (g : FVec Ideal S1024x256 .f32) (w : FVec Ideal S1x256 .f32) (r : Fin 1024) (n : Fin 256) :
    k0_pay26 (F := Ideal) g w (ix2 r n)
      = g (ix2 r n) * w (ix2 0 n) := by
  pointwise [k0_pay26]
theorem pay27 (g : FVec Ideal S1024x256 .f32) (w : FVec Ideal S1x256 .f32) (r : Fin 1024) (n : Fin 256) :
    k0_pay27 (F := Ideal) g w (ix2 r n)
      = g (ix2 r n) * w (ix2 0 n) := by
  pointwise [k0_pay27]
theorem pay21 (d g u y w : FVec Ideal S1024x256 .f32) (p q : FVec Ideal S1x256 .f32) (n : Fin 256) :
    k0_pay21 (F := Ideal) d g u y w p q (ix2 0 n)
      = p (ix2 0 n) + Ideal.div (∑ r : Fin 1024, k0_pay20 (F := Ideal) d u y w (ix2 r n) * g (ix2 r n)) (q (ix2 0 n)) := by
  pointwise [k0_pay21]
theorem pay22 (d u y : FVec Ideal S1024x256 .f32) (p q : FVec Ideal S1x256 .f32) (n : Fin 256) :
    k0_pay22 (F := Ideal) d u y p q (ix2 0 n)
      = p (ix2 0 n) + Ideal.div (∑ r : Fin 1024, k0_pay19 (F := Ideal) d y (ix2 r n) * u (ix2 r n)) (q (ix2 0 n)) := by
  pointwise [k0_pay22]
theorem pay28 (g : FVec Ideal S1024x256 .f32) (w : FVec Ideal S1x256 .f32) (p : FVec Ideal S256x64 .f32) (s : FVec Ideal S1024x64 .bf16) (n : Fin 256) (j : Fin 64) :
    k0_pay28 (F := Ideal) g w p s (ix2 n j)
      = p (ix2 n j) + K * ∑ r : Fin 1024, s (ix2 r j) * k0_pay26 (F := Ideal) g w (ix2 r n) := by
  pointwise [k0_pay28]
theorem pay29 (g : FVec Ideal S1024x256 .f32) (w : FVec Ideal S1x256 .f32) (p : FVec Ideal S256x64 .f32) (s : FVec Ideal S1024x64 .bf16) (n : Fin 256) (j : Fin 64) :
    k0_pay29 (F := Ideal) g w p s (ix2 n j)
      = p (ix2 n j) + K * ∑ r : Fin 1024, s (ix2 r j) * k0_pay27 (F := Ideal) g w (ix2 r n) := by
  pointwise [k0_pay29]
theorem pay1 (p : FVec Ideal S64x256 .f32) (s : FVec Ideal S1024x64 .bf16) (a : FVec Ideal S1024x256 .bf16) (j : Fin 64) (n : Fin 256) :
    k0_pay1 (F := Ideal) p s a (ix2 j n)
      = p (ix2 j n) + ∑ r : Fin 1024, s (ix2 r j) * a (ix2 r n) := by
  pointwise [k0_pay1]
theorem pay2 (g : FVec Ideal S1024x256 .bf16) (p : FVec Ideal S1024x64 .f32) (b : FVec Ideal S256x64 .bf16) (r : Fin 1024) (j : Fin 64) :
    k0_pay2 (F := Ideal) g p b (ix2 r j)
      = p (ix2 r j) + ∑ n : Fin 256, g (ix2 r n) * b (ix2 n j) := by
  pointwise [k0_pay2]
theorem pay3 (g : FVec Ideal S1024x256 .bf16) (p : FVec Ideal S1024x64 .f32) (b : FVec Ideal S256x64 .bf16) (r : Fin 1024) (j : Fin 64) :
    k0_pay3 (F := Ideal) g p b (ix2 r j)
      = p (ix2 r j) + ∑ n : Fin 256, g (ix2 r n) * b (ix2 n j) := by
  pointwise [k0_pay3]
theorem pay4 (p : FVec Ideal S1024x64 .f32) (r : Fin 1024) (j : Fin 64) :
    k0_pay4 (F := Ideal) p (ix2 r j)
      = K * p (ix2 r j) := by
  pointwise [k0_pay4]
theorem pay5 (p : FVec Ideal S1024x64 .f32) (r : Fin 1024) (j : Fin 64) :
    k0_pay5 (F := Ideal) p (ix2 r j)
      = K * p (ix2 r j) := by
  pointwise [k0_pay5]
theorem pay6 (i : S1024x64.Idx) : k0_pay6 (F := Ideal) i = 0 := by
  idx_vars i
  pointwise [k0_pay6]
theorem pay7 (i : S1024x64.Idx) : k0_pay7 (F := Ideal) i = 0 := by
  idx_vars i
  pointwise [k0_pay7]
theorem pay8 (i : S1024x128.Idx) : k0_pay8 (F := Ideal) i = 0 := by
  idx_vars i
  pointwise [k0_pay8]
theorem pay9 (i : S1x256.Idx) : k0_pay9 (F := Ideal) i = 0 := by
  idx_vars i
  pointwise [k0_pay9]
theorem pay10 (i : S1x256.Idx) : k0_pay10 (F := Ideal) i = 0 := by
  idx_vars i
  pointwise [k0_pay10]
theorem pay11 (i : S256x64.Idx) : k0_pay11 (F := Ideal) i = 0 := by
  idx_vars i
  pointwise [k0_pay11]
theorem pay12 (i : S256x64.Idx) : k0_pay12 (F := Ideal) i = 0 := by
  idx_vars i
  pointwise [k0_pay12]
theorem pay13 (i : S64x256.Idx) : k0_pay13 (F := Ideal) i = 0 := by
  idx_vars i
  pointwise [k0_pay13]
theorem pay25 (p q : FVec Ideal S1024x128 .f32) (r : Fin 1024) (k : Fin 128) :
    k0_pay25 (F := Ideal) (k0_pay23 (F := Ideal) p) q (ix2 r k)
      = p (ix2 r k) + q (ix2 r k) := by
  pointwise [k0_pay25, k0_pay23]
theorem pay24 (d u y w : FVec Ideal S1024x256 .f32) (r : Fin 1024) (k : Fin 128) :
    k0_pay24 (F := Ideal) d u y w (ix2 r k)
      = (k0_pay20 (F := Ideal) d u y w (ix2 r ⟨k.val, by omega⟩) * y (ix2 r ⟨k.val, by omega⟩) + k0_pay19 (F := Ideal) d y (ix2 r ⟨k.val, by omega⟩) * (w (ix2 r ⟨k.val, by omega⟩) * u (ix2 r ⟨k.val, by omega⟩)))
        + (k0_pay20 (F := Ideal) d u y w (ix2 r ⟨128 + k.val, by omega⟩) * y (ix2 r ⟨128 + k.val, by omega⟩) + k0_pay19 (F := Ideal) d y (ix2 r ⟨128 + k.val, by omega⟩) * (w (ix2 r ⟨128 + k.val, by omega⟩) * u (ix2 r ⟨128 + k.val, by omega⟩))) := by
  pointwise [k0_pay24, k0_pay17]

/-! ## The rows of a point -/

theorem coord1 (t : Fin cfg0.N) : (grid0.coords t 1).val = t.val % 2 := by
  have e1 : (grid0.coords t 1).val = t.val / 1 % 2 := Pipeline.Grid.coords_val t 1 (by decide) rfl
  rwa [Nat.div_one] at e1

theorem emb_rows (t : Fin cfg0.N) (r : Fin 1024) (k : Fin 64) :
    (Rect.unit (s := S2048x64) (offs (grid0.coords t)) S1024x64.size (offs_inb _)).emb (ix2 r k) = ix2 (tok t r) k := by
  funext a
  have h := coord1 t
  match a with
  | ⟨0, _⟩ =>
    refine Fin.ext ?_
    show 1024 * (grid0.coords t 1).val + 1 * r.val = t.val % 2 * 1024 + r.val
    omega
  | ⟨1, _⟩ =>
    refine Fin.ext ?_
    show 0 + 1 * k.val = k.val
    omega

theorem rows_at {e : EltTy} (x : Vec Ideal S2048x64 e) (t : Fin cfg0.N) (r : Fin 1024) (k : Fin 64) :
    rows x (grid0.coords t) (ix2 r k) = x (ix2 (tok t r) k) := congrArg x (emb_rows t r k)

theorem put_own {e : EltTy} (x : Vec Ideal S2048x64 e) (t : Fin cfg0.N) (w : Vec Ideal S1024x64 e) (r : Fin 1024) (k : Fin 64) :
    putRows x (grid0.coords t) w (ix2 (tok t r) k) = w (ix2 r k) :=
  (rows_at _ t r k).symm.trans (congrFun (rows_putRows x (grid0.coords t) w) (ix2 r k))

theorem put_other {e : EltTy} (x : Vec Ideal S2048x64 e) (t s : Fin cfg0.N) (h : s.val % 2 ≠ t.val % 2) (w : Vec Ideal S1024x64 e) (r : Fin 1024) (k : Fin 64) :
    putRows x (grid0.coords t) w (ix2 (tok s r) k) = x (ix2 (tok s r) k) := by
  unfold putRows VecWindow.put
  rw [dif_neg]
  intro hh
  have h0 := hh 0
  have e := coord1 t
  have a1 : 1024 * (grid0.coords t 1).val ≤ s.val % 2 * 1024 + r.val := h0.1
  have a2 : s.val % 2 * 1024 + r.val < 1024 * (grid0.coords t 1).val + 1024 := h0.2
  have := r.isLt
  omega

theorem emb_rows' (t : Fin cfg0.N) (r : Fin 1024) (k : Fin 128) :
    (Rect.unit (s := S2048x128) (offs (grid0.coords t)) S1024x128.size (offs_inb' _)).emb (ix2 r k) = ix2 (tok t r) k := by
  funext a
  have h := coord1 t
  match a with
  | ⟨0, _⟩ =>
    refine Fin.ext ?_
    show 1024 * (grid0.coords t 1).val + 1 * r.val = t.val % 2 * 1024 + r.val
    omega
  | ⟨1, _⟩ =>
    refine Fin.ext ?_
    show 0 + 1 * k.val = k.val
    omega

theorem rows_at' {e : EltTy} (x : Vec Ideal S2048x128 e) (t : Fin cfg0.N) (r : Fin 1024) (k : Fin 128) :
    rows' x (grid0.coords t) (ix2 r k) = x (ix2 (tok t r) k) := congrArg x (emb_rows' t r k)

theorem put_own' {e : EltTy} (x : Vec Ideal S2048x128 e) (t : Fin cfg0.N) (w : Vec Ideal S1024x128 e) (r : Fin 1024) (k : Fin 128) :
    putRows' x (grid0.coords t) w (ix2 (tok t r) k) = w (ix2 r k) :=
  (rows_at' _ t r k).symm.trans (congrFun (rows_putRows' x (grid0.coords t) w) (ix2 r k))

theorem put_other' {e : EltTy} (x : Vec Ideal S2048x128 e) (t s : Fin cfg0.N) (h : s.val % 2 ≠ t.val % 2) (w : Vec Ideal S1024x128 e) (r : Fin 1024) (k : Fin 128) :
    putRows' x (grid0.coords t) w (ix2 (tok s r) k) = x (ix2 (tok s r) k) := by
  unfold putRows' VecWindow.put
  rw [dif_neg]
  intro hh
  have h0 := hh 0
  have e := coord1 t
  have a1 : 1024 * (grid0.coords t 1).val ≤ s.val % 2 * 1024 + r.val := h0.1
  have a2 : s.val % 2 * 1024 + r.val < 1024 * (grid0.coords t 1).val + 1024 := h0.2
  have := r.isLt
  omega

/-! ## The blocks as entries of the arrays -/

variable (m : (ℓ : Loc nD τ sig) → Buf (Elt Ideal) ℓ)

/-- The entry arrays of the launch. -/
abbrev args (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14)⟩

theorem blk0 (c : Dev nD) (t : Fin cfg0.N) (r : Fin 1024) (k : Fin 8192) : iblk m c 0 t (ix2 r k) = (args m c).x0 (ix2 (tok t r) k) := by
  blk_ext [iblk, V, idx t, tok]
theorem blk1 (c : Dev nD) (t : Fin cfg0.N) (k : Fin 8192) (n : Fin 256) : iblk m c 1 t (ix2 k n) = (args m c).x1 (ix2 k (col t n)) := by
  blk_ext [iblk, V, idx t, col]
theorem blk2 (c : Dev nD) (t : Fin cfg0.N) (r : Fin 2048) (k : Fin 64) : iblk m c 2 t (ix2 r k) = (args m c).x2 (ix2 r k) := by
  blk_ext [iblk, V, idx t]
theorem blk7 (c : Dev nD) (t : Fin cfg0.N) (r : Fin 2048) (k : Fin 64) : iblk m c 7 t (ix2 r k) = (args m c).x7 (ix2 r k) := by
  blk_ext [iblk, V, idx t]
theorem blk8 (c : Dev nD) (t : Fin cfg0.N) (r : Fin 2048) (k : Fin 64) : iblk m c 8 t (ix2 r k) = (args m c).x8 (ix2 r k) := by
  blk_ext [iblk, V, idx t]
theorem blk3 (c : Dev nD) (t : Fin cfg0.N) (k : Fin 64) (n : Fin 256) : iblk m c 3 t (ix2 k n) = (args m c).x3 (ix2 k (col t n)) := by
  blk_ext [iblk, V, idx t, col]
theorem blk4 (c : Dev nD) (t : Fin cfg0.N) (r : Fin 1024) (n : Fin 256) : iblk m c 4 t (ix2 r n) = (args m c).x4 (ix2 (tok t r) (col t n)) := by
  blk_ext [iblk, V, idx t, tok, col]
theorem blk5 (c : Dev nD) (t : Fin cfg0.N) (r : Fin 1024) (n : Fin 256) : iblk m c 5 t (ix2 r n) = (args m c).x5 (ix2 (tok t r) (col t n)) := by
  blk_ext [iblk, V, idx t, tok, col]
theorem blk6 (c : Dev nD) (t : Fin cfg0.N) (r : Fin 1024) (n : Fin 256) : iblk m c 6 t (ix2 r n) = (args m c).x6 (ix2 (tok t r) (col t n)) := by
  blk_ext [iblk, V, idx t, tok, col]
theorem blk9 (c : Dev nD) (t : Fin cfg0.N) (n : Fin 256) (k : Fin 64) : iblk m c 9 t (ix2 n k) = (args m c).x9 (ix2 (col t n) k) := by
  blk_ext [iblk, V, idx t, col]
theorem blk10 (c : Dev nD) (t : Fin cfg0.N) (n : Fin 256) (k : Fin 64) : iblk m c 10 t (ix2 n k) = (args m c).x10 (ix2 (col t n) k) := by
  blk_ext [iblk, V, idx t, col]
theorem blk11 (c : Dev nD) (t : Fin cfg0.N) (n : Fin 256) : iblk m c 11 t (ix2 0 n) = (args m c).x11 (ix1 (col t n)) := by
  have h : iblk m c 11 t (ix2 0 n) = V m c main_v0 (ix2 0 (col t n)) := by blk_ext [iblk, idx t, col]
  rw [h]; entry_read; pointwise
theorem blk12 (c : Dev nD) (t : Fin cfg0.N) (n : Fin 256) : iblk m c 12 t (ix2 0 n) = (args m c).x12 (ix1 (col t n)) := by
  have h : iblk m c 12 t (ix2 0 n) = V m c main_v1 (ix2 0 (col t n)) := by blk_ext [iblk, idx t, col]
  rw [h]; entry_read; pointwise
theorem blk13 (c : Dev nD) (t : Fin cfg0.N) (n : Fin 256) : iblk m c 13 t (ix2 0 n) = (args m c).x13 (ix1 (col t n)) := by
  have h : iblk m c 13 t (ix2 0 n) = V m c main_v2 (ix2 0 (col t n)) := by blk_ext [iblk, idx t, col]
  rw [h]; entry_read; pointwise
theorem blk14 (c : Dev nD) (t : Fin cfg0.N) (n : Fin 256) : iblk m c 14 t (ix2 0 n) = (args m c).x14 (ix1 (col t n)) := by
  have h : iblk m c 14 t (ix2 0 n) = V m c main_v3 (ix2 0 (col t n)) := by blk_ext [iblk, idx t, col]
  rw [h]; entry_read; pointwise

/-! ## What a point computes -/

theorem da_at (c : Dev nD) (t : Fin cfg0.N) (r : Fin 1024) (n : Fin 256) :
    dactV (grid0.coords t) (insAt m c t) (ix2 r n) = DA (args m c) (tok t r) (col t n) := by
  unfold dactV
  rw [pay14]
  simp only [blk0, blk1, rows_at, blk2, blk3]
  rfl
theorem yg_at (c : Dev nD) (t : Fin cfg0.N) (r : Fin 1024) (n : Fin 256) :
    ygV (insAt m c t) (ix2 r n) = YG (args m c) (tok t r) (col t n) := by
  unfold ygV
  rw [pay15]
  simp only [blk5, blk11]
  rfl
theorem ru_at (c : Dev nD) (t : Fin cfg0.N) (r : Fin 1024) (n : Fin 256) :
    ruV (insAt m c t) (ix2 r n) = (args m c).x12 (ix1 (col t n)) := by
  unfold ruV
  rw [pay16]
  simp only [blk12]
theorem pay19_at (c : Dev nD) (t : Fin cfg0.N) (r : Fin 1024) (n : Fin 256) :
    k0_pay19 (F := Ideal) (dactV (grid0.coords t) (insAt m c t)) (ygV (insAt m c t)) (ix2 r n) = GLU (args m c) (tok t r) (col t n) := by
  rw [pay19, da_at, yg_at]
  rfl
theorem pay20_at (c : Dev nD) (t : Fin cfg0.N) (r : Fin 1024) (n : Fin 256) :
    k0_pay20 (F := Ideal) (dactV (grid0.coords t) (insAt m c t)) (iblk m c 6 t) (ygV (insAt m c t)) (ruV (insAt m c t)) (ix2 r n)
      = GLG (args m c) (tok t r) (col t n) := by
  rw [pay20, da_at, yg_at, ru_at, blk6]
  rfl
theorem gg_at (c : Dev nD) (t : Fin cfg0.N) (r : Fin 1024) (n : Fin 256) :
    ggV (grid0.coords t) (insAt m c t) (ix2 r n) = GG (args m c) (tok t r) (col t n) := by
  unfold ggV glgV
  rw [pay26, pay20_at]
  simp only [blk11]
  rfl
theorem gu_at (c : Dev nD) (t : Fin cfg0.N) (r : Fin 1024) (n : Fin 256) :
    guV (grid0.coords t) (insAt m c t) (ix2 r n) = GU (args m c) (tok t r) (col t n) := by
  unfold guV gluV
  rw [pay27, pay19_at]
  simp only [blk12]
  rfl

end Cert.DactIdeal.RefValue
end
-- ==== Proof.DactSums.lean ====
module
public import proofs.«01_k».proof.Proof.DactValue
public import Idealize.ShloMosaic.Lib.Pipeline.ValueKit
public import Idealize.ShloMosaic.Lib.Pipeline.ReadBack
public import Idealize.ShloMosaic.Lib.Pipeline.ArrRel

/-! What the kernel of the activation gradient ends with at the extended reals: each result as one formula of the entry
    arrays. -/

@[expose] public section

set_option maxRecDepth 16384

noncomputable section

open Idealize.ShloMosaic Idealize.ShloMosaic.TcCoe Idealize.SL.Sem
open Idealize.ShloMosaic.Pipeline (Dat RDat)
open scoped BigOperators

namespace Cert.DactIdeal.RefValue

open Cert.DactIdeal Cert.DactIdeal.Gen Cert.DactIdeal.Body

theorem tok_congr (s t : Fin cfg0.N) (h : s.val % 2 = t.val % 2) (r : Fin 1024) : tok s r = tok t r := by
  refine Fin.ext ?_
  show s.val % 2 * 1024 + r.val = t.val % 2 * 1024 + r.val
  rw [h]

theorem prev_lt (t : Fin cfg0.N) : t.val - 1 < cfg0.N := lt_of_le_of_lt (Nat.sub_le _ _) t.isLt

theorem col_prev (t : Fin cfg0.N) (h : t.val % 2 = 1) (n : Fin 256) : col ⟨t.val - 1, prev_lt t⟩ n = col t n :=
  Fin.ext (by show (t.val - 1) / 2 * 256 + n.val = t.val / 2 * 256 + n.val; omega)

/-- Two points of one block of columns see all the tokens. -/
theorem halves_tok (t : Fin cfg0.N) (h : t.val % 2 = 1) (f : Fin 2048 → EReal) :
    (∑ r : Fin 1024, f (tok ⟨t.val - 1, prev_lt t⟩ r)) + (∑ r : Fin 1024, f (tok t r)) = ∑ r, f r := by
  rw [Fin.sum_univ_two_halves 1024 1024 rfl]
  refine congrArg₂ (fun a b : EReal => a + b) (Fin.sum_fin_congr fun r => ?_) (Fin.sum_fin_congr fun r => ?_)
  · have e : tok ⟨t.val - 1, prev_lt t⟩ r = ⟨r.val, by omega⟩ := Fin.ext (by show (t.val - 1) % 2 * 1024 + r.val = r.val; omega)
    rw [e]
  · have e : tok t r = ⟨1024 + r.val, by omega⟩ := Fin.ext (by show t.val % 2 * 1024 + r.val = 1024 + r.val; omega)
    rw [e]

/-- An accumulator set to zero at the first of two points holds both terms after the second. -/
theorem two_steps {ι : Type} (step : Fin cfg0.N → (ι → EReal) → ι → EReal) (z : ι → EReal) (x : ι) (P : Fin cfg0.N → EReal)
    (hs : ∀ t d, step t d x = (if t.val % 2 = 0 then 0 else d x) + P t) (t : Fin cfg0.N) (h : t.val % 2 = 1) :
    iter step z t.val t.isLt x = P ⟨t.val - 1, prev_lt t⟩ + P t := by
  have hprev : iter step z (t.val - 1) (prev_lt t) x = P ⟨t.val - 1, prev_lt t⟩ := by
    have h2 : (t.val - 1) % 2 = 0 := by omega
    by_cases hz : t.val - 1 = 0
    · refine (congrFun (iter_zero step z ⟨t.val - 1, prev_lt t⟩ hz) x).trans ?_
      rw [hs, if_pos h2, zero_add]
    · refine (congrFun (iter_pos step z ⟨t.val - 1, prev_lt t⟩ hz) x).trans ?_
      rw [hs, if_pos h2, zero_add]
  refine (congrFun (iter_pos step z t (by omega)) x).trans ?_
  rw [hs, if_neg (by omega)]
  exact congrArg (fun a : EReal => a + P t) hprev

/-- An accumulator of rows, of which a point changes its own half, holds the sum of the blocks so far. -/
theorem accum {ι : Type} (step : Fin cfg0.N → (ι → EReal) → ι → EReal) (d : ι → EReal) (pt : Fin 2048 → ι) (E : Fin 2048 → ℕ → EReal)
    (own : ∀ t y r, step t y (pt (tok t r)) = (if t.val < 2 then 0 else y (pt (tok t r))) + E (tok t r) (t.val / 2))
    (other : ∀ s t : Fin cfg0.N, s.val % 2 ≠ t.val % 2 → ∀ y r, step t y (pt (tok s r)) = y (pt (tok s r)))
    (n : ℕ) (h : n < cfg0.N) (s : Fin cfg0.N) (hs : s.val % 2 ≤ n) (r : Fin 1024) :
    iter step d n h (pt (tok s r)) = ∑ i ∈ Finset.range ((n + 2 - s.val % 2) / 2), E (tok s r) i := by
  induction n with
  | zero =>
    have h0 : s.val % 2 = 0 := by omega
    show step ⟨0, h⟩ d (pt (tok s r)) = _
    rw [h0, tok_congr s ⟨0, h⟩ (by show s.val % 2 = 0 % 2; omega)]
    refine (own ⟨0, h⟩ d r).trans ?_
    rw [if_pos (by show 0 < 2; omega), zero_add]
    simp only [Nat.reduceAdd, Nat.reduceSub, Nat.reduceDiv, Finset.sum_range_one, Nat.zero_div]
  | succ n ih =>
    show step ⟨n + 1, h⟩ (iter step d n (Nat.lt_of_succ_lt h)) (pt (tok s r)) = _
    by_cases h1 : s.val % 2 = (n + 1) % 2
    · have e : (n + 1 + 2 - s.val % 2) / 2 = (n + 1) / 2 + 1 := by omega
      have ih' := fun hle => ih (Nat.lt_of_succ_lt h) hle
      rw [e, Finset.sum_range_succ]
      rw [tok_congr s ⟨n + 1, h⟩ h1] at ih' ⊢
      refine (own ⟨n + 1, h⟩ _ r).trans (congrArg₂ (fun a b : EReal => a + b) ?_ rfl)
      by_cases h2 : n + 1 < 2
      · rw [if_pos h2, show (n + 1) / 2 = 0 by omega, Finset.sum_range_zero]
      · rw [if_neg h2, ih' (by omega), show (n + 2 - s.val % 2) / 2 = (n + 1) / 2 by omega]
    · rw [other s ⟨n + 1, h⟩ h1, ih _ (by omega), show (n + 1 + 2 - s.val % 2) / 2 = (n + 2 - s.val % 2) / 2 by omega]

/-- A positive divisor may divide the terms of a sum, infinities included. -/
theorem div_add (a b q : EReal) (h : 0 < q) : Ideal.div a q + Ideal.div b q = Ideal.div (a + b) q := by
  have h0 : q ≠ 0 := h.ne'
  have ht : q⁻¹ ≠ ⊤ := by
    induction q with
    | bot => simp
    | top => simp
    | coe x => rw [← EReal.coe_inv]; exact EReal.coe_ne_top _
  simp only [Ideal.div, if_neg h0, div_eq_mul_inv]
  exact (EReal.right_distrib_of_nonneg_of_ne_top (EReal.inv_nonneg_of_nonneg h.le) ht a b).symm

theorem K_add (a b : EReal) : K * a + K * b = K * (a + b) := by
  rw [K, Cert.Scalars.scale]
  exact (EReal.left_distrib_of_nonneg_of_ne_top (by exact_mod_cast (by norm_num : (0 : ℝ) ≤ 3 / 8)) (EReal.coe_ne_top _) a b).symm

theorem fin1 (q : Fin 1) : q = 0 := Subsingleton.elim _ _

theorem tok_all (r : Fin 2048) : ∃ (s : Fin cfg0.N) (q : Fin 1024), r = tok s q :=
  ⟨⟨r.val / 1024, lt_of_lt_of_eq (by omega : r.val / 1024 < 28) N_0.symm⟩, ⟨r.val % 1024, by omega⟩, Fin.ext (by show r.val = r.val / 1024 % 2 * 1024 + r.val % 1024; omega)⟩

variable (m : (ℓ : Loc nD τ sig) → Buf (Elt Ideal) ℓ)

/-! ## The column accumulators -/

theorem dmg_step (c : Dev nD) (t : Fin cfg0.N) (d : Vec Ideal S1x256 .f32) (n : Fin 256) :
    dmgStep m c t d (ix2 0 n) = (if t.val % 2 = 0 then 0 else d (ix2 0 n)) + Ideal.div (∑ r : Fin 1024, GLG (args m c) (tok t r) (col t n) * (args m c).x5 (ix2 (tok t r) (col t n))) ((args m c).x13 (ix1 (col t n))) := by
  unfold dmgStep dmgV
  rw [pay21]
  simp only [pay20_at, blk5, blk13]
  refine congrArg₂ (fun a b : EReal => a + b) ?_ rfl
  by_cases h2 : t.val % 2 = 0
  · rw [if_pos ((hc2 t).mpr h2), if_pos h2, pay9]
  · rw [if_neg (fun hh => h2 ((hc2 t).mp hh)), if_neg h2]

theorem dmg_last (c : Dev nD) (hq : ∀ n, 0 < (args m c).x13 (ix1 n)) (t : Fin cfg0.N) (h : t.val % 2 = 1) (n : Fin 256) : dmgAt m c t.val t.isLt (ix2 0 n) = DMG (args m c) (col t n) := by
  refine (two_steps (dmgStep m c) (k0_pay9 (F := Ideal)) (ix2 0 n) (fun t => Ideal.div (∑ r : Fin 1024, GLG (args m c) (tok t r) (col t n) * (args m c).x5 (ix2 (tok t r) (col t n))) ((args m c).x13 (ix1 (col t n)))) (fun t d => dmg_step m c t d n) t h).trans ?_
  show _ + _ = _
  simp only [col_prev t h]
  rw [div_add _ _ _ (hq _)]
  exact congrArg (fun a : EReal => Ideal.div a ((args m c).x13 (ix1 (col t n)))) (halves_tok t h (fun r => GLG (args m c) r (col t n) * (args m c).x5 (ix2 r (col t n))))

theorem dmu_step (c : Dev nD) (t : Fin cfg0.N) (d : Vec Ideal S1x256 .f32) (n : Fin 256) :
    dmuStep m c t d (ix2 0 n) = (if t.val % 2 = 0 then 0 else d (ix2 0 n)) + Ideal.div (∑ r : Fin 1024, GLU (args m c) (tok t r) (col t n) * (args m c).x6 (ix2 (tok t r) (col t n))) ((args m c).x14 (ix1 (col t n))) := by
  unfold dmuStep dmuV
  rw [pay22]
  simp only [pay19_at, blk6, blk14]
  refine congrArg₂ (fun a b : EReal => a + b) ?_ rfl
  by_cases h2 : t.val % 2 = 0
  · rw [if_pos ((hc2 t).mpr h2), if_pos h2, pay10]
  · rw [if_neg (fun hh => h2 ((hc2 t).mp hh)), if_neg h2]

theorem dmu_last (c : Dev nD) (hq : ∀ n, 0 < (args m c).x14 (ix1 n)) (t : Fin cfg0.N) (h : t.val % 2 = 1) (n : Fin 256) : dmuAt m c t.val t.isLt (ix2 0 n) = DMU (args m c) (col t n) := by
  refine (two_steps (dmuStep m c) (k0_pay10 (F := Ideal)) (ix2 0 n) (fun t => Ideal.div (∑ r : Fin 1024, GLU (args m c) (tok t r) (col t n) * (args m c).x6 (ix2 (tok t r) (col t n))) ((args m c).x14 (ix1 (col t n)))) (fun t d => dmu_step m c t d n) t h).trans ?_
  show _ + _ = _
  simp only [col_prev t h]
  rw [div_add _ _ _ (hq _)]
  exact congrArg (fun a : EReal => Ideal.div a ((args m c).x14 (ix1 (col t n)))) (halves_tok t h (fun r => GLU (args m c) r (col t n) * (args m c).x6 (ix2 r (col t n))))

theorem dbg_step (c : Dev nD) (t : Fin cfg0.N) (d : Vec Ideal S256x64 .f32) (n : Fin 256) (j : Fin 64) :
    dbgStep m c t d (ix2 n j) = (if t.val % 2 = 0 then 0 else d (ix2 n j)) + K * ∑ r : Fin 1024, (args m c).x7 (ix2 (tok t r) j) * GG (args m c) (tok t r) (col t n) := by
  unfold dbgStep dbgV
  have e : ∀ r : Fin 1024, k0_pay26 (F := Ideal) (glgV (grid0.coords t) (insAt m c t)) (insAt m c t).x11 (ix2 r n) = GG (args m c) (tok t r) (col t n) :=
    fun r => gg_at m c t r n
  rw [pay28]
  simp only [rows_at, blk7, e]
  refine congrArg₂ (fun a b : EReal => a + b) ?_ rfl
  by_cases h2 : t.val % 2 = 0
  · rw [if_pos ((hc2 t).mpr h2), if_pos h2, pay11]
  · rw [if_neg (fun hh => h2 ((hc2 t).mp hh)), if_neg h2]

theorem dbg_last (c : Dev nD) (t : Fin cfg0.N) (h : t.val % 2 = 1) (n : Fin 256) (j : Fin 64) : dbgAt m c t.val t.isLt (ix2 n j) = DBG (args m c) (col t n) j := by
  refine (two_steps (dbgStep m c) (k0_pay11 (F := Ideal)) (ix2 n j) (fun t => K * ∑ r : Fin 1024, (args m c).x7 (ix2 (tok t r) j) * GG (args m c) (tok t r) (col t n)) (fun t d => dbg_step m c t d n j) t h).trans ?_
  show _ + _ = _
  simp only [col_prev t h]
  rw [K_add]
  exact congrArg (fun a : EReal => K * a) (halves_tok t h (fun r => (args m c).x7 (ix2 r j) * GG (args m c) r (col t n)))

theorem dbu_step (c : Dev nD) (t : Fin cfg0.N) (d : Vec Ideal S256x64 .f32) (n : Fin 256) (j : Fin 64) :
    dbuStep m c t d (ix2 n j) = (if t.val % 2 = 0 then 0 else d (ix2 n j)) + K * ∑ r : Fin 1024, (args m c).x8 (ix2 (tok t r) j) * GU (args m c) (tok t r) (col t n) := by
  unfold dbuStep dbuV
  have e : ∀ r : Fin 1024, k0_pay27 (F := Ideal) (gluV (grid0.coords t) (insAt m c t)) (insAt m c t).x12 (ix2 r n) = GU (args m c) (tok t r) (col t n) :=
    fun r => gu_at m c t r n
  rw [pay29]
  simp only [rows_at, blk8, e]
  refine congrArg₂ (fun a b : EReal => a + b) ?_ rfl
  by_cases h2 : t.val % 2 = 0
  · rw [if_pos ((hc2 t).mpr h2), if_pos h2, pay12]
  · rw [if_neg (fun hh => h2 ((hc2 t).mp hh)), if_neg h2]

theorem dbu_last (c : Dev nD) (t : Fin cfg0.N) (h : t.val % 2 = 1) (n : Fin 256) (j : Fin 64) : dbuAt m c t.val t.isLt (ix2 n j) = DBU (args m c) (col t n) j := by
  refine (two_steps (dbuStep m c) (k0_pay12 (F := Ideal)) (ix2 n j) (fun t => K * ∑ r : Fin 1024, (args m c).x8 (ix2 (tok t r) j) * GU (args m c) (tok t r) (col t n)) (fun t d => dbu_step m c t d n j) t h).trans ?_
  show _ + _ = _
  simp only [col_prev t h]
  rw [K_add]
  exact congrArg (fun a : EReal => K * a) (halves_tok t h (fun r => (args m c).x8 (ix2 r j) * GU (args m c) r (col t n)))

theorem dad_step (c : Dev nD) (t : Fin cfg0.N) (d : Vec Ideal S64x256 .f32) (j : Fin 64) (n : Fin 256) :
    dadStep m c t d (ix2 j n) = (if t.val % 2 = 0 then 0 else d (ix2 j n)) + ∑ r : Fin 1024, (args m c).x2 (ix2 (tok t r) j) * (args m c).x4 (ix2 (tok t r) (col t n)) := by
  unfold dadStep dadV
  rw [pay1]
  simp only [rows_at, blk2, blk4]
  refine congrArg₂ (fun a b : EReal => a + b) ?_ rfl
  by_cases h2 : t.val % 2 = 0
  · rw [if_pos ((hc2 t).mpr h2), if_pos h2, pay13]
  · rw [if_neg (fun hh => h2 ((hc2 t).mp hh)), if_neg h2]

theorem dad_last (c : Dev nD) (t : Fin cfg0.N) (h : t.val % 2 = 1) (j : Fin 64) (n : Fin 256) : dadAt m c t.val t.isLt (ix2 j n) = DAD (args m c) j (col t n) := by
  refine (two_steps (dadStep m c) (k0_pay13 (F := Ideal)) (ix2 j n) (fun t => ∑ r : Fin 1024, (args m c).x2 (ix2 (tok t r) j) * (args m c).x4 (ix2 (tok t r) (col t n))) (fun t d => dad_step m c t d j n) t h).trans ?_
  show _ + _ = _
  simp only [col_prev t h]
  exact halves_tok t h (fun r => (args m c).x2 (ix2 r j) * (args m c).x4 (ix2 r (col t n)))

/-! ## The row accumulators -/

/-- What column block `i` adds to entry `j` of row `r`. -/
def sgaE (c : Dev nD) (j : Fin 64) (r : Fin 2048) (i : ℕ) : EReal :=
  if h : i < 14 then ∑ n : Fin 256, GG (args m c) r ⟨i * 256 + n.val, by omega⟩ * (args m c).x9 (ix2 ⟨i * 256 + n.val, by omega⟩ j) else 0

theorem sga_own (c : Dev nD) (j : Fin 64) (t : Fin cfg0.N) (d : Vec Ideal S2048x64 .f32) (r : Fin 1024) :
    sgaStep m c t d (ix2 (tok t r) j) = (if t.val < 2 then 0 else d (ix2 (tok t r) j)) + sgaE m c j (tok t r) (t.val / 2) := by
  have hN : t.val < 28 := lt_of_lt_of_eq t.isLt N_0
  unfold sgaStep sgaV
  rw [put_own, pay2]
  rw [sgaE, dif_pos (by omega)]
  simp only [rows_at, gg_at, blk9]
  refine congrArg₂ (fun a b : EReal => a + b) ?_ rfl
  unfold sgaB
  by_cases h1 : t.val < 2
  · rw [if_pos ((hc1 t).mpr h1), if_pos h1, put_own, pay6]
  · rw [if_neg (fun hh => h1 ((hc1 t).mp hh)), if_neg h1]

theorem sga_other (c : Dev nD) (j : Fin 64) (s t : Fin cfg0.N) (h : s.val % 2 ≠ t.val % 2) (d : Vec Ideal S2048x64 .f32) (r : Fin 1024) :
    sgaStep m c t d (ix2 (tok s r) j) = d (ix2 (tok s r) j) := by
  unfold sgaStep sgaV
  rw [put_other _ t s h]
  unfold sgaB
  by_cases h1 : t.val < 2
  · rw [if_pos ((hc1 t).mpr h1), put_other _ t s h]
  · rw [if_neg (fun hh => h1 ((hc1 t).mp hh))]

theorem sga_sum (c : Dev nD) (j : Fin 64) (d : Vec Ideal S2048x64 .f32) (n : ℕ) (h : n < cfg0.N) (s : Fin cfg0.N) (hs : (n + 2 - s.val % 2) / 2 = 14) (r : Fin 1024) :
    sgaAt m c d n h (ix2 (tok s r) j) = ∑ i ∈ Finset.range 14, sgaE m c j (tok s r) i := by
  refine (accum (sgaStep m c) d (fun r => ix2 r j) (sgaE m c j) (fun t y r => sga_own m c j t y r) (fun s t h y r => sga_other m c j s t h y r) n h s (by omega) r).trans ?_
  rw [hs]

theorem sga_total (c : Dev nD) (j : Fin 64) (r : Fin 2048) : K * ∑ i ∈ Finset.range 14, sgaE m c j r i = SGA (args m c) r j := by
  refine congrArg (fun a : EReal => K * a) ((Finset.sum_range (M := EReal) _).trans ?_)
  refine Eq.trans (Fin.sum_fin_congr fun i => ?_)
    (Fin.sum_mul_add_fin (M := EReal) 14 256 (fun n : Fin 3584 => GG (args m c) r n * (args m c).x9 (ix2 n j)))
  rw [sgaE, dif_pos i.isLt]

theorem sg_own (c : Dev nD) (t : Fin cfg0.N) (h : 26 ≤ t.val) (s : Vec Ideal S2048x64 .f32) (y : Vec Ideal S2048x64 .bf16) (r : Fin 1024) (j : Fin 64) :
    sgV (grid0.coords t) (insAt m c t) s y (ix2 (tok t r) j) = K * sgaStep m c t s (ix2 (tok t r) j) := by
  unfold sgV sgaStep
  rw [if_pos ((hc3 t).mpr h), put_own, pay4, rows_at]

theorem sg_other (c : Dev nD) (s t : Fin cfg0.N) (h : s.val % 2 ≠ t.val % 2) (d : Vec Ideal S2048x64 .f32) (y : Vec Ideal S2048x64 .bf16) (r : Fin 1024) (j : Fin 64) :
    sgV (grid0.coords t) (insAt m c t) d y (ix2 (tok s r) j) = y (ix2 (tok s r) j) := by
  unfold sgV
  by_cases h3 : c3 (grid0.coords t)
  · rw [if_pos h3, put_other _ t s h]
  · rw [if_neg h3]

theorem sg_final (c : Dev nD) (n : ℕ) (h : n + 1 + 1 < cfg0.N) (hn : n = 25) (X : Vec Ideal S2048x64 .bf16)
    (hX : chain (sgaStep m c) (fun t => sgV (grid0.coords t) (insAt m c t)) (n + 1 + 1) h X) (s : Fin cfg0.N) (r : Fin 1024) (j : Fin 64) :
    X (ix2 (tok s r) j) = SGA (args m c) (tok s r) j := by
  obtain ⟨d, Y, ⟨d', Y', -, rfl⟩, rfl⟩ := hX
  by_cases hs : s.val % 2 = 0
  · refine (sg_other m c s ⟨n + 1 + 1, h⟩ (by show s.val % 2 ≠ (n + 1 + 1) % 2; omega) _ _ r j).trans ?_
    have e := tok_congr s ⟨n + 1, Nat.lt_of_succ_lt h⟩ (by show s.val % 2 = (n + 1) % 2; omega) r
    refine (congrArg _ (congrArg (fun a => ix2 a j) e)).trans ?_
    refine (sg_own m c ⟨n + 1, Nat.lt_of_succ_lt h⟩ (by show 26 ≤ n + 1; omega) _ _ r j).trans ?_
    refine (congrArg (fun a : EReal => K * a) (sga_sum m c j d' (n + 1) (Nat.lt_of_succ_lt h) ⟨n + 1, Nat.lt_of_succ_lt h⟩ (by show (n + 1 + 2 - (n + 1) % 2) / 2 = 14; omega) r)).trans ?_
    rw [sga_total, e]
  · have e := tok_congr s ⟨n + 1 + 1, h⟩ (by show s.val % 2 = (n + 1 + 1) % 2; omega) r
    refine (congrArg _ (congrArg (fun a => ix2 a j) e)).trans ?_
    refine (sg_own m c ⟨n + 1 + 1, h⟩ (by show 26 ≤ n + 1 + 1; omega) _ _ r j).trans ?_
    refine (congrArg (fun a : EReal => K * a) (sga_sum m c j d (n + 1 + 1) h ⟨n + 1 + 1, h⟩ (by show (n + 1 + 1 + 2 - (n + 1 + 1) % 2) / 2 = 14; omega) r)).trans ?_
    rw [sga_total, e]

/-- What column block `i` adds to entry `j` of row `r`. -/
def suaE (c : Dev nD) (j : Fin 64) (r : Fin 2048) (i : ℕ) : EReal :=
  if h : i < 14 then ∑ n : Fin 256, GU (args m c) r ⟨i * 256 + n.val, by omega⟩ * (args m c).x10 (ix2 ⟨i * 256 + n.val, by omega⟩ j) else 0

theorem sua_own (c : Dev nD) (j : Fin 64) (t : Fin cfg0.N) (d : Vec Ideal S2048x64 .f32) (r : Fin 1024) :
    suaStep m c t d (ix2 (tok t r) j) = (if t.val < 2 then 0 else d (ix2 (tok t r) j)) + suaE m c j (tok t r) (t.val / 2) := by
  have hN : t.val < 28 := lt_of_lt_of_eq t.isLt N_0
  unfold suaStep suaV
  rw [put_own, pay3]
  rw [suaE, dif_pos (by omega)]
  simp only [rows_at, gu_at, blk10]
  refine congrArg₂ (fun a b : EReal => a + b) ?_ rfl
  unfold suaB
  by_cases h1 : t.val < 2
  · rw [if_pos ((hc1 t).mpr h1), if_pos h1, put_own, pay7]
  · rw [if_neg (fun hh => h1 ((hc1 t).mp hh)), if_neg h1]

theorem sua_other (c : Dev nD) (j : Fin 64) (s t : Fin cfg0.N) (h : s.val % 2 ≠ t.val % 2) (d : Vec Ideal S2048x64 .f32) (r : Fin 1024) :
    suaStep m c t d (ix2 (tok s r) j) = d (ix2 (tok s r) j) := by
  unfold suaStep suaV
  rw [put_other _ t s h]
  unfold suaB
  by_cases h1 : t.val < 2
  · rw [if_pos ((hc1 t).mpr h1), put_other _ t s h]
  · rw [if_neg (fun hh => h1 ((hc1 t).mp hh))]

theorem sua_sum (c : Dev nD) (j : Fin 64) (d : Vec Ideal S2048x64 .f32) (n : ℕ) (h : n < cfg0.N) (s : Fin cfg0.N) (hs : (n + 2 - s.val % 2) / 2 = 14) (r : Fin 1024) :
    suaAt m c d n h (ix2 (tok s r) j) = ∑ i ∈ Finset.range 14, suaE m c j (tok s r) i := by
  refine (accum (suaStep m c) d (fun r => ix2 r j) (suaE m c j) (fun t y r => sua_own m c j t y r) (fun s t h y r => sua_other m c j s t h y r) n h s (by omega) r).trans ?_
  rw [hs]

theorem sua_total (c : Dev nD) (j : Fin 64) (r : Fin 2048) : K * ∑ i ∈ Finset.range 14, suaE m c j r i = SUA (args m c) r j := by
  refine congrArg (fun a : EReal => K * a) ((Finset.sum_range (M := EReal) _).trans ?_)
  refine Eq.trans (Fin.sum_fin_congr fun i => ?_)
    (Fin.sum_mul_add_fin (M := EReal) 14 256 (fun n : Fin 3584 => GU (args m c) r n * (args m c).x10 (ix2 n j)))
  rw [suaE, dif_pos i.isLt]

theorem su_own (c : Dev nD) (t : Fin cfg0.N) (h : 26 ≤ t.val) (s : Vec Ideal S2048x64 .f32) (y : Vec Ideal S2048x64 .bf16) (r : Fin 1024) (j : Fin 64) :
    suV (grid0.coords t) (insAt m c t) s y (ix2 (tok t r) j) = K * suaStep m c t s (ix2 (tok t r) j) := by
  unfold suV suaStep
  rw [if_pos ((hc3 t).mpr h), put_own, pay5, rows_at]

theorem su_other (c : Dev nD) (s t : Fin cfg0.N) (h : s.val % 2 ≠ t.val % 2) (d : Vec Ideal S2048x64 .f32) (y : Vec Ideal S2048x64 .bf16) (r : Fin 1024) (j : Fin 64) :
    suV (grid0.coords t) (insAt m c t) d y (ix2 (tok s r) j) = y (ix2 (tok s r) j) := by
  unfold suV
  by_cases h3 : c3 (grid0.coords t)
  · rw [if_pos h3, put_other _ t s h]
  · rw [if_neg h3]

theorem su_final (c : Dev nD) (n : ℕ) (h : n + 1 + 1 < cfg0.N) (hn : n = 25) (X : Vec Ideal S2048x64 .bf16)
    (hX : chain (suaStep m c) (fun t => suV (grid0.coords t) (insAt m c t)) (n + 1 + 1) h X) (s : Fin cfg0.N) (r : Fin 1024) (j : Fin 64) :
    X (ix2 (tok s r) j) = SUA (args m c) (tok s r) j := by
  obtain ⟨d, Y, ⟨d', Y', -, rfl⟩, rfl⟩ := hX
  by_cases hs : s.val % 2 = 0
  · refine (su_other m c s ⟨n + 1 + 1, h⟩ (by show s.val % 2 ≠ (n + 1 + 1) % 2; omega) _ _ r j).trans ?_
    have e := tok_congr s ⟨n + 1, Nat.lt_of_succ_lt h⟩ (by show s.val % 2 = (n + 1) % 2; omega) r
    refine (congrArg _ (congrArg (fun a => ix2 a j) e)).trans ?_
    refine (su_own m c ⟨n + 1, Nat.lt_of_succ_lt h⟩ (by show 26 ≤ n + 1; omega) _ _ r j).trans ?_
    refine (congrArg (fun a : EReal => K * a) (sua_sum m c j d' (n + 1) (Nat.lt_of_succ_lt h) ⟨n + 1, Nat.lt_of_succ_lt h⟩ (by show (n + 1 + 2 - (n + 1) % 2) / 2 = 14; omega) r)).trans ?_
    rw [sua_total, e]
  · have e := tok_congr s ⟨n + 1 + 1, h⟩ (by show s.val % 2 = (n + 1 + 1) % 2; omega) r
    refine (congrArg _ (congrArg (fun a => ix2 a j) e)).trans ?_
    refine (su_own m c ⟨n + 1 + 1, h⟩ (by show 26 ≤ n + 1 + 1; omega) _ _ r j).trans ?_
    refine (congrArg (fun a : EReal => K * a) (sua_sum m c j d (n + 1 + 1) h ⟨n + 1 + 1, h⟩ (by show (n + 1 + 1 + 2 - (n + 1 + 1) % 2) / 2 = 14; omega) r)).trans ?_
    rw [sua_total, e]

/-- What column block `i` adds to entry `k` of row `r`. -/
def deltaE (c : Dev nD) (k : Fin 128) (r : Fin 2048) (i : ℕ) : EReal :=
  if h : i < 14 then EV (args m c) r ⟨i * 256 + k.val, by omega⟩ + EV (args m c) r ⟨i * 256 + (128 + k.val), by omega⟩ else 0

theorem delta_own (c : Dev nD) (k : Fin 128) (t : Fin cfg0.N) (d : Vec Ideal S2048x128 .f32) (r : Fin 1024) :
    deltaStep m c t d (ix2 (tok t r) k) = (if t.val < 2 then 0 else d (ix2 (tok t r) k)) + deltaE m c k (tok t r) (t.val / 2) := by
  have hN : t.val < 28 := lt_of_lt_of_eq t.isLt N_0
  unfold deltaStep deltaV
  rw [put_own', pay25, pay24]
  rw [deltaE, dif_pos (by omega)]
  simp only [rows_at', pay20_at, pay19_at, yg_at, ru_at, blk6]
  refine congrArg₂ (fun a b : EReal => a + b) ?_ rfl
  unfold deltaB
  by_cases h1 : t.val < 2
  · rw [if_pos ((hc1 t).mpr h1), if_pos h1, put_own', pay8]
  · rw [if_neg (fun hh => h1 ((hc1 t).mp hh)), if_neg h1]

theorem delta_other (c : Dev nD) (k : Fin 128) (s t : Fin cfg0.N) (h : s.val % 2 ≠ t.val % 2) (d : Vec Ideal S2048x128 .f32) (r : Fin 1024) :
    deltaStep m c t d (ix2 (tok s r) k) = d (ix2 (tok s r) k) := by
  unfold deltaStep deltaV
  rw [put_other' _ t s h]
  unfold deltaB
  by_cases h1 : t.val < 2
  · rw [if_pos ((hc1 t).mpr h1), put_other' _ t s h]
  · rw [if_neg (fun hh => h1 ((hc1 t).mp hh))]

theorem delta_sum (c : Dev nD) (k : Fin 128) (d : Vec Ideal S2048x128 .f32) (n : ℕ) (h : n < cfg0.N) (s : Fin cfg0.N) (hs : (n + 2 - s.val % 2) / 2 = 14) (r : Fin 1024) :
    deltaAt m c d n h (ix2 (tok s r) k) = ∑ i ∈ Finset.range 14, deltaE m c k (tok s r) i := by
  refine (accum (deltaStep m c) d (fun r => ix2 r k) (deltaE m c k) (fun t y r => delta_own m c k t y r) (fun s t h y r => delta_other m c k s t h y r) n h s (by omega) r).trans ?_
  rw [hs]

theorem delta_total (c : Dev nD) (k : Fin 128) (r : Fin 2048) : ∑ i ∈ Finset.range 14, deltaE m c k r i = DEL (args m c) r k := by
  refine (Finset.sum_range (M := EReal) _).trans ?_
  refine Eq.trans (Fin.sum_fin_congr fun i => ?_)
    (Fin.sum_mul_add_fin (M := EReal) 14 2 (fun i : Fin 28 => EV (args m c) r ⟨i.val * 128 + k.val, by omega⟩))
  rw [Fin.sum_univ_two, deltaE, dif_pos i.isLt]
  refine congrArg₂ (fun a b : EReal => a + b) (congrArg (EV (args m c) r) (Fin.ext ?_)) (congrArg (EV (args m c) r) (Fin.ext ?_))
  · show i.val * 256 + k.val = (i.val * 2 + 0) * 128 + k.val
    omega
  · show i.val * 256 + (128 + k.val) = (i.val * 2 + 1) * 128 + k.val
    omega

/-! ## The results -/

theorem final15 (c : Dev nD) (after) (ha : ∀ t : Fin cfg0.N, (cfg0.win 15).flush t = true → (rdat m c).Leaves 15 t (after 15 t)) :
    ((rdat m c).withAfter after).arrAt 15 cfg0.N = fun i => GG (args m c) (i 0) (i 1) := by
  refine Dat.arrAt_eq_of_covers _ 15 _ (by decide +kernel) fun t hf y => ?_
  blk_simp
  have hd : after 15 t = ggV (grid0.coords t) (insAt m c t) := (dats m 0 c).toRRel_leaves (fgt := fgt) (Rl := Rl m c) (w := 15) rfl (ha t hf)
  refine (congrFun hd y).trans ?_
  refine ((congrArg _ (eq_ix2 y)).trans (gg_at m c t (y 0) (y 1))).trans (congrArg₂ (GG (args m c)) (Fin.ext ?_) (Fin.ext ?_))
  all_goals (blk_simp [idx t, col, tok]; try rfl)

theorem final16 (c : Dev nD) (after) (ha : ∀ t : Fin cfg0.N, (cfg0.win 16).flush t = true → (rdat m c).Leaves 16 t (after 16 t)) :
    ((rdat m c).withAfter after).arrAt 16 cfg0.N = fun i => GU (args m c) (i 0) (i 1) := by
  refine Dat.arrAt_eq_of_covers _ 16 _ (by decide +kernel) fun t hf y => ?_
  blk_simp
  have hd : after 16 t = guV (grid0.coords t) (insAt m c t) := (dats m 0 c).toRRel_leaves (fgt := fgt) (Rl := Rl m c) (w := 16) rfl (ha t hf)
  refine (congrFun hd y).trans ?_
  refine ((congrArg _ (eq_ix2 y)).trans (gu_at m c t (y 0) (y 1))).trans (congrArg₂ (GU (args m c)) (Fin.ext ?_) (Fin.ext ?_))
  all_goals (blk_simp [idx t, col, tok]; try rfl)

theorem final17 (c : Dev nD) (hq : ∀ n, 0 < (args m c).x13 (ix1 n)) (after) (ha : ∀ t : Fin cfg0.N, (cfg0.win 17).flush t = true → (rdat m c).Leaves 17 t (after 17 t)) :
    ((rdat m c).withAfter after).arrAt 17 cfg0.N = fun i => DMG (args m c) (i 1) := by
  refine Dat.arrAt_eq_of_covers _ 17 _ (by decide +kernel) fun t hf y => ?_
  blk_simp
  have hd : after 17 t = dmgAt m c t.val t.isLt := (dats m 0 c).toRRel_leaves (fgt := fgt) (Rl := Rl m c) (w := 17) rfl (ha t hf)
  refine (congrFun hd y).trans ?_
  have h2 : t.val % 2 = 1 := (flush0_17 t).mp hf
  refine ((congrArg _ ((eq_ix2 y).trans (congrArg (fun a : Fin 1 => ix2 a (y 1)) (fin1 (y 0))))).trans (dmg_last m c hq t h2 (y 1))).trans (congrArg (DMG (args m c)) (Fin.ext ?_))
  all_goals (blk_simp [idx t, col]; try rfl)

theorem final18 (c : Dev nD) (hq : ∀ n, 0 < (args m c).x14 (ix1 n)) (after) (ha : ∀ t : Fin cfg0.N, (cfg0.win 18).flush t = true → (rdat m c).Leaves 18 t (after 18 t)) :
    ((rdat m c).withAfter after).arrAt 18 cfg0.N = fun i => DMU (args m c) (i 1) := by
  refine Dat.arrAt_eq_of_covers _ 18 _ (by decide +kernel) fun t hf y => ?_
  blk_simp
  have hd : after 18 t = dmuAt m c t.val t.isLt := (dats m 0 c).toRRel_leaves (fgt := fgt) (Rl := Rl m c) (w := 18) rfl (ha t hf)
  refine (congrFun hd y).trans ?_
  have h2 : t.val % 2 = 1 := (flush0_18 t).mp hf
  refine ((congrArg _ ((eq_ix2 y).trans (congrArg (fun a : Fin 1 => ix2 a (y 1)) (fin1 (y 0))))).trans (dmu_last m c hq t h2 (y 1))).trans (congrArg (DMU (args m c)) (Fin.ext ?_))
  all_goals (blk_simp [idx t, col]; try rfl)

theorem final19 (c : Dev nD) (after) (ha : ∀ t : Fin cfg0.N, (cfg0.win 19).flush t = true → (rdat m c).Leaves 19 t (after 19 t)) :
    ((rdat m c).withAfter after).arrAt 19 cfg0.N = fun i => DBG (args m c) (i 0) (i 1) := by
  refine Dat.arrAt_eq_of_covers _ 19 _ (by decide +kernel) fun t hf y => ?_
  blk_simp
  have hd : after 19 t = dbgAt m c t.val t.isLt := (dats m 0 c).toRRel_leaves (fgt := fgt) (Rl := Rl m c) (w := 19) rfl (ha t hf)
  refine (congrFun hd y).trans ?_
  have h2 : t.val % 2 = 1 := (flush0_19 t).mp hf
  refine ((congrArg _ (eq_ix2 y)).trans (dbg_last m c t h2 (y 0) (y 1))).trans (congrArg₂ (DBG (args m c)) (Fin.ext ?_) (Fin.ext ?_))
  all_goals (blk_simp [idx t, col]; try rfl)

theorem final20 (c : Dev nD) (after) (ha : ∀ t : Fin cfg0.N, (cfg0.win 20).flush t = true → (rdat m c).Leaves 20 t (after 20 t)) :
    ((rdat m c).withAfter after).arrAt 20 cfg0.N = fun i => DBU (args m c) (i 0) (i 1) := by
  refine Dat.arrAt_eq_of_covers _ 20 _ (by decide +kernel) fun t hf y => ?_
  blk_simp
  have hd : after 20 t = dbuAt m c t.val t.isLt := (dats m 0 c).toRRel_leaves (fgt := fgt) (Rl := Rl m c) (w := 20) rfl (ha t hf)
  refine (congrFun hd y).trans ?_
  have h2 : t.val % 2 = 1 := (flush0_20 t).mp hf
  refine ((congrArg _ (eq_ix2 y)).trans (dbu_last m c t h2 (y 0) (y 1))).trans (congrArg₂ (DBU (args m c)) (Fin.ext ?_) (Fin.ext ?_))
  all_goals (blk_simp [idx t, col]; try rfl)

theorem final21 (c : Dev nD) (after) (ha : ∀ t : Fin cfg0.N, (cfg0.win 21).flush t = true → (rdat m c).Leaves 21 t (after 21 t)) :
    ((rdat m c).withAfter after).arrAt 21 cfg0.N = fun i => DAD (args m c) (i 0) (i 1) := by
  refine Dat.arrAt_eq_of_covers _ 21 _ (by decide +kernel) fun t hf y => ?_
  blk_simp
  have hd : after 21 t = dadAt m c t.val t.isLt := (dats m 0 c).toRRel_leaves (fgt := fgt) (Rl := Rl m c) (w := 21) rfl (ha t hf)
  refine (congrFun hd y).trans ?_
  have h2 : t.val % 2 = 1 := (flush0_21 t).mp hf
  refine ((congrArg _ (eq_ix2 y)).trans (dad_last m c t h2 (y 0) (y 1))).trans (congrArg₂ (DAD (args m c)) (Fin.ext ?_) (Fin.ext ?_))
  all_goals (blk_simp [idx t, col]; try rfl)

theorem final22 (c : Dev nD) (after) (ha : ∀ t : Fin cfg0.N, (cfg0.win 22).flush t = true → (rdat m c).Leaves 22 t (after 22 t)) :
    ((rdat m c).withAfter after).arrAt 22 cfg0.N = fun i => SGA (args m c) (i 0) (i 1) := by
  refine Dat.arrAt_eq_of_covers _ 22 _ (by decide +kernel) fun t hf y => ?_
  blk_simp
  have hd : chain (sgaStep m c) (fun t => sgV (grid0.coords t) (insAt m c t)) t.val t.isLt (after 22 t) := (dats m 0 c).toRRel_leaves (fgt := fgt) (Rl := Rl m c) (w := 22) rfl (ha t hf)
  have hN : t.val < 28 := lt_of_lt_of_eq t.isLt N_0
  have h2 : t.val = 27 := by have := (flush0_22 t).mp hf; omega
  have key : ∀ (n : ℕ) (h : n < cfg0.N) (X : Vec Ideal S2048x64 .bf16), n = 27 →
      chain (sgaStep m c) (fun t => sgV (grid0.coords t) (insAt m c t)) n h X → ∀ (s : Fin cfg0.N) (r : Fin 1024) (j : Fin 64), X (ix2 (tok s r) j) = SGA (args m c) (tok s r) j := by
    intro n h X hn hX
    obtain ⟨k, rfl⟩ : ∃ k, n = k + 1 + 1 := ⟨25, hn⟩
    exact sg_final m c k h (by omega) X hX
  obtain ⟨s, q, hq⟩ := tok_all (y 0)
  refine ((congrArg _ ((eq_ix2 y).trans (congrArg (fun a => ix2 a (y 1)) hq))).trans (key t.val t.isLt (after 22 t) h2 hd s q (y 1))).trans
    ((congrArg (fun a => SGA (args m c) a (y 1)) hq.symm).trans (congrArg₂ (SGA (args m c)) (Fin.ext ?_) (Fin.ext ?_)))
  all_goals (blk_simp [idx t]; try rfl)

theorem final23 (c : Dev nD) (after) (ha : ∀ t : Fin cfg0.N, (cfg0.win 23).flush t = true → (rdat m c).Leaves 23 t (after 23 t)) :
    ((rdat m c).withAfter after).arrAt 23 cfg0.N = fun i => SUA (args m c) (i 0) (i 1) := by
  refine Dat.arrAt_eq_of_covers _ 23 _ (by decide +kernel) fun t hf y => ?_
  blk_simp
  have hd : chain (suaStep m c) (fun t => suV (grid0.coords t) (insAt m c t)) t.val t.isLt (after 23 t) := (dats m 0 c).toRRel_leaves (fgt := fgt) (Rl := Rl m c) (w := 23) rfl (ha t hf)
  have hN : t.val < 28 := lt_of_lt_of_eq t.isLt N_0
  have h2 : t.val = 27 := by have := (flush0_23 t).mp hf; omega
  have key : ∀ (n : ℕ) (h : n < cfg0.N) (X : Vec Ideal S2048x64 .bf16), n = 27 →
      chain (suaStep m c) (fun t => suV (grid0.coords t) (insAt m c t)) n h X → ∀ (s : Fin cfg0.N) (r : Fin 1024) (j : Fin 64), X (ix2 (tok s r) j) = SUA (args m c) (tok s r) j := by
    intro n h X hn hX
    obtain ⟨k, rfl⟩ : ∃ k, n = k + 1 + 1 := ⟨25, hn⟩
    exact su_final m c k h (by omega) X hX
  obtain ⟨s, q, hq⟩ := tok_all (y 0)
  refine ((congrArg _ ((eq_ix2 y).trans (congrArg (fun a => ix2 a (y 1)) hq))).trans (key t.val t.isLt (after 23 t) h2 hd s q (y 1))).trans
    ((congrArg (fun a => SUA (args m c) a (y 1)) hq.symm).trans (congrArg₂ (SUA (args m c)) (Fin.ext ?_) (Fin.ext ?_)))
  all_goals (blk_simp [idx t]; try rfl)

theorem final24 (c : Dev nD) (after) (ha : ∀ t : Fin cfg0.N, (cfg0.win 24).flush t = true → (rdat m c).Leaves 24 t (after 24 t)) :
    ((rdat m c).withAfter after).arrAt 24 cfg0.N = fun i => DEL (args m c) (i 0) (i 1) := by
  refine Dat.arrAt_eq_of_covers _ 24 _ (by decide +kernel) fun t hf y => ?_
  blk_simp
  obtain ⟨d, hd⟩ := (dats m 0 c).toRRel_leaves (fgt := fgt) (Rl := Rl m c) (w := 24) rfl (ha t hf)
  refine (congrFun hd y).trans ?_
  have hN : t.val < 28 := lt_of_lt_of_eq t.isLt N_0
  have h2 : t.val = 27 := by have := (flush0_24 t).mp hf; omega
  have key : ∀ (n : ℕ) (h : n < cfg0.N), n = 27 → ∀ (s : Fin cfg0.N) (r : Fin 1024) (j : Fin 128),
      deltaAt m c d n h (ix2 (tok s r) j) = DEL (args m c) (tok s r) j := by
    intro n h hn s r j
    exact (delta_sum m c j d n h s (by omega) r).trans (delta_total m c j (tok s r))
  obtain ⟨s, q, hq⟩ := tok_all (y 0)
  refine ((congrArg _ ((eq_ix2 y).trans (congrArg (fun a => ix2 a (y 1)) hq))).trans (key t.val t.isLt h2 s q (y 1))).trans
    ((congrArg (fun a => DEL (args m c) a (y 1)) hq.symm).trans (congrArg₂ (DEL (args m c)) (Fin.ext ?_) (Fin.ext ?_)))
  all_goals (blk_simp [idx t]; try rfl)

set_option maxHeartbeats 4000000 in
/-- The kernel runs to its ten results, the norms being positive. -/
theorem run_values (ρ : Dev nD → PrngReg) (hp : ∀ c : Dev nD, (∀ n, 0 < (args m c).x13 (ix1 n)) ∧ ∀ n, 0 < (args m c).x14 (ix1 n)) :
    θ_run defs (onTc (τ := τ) (main (F := Ideal))) (s₀ m ρ) (fun r => ∀ c : Dev nD,
      r.2.mem ((c.tc : Thread nD τ).loc main_v4_0) = (fun i => GG (args m c) (i 0) (i 1))
      ∧ r.2.mem ((c.tc : Thread nD τ).loc main_v4_1) = (fun i => GU (args m c) (i 0) (i 1))
      ∧ r.2.mem ((c.tc : Thread nD τ).loc main_v4_2) = (fun i => DMG (args m c) (i 1))
      ∧ r.2.mem ((c.tc : Thread nD τ).loc main_v4_3) = (fun i => DMU (args m c) (i 1))
      ∧ r.2.mem ((c.tc : Thread nD τ).loc main_v4_4) = (fun i => DBG (args m c) (i 0) (i 1))
      ∧ r.2.mem ((c.tc : Thread nD τ).loc main_v4_5) = (fun i => DBU (args m c) (i 0) (i 1))
      ∧ r.2.mem ((c.tc : Thread nD τ).loc main_v4_6) = (fun i => DAD (args m c) (i 0) (i 1))
      ∧ r.2.mem ((c.tc : Thread nD τ).loc main_v4_7) = (fun i => SGA (args m c) (i 0) (i 1))
      ∧ r.2.mem ((c.tc : Thread nD τ).loc main_v4_8) = (fun i => SUA (args m c) (i 0) (i 1))
      ∧ r.2.mem ((c.tc : Thread nD τ).loc main_v4_9) = (fun i => DEL (args m c) (i 0) (i 1))) :=
  (θ_run defs _ _).mono (fun r h c => by
    obtain ⟨after, hL, hA⟩ := RDat.FramePost.exists_exact h.1 c
    exact ⟨(hA 15).trans (final15 m c after (hL 15)),
      (hA 16).trans (final16 m c after (hL 16)),
      (hA 17).trans (final17 m c (hp c).1 after (hL 17)),
      (hA 18).trans (final18 m c (hp c).2 after (hL 18)),
      (hA 19).trans (final19 m c after (hL 19)),
      (hA 20).trans (final20 m c after (hL 20)),
      (hA 21).trans (final21 m c after (hL 21)),
      (hA 22).trans (final22 m c after (hL 22)),
      (hA 23).trans (final23 m c after (hL 23)),
      (hA 24).trans (final24 m c after (hL 24))⟩)
    (run_main m ρ)

end Cert.DactIdeal.RefValue
end
-- ==== Proof.DactRefValue.lean ====
module
public import proofs.«01_k».proof.Proof.DactValue
public import Idealize.ShloMosaic.Lib.Pipeline.ValueKit
public import Idealize.ShloMosaic.Lib.Pipeline.ReadBack
public import Idealize.ShloMosaic.Lib.Pipeline.ArrRel

/-! What the reference of the activation gradient computes at the extended reals, as formulas of the entry arrays. -/

@[expose] public section

set_option maxRecDepth 16384

noncomputable section

open Idealize.ShloMosaic Idealize.ShloMosaic.TcCoe Idealize.SL.Sem
open Idealize.ShloMosaic.Pipeline (Dat RDat)
open scoped BigOperators

namespace Cert.DactIdeal.RefValue

open Cert.DactIdeal Cert.DactRefIdeal.Read

section

variable (A : Args)

theorem ref_yg (i : S2048x3584.Idx) : val_main_v10 (F := Ideal) A.x5 A.x11 i = YG A (i 0) (i 1) := by
  idx_vars i
  pointwise [val_main_v10, val_main_v9, val_main_v8, YG]

theorem ref_yu (i : S2048x3584.Idx) : val_main_v13 (F := Ideal) A.x6 A.x12 i = YU A (i 0) (i 1) := by
  idx_vars i
  pointwise [val_main_v13, val_main_v12, val_main_v11, YU]

theorem ref_dd (i : S2048x3584.Idx) : val_main_v5 (F := Ideal) A.x0 A.x1 i = ∑ k : Fin 8192, A.x0 (ix2 (i 0) k) * A.x1 (ix2 k (i 1)) := by
  idx_vars i
  pointwise [val_main_v5, val_main_v4, val_main_v3, val_main_v1, val_main_v0]
  split
  · rfl
  · refine Fin.sum_fin_congr fun k => ?_
    refine congrArg (fun q => A.x0 (ix2 i0 k) * A.x1 (ix2 k q)) (Fin.ext ?_)
    show 1792 + (i1.val - 1792) = i1.val
    omega

theorem ref_da (i : S2048x3584.Idx) : val_main_v7 (F := Ideal) A.x0 A.x1 A.x2 A.x3 i = DA A (i 0) (i 1) := by
  have h := ref_dd A i
  idx_vars i
  pointwise [val_main_v7, val_main_v6, h, DA]

theorem ref_lg (i : S2048x3584.Idx) : val_main_v19 (F := Ideal) A.x5 A.x11 i = Ideal.logistic (YG A (i 0) (i 1)) := by
  have h := ref_yg A i
  idx_vars i
  pointwise [val_main_v19, val_main_v18, val_main_v17, val_main_v16, val_main_v15, val_main_v14, val_main_cst, val_main_cst_0, h]
  all_goals rfl

theorem ref_glu (i : S2048x3584.Idx) : val_main_v21 (F := Ideal) A.x0 A.x1 A.x2 A.x3 A.x5 A.x11 i = GLU A (i 0) (i 1) := by
  have h1 := ref_da A i
  have h2 := ref_yg A i
  have h3 := ref_lg A i
  idx_vars i
  pointwise [val_main_v21, val_main_v20, h1, h2, h3, GLU]

theorem ref_glg (i : S2048x3584.Idx) : val_main_v29 (F := Ideal) A.x0 A.x1 A.x2 A.x3 A.x5 A.x6 A.x11 A.x12 i = GLG A (i 0) (i 1) := by
  have h1 := ref_da A i
  have h2 := ref_yg A i
  have h3 := ref_lg A i
  have h4 := ref_yu A i
  idx_vars i
  pointwise [val_main_v29, val_main_v28, val_main_v27, val_main_v26, val_main_v25, val_main_v24, val_main_v23, val_main_v22, val_main_cst_1, val_main_cst_2, h1, h2, h3, h4, GLG]

theorem ref_gg (i : S2048x3584.Idx) : val_main_v36 (F := Ideal) A.x0 A.x1 A.x2 A.x3 A.x5 A.x6 A.x11 A.x12 i = GG A (i 0) (i 1) := by
  have h := ref_glg A i
  idx_vars i
  pointwise [val_main_v36, val_main_v35, val_main_v34, val_main_v33, h, GG]

theorem ref_gu (i : S2048x3584.Idx) : val_main_v50 (F := Ideal) A.x0 A.x1 A.x2 A.x3 A.x5 A.x11 A.x12 i = GU A (i 0) (i 1) := by
  have h := ref_glu A i
  idx_vars i
  pointwise [val_main_v50, val_main_v49, val_main_v48, val_main_v47, h, GU]

theorem ref_dmg (i : S1x3584.Idx) : val_main_v63 (F := Ideal) A.x0 A.x1 A.x2 A.x3 A.x5 A.x6 A.x11 A.x12 A.x13 i = DMG A (i 1) := by
  have h : ∀ r n, val_main_v29 (F := Ideal) A.x0 A.x1 A.x2 A.x3 A.x5 A.x6 A.x11 A.x12 (ix2 r n) = _ := fun r n => ref_glg A (ix2 r n)
  idx_vars i
  pointwise [val_main_v63, val_main_v32, val_main_v31, val_main_v30, val_main_cst_3, h, DMG]

theorem ref_dmu (i : S1x3584.Idx) : val_main_v64 (F := Ideal) A.x0 A.x1 A.x2 A.x3 A.x5 A.x6 A.x11 A.x14 i = DMU A (i 1) := by
  have h : ∀ r n, val_main_v21 (F := Ideal) A.x0 A.x1 A.x2 A.x3 A.x5 A.x11 (ix2 r n) = _ := fun r n => ref_glu A (ix2 r n)
  idx_vars i
  pointwise [val_main_v64, val_main_v46, val_main_v45, val_main_v44, val_main_cst_6, h, DMU]

theorem ref_dbg (i : S3584x64.Idx) : val_main_v39 (F := Ideal) A.x0 A.x1 A.x2 A.x3 A.x5 A.x6 A.x7 A.x11 A.x12 i = DBG A (i 0) (i 1) := by
  have h : ∀ r n, val_main_v36 (F := Ideal) A.x0 A.x1 A.x2 A.x3 A.x5 A.x6 A.x11 A.x12 (ix2 r n) = _ := fun r n => ref_gg A (ix2 r n)
  idx_vars i
  pointwise [val_main_v39, val_main_v38, val_main_v37, val_main_cst_4, h, DBG]
  refine congrArg (fun a : EReal => K * a) (Fin.sum_fin_congr fun r => ?_)
  exact mul_comm _ _

theorem ref_dbu (i : S3584x64.Idx) : val_main_v53 (F := Ideal) A.x0 A.x1 A.x2 A.x3 A.x5 A.x8 A.x11 A.x12 i = DBU A (i 0) (i 1) := by
  have h : ∀ r n, val_main_v50 (F := Ideal) A.x0 A.x1 A.x2 A.x3 A.x5 A.x11 A.x12 (ix2 r n) = _ := fun r n => ref_gu A (ix2 r n)
  idx_vars i
  pointwise [val_main_v53, val_main_v52, val_main_v51, val_main_cst_7, h, DBU]
  refine congrArg (fun a : EReal => K * a) (Fin.sum_fin_congr fun r => ?_)
  exact mul_comm _ _

theorem ref_dad (i : S64x3584.Idx) : val_main_v2 (F := Ideal) A.x2 A.x4 i = DAD A (i 0) (i 1) := by
  idx_vars i
  pointwise [val_main_v2, DAD]

theorem ref_sg (i : S2048x64.Idx) : val_main_v43 (F := Ideal) A.x0 A.x1 A.x2 A.x3 A.x5 A.x6 A.x9 A.x11 A.x12 i = SGA A (i 0) (i 1) := by
  have h : ∀ r n, val_main_v36 (F := Ideal) A.x0 A.x1 A.x2 A.x3 A.x5 A.x6 A.x11 A.x12 (ix2 r n) = _ := fun r n => ref_gg A (ix2 r n)
  idx_vars i
  pointwise [val_main_v43, val_main_v42, val_main_v41, val_main_v40, val_main_cst_5, h, SGA]

theorem ref_su (i : S2048x64.Idx) : val_main_v57 (F := Ideal) A.x0 A.x1 A.x2 A.x3 A.x5 A.x10 A.x11 A.x12 i = SUA A (i 0) (i 1) := by
  have h : ∀ r n, val_main_v50 (F := Ideal) A.x0 A.x1 A.x2 A.x3 A.x5 A.x11 A.x12 (ix2 r n) = _ := fun r n => ref_gu A (ix2 r n)
  idx_vars i
  pointwise [val_main_v57, val_main_v56, val_main_v55, val_main_v54, val_main_cst_8, h, SUA]

theorem ref_ev (i : S2048x3584.Idx) : val_main_v60 (F := Ideal) A.x0 A.x1 A.x2 A.x3 A.x5 A.x6 A.x11 A.x12 i = EV A (i 0) (i 1) := by
  have h1 := ref_glg A i
  have h2 := ref_yg A i
  have h3 := ref_glu A i
  have h4 := ref_yu A i
  idx_vars i
  pointwise [val_main_v60, val_main_v59, val_main_v58, h1, h2, h3, h4, EV]

theorem ref_del (i : S2048x128.Idx) : val_main_v62 (F := Ideal) A.x0 A.x1 A.x2 A.x3 A.x5 A.x6 A.x11 A.x12 i = DEL A (i 0) (i 1) := by
  have h : ∀ r n, val_main_v60 (F := Ideal) A.x0 A.x1 A.x2 A.x3 A.x5 A.x6 A.x11 A.x12 (ix2 r n) = _ := fun r n => ref_ev A (ix2 r n)
  idx_vars i
  pointwise [val_main_v62, val_main_v61, val_main_cst_9, h, DEL]

end

end Cert.DactIdeal.RefValue
end
-- ==== Proof.DactClaim.lean ====
module
public import proofs.«01_k».proof.Defs
public import proofs.«01_k».proof.Proof.Gen.DactRefIdeal.Run
public import proofs.«01_k».proof.Proof.Gen.Pre_norms_positive
public import proofs.«01_k».proof.Proof.DactSums
public import proofs.«01_k».proof.Proof.DactRefValue
public import Idealize.ShloMosaic.Lib.Claim

/-! The algebraic claim of the activation gradient call: kernel and reference run, and end with equal results, the two
    norms being positive. -/

@[expose] public section

set_option maxRecDepth 16384

noncomputable section

namespace Cert.DactProof

open Idealize.ShloMosaic Idealize.ShloMosaic.TcCoe Idealize.SL.Sem
open Cert.DactIdeal.RefValue

/-- A comparison that came out true, at zero. -/
theorem pos_of_cmp (a b : EReal) (h : IntOp.andi (Ideal.cmp .ogt a 0) (Ideal.cmp .ogt b 0) = 1#1) : 0 < a ∧ 0 < b := by
  by_cases ha : 0 < a <;> by_cases hb : 0 < b <;> simp_all [Ideal.cmp, IntOp.andi]

open Cert.DactIdeal in
/-- The precondition says that both norms are positive. -/
theorem norms_pos (A : Args)
    (h : Cert.Pre_norms_positive.fn (F := Ideal) A.x0 A.x1 A.x2 A.x3 A.x4 A.x5 A.x6 A.x7 A.x8 A.x9 A.x10 A.x11 A.x12 A.x13 A.x14 = fun _ => 1#1) :
    (∀ n, 0 < A.x13 (ix1 n)) ∧ ∀ n, 0 < A.x14 (ix1 n) := by
  have key : ∀ n : Fin 3584, 0 < A.x13 (ix1 n) ∧ 0 < A.x14 (ix1 n) := by
    intro n
    refine pos_of_cmp _ _ (Eq.trans ?_ (congrFun h (ix1 n)))
    pointwise [Cert.Pre_norms_positive.fn]
  exact ⟨fun n => (key n).1, fun n => (key n).2⟩

section

open Cert.DactRefIdeal

variable (m : (ℓ : Loc nD τ sig) → Buf (Elt Ideal) ℓ)

/-- The reference's entry arrays. -/
abbrev rargs (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14)⟩

set_option maxHeartbeats 4000000 in
/-- The reference runs to its ten results. -/
theorem ref_run (ρ : Dev nD → PrngReg) : θ_run defs (onTc (τ := τ) (main (F := Ideal))) ⟨m, fun _ => 0, ρ⟩ (fun r => ∀ c : Dev nD,
      r.2.mem ((c.tc : Thread nD τ).loc main_v36) = (fun i => GG (rargs m c) (i 0) (i 1))
      ∧ r.2.mem ((c.tc : Thread nD τ).loc main_v50) = (fun i => GU (rargs m c) (i 0) (i 1))
      ∧ r.2.mem ((c.tc : Thread nD τ).loc main_v63) = (fun i => DMG (rargs m c) (i 1))
      ∧ r.2.mem ((c.tc : Thread nD τ).loc main_v64) = (fun i => DMU (rargs m c) (i 1))
      ∧ r.2.mem ((c.tc : Thread nD τ).loc main_v39) = (fun i => DBG (rargs m c) (i 0) (i 1))
      ∧ r.2.mem ((c.tc : Thread nD τ).loc main_v53) = (fun i => DBU (rargs m c) (i 0) (i 1))
      ∧ r.2.mem ((c.tc : Thread nD τ).loc main_v2) = (fun i => DAD (rargs m c) (i 0) (i 1))
      ∧ r.2.mem ((c.tc : Thread nD τ).loc main_v43) = (fun i => SGA (rargs m c) (i 0) (i 1))
      ∧ r.2.mem ((c.tc : Thread nD τ).loc main_v57) = (fun i => SUA (rargs m c) (i 0) (i 1))
      ∧ r.2.mem ((c.tc : Thread nD τ).loc main_v62) = (fun i => DEL (rargs m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    obtain ⟨h0, h1, h2, h3, h4, h5, h6, h7, h8, h9, hargs⟩ := h c
    refine ⟨?_, ?_, ?_, ?_, ?_, ?_, ?_, ?_, ?_, ?_, hargs⟩
    · exact (h0.trans (Read.val_main_v36_eq _ _ _ _ _ _ _ _)).trans (funext fun i => ref_gg (rargs m c) i)
    · exact (h1.trans (Read.val_main_v50_eq _ _ _ _ _ _ _)).trans (funext fun i => ref_gu (rargs m c) i)
    · exact (h2.trans (Read.val_main_v63_eq _ _ _ _ _ _ _ _ _)).trans (funext fun i => ref_dmg (rargs m c) i)
    · exact (h3.trans (Read.val_main_v64_eq _ _ _ _ _ _ _ _)).trans (funext fun i => ref_dmu (rargs m c) i)
    · exact (h4.trans (Read.val_main_v39_eq _ _ _ _ _ _ _ _ _)).trans (funext fun i => ref_dbg (rargs m c) i)
    · exact (h5.trans (Read.val_main_v53_eq _ _ _ _ _ _ _ _)).trans (funext fun i => ref_dbu (rargs m c) i)
    · exact (h6.trans (Read.val_main_v2_eq _ _)).trans (funext fun i => ref_dad (rargs m c) i)
    · exact (h7.trans (Read.val_main_v43_eq _ _ _ _ _ _ _ _ _)).trans (funext fun i => ref_sg (rargs m c) i)
    · exact (h8.trans (Read.val_main_v57_eq _ _ _ _ _ _ _ _)).trans (funext fun i => ref_su (rargs m c) i)
    · exact (h9.trans (Read.val_main_v62_eq m c)).trans (funext fun i => ref_del (rargs m c) i))
    (Value.run m ρ)

end

set_option maxHeartbeats 4000000 in
theorem algebraic : Cert.algebraic_DactIdeal_DactRefIdeal_pre_norms_positive (hDactIdeal := Cert.DactIdeal.Gen.facts)
    (hDactRefIdeal := Cert.DactRefIdeal.Gen.facts) (hPre_norms_positive := Cert.Pre_norms_positive.Gen.facts) := by
  pair_intro
  · run_from run_values m g (fun c => norms_pos (args m c) (hpre c)) & Cert.DactIdeal.Body.frame m g
  · have ea : ∀ c, rargs m' c = args m c := by
      intro c
      obtain ⟨e0, e1, e2, e3, e4, e5, e6, e7, e8, e9, e10, e11, e12, e13, e14⟩ := hagree c
      unfold rargs args
      rw [e0, e1, e2, e3, e4, e5, e6, e7, e8, e9, e10, e11, e12, e13, e14]
    refine θ_run_mono (ref_run m' g') ?_
    intro r hr c
    have hc := hr c
    rw [ea c] at hc
    exact hc

end Cert.DactProof
end
-- ==== Proof.lean ====
module

public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.GateUpRefIdeal.Read
public import proofs.«01_k».proof.Proof.GateUpClaim
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.DownClaim
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Run
public import proofs.«01_k».proof.Proof.Gen.DxRefIdeal.Read
public import proofs.«01_k».proof.Proof.DxFrame
public import proofs.«01_k».proof.Proof.DxIdealFrame
public import proofs.«01_k».proof.Proof.DxClaim
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactRefIdeal
public import proofs.«01_k».proof.Proof.Gen.DactRefIdeal.Run
public import proofs.«01_k».proof.Proof.Gen.DactRefIdeal.Read
public import proofs.«01_k».proof.Proof.DactFrame
public import proofs.«01_k».proof.Proof.DactIdealFrame
public import proofs.«01_k».proof.Proof.DactClaim
public import proofs.«01_k».proof.Proof.Gen.Pre_norms_positive
public import Idealize.ShloMosaic.Lib.Claim
public import Idealize.ShloMosaic.Adequacy
public import Idealize.ShloMosaic.Init
public import proofs.«01_k».proof.Defs

@[expose] public section

noncomputable section

namespace Cert.Proof

open Idealize.ShloMosaic Idealize.SL.Sem

theorem claim : Cert.Claim := ⟨Cert.GateUp.Gen.facts, Cert.GateUpIdeal.Gen.facts, Cert.GateUpRefIdeal.Gen.facts, Cert.Down.Gen.facts, Cert.DownIdeal.Gen.facts, Cert.DownRefIdeal.Gen.facts, Cert.Dx.Gen.facts, Cert.DxIdeal.Gen.facts, Cert.DxRefIdeal.Gen.facts, Cert.Dact.Gen.facts, Cert.DactIdeal.Gen.facts, Cert.DactRefIdeal.Gen.facts, Cert.Pre_norms_positive.Gen.facts,
  fun m g _ => Cert.GateUp.Gen.frame m g,
  fun m g _ => Cert.GateUpIdeal.Gen.frame m g,
  fun m g _ => (θ_run Cert.GateUpRefIdeal.defs _ _).mono (fun r h => ⟨fun c => (h c).2.2.2, sem_eq_zero_of_no_sems (by decide) r.2⟩)
    (Cert.GateUpRefIdeal.Value.run m g),
  fun m g _ => Cert.Down.Gen.frame m g,
  fun m g _ => Cert.DownIdeal.Gen.frame m g,
  fun m g _ => (θ_run Cert.DownRefIdeal.defs _ _).mono (fun r h => ⟨fun c => (h c).2.2.2.2.2, sem_eq_zero_of_no_sems (by decide) r.2⟩)
    (Cert.DownRefIdeal.Value.run m g),
  fun m g _ => Cert.Dx.Body.frame m g,
  fun m g _ => Cert.DxIdeal.Body.frame m g,
  fun m g _ => (θ_run Cert.DxRefIdeal.defs _ _).mono (fun r h => ⟨fun c => (h c).2.2.2, sem_eq_zero_of_no_sems (by decide) r.2⟩)
    (Cert.DxRefIdeal.Value.run m g),
  fun m g _ => Cert.Dact.Body.frame m g,
  fun m g _ => Cert.DactIdeal.Body.frame m g,
  fun m g _ => Cert.DactIdeal.Body.frame m g,
  fun m g _ => (θ_run Cert.DactRefIdeal.defs _ _).mono (fun r h => ⟨fun c => (h c).2.2.2.2.2.2.2.2.2.2, sem_eq_zero_of_no_sems (by decide) r.2⟩)
    (Cert.DactRefIdeal.Value.run m g),
  fun m g _ => (θ_run Cert.DactRefIdeal.defs _ _).mono (fun r h => ⟨fun c => (h c).2.2.2.2.2.2.2.2.2.2, sem_eq_zero_of_no_sems (by decide) r.2⟩)
    (Cert.DactRefIdeal.Value.run m g),
  trivial,
  Cert.GateUpProof.algebraic,
  trivial,
  Cert.DownProof.algebraic,
  trivial,
  Cert.DxProof.algebraic,
  trivial,
  Cert.DactProof.algebraic⟩

end Cert.Proof

end
